-- ==== Defs.lean ====
def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_GradRefIdeal (m : (ℓ : Loc Cert.GradRefIdeal.nD Cert.GradRefIdeal.τ Cert.GradRefIdeal.sig) → Buf (Elt Ideal) ℓ) : Prop :=
  True

def Pre_RotX (m : (ℓ : Loc Cert.RotX.nD Cert.RotX.τ Cert.RotX.sig) → Buf (Elt Bits) ℓ) : Prop :=
  True

def Pre_RotXIdeal (m : (ℓ : Loc Cert.RotXIdeal.nD Cert.RotXIdeal.τ Cert.RotXIdeal.sig) → Buf (Elt Ideal) ℓ) : Prop :=
  True

def Pre_RotXRefIdeal (m : (ℓ : Loc Cert.RotXRefIdeal.nD Cert.RotXRefIdeal.τ Cert.RotXRefIdeal.sig) → Buf (Elt Ideal) ℓ) : Prop :=
  True

def Pre_RotW (m : (ℓ : Loc Cert.RotW.nD Cert.RotW.τ Cert.RotW.sig) → Buf (Elt Bits) ℓ) : Prop :=
  True

def Pre_RotWIdeal (m : (ℓ : Loc Cert.RotWIdeal.nD Cert.RotWIdeal.τ Cert.RotWIdeal.sig) → Buf (Elt Ideal) ℓ) : Prop :=
  True

def Pre_RotWRefIdeal (m : (ℓ : Loc Cert.RotWRefIdeal.nD Cert.RotWRefIdeal.τ Cert.RotWRefIdeal.sig) → Buf (Elt Ideal) ℓ) : Prop :=
  True

def Pre_Mom (m : (ℓ : Loc Cert.Mom.nD Cert.Mom.τ Cert.Mom.sig) → Buf (Elt Bits) ℓ) : Prop :=
  True

def Pre_MomIdeal (m : (ℓ : Loc Cert.MomIdeal.nD Cert.MomIdeal.τ Cert.MomIdeal.sig) → Buf (Elt Ideal) ℓ) : Prop :=
  True

def Pre_MomRefIdeal (m : (ℓ : Loc Cert.MomRefIdeal.nD Cert.MomRefIdeal.τ Cert.MomRefIdeal.sig) → Buf (Elt Ideal) ℓ) : Prop :=
  True

def Pre_D1 (m : (ℓ : Loc Cert.D1.nD Cert.D1.τ Cert.D1.sig) → Buf (Elt Bits) ℓ) : Prop :=
  True

def Pre_D1Ideal (m : (ℓ : Loc Cert.D1Ideal.nD Cert.D1Ideal.τ Cert.D1Ideal.sig) → Buf (Elt Ideal) ℓ) : Prop :=
  True

def Pre_D1RefIdeal (m : (ℓ : Loc Cert.D1RefIdeal.nD Cert.D1RefIdeal.τ Cert.D1RefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_MmT (m : (ℓ : Loc Cert.MmT.nD Cert.MmT.τ Cert.MmT.sig) → Buf (Elt Bits) ℓ) : Prop :=
  True

def Pre_MmTIdeal (m : (ℓ : Loc Cert.MmTIdeal.nD Cert.MmTIdeal.τ Cert.MmTIdeal.sig) → Buf (Elt Ideal) ℓ) : Prop :=
  True

def Pre_MmTIdeal_finite [hPre_finite : Cert.Pre_finite.Facts] (m : (ℓ : Loc Cert.MmTIdeal.nD Cert.MmTIdeal.τ Cert.MmTIdeal.sig) → Buf (Elt Ideal) ℓ) : Prop :=
  ∀ c : Dev Cert.MmTIdeal.nD,
    (Cert.Pre_finite.fn (F := Ideal) (m ((c.tc : Thread Cert.MmTIdeal.nD Cert.MmTIdeal.τ).loc Cert.MmTIdeal.main_arg0)) (m ((c.tc : Thread Cert.MmTIdeal.nD Cert.MmTIdeal.τ).loc Cert.MmTIdeal.main_arg1))).1 = (fun _ => 1#1)
    ∧ (Cert.Pre_finite.fn (F := Ideal) (m ((c.tc : Thread Cert.MmTIdeal.nD Cert.MmTIdeal.τ).loc Cert.MmTIdeal.main_arg0)) (m ((c.tc : Thread Cert.MmTIdeal.nD Cert.MmTIdeal.τ).loc Cert.MmTIdeal.main_arg1))).2 = (fun _ => 1#1)

def Pre_MmTRefIdeal (m : (ℓ : Loc Cert.MmTRefIdeal.nD Cert.MmTRefIdeal.τ Cert.MmTRefIdeal.sig) → Buf (Elt Ideal) ℓ) : Prop :=
  True

def Pre_MmTRefIdeal_finite [hPre_finite : Cert.Pre_finite.Facts] (m : (ℓ : Loc Cert.MmTRefIdeal.nD Cert.MmTRefIdeal.τ Cert.MmTRefIdeal.sig) → Buf (Elt Ideal) ℓ) : Prop :=
  ∀ c : Dev Cert.MmTRefIdeal.nD,
    (Cert.Pre_finite.fn (F := Ideal) (m ((c.tc : Thread Cert.MmTRefIdeal.nD Cert.MmTRefIdeal.τ).loc Cert.MmTRefIdeal.main_arg0)) (m ((c.tc : Thread Cert.MmTRefIdeal.nD Cert.MmTRefIdeal.τ).loc Cert.MmTRefIdeal.main_arg1))).1 = (fun _ => 1#1)
    ∧ (Cert.Pre_finite.fn (F := Ideal) (m ((c.tc : Thread Cert.MmTRefIdeal.nD Cert.MmTRefIdeal.τ).loc Cert.MmTRefIdeal.main_arg0)) (m ((c.tc : Thread Cert.MmTRefIdeal.nD Cert.MmTRefIdeal.τ).loc Cert.MmTRefIdeal.main_arg1))).2 = (fun _ => 1#1)

def Pre_MmN (m : (ℓ : Loc Cert.MmN.nD Cert.MmN.τ Cert.MmN.sig) → Buf (Elt Bits) ℓ) : Prop :=
  True

def Pre_MmNIdeal (m : (ℓ : Loc Cert.MmNIdeal.nD Cert.MmNIdeal.τ Cert.MmNIdeal.sig) → Buf (Elt Ideal) ℓ) : Prop :=
  True

def Pre_MmNIdeal_finite [hPre_finite : Cert.Pre_finite.Facts] (m : (ℓ : Loc Cert.MmNIdeal.nD Cert.MmNIdeal.τ Cert.MmNIdeal.sig) → Buf (Elt Ideal) ℓ) : Prop :=
  ∀ c : Dev Cert.MmNIdeal.nD,
    (Cert.Pre_finite.fn (F := Ideal) (m ((c.tc : Thread Cert.MmNIdeal.nD Cert.MmNIdeal.τ).loc Cert.MmNIdeal.main_arg0)) (m ((c.tc : Thread Cert.MmNIdeal.nD Cert.MmNIdeal.τ).loc Cert.MmNIdeal.main_arg1))).1 = (fun _ => 1#1)
    ∧ (Cert.Pre_finite.fn (F := Ideal) (m ((c.tc : Thread Cert.MmNIdeal.nD Cert.MmNIdeal.τ).loc Cert.MmNIdeal.main_arg0)) (m ((c.tc : Thread Cert.MmNIdeal.nD Cert.MmNIdeal.τ).loc Cert.MmNIdeal.main_arg1))).2 = (fun _ => 1#1)

def Pre_MmNRefIdeal (m : (ℓ : Loc Cert.MmNRefIdeal.nD Cert.MmNRefIdeal.τ Cert.MmNRefIdeal.sig) → Buf (Elt Ideal) ℓ) : Prop :=
  True

def Pre_MmNRefIdeal_finite [hPre_finite : Cert.Pre_finite.Facts] (m : (ℓ : Loc Cert.MmNRefIdeal.nD Cert.MmNRefIdeal.τ Cert.MmNRefIdeal.sig) → Buf (Elt Ideal) ℓ) : Prop :=
  ∀ c : Dev Cert.MmNRefIdeal.nD,
    (Cert.Pre_finite.fn (F := Ideal) (m ((c.tc : Thread Cert.MmNRefIdeal.nD Cert.MmNRefIdeal.τ).loc Cert.MmNRefIdeal.main_arg0)) (m ((c.tc : Thread Cert.MmNRefIdeal.nD Cert.MmNRefIdeal.τ).loc Cert.MmNRefIdeal.main_arg1))).1 = (fun _ => 1#1)
    ∧ (Cert.Pre_finite.fn (F := Ideal) (m ((c.tc : Thread Cert.MmNRefIdeal.nD Cert.MmNRefIdeal.τ).loc Cert.MmNRefIdeal.main_arg0)) (m ((c.tc : Thread Cert.MmNRefIdeal.nD Cert.MmNRefIdeal.τ).loc Cert.MmNRefIdeal.main_arg1))).2 = (fun _ => 1#1)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2)
      ∧ r.2.mem ((c.tc : Thread Cert.Grad.nD Cert.Grad.τ).loc Cert.Grad.main_arg3) = m ((c.tc : Thread Cert.Grad.nD Cert.Grad.τ).loc Cert.Grad.main_arg3)
      ∧ r.2.mem ((c.tc : Thread Cert.Grad.nD Cert.Grad.τ).loc Cert.Grad.main_arg4) = m ((c.tc : Thread Cert.Grad.nD Cert.Grad.τ).loc Cert.Grad.main_arg4))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4))
      ∧ r.2.sem = fun _ => 0)

def quiescent_GradRefIdeal [hGradRefIdeal : Cert.GradRefIdeal.Facts] : Prop :=
  ∀ (m : (ℓ : Loc Cert.GradRefIdeal.nD Cert.GradRefIdeal.τ Cert.GradRefIdeal.sig) → Buf (Elt Ideal) ℓ) (g : Dev Cert.GradRefIdeal.nD → PrngReg), Pre_GradRefIdeal m →
    θ_run (Cert.GradRefIdeal.defs (F := Ideal)) (onTc (τ := Cert.GradRefIdeal.τ) (Cert.GradRefIdeal.main (F := Ideal))) ⟨m, fun _ => 0, g⟩ (fun r => (∀ c : Dev Cert.GradRefIdeal.nD,
      r.2.mem ((c.tc : Thread Cert.GradRefIdeal.nD Cert.GradRefIdeal.τ).loc Cert.GradRefIdeal.main_arg0) = m ((c.tc : Thread Cert.GradRefIdeal.nD Cert.GradRefIdeal.τ).loc Cert.GradRefIdeal.main_arg0)
      ∧ r.2.mem ((c.tc : Thread Cert.GradRefIdeal.nD Cert.GradRefIdeal.τ).loc Cert.GradRefIdeal.main_arg1) = m ((c.tc : Thread Cert.GradRefIdeal.nD Cert.GradRefIdeal.τ).loc Cert.GradRefIdeal.main_arg1)
      ∧ r.2.mem ((c.tc : Thread Cert.GradRefIdeal.nD Cert.GradRefIdeal.τ).loc Cert.GradRefIdeal.main_arg2) = m ((c.tc : Thread Cert.GradRefIdeal.nD Cert.GradRefIdeal.τ).loc Cert.GradRefIdeal.main_arg2)
      ∧ r.2.mem ((c.tc : Thread Cert.GradRefIdeal.nD Cert.GradRefIdeal.τ).loc Cert.GradRefIdeal.main_arg3) = m ((c.tc : Thread Cert.GradRefIdeal.nD Cert.GradRefIdeal.τ).loc Cert.GradRefIdeal.main_arg3)
      ∧ r.2.mem ((c.tc : Thread Cert.GradRefIdeal.nD Cert.GradRefIdeal.τ).loc Cert.GradRefIdeal.main_arg4) = m ((c.tc : Thread Cert.GradRefIdeal.nD Cert.GradRefIdeal.τ).loc Cert.GradRefIdeal.main_arg4))
      ∧ r.2.sem = fun _ => 0)

def quiescent_RotX [hRotX : Cert.RotX.Facts] : Prop :=
  ∀ (m : (ℓ : Loc Cert.RotX.nD Cert.RotX.τ Cert.RotX.sig) → Buf (Elt Bits) ℓ) (g : Dev Cert.RotX.nD → PrngReg), Pre_RotX m →
    θ_run (Cert.RotX.defs (F := Bits)) (onTc (τ := Cert.RotX.τ) (Cert.RotX.main (F := Bits))) ⟨m, fun _ => 0, g⟩ (fun r => (∀ c : Dev Cert.RotX.nD,
      r.2.mem ((c.tc : Thread Cert.RotX.nD Cert.RotX.τ).loc Cert.RotX.main_arg0) = m ((c.tc : Thread Cert.RotX.nD Cert.RotX.τ).loc Cert.RotX.main_arg0)
      ∧ r.2.mem ((c.tc : Thread Cert.RotX.nD Cert.RotX.τ).loc Cert.RotX.main_arg1) = m ((c.tc : Thread Cert.RotX.nD Cert.RotX.τ).loc Cert.RotX.main_arg1))
      ∧ r.2.sem = fun _ => 0)

def quiescent_RotXIdeal [hRotXIdeal : Cert.RotXIdeal.Facts] : Prop :=
  ∀ (m : (ℓ : Loc Cert.RotXIdeal.nD Cert.RotXIdeal.τ Cert.RotXIdeal.sig) → Buf (Elt Ideal) ℓ) (g : Dev Cert.RotXIdeal.nD → PrngReg), Pre_RotXIdeal m →
    θ_run (Cert.RotXIdeal.defs (F := Ideal)) (onTc (τ := Cert.RotXIdeal.τ) (Cert.RotXIdeal.main (F := Ideal))) ⟨m, fun _ => 0, g⟩ (fun r => (∀ c : Dev Cert.RotXIdeal.nD,
      r.2.mem ((c.tc : Thread Cert.RotXIdeal.nD Cert.RotXIdeal.τ).loc Cert.RotXIdeal.main_arg0) = m ((c.tc : Thread Cert.RotXIdeal.nD Cert.RotXIdeal.τ).loc Cert.RotXIdeal.main_arg0)
      ∧ r.2.mem ((c.tc : Thread Cert.RotXIdeal.nD Cert.RotXIdeal.τ).loc Cert.RotXIdeal.main_arg1) = m ((c.tc : Thread Cert.RotXIdeal.nD Cert.RotXIdeal.τ).loc Cert.RotXIdeal.main_arg1))
      ∧ r.2.sem = fun _ => 0)

def quiescent_RotXRefIdeal [hRotXRefIdeal : Cert.RotXRefIdeal.Facts] : Prop :=
  ∀ (m : (ℓ : Loc Cert.RotXRefIdeal.nD Cert.RotXRefIdeal.τ Cert.RotXRefIdeal.sig) → Buf (Elt Ideal) ℓ) (g : Dev Cert.RotXRefIdeal.nD → PrngReg), Pre_RotXRefIdeal m →
    θ_run (Cert.RotXRefIdeal.defs (F := Ideal)) (onTc (τ := Cert.RotXRefIdeal.τ) (Cert.RotXRefIdeal.main (F := Ideal))) ⟨m, fun _ => 0, g⟩ (fun r => (∀ c : Dev Cert.RotXRefIdeal.nD,
      r.2.mem ((c.tc : Thread Cert.RotXRefIdeal.nD Cert.RotXRefIdeal.τ).loc Cert.RotXRefIdeal.main_arg0) = m ((c.tc : Thread Cert.RotXRefIdeal.nD Cert.RotXRefIdeal.τ).loc Cert.RotXRefIdeal.main_arg0)
      ∧ r.2.mem ((c.tc : Thread Cert.RotXRefIdeal.nD Cert.RotXRefIdeal.τ).loc Cert.RotXRefIdeal.main_arg1) = m ((c.tc : Thread Cert.RotXRefIdeal.nD Cert.RotXRefIdeal.τ).loc Cert.RotXRefIdeal.main_arg1))
      ∧ r.2.sem = fun _ => 0)

def quiescent_RotW [hRotW : Cert.RotW.Facts] : Prop :=
  ∀ (m : (ℓ : Loc Cert.RotW.nD Cert.RotW.τ Cert.RotW.sig) → Buf (Elt Bits) ℓ) (g : Dev Cert.RotW.nD → PrngReg), Pre_RotW m →
    θ_run (Cert.RotW.defs (F := Bits)) (onTc (τ := Cert.RotW.τ) (Cert.RotW.main (F := Bits))) ⟨m, fun _ => 0, g⟩ (fun r => (∀ c : Dev Cert.RotW.nD,
      r.2.mem ((c.tc : Thread Cert.RotW.nD Cert.RotW.τ).loc Cert.RotW.main_arg0) = m ((c.tc : Thread Cert.RotW.nD Cert.RotW.τ).loc Cert.RotW.main_arg0)
      ∧ r.2.mem ((c.tc : Thread Cert.RotW.nD Cert.RotW.τ).loc Cert.RotW.main_arg1) = m ((c.tc : Thread Cert.RotW.nD Cert.RotW.τ).loc Cert.RotW.main_arg1))
      ∧ r.2.sem = fun _ => 0)

def quiescent_RotWIdeal [hRotWIdeal : Cert.RotWIdeal.Facts] : Prop :=
  ∀ (m : (ℓ : Loc Cert.RotWIdeal.nD Cert.RotWIdeal.τ Cert.RotWIdeal.sig) → Buf (Elt Ideal) ℓ) (g : Dev Cert.RotWIdeal.nD → PrngReg), Pre_RotWIdeal m →
    θ_run (Cert.RotWIdeal.defs (F := Ideal)) (onTc (τ := Cert.RotWIdeal.τ) (Cert.RotWIdeal.main (F := Ideal))) ⟨m, fun _ => 0, g⟩ (fun r => (∀ c : Dev Cert.RotWIdeal.nD,
      r.2.mem ((c.tc : Thread Cert.RotWIdeal.nD Cert.RotWIdeal.τ).loc Cert.RotWIdeal.main_arg0) = m ((c.tc : Thread Cert.RotWIdeal.nD Cert.RotWIdeal.τ).loc Cert.RotWIdeal.main_arg0)
      ∧ r.2.mem ((c.tc : Thread Cert.RotWIdeal.nD Cert.RotWIdeal.τ).loc Cert.RotWIdeal.main_arg1) = m ((c.tc : Thread Cert.RotWIdeal.nD Cert.RotWIdeal.τ).loc Cert.RotWIdeal.main_arg1))
      ∧ r.2.sem = fun _ => 0)

def quiescent_RotWRefIdeal [hRotWRefIdeal : Cert.RotWRefIdeal.Facts] : Prop :=
  ∀ (m : (ℓ : Loc Cert.RotWRefIdeal.nD Cert.RotWRefIdeal.τ Cert.RotWRefIdeal.sig) → Buf (Elt Ideal) ℓ) (g : Dev Cert.RotWRefIdeal.nD → PrngReg), Pre_RotWRefIdeal m →
    θ_run (Cert.RotWRefIdeal.defs (F := Ideal)) (onTc (τ := Cert.RotWRefIdeal.τ) (Cert.RotWRefIdeal.main (F := Ideal))) ⟨m, fun _ => 0, g⟩ (fun r => (∀ c : Dev Cert.RotWRefIdeal.nD,
      r.2.mem ((c.tc : Thread Cert.RotWRefIdeal.nD Cert.RotWRefIdeal.τ).loc Cert.RotWRefIdeal.main_arg0) = m ((c.tc : Thread Cert.RotWRefIdeal.nD Cert.RotWRefIdeal.τ).loc Cert.RotWRefIdeal.main_arg0)
      ∧ r.2.mem ((c.tc : Thread Cert.RotWRefIdeal.nD Cert.RotWRefIdeal.τ).loc Cert.RotWRefIdeal.main_arg1) = m ((c.tc : Thread Cert.RotWRefIdeal.nD Cert.RotWRefIdeal.τ).loc Cert.RotWRefIdeal.main_arg1))
      ∧ r.2.sem = fun _ => 0)

def quiescent_Mom [hMom : Cert.Mom.Facts] : Prop :=
  ∀ (m : (ℓ : Loc Cert.Mom.nD Cert.Mom.τ Cert.Mom.sig) → Buf (Elt Bits) ℓ) (g : Dev Cert.Mom.nD → PrngReg), Pre_Mom m →
    θ_run (Cert.Mom.defs (F := Bits)) (onTc (τ := Cert.Mom.τ) (Cert.Mom.main (F := Bits))) ⟨m, fun _ => 0, g⟩ (fun r => (∀ c : Dev Cert.Mom.nD,
      r.2.mem ((c.tc : Thread Cert.Mom.nD Cert.Mom.τ).loc Cert.Mom.main_arg0) = m ((c.tc : Thread Cert.Mom.nD Cert.Mom.τ).loc Cert.Mom.main_arg0)
      ∧ r.2.mem ((c.tc : Thread Cert.Mom.nD Cert.Mom.τ).loc Cert.Mom.main_arg1) = m ((c.tc : Thread Cert.Mom.nD Cert.Mom.τ).loc Cert.Mom.main_arg1)
      ∧ r.2.mem ((c.tc : Thread Cert.Mom.nD Cert.Mom.τ).loc Cert.Mom.main_arg2) = m ((c.tc : Thread Cert.Mom.nD Cert.Mom.τ).loc Cert.Mom.main_arg2))
      ∧ r.2.sem = fun _ => 0)

def quiescent_MomIdeal [hMomIdeal : Cert.MomIdeal.Facts] : Prop :=
  ∀ (m : (ℓ : Loc Cert.MomIdeal.nD Cert.MomIdeal.τ Cert.MomIdeal.sig) → Buf (Elt Ideal) ℓ) (g : Dev Cert.MomIdeal.nD → PrngReg), Pre_MomIdeal m →
    θ_run (Cert.MomIdeal.defs (F := Ideal)) (onTc (τ := Cert.MomIdeal.τ) (Cert.MomIdeal.main (F := Ideal))) ⟨m, fun _ => 0, g⟩ (fun r => (∀ c : Dev Cert.MomIdeal.nD,
      r.2.mem ((c.tc : Thread Cert.MomIdeal.nD Cert.MomIdeal.τ).loc Cert.MomIdeal.main_arg0) = m ((c.tc : Thread Cert.MomIdeal.nD Cert.MomIdeal.τ).loc Cert.MomIdeal.main_arg0)
      ∧ r.2.mem ((c.tc : Thread Cert.MomIdeal.nD Cert.MomIdeal.τ).loc Cert.MomIdeal.main_arg1) = m ((c.tc : Thread Cert.MomIdeal.nD Cert.MomIdeal.τ).loc Cert.MomIdeal.main_arg1)
      ∧ r.2.mem ((c.tc : Thread Cert.MomIdeal.nD Cert.MomIdeal.τ).loc Cert.MomIdeal.main_arg2) = m ((c.tc : Thread Cert.MomIdeal.nD Cert.MomIdeal.τ).loc Cert.MomIdeal.main_arg2))
      ∧ r.2.sem = fun _ => 0)

def quiescent_MomRefIdeal [hMomRefIdeal : Cert.MomRefIdeal.Facts] : Prop :=
  ∀ (m : (ℓ : Loc Cert.MomRefIdeal.nD Cert.MomRefIdeal.τ Cert.MomRefIdeal.sig) → Buf (Elt Ideal) ℓ) (g : Dev Cert.MomRefIdeal.nD → PrngReg), Pre_MomRefIdeal m →
    θ_run (Cert.MomRefIdeal.defs (F := Ideal)) (onTc (τ := Cert.MomRefIdeal.τ) (Cert.MomRefIdeal.main (F := Ideal))) ⟨m, fun _ => 0, g⟩ (fun r => (∀ c : Dev Cert.MomRefIdeal.nD,
      r.2.mem ((c.tc : Thread Cert.MomRefIdeal.nD Cert.MomRefIdeal.τ).loc Cert.MomRefIdeal.main_arg0) = m ((c.tc : Thread Cert.MomRefIdeal.nD Cert.MomRefIdeal.τ).loc Cert.MomRefIdeal.main_arg0)
      ∧ r.2.mem ((c.tc : Thread Cert.MomRefIdeal.nD Cert.MomRefIdeal.τ).loc Cert.MomRefIdeal.main_arg1) = m ((c.tc : Thread Cert.MomRefIdeal.nD Cert.MomRefIdeal.τ).loc Cert.MomRefIdeal.main_arg1)
      ∧ r.2.mem ((c.tc : Thread Cert.MomRefIdeal.nD Cert.MomRefIdeal.τ).loc Cert.MomRefIdeal.main_arg2) = m ((c.tc : Thread Cert.MomRefIdeal.nD Cert.MomRefIdeal.τ).loc Cert.MomRefIdeal.main_arg2))
      ∧ r.2.sem = fun _ => 0)

def quiescent_D1 [hD1 : Cert.D1.Facts] : Prop :=
  ∀ (m : (ℓ : Loc Cert.D1.nD Cert.D1.τ Cert.D1.sig) → Buf (Elt Bits) ℓ) (g : Dev Cert.D1.nD → PrngReg), Pre_D1 m →
    θ_run (Cert.D1.defs (F := Bits)) (onTc (τ := Cert.D1.τ) (Cert.D1.main (F := Bits))) ⟨m, fun _ => 0, g⟩ (fun r => (∀ c : Dev Cert.D1.nD,
      r.2.mem ((c.tc : Thread Cert.D1.nD Cert.D1.τ).loc Cert.D1.main_arg0) = m ((c.tc : Thread Cert.D1.nD Cert.D1.τ).loc Cert.D1.main_arg0)
      ∧ r.2.mem ((c.tc : Thread Cert.D1.nD Cert.D1.τ).loc Cert.D1.main_arg1) = m ((c.tc : Thread Cert.D1.nD Cert.D1.τ).loc Cert.D1.main_arg1)
      ∧ r.2.mem ((c.tc : Thread Cert.D1.nD Cert.D1.τ).loc Cert.D1.main_arg2) = m ((c.tc : Thread Cert.D1.nD Cert.D1.τ).loc Cert.D1.main_arg2))
      ∧ r.2.sem = fun _ => 0)

def quiescent_D1Ideal [hD1Ideal : Cert.D1Ideal.Facts] : Prop :=
  ∀ (m : (ℓ : Loc Cert.D1Ideal.nD Cert.D1Ideal.τ Cert.D1Ideal.sig) → Buf (Elt Ideal) ℓ) (g : Dev Cert.D1Ideal.nD → PrngReg), Pre_D1Ideal m →
    θ_run (Cert.D1Ideal.defs (F := Ideal)) (onTc (τ := Cert.D1Ideal.τ) (Cert.D1Ideal.main (F := Ideal))) ⟨m, fun _ => 0, g⟩ (fun r => (∀ c : Dev Cert.D1Ideal.nD,
      r.2.mem ((c.tc : Thread Cert.D1Ideal.nD Cert.D1Ideal.τ).loc Cert.D1Ideal.main_arg0) = m ((c.tc : Thread Cert.D1Ideal.nD Cert.D1Ideal.τ).loc Cert.D1Ideal.main_arg0)
      ∧ r.2.mem ((c.tc : Thread Cert.D1Ideal.nD Cert.D1Ideal.τ).loc Cert.D1Ideal.main_arg1) = m ((c.tc : Thread Cert.D1Ideal.nD Cert.D1Ideal.τ).loc Cert.D1Ideal.main_arg1)
      ∧ r.2.mem ((c.tc : Thread Cert.D1Ideal.nD Cert.D1Ideal.τ).loc Cert.D1Ideal.main_arg2) = m ((c.tc : Thread Cert.D1Ideal.nD Cert.D1Ideal.τ).loc Cert.D1Ideal.main_arg2))
      ∧ r.2.sem = fun _ => 0)

def quiescent_D1RefIdeal [hD1RefIdeal : Cert.D1RefIdeal.Facts] : Prop :=
  ∀ (m : (ℓ : Loc Cert.D1RefIdeal.nD Cert.D1RefIdeal.τ Cert.D1RefIdeal.sig) → Buf (Elt Ideal) ℓ) (g : Dev Cert.D1RefIdeal.nD → PrngReg), Pre_D1RefIdeal m →
    θ_run (Cert.D1RefIdeal.defs (F := Ideal)) (onTc (τ := Cert.D1RefIdeal.τ) (Cert.D1RefIdeal.main (F := Ideal))) ⟨m, fun _ => 0, g⟩ (fun r => (∀ c : Dev Cert.D1RefIdeal.nD,
      r.2.mem ((c.tc : Thread Cert.D1RefIdeal.nD Cert.D1RefIdeal.τ).loc Cert.D1RefIdeal.main_arg0) = m ((c.tc : Thread Cert.D1RefIdeal.nD Cert.D1RefIdeal.τ).loc Cert.D1RefIdeal.main_arg0)
      ∧ r.2.mem ((c.tc : Thread Cert.D1RefIdeal.nD Cert.D1RefIdeal.τ).loc Cert.D1RefIdeal.main_arg1) = m ((c.tc : Thread Cert.D1RefIdeal.nD Cert.D1RefIdeal.τ).loc Cert.D1RefIdeal.main_arg1)
      ∧ r.2.mem ((c.tc : Thread Cert.D1RefIdeal.nD Cert.D1RefIdeal.τ).loc Cert.D1RefIdeal.main_arg2) = m ((c.tc : Thread Cert.D1RefIdeal.nD Cert.D1RefIdeal.τ).loc Cert.D1RefIdeal.main_arg2))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3))
      ∧ r.2.sem = fun _ => 0)

def quiescent_MmT [hMmT : Cert.MmT.Facts] : Prop :=
  ∀ (m : (ℓ : Loc Cert.MmT.nD Cert.MmT.τ Cert.MmT.sig) → Buf (Elt Bits) ℓ) (g : Dev Cert.MmT.nD → PrngReg), Pre_MmT m →
    θ_run (Cert.MmT.defs (F := Bits)) (onTc (τ := Cert.MmT.τ) (Cert.MmT.main (F := Bits))) ⟨m, fun _ => 0, g⟩ (fun r => (∀ c : Dev Cert.MmT.nD,
      r.2.mem ((c.tc : Thread Cert.MmT.nD Cert.MmT.τ).loc Cert.MmT.main_arg0) = m ((c.tc : Thread Cert.MmT.nD Cert.MmT.τ).loc Cert.MmT.main_arg0)
      ∧ r.2.mem ((c.tc : Thread Cert.MmT.nD Cert.MmT.τ).loc Cert.MmT.main_arg1) = m ((c.tc : Thread Cert.MmT.nD Cert.MmT.τ).loc Cert.MmT.main_arg1))
      ∧ r.2.sem = fun _ => 0)

def quiescent_MmTIdeal [hMmTIdeal : Cert.MmTIdeal.Facts] : Prop :=
  ∀ (m : (ℓ : Loc Cert.MmTIdeal.nD Cert.MmTIdeal.τ Cert.MmTIdeal.sig) → Buf (Elt Ideal) ℓ) (g : Dev Cert.MmTIdeal.nD → PrngReg), Pre_MmTIdeal m →
    θ_run (Cert.MmTIdeal.defs (F := Ideal)) (onTc (τ := Cert.MmTIdeal.τ) (Cert.MmTIdeal.main (F := Ideal))) ⟨m, fun _ => 0, g⟩ (fun r => (∀ c : Dev Cert.MmTIdeal.nD,
      r.2.mem ((c.tc : Thread Cert.MmTIdeal.nD Cert.MmTIdeal.τ).loc Cert.MmTIdeal.main_arg0) = m ((c.tc : Thread Cert.MmTIdeal.nD Cert.MmTIdeal.τ).loc Cert.MmTIdeal.main_arg0)
      ∧ r.2.mem ((c.tc : Thread Cert.MmTIdeal.nD Cert.MmTIdeal.τ).loc Cert.MmTIdeal.main_arg1) = m ((c.tc : Thread Cert.MmTIdeal.nD Cert.MmTIdeal.τ).loc Cert.MmTIdeal.main_arg1))
      ∧ r.2.sem = fun _ => 0)

def quiescent_MmTIdeal_pre_finite [hMmTIdeal : Cert.MmTIdeal.Facts] [hPre_finite : Cert.Pre_finite.Facts] : Prop :=
  ∀ (m : (ℓ : Loc Cert.MmTIdeal.nD Cert.MmTIdeal.τ Cert.MmTIdeal.sig) → Buf (Elt Ideal) ℓ) (g : Dev Cert.MmTIdeal.nD → PrngReg), Pre_MmTIdeal_finite m →
    θ_run (Cert.MmTIdeal.defs (F := Ideal)) (onTc (τ := Cert.MmTIdeal.τ) (Cert.MmTIdeal.main (F := Ideal))) ⟨m, fun _ => 0, g⟩ (fun r => (∀ c : Dev Cert.MmTIdeal.nD,
      r.2.mem ((c.tc : Thread Cert.MmTIdeal.nD Cert.MmTIdeal.τ).loc Cert.MmTIdeal.main_arg0) = m ((c.tc : Thread Cert.MmTIdeal.nD Cert.MmTIdeal.τ).loc Cert.MmTIdeal.main_arg0)
      ∧ r.2.mem ((c.tc : Thread Cert.MmTIdeal.nD Cert.MmTIdeal.τ).loc Cert.MmTIdeal.main_arg1) = m ((c.tc : Thread Cert.MmTIdeal.nD Cert.MmTIdeal.τ).loc Cert.MmTIdeal.main_arg1))
      ∧ r.2.sem = fun _ => 0)

def quiescent_MmTRefIdeal [hMmTRefIdeal : Cert.MmTRefIdeal.Facts] : Prop :=
  ∀ (m : (ℓ : Loc Cert.MmTRefIdeal.nD Cert.MmTRefIdeal.τ Cert.MmTRefIdeal.sig) → Buf (Elt Ideal) ℓ) (g : Dev Cert.MmTRefIdeal.nD → PrngReg), Pre_MmTRefIdeal m →
    θ_run (Cert.MmTRefIdeal.defs (F := Ideal)) (onTc (τ := Cert.MmTRefIdeal.τ) (Cert.MmTRefIdeal.main (F := Ideal))) ⟨m, fun _ => 0, g⟩ (fun r => (∀ c : Dev Cert.MmTRefIdeal.nD,
      r.2.mem ((c.tc : Thread Cert.MmTRefIdeal.nD Cert.MmTRefIdeal.τ).loc Cert.MmTRefIdeal.main_arg0) = m ((c.tc : Thread Cert.MmTRefIdeal.nD Cert.MmTRefIdeal.τ).loc Cert.MmTRefIdeal.main_arg0)
      ∧ r.2.mem ((c.tc : Thread Cert.MmTRefIdeal.nD Cert.MmTRefIdeal.τ).loc Cert.MmTRefIdeal.main_arg1) = m ((c.tc : Thread Cert.MmTRefIdeal.nD Cert.MmTRefIdeal.τ).loc Cert.MmTRefIdeal.main_arg1))
      ∧ r.2.sem = fun _ => 0)

def quiescent_MmTRefIdeal_pre_finite [hMmTRefIdeal : Cert.MmTRefIdeal.Facts] [hPre_finite : Cert.Pre_finite.Facts] : Prop :=
  ∀ (m : (ℓ : Loc Cert.MmTRefIdeal.nD Cert.MmTRefIdeal.τ Cert.MmTRefIdeal.sig) → Buf (Elt Ideal) ℓ) (g : Dev Cert.MmTRefIdeal.nD → PrngReg), Pre_MmTRefIdeal_finite m →
    θ_run (Cert.MmTRefIdeal.defs (F := Ideal)) (onTc (τ := Cert.MmTRefIdeal.τ) (Cert.MmTRefIdeal.main (F := Ideal))) ⟨m, fun _ => 0, g⟩ (fun r => (∀ c : Dev Cert.MmTRefIdeal.nD,
      r.2.mem ((c.tc : Thread Cert.MmTRefIdeal.nD Cert.MmTRefIdeal.τ).loc Cert.MmTRefIdeal.main_arg0) = m ((c.tc : Thread Cert.MmTRefIdeal.nD Cert.MmTRefIdeal.τ).loc Cert.MmTRefIdeal.main_arg0)
      ∧ r.2.mem ((c.tc : Thread Cert.MmTRefIdeal.nD Cert.MmTRefIdeal.τ).loc Cert.MmTRefIdeal.main_arg1) = m ((c.tc : Thread Cert.MmTRefIdeal.nD Cert.MmTRefIdeal.τ).loc Cert.MmTRefIdeal.main_arg1))
      ∧ r.2.sem = fun _ => 0)

def quiescent_MmN [hMmN : Cert.MmN.Facts] : Prop :=
  ∀ (m : (ℓ : Loc Cert.MmN.nD Cert.MmN.τ Cert.MmN.sig) → Buf (Elt Bits) ℓ) (g : Dev Cert.MmN.nD → PrngReg), Pre_MmN m →
    θ_run (Cert.MmN.defs (F := Bits)) (onTc (τ := Cert.MmN.τ) (Cert.MmN.main (F := Bits))) ⟨m, fun _ => 0, g⟩ (fun r => (∀ c : Dev Cert.MmN.nD,
      r.2.mem ((c.tc : Thread Cert.MmN.nD Cert.MmN.τ).loc Cert.MmN.main_arg0) = m ((c.tc : Thread Cert.MmN.nD Cert.MmN.τ).loc Cert.MmN.main_arg0)
      ∧ r.2.mem ((c.tc : Thread Cert.MmN.nD Cert.MmN.τ).loc Cert.MmN.main_arg1) = m ((c.tc : Thread Cert.MmN.nD Cert.MmN.τ).loc Cert.MmN.main_arg1))
      ∧ r.2.sem = fun _ => 0)

def quiescent_MmNIdeal [hMmNIdeal : Cert.MmNIdeal.Facts] : Prop :=
  ∀ (m : (ℓ : Loc Cert.MmNIdeal.nD Cert.MmNIdeal.τ Cert.MmNIdeal.sig) → Buf (Elt Ideal) ℓ) (g : Dev Cert.MmNIdeal.nD → PrngReg), Pre_MmNIdeal m →
    θ_run (Cert.MmNIdeal.defs (F := Ideal)) (onTc (τ := Cert.MmNIdeal.τ) (Cert.MmNIdeal.main (F := Ideal))) ⟨m, fun _ => 0, g⟩ (fun r => (∀ c : Dev Cert.MmNIdeal.nD,
      r.2.mem ((c.tc : Thread Cert.MmNIdeal.nD Cert.MmNIdeal.τ).loc Cert.MmNIdeal.main_arg0) = m ((c.tc : Thread Cert.MmNIdeal.nD Cert.MmNIdeal.τ).loc Cert.MmNIdeal.main_arg0)
      ∧ r.2.mem ((c.tc : Thread Cert.MmNIdeal.nD Cert.MmNIdeal.τ).loc Cert.MmNIdeal.main_arg1) = m ((c.tc : Thread Cert.MmNIdeal.nD Cert.MmNIdeal.τ).loc Cert.MmNIdeal.main_arg1))
      ∧ r.2.sem = fun _ => 0)

def quiescent_MmNIdeal_pre_finite [hMmNIdeal : Cert.MmNIdeal.Facts] [hPre_finite : Cert.Pre_finite.Facts] : Prop :=
  ∀ (m : (ℓ : Loc Cert.MmNIdeal.nD Cert.MmNIdeal.τ Cert.MmNIdeal.sig) → Buf (Elt Ideal) ℓ) (g : Dev Cert.MmNIdeal.nD → PrngReg), Pre_MmNIdeal_finite m →
    θ_run (Cert.MmNIdeal.defs (F := Ideal)) (onTc (τ := Cert.MmNIdeal.τ) (Cert.MmNIdeal.main (F := Ideal))) ⟨m, fun _ => 0, g⟩ (fun r => (∀ c : Dev Cert.MmNIdeal.nD,
      r.2.mem ((c.tc : Thread Cert.MmNIdeal.nD Cert.MmNIdeal.τ).loc Cert.MmNIdeal.main_arg0) = m ((c.tc : Thread Cert.MmNIdeal.nD Cert.MmNIdeal.τ).loc Cert.MmNIdeal.main_arg0)
      ∧ r.2.mem ((c.tc : Thread Cert.MmNIdeal.nD Cert.MmNIdeal.τ).loc Cert.MmNIdeal.main_arg1) = m ((c.tc : Thread Cert.MmNIdeal.nD Cert.MmNIdeal.τ).loc Cert.MmNIdeal.main_arg1))
      ∧ r.2.sem = fun _ => 0)

def quiescent_MmNRefIdeal [hMmNRefIdeal : Cert.MmNRefIdeal.Facts] : Prop :=
  ∀ (m : (ℓ : Loc Cert.MmNRefIdeal.nD Cert.MmNRefIdeal.τ Cert.MmNRefIdeal.sig) → Buf (Elt Ideal) ℓ) (g : Dev Cert.MmNRefIdeal.nD → PrngReg), Pre_MmNRefIdeal m →
    θ_run (Cert.MmNRefIdeal.defs (F := Ideal)) (onTc (τ := Cert.MmNRefIdeal.τ) (Cert.MmNRefIdeal.main (F := Ideal))) ⟨m, fun _ => 0, g⟩ (fun r => (∀ c : Dev Cert.MmNRefIdeal.nD,
      r.2.mem ((c.tc : Thread Cert.MmNRefIdeal.nD Cert.MmNRefIdeal.τ).loc Cert.MmNRefIdeal.main_arg0) = m ((c.tc : Thread Cert.MmNRefIdeal.nD Cert.MmNRefIdeal.τ).loc Cert.MmNRefIdeal.main_arg0)
      ∧ r.2.mem ((c.tc : Thread Cert.MmNRefIdeal.nD Cert.MmNRefIdeal.τ).loc Cert.MmNRefIdeal.main_arg1) = m ((c.tc : Thread Cert.MmNRefIdeal.nD Cert.MmNRefIdeal.τ).loc Cert.MmNRefIdeal.main_arg1))
      ∧ r.2.sem = fun _ => 0)

def quiescent_MmNRefIdeal_pre_finite [hMmNRefIdeal : Cert.MmNRefIdeal.Facts] [hPre_finite : Cert.Pre_finite.Facts] : Prop :=
  ∀ (m : (ℓ : Loc Cert.MmNRefIdeal.nD Cert.MmNRefIdeal.τ Cert.MmNRefIdeal.sig) → Buf (Elt Ideal) ℓ) (g : Dev Cert.MmNRefIdeal.nD → PrngReg), Pre_MmNRefIdeal_finite m →
    θ_run (Cert.MmNRefIdeal.defs (F := Ideal)) (onTc (τ := Cert.MmNRefIdeal.τ) (Cert.MmNRefIdeal.main (F := Ideal))) ⟨m, fun _ => 0, g⟩ (fun r => (∀ c : Dev Cert.MmNRefIdeal.nD,
      r.2.mem ((c.tc : Thread Cert.MmNRefIdeal.nD Cert.MmNRefIdeal.τ).loc Cert.MmNRefIdeal.main_arg0) = m ((c.tc : Thread Cert.MmNRefIdeal.nD Cert.MmNRefIdeal.τ).loc Cert.MmNRefIdeal.main_arg0)
      ∧ r.2.mem ((c.tc : Thread Cert.MmNRefIdeal.nD Cert.MmNRefIdeal.τ).loc Cert.MmNRefIdeal.main_arg1) = m ((c.tc : Thread Cert.MmNRefIdeal.nD Cert.MmNRefIdeal.τ).loc Cert.MmNRefIdeal.main_arg1))
      ∧ r.2.sem = fun _ => 0)

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)) (v2 : (c : Dev Cert.FwdIdeal.nD) → Buf (Elt Ideal) ((c.tc : Thread Cert.FwdIdeal.nD Cert.FwdIdeal.τ).loc Cert.FwdIdeal.main_v0_2)) (v3 : (c : Dev Cert.FwdIdeal.nD) → Buf (Elt Ideal) ((c.tc : Thread Cert.FwdIdeal.nD Cert.FwdIdeal.τ).loc Cert.FwdIdeal.main_v0_3)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_v0_2) = v2 c
          ∧ r.2.mem ((c.tc : Thread Cert.FwdIdeal.nD Cert.FwdIdeal.τ).loc Cert.FwdIdeal.main_v0_3) = v3 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v0_0) = v0 c
          ∧ r.2.mem ((c.tc : Thread Cert.FwdRefIdeal.nD Cert.FwdRefIdeal.τ).loc Cert.FwdRefIdeal.main_v0_1) = v1 c
          ∧ r.2.mem ((c.tc : Thread Cert.FwdRefIdeal.nD Cert.FwdRefIdeal.τ).loc Cert.FwdRefIdeal.main_v0_2) = v2 c
          ∧ r.2.mem ((c.tc : Thread Cert.FwdRefIdeal.nD Cert.FwdRefIdeal.τ).loc Cert.FwdRefIdeal.main_v0_3) = v3 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4))

def preserves_Grad_GradIdeal : Prop :=
  True

def algebraic_GradIdeal_GradRefIdeal [hGradIdeal : Cert.GradIdeal.Facts] [hGradRefIdeal : Cert.GradRefIdeal.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.GradRefIdeal.nD Cert.GradRefIdeal.τ Cert.GradRefIdeal.sig) → Buf (Elt Ideal) ℓ) (g' : Dev Cert.GradRefIdeal.nD → PrngReg), Pre_GradIdeal m →
    (∀ c : Dev Cert.GradIdeal.nD,
      m' ((c.tc : Thread Cert.GradRefIdeal.nD Cert.GradRefIdeal.τ).loc Cert.GradRefIdeal.main_arg0) = m ((c.tc : Thread Cert.GradIdeal.nD Cert.GradIdeal.τ).loc Cert.GradIdeal.main_arg0)
      ∧ m' ((c.tc : Thread Cert.GradRefIdeal.nD Cert.GradRefIdeal.τ).loc Cert.GradRefIdeal.main_arg1) = m ((c.tc : Thread Cert.GradIdeal.nD Cert.GradIdeal.τ).loc Cert.GradIdeal.main_arg1)
      ∧ m' ((c.tc : Thread Cert.GradRefIdeal.nD Cert.GradRefIdeal.τ).loc Cert.GradRefIdeal.main_arg2) = m ((c.tc : Thread Cert.GradIdeal.nD Cert.GradIdeal.τ).loc Cert.GradIdeal.main_arg2)
      ∧ m' ((c.tc : Thread Cert.GradRefIdeal.nD Cert.GradRefIdeal.τ).loc Cert.GradRefIdeal.main_arg3) = m ((c.tc : Thread Cert.GradIdeal.nD Cert.GradIdeal.τ).loc Cert.GradIdeal.main_arg3)
      ∧ m' ((c.tc : Thread Cert.GradRefIdeal.nD Cert.GradRefIdeal.τ).loc Cert.GradRefIdeal.main_arg4) = m ((c.tc : Thread Cert.GradIdeal.nD Cert.GradIdeal.τ).loc Cert.GradIdeal.main_arg4)) →
    ∃ (v0 : (c : Dev Cert.GradIdeal.nD) → Buf (Elt Ideal) ((c.tc : Thread Cert.GradIdeal.nD Cert.GradIdeal.τ).loc Cert.GradIdeal.main_v0)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v0) = v0 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
          ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
          ∧ r.2.mem ((c.tc : Thread Cert.GradIdeal.nD Cert.GradIdeal.τ).loc Cert.GradIdeal.main_arg4) = m ((c.tc : Thread Cert.GradIdeal.nD Cert.GradIdeal.τ).loc Cert.GradIdeal.main_arg4))
      ∧ θ_run (Cert.GradRefIdeal.defs (F := Ideal)) (onTc (τ := Cert.GradRefIdeal.τ) (Cert.GradRefIdeal.main (F := Ideal))) ⟨m', fun _ => 0, g'⟩ (fun r => ∀ c : Dev Cert.GradRefIdeal.nD,
          r.2.mem ((c.tc : Thread Cert.GradRefIdeal.nD Cert.GradRefIdeal.τ).loc Cert.GradRefIdeal.main_v0) = v0 c
          ∧ r.2.mem ((c.tc : Thread Cert.GradRefIdeal.nD Cert.GradRefIdeal.τ).loc Cert.GradRefIdeal.main_arg0) = m' ((c.tc : Thread Cert.GradRefIdeal.nD Cert.GradRefIdeal.τ).loc Cert.GradRefIdeal.main_arg0)
          ∧ r.2.mem ((c.tc : Thread Cert.GradRefIdeal.nD Cert.GradRefIdeal.τ).loc Cert.GradRefIdeal.main_arg1) = m' ((c.tc : Thread Cert.GradRefIdeal.nD Cert.GradRefIdeal.τ).loc Cert.GradRefIdeal.main_arg1)
          ∧ r.2.mem ((c.tc : Thread Cert.GradRefIdeal.nD Cert.GradRefIdeal.τ).loc Cert.GradRefIdeal.main_arg2) = m' ((c.tc : Thread Cert.GradRefIdeal.nD Cert.GradRefIdeal.τ).loc Cert.GradRefIdeal.main_arg2)
          ∧ r.2.mem ((c.tc : Thread Cert.GradRefIdeal.nD Cert.GradRefIdeal.τ).loc Cert.GradRefIdeal.main_arg3) = m' ((c.tc : Thread Cert.GradRefIdeal.nD Cert.GradRefIdeal.τ).loc Cert.GradRefIdeal.main_arg3)
          ∧ r.2.mem ((c.tc : Thread Cert.GradRefIdeal.nD Cert.GradRefIdeal.τ).loc Cert.GradRefIdeal.main_arg4) = m' ((c.tc : Thread Cert.GradRefIdeal.nD Cert.GradRefIdeal.τ).loc Cert.GradRefIdeal.main_arg4))

def preserves_RotX_RotXIdeal : Prop :=
  True

def algebraic_RotXIdeal_RotXRefIdeal [hRotXIdeal : Cert.RotXIdeal.Facts] [hRotXRefIdeal : Cert.RotXRefIdeal.Facts] : Prop :=
  ∀ (m : (ℓ : Loc Cert.RotXIdeal.nD Cert.RotXIdeal.τ Cert.RotXIdeal.sig) → Buf (Elt Ideal) ℓ) (g : Dev Cert.RotXIdeal.nD → PrngReg)
    (m' : (ℓ : Loc Cert.RotXRefIdeal.nD Cert.RotXRefIdeal.τ Cert.RotXRefIdeal.sig) → Buf (Elt Ideal) ℓ) (g' : Dev Cert.RotXRefIdeal.nD → PrngReg), Pre_RotXIdeal m →
    (∀ c : Dev Cert.RotXIdeal.nD,
      m' ((c.tc : Thread Cert.RotXRefIdeal.nD Cert.RotXRefIdeal.τ).loc Cert.RotXRefIdeal.main_arg0) = m ((c.tc : Thread Cert.RotXIdeal.nD Cert.RotXIdeal.τ).loc Cert.RotXIdeal.main_arg0)
      ∧ m' ((c.tc : Thread Cert.RotXRefIdeal.nD Cert.RotXRefIdeal.τ).loc Cert.RotXRefIdeal.main_arg1) = m ((c.tc : Thread Cert.RotXIdeal.nD Cert.RotXIdeal.τ).loc Cert.RotXIdeal.main_arg1)) →
    ∃ (v0 : (c : Dev Cert.RotXIdeal.nD) → Buf (Elt Ideal) ((c.tc : Thread Cert.RotXIdeal.nD Cert.RotXIdeal.τ).loc Cert.RotXIdeal.main_v0_0)) (v1 : (c : Dev Cert.RotXIdeal.nD) → Buf (Elt Ideal) ((c.tc : Thread Cert.RotXIdeal.nD Cert.RotXIdeal.τ).loc Cert.RotXIdeal.main_v0_1)) (v2 : (c : Dev Cert.RotXIdeal.nD) → Buf (Elt Ideal) ((c.tc : Thread Cert.RotXIdeal.nD Cert.RotXIdeal.τ).loc Cert.RotXIdeal.main_v0_2)),
      θ_run (Cert.RotXIdeal.defs (F := Ideal)) (onTc (τ := Cert.RotXIdeal.τ) (Cert.RotXIdeal.main (F := Ideal))) ⟨m, fun _ => 0, g⟩ (fun r => ∀ c : Dev Cert.RotXIdeal.nD,
          r.2.mem ((c.tc : Thread Cert.RotXIdeal.nD Cert.RotXIdeal.τ).loc Cert.RotXIdeal.main_v0_0) = v0 c
          ∧ r.2.mem ((c.tc : Thread Cert.RotXIdeal.nD Cert.RotXIdeal.τ).loc Cert.RotXIdeal.main_v0_1) = v1 c
          ∧ r.2.mem ((c.tc : Thread Cert.RotXIdeal.nD Cert.RotXIdeal.τ).loc Cert.RotXIdeal.main_v0_2) = v2 c
          ∧ r.2.mem ((c.tc : Thread Cert.RotXIdeal.nD Cert.RotXIdeal.τ).loc Cert.RotXIdeal.main_arg0) = m ((c.tc : Thread Cert.RotXIdeal.nD Cert.RotXIdeal.τ).loc Cert.RotXIdeal.main_arg0)
          ∧ r.2.mem ((c.tc : Thread Cert.RotXIdeal.nD Cert.RotXIdeal.τ).loc Cert.RotXIdeal.main_arg1) = m ((c.tc : Thread Cert.RotXIdeal.nD Cert.RotXIdeal.τ).loc Cert.RotXIdeal.main_arg1))
      ∧ θ_run (Cert.RotXRefIdeal.defs (F := Ideal)) (onTc (τ := Cert.RotXRefIdeal.τ) (Cert.RotXRefIdeal.main (F := Ideal))) ⟨m', fun _ => 0, g'⟩ (fun r => ∀ c : Dev Cert.RotXRefIdeal.nD,
          r.2.mem ((c.tc : Thread Cert.RotXRefIdeal.nD Cert.RotXRefIdeal.τ).loc Cert.RotXRefIdeal.main_v0_0) = v0 c
          ∧ r.2.mem ((c.tc : Thread Cert.RotXRefIdeal.nD Cert.RotXRefIdeal.τ).loc Cert.RotXRefIdeal.main_v0_1) = v1 c
          ∧ r.2.mem ((c.tc : Thread Cert.RotXRefIdeal.nD Cert.RotXRefIdeal.τ).loc Cert.RotXRefIdeal.main_v0_2) = v2 c
          ∧ r.2.mem ((c.tc : Thread Cert.RotXRefIdeal.nD Cert.RotXRefIdeal.τ).loc Cert.RotXRefIdeal.main_arg0) = m' ((c.tc : Thread Cert.RotXRefIdeal.nD Cert.RotXRefIdeal.τ).loc Cert.RotXRefIdeal.main_arg0)
          ∧ r.2.mem ((c.tc : Thread Cert.RotXRefIdeal.nD Cert.RotXRefIdeal.τ).loc Cert.RotXRefIdeal.main_arg1) = m' ((c.tc : Thread Cert.RotXRefIdeal.nD Cert.RotXRefIdeal.τ).loc Cert.RotXRefIdeal.main_arg1))

def preserves_RotW_RotWIdeal : Prop :=
  True

def algebraic_RotWIdeal_RotWRefIdeal [hRotWIdeal : Cert.RotWIdeal.Facts] [hRotWRefIdeal : Cert.RotWRefIdeal.Facts] : Prop :=
  ∀ (m : (ℓ : Loc Cert.RotWIdeal.nD Cert.RotWIdeal.τ Cert.RotWIdeal.sig) → Buf (Elt Ideal) ℓ) (g : Dev Cert.RotWIdeal.nD → PrngReg)
    (m' : (ℓ : Loc Cert.RotWRefIdeal.nD Cert.RotWRefIdeal.τ Cert.RotWRefIdeal.sig) → Buf (Elt Ideal) ℓ) (g' : Dev Cert.RotWRefIdeal.nD → PrngReg), Pre_RotWIdeal m →
    (∀ c : Dev Cert.RotWIdeal.nD,
      m' ((c.tc : Thread Cert.RotWRefIdeal.nD Cert.RotWRefIdeal.τ).loc Cert.RotWRefIdeal.main_arg0) = m ((c.tc : Thread Cert.RotWIdeal.nD Cert.RotWIdeal.τ).loc Cert.RotWIdeal.main_arg0)
      ∧ m' ((c.tc : Thread Cert.RotWRefIdeal.nD Cert.RotWRefIdeal.τ).loc Cert.RotWRefIdeal.main_arg1) = m ((c.tc : Thread Cert.RotWIdeal.nD Cert.RotWIdeal.τ).loc Cert.RotWIdeal.main_arg1)) →
    ∃ (v0 : (c : Dev Cert.RotWIdeal.nD) → Buf (Elt Ideal) ((c.tc : Thread Cert.RotWIdeal.nD Cert.RotWIdeal.τ).loc Cert.RotWIdeal.main_v0_0)) (v1 : (c : Dev Cert.RotWIdeal.nD) → Buf (Elt Ideal) ((c.tc : Thread Cert.RotWIdeal.nD Cert.RotWIdeal.τ).loc Cert.RotWIdeal.main_v0_1)) (v2 : (c : Dev Cert.RotWIdeal.nD) → Buf (Elt Ideal) ((c.tc : Thread Cert.RotWIdeal.nD Cert.RotWIdeal.τ).loc Cert.RotWIdeal.main_v0_2)),
      θ_run (Cert.RotWIdeal.defs (F := Ideal)) (onTc (τ := Cert.RotWIdeal.τ) (Cert.RotWIdeal.main (F := Ideal))) ⟨m, fun _ => 0, g⟩ (fun r => ∀ c : Dev Cert.RotWIdeal.nD,
          r.2.mem ((c.tc : Thread Cert.RotWIdeal.nD Cert.RotWIdeal.τ).loc Cert.RotWIdeal.main_v0_0) = v0 c
          ∧ r.2.mem ((c.tc : Thread Cert.RotWIdeal.nD Cert.RotWIdeal.τ).loc Cert.RotWIdeal.main_v0_1) = v1 c
          ∧ r.2.mem ((c.tc : Thread Cert.RotWIdeal.nD Cert.RotWIdeal.τ).loc Cert.RotWIdeal.main_v0_2) = v2 c
          ∧ r.2.mem ((c.tc : Thread Cert.RotWIdeal.nD Cert.RotWIdeal.τ).loc Cert.RotWIdeal.main_arg0) = m ((c.tc : Thread Cert.RotWIdeal.nD Cert.RotWIdeal.τ).loc Cert.RotWIdeal.main_arg0)
          ∧ r.2.mem ((c.tc : Thread Cert.RotWIdeal.nD Cert.RotWIdeal.τ).loc Cert.RotWIdeal.main_arg1) = m ((c.tc : Thread Cert.RotWIdeal.nD Cert.RotWIdeal.τ).loc Cert.RotWIdeal.main_arg1))
      ∧ θ_run (Cert.RotWRefIdeal.defs (F := Ideal)) (onTc (τ := Cert.RotWRefIdeal.τ) (Cert.RotWRefIdeal.main (F := Ideal))) ⟨m', fun _ => 0, g'⟩ (fun r => ∀ c : Dev Cert.RotWRefIdeal.nD,
          r.2.mem ((c.tc : Thread Cert.RotWRefIdeal.nD Cert.RotWRefIdeal.τ).loc Cert.RotWRefIdeal.main_v0_0) = v0 c
          ∧ r.2.mem ((c.tc : Thread Cert.RotWRefIdeal.nD Cert.RotWRefIdeal.τ).loc Cert.RotWRefIdeal.main_v0_1) = v1 c
          ∧ r.2.mem ((c.tc : Thread Cert.RotWRefIdeal.nD Cert.RotWRefIdeal.τ).loc Cert.RotWRefIdeal.main_v0_2) = v2 c
          ∧ r.2.mem ((c.tc : Thread Cert.RotWRefIdeal.nD Cert.RotWRefIdeal.τ).loc Cert.RotWRefIdeal.main_arg0) = m' ((c.tc : Thread Cert.RotWRefIdeal.nD Cert.RotWRefIdeal.τ).loc Cert.RotWRefIdeal.main_arg0)
          ∧ r.2.mem ((c.tc : Thread Cert.RotWRefIdeal.nD Cert.RotWRefIdeal.τ).loc Cert.RotWRefIdeal.main_arg1) = m' ((c.tc : Thread Cert.RotWRefIdeal.nD Cert.RotWRefIdeal.τ).loc Cert.RotWRefIdeal.main_arg1))

def preserves_Mom_MomIdeal : Prop :=
  True

def algebraic_MomIdeal_MomRefIdeal [hMomIdeal : Cert.MomIdeal.Facts] [hMomRefIdeal : Cert.MomRefIdeal.Facts] : Prop :=
  ∀ (m : (ℓ : Loc Cert.MomIdeal.nD Cert.MomIdeal.τ Cert.MomIdeal.sig) → Buf (Elt Ideal) ℓ) (g : Dev Cert.MomIdeal.nD → PrngReg)
    (m' : (ℓ : Loc Cert.MomRefIdeal.nD Cert.MomRefIdeal.τ Cert.MomRefIdeal.sig) → Buf (Elt Ideal) ℓ) (g' : Dev Cert.MomRefIdeal.nD → PrngReg), Pre_MomIdeal m →
    (∀ c : Dev Cert.MomIdeal.nD,
      m' ((c.tc : Thread Cert.MomRefIdeal.nD Cert.MomRefIdeal.τ).loc Cert.MomRefIdeal.main_arg0) = m ((c.tc : Thread Cert.MomIdeal.nD Cert.MomIdeal.τ).loc Cert.MomIdeal.main_arg0)
      ∧ m' ((c.tc : Thread Cert.MomRefIdeal.nD Cert.MomRefIdeal.τ).loc Cert.MomRefIdeal.main_arg1) = m ((c.tc : Thread Cert.MomIdeal.nD Cert.MomIdeal.τ).loc Cert.MomIdeal.main_arg1)
      ∧ m' ((c.tc : Thread Cert.MomRefIdeal.nD Cert.MomRefIdeal.τ).loc Cert.MomRefIdeal.main_arg2) = m ((c.tc : Thread Cert.MomIdeal.nD Cert.MomIdeal.τ).loc Cert.MomIdeal.main_arg2)) →
    ∃ (v0 : (c : Dev Cert.MomIdeal.nD) → Buf (Elt Ideal) ((c.tc : Thread Cert.MomIdeal.nD Cert.MomIdeal.τ).loc Cert.MomIdeal.main_v0)),
      θ_run (Cert.MomIdeal.defs (F := Ideal)) (onTc (τ := Cert.MomIdeal.τ) (Cert.MomIdeal.main (F := Ideal))) ⟨m, fun _ => 0, g⟩ (fun r => ∀ c : Dev Cert.MomIdeal.nD,
          r.2.mem ((c.tc : Thread Cert.MomIdeal.nD Cert.MomIdeal.τ).loc Cert.MomIdeal.main_v0) = v0 c
          ∧ r.2.mem ((c.tc : Thread Cert.MomIdeal.nD Cert.MomIdeal.τ).loc Cert.MomIdeal.main_arg0) = m ((c.tc : Thread Cert.MomIdeal.nD Cert.MomIdeal.τ).loc Cert.MomIdeal.main_arg0)
          ∧ r.2.mem ((c.tc : Thread Cert.MomIdeal.nD Cert.MomIdeal.τ).loc Cert.MomIdeal.main_arg1) = m ((c.tc : Thread Cert.MomIdeal.nD Cert.MomIdeal.τ).loc Cert.MomIdeal.main_arg1)
          ∧ r.2.mem ((c.tc : Thread Cert.MomIdeal.nD Cert.MomIdeal.τ).loc Cert.MomIdeal.main_arg2) = m ((c.tc : Thread Cert.MomIdeal.nD Cert.MomIdeal.τ).loc Cert.MomIdeal.main_arg2))
      ∧ θ_run (Cert.MomRefIdeal.defs (F := Ideal)) (onTc (τ := Cert.MomRefIdeal.τ) (Cert.MomRefIdeal.main (F := Ideal))) ⟨m', fun _ => 0, g'⟩ (fun r => ∀ c : Dev Cert.MomRefIdeal.nD,
          r.2.mem ((c.tc : Thread Cert.MomRefIdeal.nD Cert.MomRefIdeal.τ).loc Cert.MomRefIdeal.main_v0) = v0 c
          ∧ r.2.mem ((c.tc : Thread Cert.MomRefIdeal.nD Cert.MomRefIdeal.τ).loc Cert.MomRefIdeal.main_arg0) = m' ((c.tc : Thread Cert.MomRefIdeal.nD Cert.MomRefIdeal.τ).loc Cert.MomRefIdeal.main_arg0)
          ∧ r.2.mem ((c.tc : Thread Cert.MomRefIdeal.nD Cert.MomRefIdeal.τ).loc Cert.MomRefIdeal.main_arg1) = m' ((c.tc : Thread Cert.MomRefIdeal.nD Cert.MomRefIdeal.τ).loc Cert.MomRefIdeal.main_arg1)
          ∧ r.2.mem ((c.tc : Thread Cert.MomRefIdeal.nD Cert.MomRefIdeal.τ).loc Cert.MomRefIdeal.main_arg2) = m' ((c.tc : Thread Cert.MomRefIdeal.nD Cert.MomRefIdeal.τ).loc Cert.MomRefIdeal.main_arg2))

def preserves_D1_D1Ideal : Prop :=
  True

def algebraic_D1Ideal_D1RefIdeal [hD1Ideal : Cert.D1Ideal.Facts] [hD1RefIdeal : Cert.D1RefIdeal.Facts] : Prop :=
  ∀ (m : (ℓ : Loc Cert.D1Ideal.nD Cert.D1Ideal.τ Cert.D1Ideal.sig) → Buf (Elt Ideal) ℓ) (g : Dev Cert.D1Ideal.nD → PrngReg)
    (m' : (ℓ : Loc Cert.D1RefIdeal.nD Cert.D1RefIdeal.τ Cert.D1RefIdeal.sig) → Buf (Elt Ideal) ℓ) (g' : Dev Cert.D1RefIdeal.nD → PrngReg), Pre_D1Ideal m →
    (∀ c : Dev Cert.D1Ideal.nD,
      m' ((c.tc : Thread Cert.D1RefIdeal.nD Cert.D1RefIdeal.τ).loc Cert.D1RefIdeal.main_arg0) = m ((c.tc : Thread Cert.D1Ideal.nD Cert.D1Ideal.τ).loc Cert.D1Ideal.main_arg0)
      ∧ m' ((c.tc : Thread Cert.D1RefIdeal.nD Cert.D1RefIdeal.τ).loc Cert.D1RefIdeal.main_arg1) = m ((c.tc : Thread Cert.D1Ideal.nD Cert.D1Ideal.τ).loc Cert.D1Ideal.main_arg1)
      ∧ m' ((c.tc : Thread Cert.D1RefIdeal.nD Cert.D1RefIdeal.τ).loc Cert.D1RefIdeal.main_arg2) = m ((c.tc : Thread Cert.D1Ideal.nD Cert.D1Ideal.τ).loc Cert.D1Ideal.main_arg2)) →
    ∃ (v0 : (c : Dev Cert.D1Ideal.nD) → Buf (Elt Ideal) ((c.tc : Thread Cert.D1Ideal.nD Cert.D1Ideal.τ).loc Cert.D1Ideal.main_v0_0)) (v1 : (c : Dev Cert.D1Ideal.nD) → Buf (Elt Ideal) ((c.tc : Thread Cert.D1Ideal.nD Cert.D1Ideal.τ).loc Cert.D1Ideal.main_v0_1)) (v2 : (c : Dev Cert.D1Ideal.nD) → Buf (Elt Ideal) ((c.tc : Thread Cert.D1Ideal.nD Cert.D1Ideal.τ).loc Cert.D1Ideal.main_v0_2)),
      θ_run (Cert.D1Ideal.defs (F := Ideal)) (onTc (τ := Cert.D1Ideal.τ) (Cert.D1Ideal.main (F := Ideal))) ⟨m, fun _ => 0, g⟩ (fun r => ∀ c : Dev Cert.D1Ideal.nD,
          r.2.mem ((c.tc : Thread Cert.D1Ideal.nD Cert.D1Ideal.τ).loc Cert.D1Ideal.main_v0_0) = v0 c
          ∧ r.2.mem ((c.tc : Thread Cert.D1Ideal.nD Cert.D1Ideal.τ).loc Cert.D1Ideal.main_v0_1) = v1 c
          ∧ r.2.mem ((c.tc : Thread Cert.D1Ideal.nD Cert.D1Ideal.τ).loc Cert.D1Ideal.main_v0_2) = v2 c
          ∧ r.2.mem ((c.tc : Thread Cert.D1Ideal.nD Cert.D1Ideal.τ).loc Cert.D1Ideal.main_arg0) = m ((c.tc : Thread Cert.D1Ideal.nD Cert.D1Ideal.τ).loc Cert.D1Ideal.main_arg0)
          ∧ r.2.mem ((c.tc : Thread Cert.D1Ideal.nD Cert.D1Ideal.τ).loc Cert.D1Ideal.main_arg1) = m ((c.tc : Thread Cert.D1Ideal.nD Cert.D1Ideal.τ).loc Cert.D1Ideal.main_arg1)
          ∧ r.2.mem ((c.tc : Thread Cert.D1Ideal.nD Cert.D1Ideal.τ).loc Cert.D1Ideal.main_arg2) = m ((c.tc : Thread Cert.D1Ideal.nD Cert.D1Ideal.τ).loc Cert.D1Ideal.main_arg2))
      ∧ θ_run (Cert.D1RefIdeal.defs (F := Ideal)) (onTc (τ := Cert.D1RefIdeal.τ) (Cert.D1RefIdeal.main (F := Ideal))) ⟨m', fun _ => 0, g'⟩ (fun r => ∀ c : Dev Cert.D1RefIdeal.nD,
          r.2.mem ((c.tc : Thread Cert.D1RefIdeal.nD Cert.D1RefIdeal.τ).loc Cert.D1RefIdeal.main_v0_0) = v0 c
          ∧ r.2.mem ((c.tc : Thread Cert.D1RefIdeal.nD Cert.D1RefIdeal.τ).loc Cert.D1RefIdeal.main_v0_1) = v1 c
          ∧ r.2.mem ((c.tc : Thread Cert.D1RefIdeal.nD Cert.D1RefIdeal.τ).loc Cert.D1RefIdeal.main_v0_2) = v2 c
          ∧ r.2.mem ((c.tc : Thread Cert.D1RefIdeal.nD Cert.D1RefIdeal.τ).loc Cert.D1RefIdeal.main_arg0) = m' ((c.tc : Thread Cert.D1RefIdeal.nD Cert.D1RefIdeal.τ).loc Cert.D1RefIdeal.main_arg0)
          ∧ r.2.mem ((c.tc : Thread Cert.D1RefIdeal.nD Cert.D1RefIdeal.τ).loc Cert.D1RefIdeal.main_arg1) = m' ((c.tc : Thread Cert.D1RefIdeal.nD Cert.D1RefIdeal.τ).loc Cert.D1RefIdeal.main_arg1)
          ∧ r.2.mem ((c.tc : Thread Cert.D1RefIdeal.nD Cert.D1RefIdeal.τ).loc Cert.D1RefIdeal.main_arg2) = m' ((c.tc : Thread Cert.D1RefIdeal.nD Cert.D1RefIdeal.τ).loc Cert.D1RefIdeal.main_arg2))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)) →
    ∃ (v0 : (c : Dev Cert.StepIdeal.nD) → Buf (Elt Ideal) ((c.tc : Thread Cert.StepIdeal.nD Cert.StepIdeal.τ).loc Cert.StepIdeal.main_v0_0)) (v1 : (c : Dev Cert.StepIdeal.nD) → Buf (Elt Ideal) ((c.tc : Thread Cert.StepIdeal.nD Cert.StepIdeal.τ).loc Cert.StepIdeal.main_v0_1)) (v2 : (c : Dev Cert.StepIdeal.nD) → Buf (Elt Ideal) ((c.tc : Thread Cert.StepIdeal.nD Cert.StepIdeal.τ).loc Cert.StepIdeal.main_v0_2)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v0_0) = v0 c
          ∧ r.2.mem ((c.tc : Thread Cert.StepIdeal.nD Cert.StepIdeal.τ).loc Cert.StepIdeal.main_v0_1) = v1 c
          ∧ r.2.mem ((c.tc : Thread Cert.StepIdeal.nD Cert.StepIdeal.τ).loc Cert.StepIdeal.main_v0_2) = v2 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v0_0) = v0 c
          ∧ r.2.mem ((c.tc : Thread Cert.StepRefIdeal.nD Cert.StepRefIdeal.τ).loc Cert.StepRefIdeal.main_v0_1) = v1 c
          ∧ r.2.mem ((c.tc : Thread Cert.StepRefIdeal.nD Cert.StepRefIdeal.τ).loc Cert.StepRefIdeal.main_v0_2) = v2 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3))

def preserves_MmT_MmTIdeal : Prop :=
  True

def algebraic_MmTIdeal_MmTRefIdeal_pre_finite [hMmTIdeal : Cert.MmTIdeal.Facts] [hMmTRefIdeal : Cert.MmTRefIdeal.Facts] [hPre_finite : Cert.Pre_finite.Facts] : Prop :=
  ∀ (m : (ℓ : Loc Cert.MmTIdeal.nD Cert.MmTIdeal.τ Cert.MmTIdeal.sig) → Buf (Elt Ideal) ℓ) (g : Dev Cert.MmTIdeal.nD → PrngReg)
    (m' : (ℓ : Loc Cert.MmTRefIdeal.nD Cert.MmTRefIdeal.τ Cert.MmTRefIdeal.sig) → Buf (Elt Ideal) ℓ) (g' : Dev Cert.MmTRefIdeal.nD → PrngReg), Pre_MmTIdeal_finite m →
    (∀ c : Dev Cert.MmTIdeal.nD,
      m' ((c.tc : Thread Cert.MmTRefIdeal.nD Cert.MmTRefIdeal.τ).loc Cert.MmTRefIdeal.main_arg0) = m ((c.tc : Thread Cert.MmTIdeal.nD Cert.MmTIdeal.τ).loc Cert.MmTIdeal.main_arg0)
      ∧ m' ((c.tc : Thread Cert.MmTRefIdeal.nD Cert.MmTRefIdeal.τ).loc Cert.MmTRefIdeal.main_arg1) = m ((c.tc : Thread Cert.MmTIdeal.nD Cert.MmTIdeal.τ).loc Cert.MmTIdeal.main_arg1)) →
    ∃ (v0 : (c : Dev Cert.MmTIdeal.nD) → Buf (Elt Ideal) ((c.tc : Thread Cert.MmTIdeal.nD Cert.MmTIdeal.τ).loc Cert.MmTIdeal.main_v0)),
      θ_run (Cert.MmTIdeal.defs (F := Ideal)) (onTc (τ := Cert.MmTIdeal.τ) (Cert.MmTIdeal.main (F := Ideal))) ⟨m, fun _ => 0, g⟩ (fun r => ∀ c : Dev Cert.MmTIdeal.nD,
          r.2.mem ((c.tc : Thread Cert.MmTIdeal.nD Cert.MmTIdeal.τ).loc Cert.MmTIdeal.main_v0) = v0 c
          ∧ r.2.mem ((c.tc : Thread Cert.MmTIdeal.nD Cert.MmTIdeal.τ).loc Cert.MmTIdeal.main_arg0) = m ((c.tc : Thread Cert.MmTIdeal.nD Cert.MmTIdeal.τ).loc Cert.MmTIdeal.main_arg0)
          ∧ r.2.mem ((c.tc : Thread Cert.MmTIdeal.nD Cert.MmTIdeal.τ).loc Cert.MmTIdeal.main_arg1) = m ((c.tc : Thread Cert.MmTIdeal.nD Cert.MmTIdeal.τ).loc Cert.MmTIdeal.main_arg1))
      ∧ θ_run (Cert.MmTRefIdeal.defs (F := Ideal)) (onTc (τ := Cert.MmTRefIdeal.τ) (Cert.MmTRefIdeal.main (F := Ideal))) ⟨m', fun _ => 0, g'⟩ (fun r => ∀ c : Dev Cert.MmTRefIdeal.nD,
          r.2.mem ((c.tc : Thread Cert.MmTRefIdeal.nD Cert.MmTRefIdeal.τ).loc Cert.MmTRefIdeal.main_v0) = v0 c
          ∧ r.2.mem ((c.tc : Thread Cert.MmTRefIdeal.nD Cert.MmTRefIdeal.τ).loc Cert.MmTRefIdeal.main_arg0) = m' ((c.tc : Thread Cert.MmTRefIdeal.nD Cert.MmTRefIdeal.τ).loc Cert.MmTRefIdeal.main_arg0)
          ∧ r.2.mem ((c.tc : Thread Cert.MmTRefIdeal.nD Cert.MmTRefIdeal.τ).loc Cert.MmTRefIdeal.main_arg1) = m' ((c.tc : Thread Cert.MmTRefIdeal.nD Cert.MmTRefIdeal.τ).loc Cert.MmTRefIdeal.main_arg1))

def preserves_MmN_MmNIdeal : Prop :=
  True

def algebraic_MmNIdeal_MmNRefIdeal_pre_finite [hMmNIdeal : Cert.MmNIdeal.Facts] [hMmNRefIdeal : Cert.MmNRefIdeal.Facts] [hPre_finite : Cert.Pre_finite.Facts] : Prop :=
  ∀ (m : (ℓ : Loc Cert.MmNIdeal.nD Cert.MmNIdeal.τ Cert.MmNIdeal.sig) → Buf (Elt Ideal) ℓ) (g : Dev Cert.MmNIdeal.nD → PrngReg)
    (m' : (ℓ : Loc Cert.MmNRefIdeal.nD Cert.MmNRefIdeal.τ Cert.MmNRefIdeal.sig) → Buf (Elt Ideal) ℓ) (g' : Dev Cert.MmNRefIdeal.nD → PrngReg), Pre_MmNIdeal_finite m →
    (∀ c : Dev Cert.MmNIdeal.nD,
      m' ((c.tc : Thread Cert.MmNRefIdeal.nD Cert.MmNRefIdeal.τ).loc Cert.MmNRefIdeal.main_arg0) = m ((c.tc : Thread Cert.MmNIdeal.nD Cert.MmNIdeal.τ).loc Cert.MmNIdeal.main_arg0)
      ∧ m' ((c.tc : Thread Cert.MmNRefIdeal.nD Cert.MmNRefIdeal.τ).loc Cert.MmNRefIdeal.main_arg1) = m ((c.tc : Thread Cert.MmNIdeal.nD Cert.MmNIdeal.τ).loc Cert.MmNIdeal.main_arg1)) →
    ∃ (v0 : (c : Dev Cert.MmNIdeal.nD) → Buf (Elt Ideal) ((c.tc : Thread Cert.MmNIdeal.nD Cert.MmNIdeal.τ).loc Cert.MmNIdeal.main_v0)),
      θ_run (Cert.MmNIdeal.defs (F := Ideal)) (onTc (τ := Cert.MmNIdeal.τ) (Cert.MmNIdeal.main (F := Ideal))) ⟨m, fun _ => 0, g⟩ (fun r => ∀ c : Dev Cert.MmNIdeal.nD,
          r.2.mem ((c.tc : Thread Cert.MmNIdeal.nD Cert.MmNIdeal.τ).loc Cert.MmNIdeal.main_v0) = v0 c
          ∧ r.2.mem ((c.tc : Thread Cert.MmNIdeal.nD Cert.MmNIdeal.τ).loc Cert.MmNIdeal.main_arg0) = m ((c.tc : Thread Cert.MmNIdeal.nD Cert.MmNIdeal.τ).loc Cert.MmNIdeal.main_arg0)
          ∧ r.2.mem ((c.tc : Thread Cert.MmNIdeal.nD Cert.MmNIdeal.τ).loc Cert.MmNIdeal.main_arg1) = m ((c.tc : Thread Cert.MmNIdeal.nD Cert.MmNIdeal.τ).loc Cert.MmNIdeal.main_arg1))
      ∧ θ_run (Cert.MmNRefIdeal.defs (F := Ideal)) (onTc (τ := Cert.MmNRefIdeal.τ) (Cert.MmNRefIdeal.main (F := Ideal))) ⟨m', fun _ => 0, g'⟩ (fun r => ∀ c : Dev Cert.MmNRefIdeal.nD,
          r.2.mem ((c.tc : Thread Cert.MmNRefIdeal.nD Cert.MmNRefIdeal.τ).loc Cert.MmNRefIdeal.main_v0) = v0 c
          ∧ r.2.mem ((c.tc : Thread Cert.MmNRefIdeal.nD Cert.MmNRefIdeal.τ).loc Cert.MmNRefIdeal.main_arg0) = m' ((c.tc : Thread Cert.MmNRefIdeal.nD Cert.MmNRefIdeal.τ).loc Cert.MmNRefIdeal.main_arg0)
          ∧ r.2.mem ((c.tc : Thread Cert.MmNRefIdeal.nD Cert.MmNRefIdeal.τ).loc Cert.MmNRefIdeal.main_arg1) = m' ((c.tc : Thread Cert.MmNRefIdeal.nD Cert.MmNRefIdeal.τ).loc Cert.MmNRefIdeal.main_arg1))

def Claim : Prop :=
  ∃ (hFwd : Cert.Fwd.Facts) (hFwdIdeal : Cert.FwdIdeal.Facts) (hFwdRefIdeal : Cert.FwdRefIdeal.Facts) (hGrad : Cert.Grad.Facts) (hGradIdeal : Cert.GradIdeal.Facts) (hGradRefIdeal : Cert.GradRefIdeal.Facts) (hRotX : Cert.RotX.Facts) (hRotXIdeal : Cert.RotXIdeal.Facts) (hRotXRefIdeal : Cert.RotXRefIdeal.Facts) (hRotW : Cert.RotW.Facts) (hRotWIdeal : Cert.RotWIdeal.Facts) (hRotWRefIdeal : Cert.RotWRefIdeal.Facts) (hMom : Cert.Mom.Facts) (hMomIdeal : Cert.MomIdeal.Facts) (hMomRefIdeal : Cert.MomRefIdeal.Facts) (hD1 : Cert.D1.Facts) (hD1Ideal : Cert.D1Ideal.Facts) (hD1RefIdeal : Cert.D1RefIdeal.Facts) (hStep : Cert.Step.Facts) (hStepIdeal : Cert.StepIdeal.Facts) (hStepRefIdeal : Cert.StepRefIdeal.Facts) (hMmT : Cert.MmT.Facts) (hMmTIdeal : Cert.MmTIdeal.Facts) (hMmTRefIdeal : Cert.MmTRefIdeal.Facts) (hMmN : Cert.MmN.Facts) (hMmNIdeal : Cert.MmNIdeal.Facts) (hMmNRefIdeal : Cert.MmNRefIdeal.Facts) (hPre_finite : Cert.Pre_finite.Facts),
    quiescent_Fwd (hFwd := hFwd)
    ∧ quiescent_FwdIdeal (hFwdIdeal := hFwdIdeal)
    ∧ quiescent_FwdRefIdeal (hFwdRefIdeal := hFwdRefIdeal)
    ∧ quiescent_Grad (hGrad := hGrad)
    ∧ quiescent_GradIdeal (hGradIdeal := hGradIdeal)
    ∧ quiescent_GradRefIdeal (hGradRefIdeal := hGradRefIdeal)
    ∧ quiescent_RotX (hRotX := hRotX)
    ∧ quiescent_RotXIdeal (hRotXIdeal := hRotXIdeal)
    ∧ quiescent_RotXRefIdeal (hRotXRefIdeal := hRotXRefIdeal)
    ∧ quiescent_RotW (hRotW := hRotW)
    ∧ quiescent_RotWIdeal (hRotWIdeal := hRotWIdeal)
    ∧ quiescent_RotWRefIdeal (hRotWRefIdeal := hRotWRefIdeal)
    ∧ quiescent_Mom (hMom := hMom)
    ∧ quiescent_MomIdeal (hMomIdeal := hMomIdeal)
    ∧ quiescent_MomRefIdeal (hMomRefIdeal := hMomRefIdeal)
    ∧ quiescent_D1 (hD1 := hD1)
    ∧ quiescent_D1Ideal (hD1Ideal := hD1Ideal)
    ∧ quiescent_D1RefIdeal (hD1RefIdeal := hD1RefIdeal)
    ∧ quiescent_Step (hStep := hStep)
    ∧ quiescent_StepIdeal (hStepIdeal := hStepIdeal)
    ∧ quiescent_StepRefIdeal (hStepRefIdeal := hStepRefIdeal)
    ∧ quiescent_MmT (hMmT := hMmT)
    ∧ quiescent_MmTIdeal (hMmTIdeal := hMmTIdeal)
    ∧ quiescent_MmTIdeal_pre_finite (hMmTIdeal := hMmTIdeal) (hPre_finite := hPre_finite)
    ∧ quiescent_MmTRefIdeal (hMmTRefIdeal := hMmTRefIdeal)
    ∧ quiescent_MmTRefIdeal_pre_finite (hMmTRefIdeal := hMmTRefIdeal) (hPre_finite := hPre_finite)
    ∧ quiescent_MmN (hMmN := hMmN)
    ∧ quiescent_MmNIdeal (hMmNIdeal := hMmNIdeal)
    ∧ quiescent_MmNIdeal_pre_finite (hMmNIdeal := hMmNIdeal) (hPre_finite := hPre_finite)
    ∧ quiescent_MmNRefIdeal (hMmNRefIdeal := hMmNRefIdeal)
    ∧ quiescent_MmNRefIdeal_pre_finite (hMmNRefIdeal := hMmNRefIdeal) (hPre_finite := hPre_finite)
    ∧ preserves_Fwd_FwdIdeal
    ∧ algebraic_FwdIdeal_FwdRefIdeal (hFwdIdeal := hFwdIdeal) (hFwdRefIdeal := hFwdRefIdeal)
    ∧ preserves_Grad_GradIdeal
    ∧ algebraic_GradIdeal_GradRefIdeal (hGradIdeal := hGradIdeal) (hGradRefIdeal := hGradRefIdeal)
    ∧ preserves_RotX_RotXIdeal
    ∧ algebraic_RotXIdeal_RotXRefIdeal (hRotXIdeal := hRotXIdeal) (hRotXRefIdeal := hRotXRefIdeal)
    ∧ preserves_RotW_RotWIdeal
    ∧ algebraic_RotWIdeal_RotWRefIdeal (hRotWIdeal := hRotWIdeal) (hRotWRefIdeal := hRotWRefIdeal)
    ∧ preserves_Mom_MomIdeal
    ∧ algebraic_MomIdeal_MomRefIdeal (hMomIdeal := hMomIdeal) (hMomRefIdeal := hMomRefIdeal)
    ∧ preserves_D1_D1Ideal
    ∧ algebraic_D1Ideal_D1RefIdeal (hD1Ideal := hD1Ideal) (hD1RefIdeal := hD1RefIdeal)
    ∧ preserves_Step_StepIdeal
    ∧ algebraic_StepIdeal_StepRefIdeal (hStepIdeal := hStepIdeal) (hStepRefIdeal := hStepRefIdeal)
    ∧ preserves_MmT_MmTIdeal
    ∧ algebraic_MmTIdeal_MmTRefIdeal_pre_finite (hMmTIdeal := hMmTIdeal) (hMmTRefIdeal := hMmTRefIdeal) (hPre_finite := hPre_finite)
    ∧ preserves_MmN_MmNIdeal
    ∧ algebraic_MmNIdeal_MmNRefIdeal_pre_finite (hMmNIdeal := hMmNIdeal) (hMmNRefIdeal := hMmNRefIdeal) (hPre_finite := hPre_finite)
-- ==== Pre_finite.lean ====
abbrev S2048x2048 : Shape := ⟨2, ![2048, 2048]⟩
abbrev S3x2048x2048 : Shape := ⟨3, ![3, 2048, 2048]⟩
abbrev S_ : Shape := ⟨0, ![]⟩

class Facts : Prop where
  bcast_S_S2048x2048 : S_.BroadcastsInDim S2048x2048 (![] : Fin 0 → Fin S2048x2048.rank)
  bitsLt_bf16_f32 : FTy.bits .bf16 < FTy.bits .f32
  bcast_S_S3x2048x2048 : S_.BroadcastsInDim S3x2048x2048 (![] : Fin 0 → Fin S3x2048x2048.rank)

variable [Facts]

def fn {F : FTy → Type} [FloatOps F] (main_arg0 : FVec F S2048x2048 .f32) (main_arg1 : FVec F S3x2048x2048 .bf16) : IVec S2048x2048 1 × IVec S3x2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S3x2048x2048 .f32 := (extf .f32 · bitsLt_bf16_f32) main_arg1
  let main_v4 : FVec F S3x2048x2048 .f32 := Host.absf main_v3
  let main_cst_0 : FVec F S_ .f32 := constant S_ .f32 0x7F800000#32
  let main_v5 : FVec F S3x2048x2048 .f32 := broadcastInDim S3x2048x2048 ![] bcast_S_S3x2048x2048 main_cst_0
  let main_v6 : IVec S3x2048x2048 1 := cmpf .olt main_v4 main_v5
  (main_v2, main_v6)
-- ==== Fwd.lean ====
abbrev S1536x2048 : Shape := ⟨2, ![1536, 2048]⟩
abbrev S3072x2048 : Shape := ⟨2, ![3072, 2048]⟩
abbrev S1536x1 : Shape := ⟨2, ![1536, 1]⟩
abbrev S1x3072 : Shape := ⟨2, ![1, 3072]⟩
abbrev S1536x3072 : Shape := ⟨2, ![1536, 3072]⟩
abbrev S256x2048 : Shape := ⟨2, ![256, 2048]⟩
abbrev S256x1 : Shape := ⟨2, ![256, 1]⟩
abbrev S256x3072 : Shape := ⟨2, ![256, 3072]⟩
abbrev S3072 : Shape := ⟨1, ![3072]⟩

abbrev nBuf : Space → Nat
  | .hbm => 9
  | .vmem => 16
  | .smem => 0
  | _ => 0

abbrev bufTy : (tb : Table) → Fin (tcTables nBuf tb) → BufTy
  | .hbm, ⟨0, _⟩ => ⟨S1536x2048, .i8⟩
  | .hbm, ⟨1, _⟩ => ⟨S3072x2048, .i8⟩
  | .hbm, ⟨2, _⟩ => ⟨S1536x1, .f32⟩
  | .hbm, ⟨3, _⟩ => ⟨S1x3072, .f32⟩
  | .hbm, ⟨4, _⟩ => ⟨S1536x3072, .bf16⟩
  | .hbm, ⟨5, _⟩ => ⟨S1536x3072, .f32⟩
  | .hbm, ⟨6, _⟩ => ⟨S1536x3072, .bf16⟩
  | .hbm, ⟨7, _⟩ => ⟨S1536x2048, .bf16⟩
  | .hbm, ⟨8, _⟩ => ⟨S1x3072, .f32⟩
  | .local _ .vmem, ⟨0, _⟩ => ⟨S256x2048, .i8⟩
  | .local _ .vmem, ⟨1, _⟩ => ⟨S256x2048, .i8⟩
  | .local _ .vmem, ⟨2, _⟩ => ⟨S3072x2048, .i8⟩
  | .local _ .vmem, ⟨3, _⟩ => ⟨S256x1, .f32⟩
  | .local _ .vmem, ⟨4, _⟩ => ⟨S256x1, .f32⟩
  | .local _ .vmem, ⟨5, _⟩ => ⟨S1x3072, .f32⟩
  | .local _ .vmem, ⟨6, _⟩ => ⟨S256x3072, .bf16⟩
  | .local _ .vmem, ⟨7, _⟩ => ⟨S256x3072, .bf16⟩
  | .local _ .vmem, ⟨8, _⟩ => ⟨S256x3072, .f32⟩
  | .local _ .vmem, ⟨9, _⟩ => ⟨S256x3072, .f32⟩
  | .local _ .vmem, ⟨10, _⟩ => ⟨S256x3072, .bf16⟩
  | .local _ .vmem, ⟨11, _⟩ => ⟨S256x3072, .bf16⟩
  | .local _ .vmem, ⟨12, _⟩ => ⟨S256x2048, .bf16⟩
  | .local _ .vmem, ⟨13, _⟩ => ⟨S256x2048, .bf16⟩
  | .local _ .vmem, ⟨14, _⟩ => ⟨S1x3072, .f32⟩
  | .local _ .vmem, ⟨15, _⟩ => ⟨S3072x2048, .bf16⟩
  | _, _ => ⟨S1536x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FwdRefIdeal.lean ====
abbrev S1536x2048 : Shape := ⟨2, ![1536, 2048]⟩
abbrev S3072x2048 : Shape := ⟨2, ![3072, 2048]⟩
abbrev S1536x1 : Shape := ⟨2, ![1536, 1]⟩
abbrev S1x3072 : Shape := ⟨2, ![1, 3072]⟩
abbrev S1536x3072 : Shape := ⟨2, ![1536, 3072]⟩
abbrev S3072 : Shape := ⟨1, ![3072]⟩

abbrev nBuf : Space → Nat
  | .hbm => 9
  | .vmem => 9
  | .smem => 0
  | _ => 0

abbrev bufTy : (tb : Table) → Fin (tcTables nBuf tb) → BufTy
  | .hbm, ⟨0, _⟩ => ⟨S1536x2048, .i8⟩
  | .hbm, ⟨1, _⟩ => ⟨S3072x2048, .i8⟩
  | .hbm, ⟨2, _⟩ => ⟨S1536x1, .f32⟩
  | .hbm, ⟨3, _⟩ => ⟨S1x3072, .f32⟩
  | .hbm, ⟨4, _⟩ => ⟨S1536x3072, .bf16⟩
  | .hbm, ⟨5, _⟩ => ⟨S1536x3072, .f32⟩
  | .hbm, ⟨6, _⟩ => ⟨S1536x3072, .bf16⟩
  | .hbm, ⟨7, _⟩ => ⟨S1536x2048, .bf16⟩
  | .hbm, ⟨8, _⟩ => ⟨S1x3072, .f32⟩
  | .local _ .vmem, ⟨0, _⟩ => ⟨S1536x2048, .i8⟩
  | .local _ .vmem, ⟨1, _⟩ => ⟨S3072x2048, .i8⟩
  | .local _ .vmem, ⟨2, _⟩ => ⟨S1536x1, .f32⟩
  | .local _ .vmem, ⟨3, _⟩ => ⟨S1x3072, .f32⟩
  | .local _ .vmem, ⟨4, _⟩ => ⟨S1536x3072, .bf16⟩
  | .local _ .vmem, ⟨5, _⟩ => ⟨S1536x3072, .f32⟩
  | .local _ .vmem, ⟨6, _⟩ => ⟨S1536x3072, .bf16⟩
  | .local _ .vmem, ⟨7, _⟩ => ⟨S1536x2048, .bf16⟩
  | .local _ .vmem, ⟨8, _⟩ => ⟨S1x3072, .f32⟩
  | _, _ => ⟨S1536x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1536x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Grad.lean ====
abbrev S1536x2048 : Shape := ⟨2, ![1536, 2048]⟩
abbrev S1536x3072 : Shape := ⟨2, ![1536, 3072]⟩
abbrev S3072x2048 : Shape := ⟨2, ![3072, 2048]⟩
abbrev S2048x2048 : Shape := ⟨2, ![2048, 2048]⟩
abbrev S1536x256 : Shape := ⟨2, ![1536, 256]⟩
abbrev S256x2048 : Shape := ⟨2, ![256, 2048]⟩

abbrev nBuf : Space → Nat
  | .hbm => 6
  | .vmem => 9
  | .smem => 0
  | _ => 0

abbrev bufTy : (tb : Table) → Fin (tcTables nBuf tb) → BufTy
  | .hbm, ⟨0, _⟩ => ⟨S1536x2048, .bf16⟩
  | .hbm, ⟨1, _⟩ => ⟨S1536x2048, .bf16⟩
  | .hbm, ⟨2, _⟩ => ⟨S1536x2048, .i8⟩
  | .hbm, ⟨3, _⟩ => ⟨S1536x3072, .bf16⟩
  | .hbm, ⟨4, _⟩ => ⟨S3072x2048, .bf16⟩
  | .hbm, ⟨5, _⟩ => ⟨S2048x2048, .f32⟩
  | .local _ .vmem, ⟨0, _⟩ => ⟨S1536x2048, .bf16⟩
  | .local _ .vmem, ⟨1, _⟩ => ⟨S1536x2048, .bf16⟩
  | .local _ .vmem, ⟨2, _⟩ => ⟨S1536x2048, .i8⟩
  | .local _ .vmem, ⟨3, _⟩ => ⟨S1536x256, .bf16⟩
  | .local _ .vmem, ⟨4, _⟩ => ⟨S1536x256, .bf16⟩
  | .local _ .vmem, ⟨5, _⟩ => ⟨S256x2048, .bf16⟩
  | .local _ .vmem, ⟨6, _⟩ => ⟨S256x2048, .bf16⟩
  | .local _ .vmem, ⟨7, _⟩ => ⟨S2048x2048, .f32⟩
  | .local _ .vmem, ⟨8, _⟩ => ⟨S1536x2048, .bf16⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GradRefIdeal.lean ====
abbrev S1536x2048 : Shape := ⟨2, ![1536, 2048]⟩
abbrev S1536x3072 : Shape := ⟨2, ![1536, 3072]⟩
abbrev S3072x2048 : Shape := ⟨2, ![3072, 2048]⟩
abbrev S2048x2048 : Shape := ⟨2, ![2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S1536x2048, .bf16⟩
  | .hbm, ⟨1, _⟩ => ⟨S1536x2048, .bf16⟩
  | .hbm, ⟨2, _⟩ => ⟨S1536x2048, .i8⟩
  | .hbm, ⟨3, _⟩ => ⟨S1536x3072, .bf16⟩
  | .hbm, ⟨4, _⟩ => ⟨S3072x2048, .bf16⟩
  | .hbm, ⟨5, _⟩ => ⟨S2048x2048, .f32⟩
  | .local _ .vmem, ⟨0, _⟩ => ⟨S1536x2048, .bf16⟩
  | .local _ .vmem, ⟨1, _⟩ => ⟨S1536x2048, .bf16⟩
  | .local _ .vmem, ⟨2, _⟩ => ⟨S1536x2048, .i8⟩
  | .local _ .vmem, ⟨3, _⟩ => ⟨S1536x3072, .bf16⟩
  | .local _ .vmem, ⟨4, _⟩ => ⟨S3072x2048, .bf16⟩
  | .local _ .vmem, ⟨5, _⟩ => ⟨S2048x2048, .f32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== RotX.lean ====
abbrev S1536x2048 : Shape := ⟨2, ![1536, 2048]⟩
abbrev S3x2048x2048 : Shape := ⟨3, ![3, 2048, 2048]⟩
abbrev S1536x1 : Shape := ⟨2, ![1536, 1]⟩
abbrev S256x2048 : Shape := ⟨2, ![256, 2048]⟩
abbrev S1x2048x2048 : Shape := ⟨3, ![1, 2048, 2048]⟩
abbrev S256x1 : Shape := ⟨2, ![256, 1]⟩
abbrev S2048x2048 : Shape := ⟨2, ![2048, 2048]⟩
abbrev S256 : Shape := ⟨1, ![256]⟩

abbrev nBuf : Space → Nat
  | .hbm => 5
  | .vmem => 9
  | .smem => 0
  | _ => 0

abbrev bufTy : (tb : Table) → Fin (tcTables nBuf tb) → BufTy
  | .hbm, ⟨0, _⟩ => ⟨S1536x2048, .bf16⟩
  | .hbm, ⟨1, _⟩ => ⟨S3x2048x2048, .bf16⟩
  | .hbm, ⟨2, _⟩ => ⟨S1536x2048, .i8⟩
  | .hbm, ⟨3, _⟩ => ⟨S1536x1, .f32⟩
  | .hbm, ⟨4, _⟩ => ⟨S1536x1, .f32⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S256x2048, .i8⟩
  | .local _ .vmem, ⟨4, _⟩ => ⟨S256x2048, .i8⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RotXIdeal.lean ====
abbrev S1536x2048 : Shape := ⟨2, ![1536, 2048]⟩
abbrev S3x2048x2048 : Shape := ⟨3, ![3, 2048, 2048]⟩
abbrev S1536x1 : Shape := ⟨2, ![1536, 1]⟩
abbrev S256x2048 : Shape := ⟨2, ![256, 2048]⟩
abbrev S1x2048x2048 : Shape := ⟨3, ![1, 2048, 2048]⟩
abbrev S256x1 : Shape := ⟨2, ![256, 1]⟩
abbrev S2048x2048 : Shape := ⟨2, ![2048, 2048]⟩
abbrev S256 : Shape := ⟨1, ![256]⟩

abbrev nBuf : Space → Nat
  | .hbm => 5
  | .vmem => 9
  | .smem => 0
  | _ => 0

abbrev bufTy : (tb : Table) → Fin (tcTables nBuf tb) → BufTy
  | .hbm, ⟨0, _⟩ => ⟨S1536x2048, .bf16⟩
  | .hbm, ⟨1, _⟩ => ⟨S3x2048x2048, .bf16⟩
  | .hbm, ⟨2, _⟩ => ⟨S1536x2048, .i8⟩
  | .hbm, ⟨3, _⟩ => ⟨S1536x1, .f32⟩
  | .hbm, ⟨4, _⟩ => ⟨S1536x1, .f32⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S256x2048, .i8⟩
  | .local _ .vmem, ⟨4, _⟩ => ⟨S256x2048, .i8⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RotXRefIdeal.lean ====
abbrev S1536x2048 : Shape := ⟨2, ![1536, 2048]⟩
abbrev S3x2048x2048 : Shape := ⟨3, ![3, 2048, 2048]⟩
abbrev S1536x1 : Shape := ⟨2, ![1536, 1]⟩
abbrev S1x2048x2048 : Shape := ⟨3, ![1, 2048, 2048]⟩
abbrev S2048x2048 : Shape := ⟨2, ![2048, 2048]⟩
abbrev S1536 : Shape := ⟨1, ![1536]⟩

abbrev nBuf : Space → Nat
  | .hbm => 5
  | .vmem => 5
  | .smem => 0
  | _ => 0

abbrev bufTy : (tb : Table) → Fin (tcTables nBuf tb) → BufTy
  | .hbm, ⟨0, _⟩ => ⟨S1536x2048, .bf16⟩
  | .hbm, ⟨1, _⟩ => ⟨S3x2048x2048, .bf16⟩
  | .hbm, ⟨2, _⟩ => ⟨S1536x2048, .i8⟩
  | .hbm, ⟨3, _⟩ => ⟨S1536x1, .f32⟩
  | .hbm, ⟨4, _⟩ => ⟨S1536x1, .f32⟩
  | .local _ .vmem, ⟨0, _⟩ => ⟨S1536x2048, .bf16⟩
  | .local _ .vmem, ⟨1, _⟩ => ⟨S3x2048x2048, .bf16⟩
  | .local _ .vmem, ⟨2, _⟩ => ⟨S1536x2048, .i8⟩
  | .local _ .vmem, ⟨3, _⟩ => ⟨S1536x1, .f32⟩
  | .local _ .vmem, ⟨4, _⟩ => ⟨S1536x1, .f32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== RotW.lean ====
abbrev S3072x2048 : Shape := ⟨2, ![3072, 2048]⟩
abbrev S3x2048x2048 : Shape := ⟨3, ![3, 2048, 2048]⟩
abbrev S3072x1 : Shape := ⟨2, ![3072, 1]⟩
abbrev S256x2048 : Shape := ⟨2, ![256, 2048]⟩
abbrev S1x2048x2048 : Shape := ⟨3, ![1, 2048, 2048]⟩
abbrev S256x1 : Shape := ⟨2, ![256, 1]⟩
abbrev S2048x2048 : Shape := ⟨2, ![2048, 2048]⟩
abbrev S256 : Shape := ⟨1, ![256]⟩

abbrev nBuf : Space → Nat
  | .hbm => 5
  | .vmem => 9
  | .smem => 0
  | _ => 0

abbrev bufTy : (tb : Table) → Fin (tcTables nBuf tb) → BufTy
  | .hbm, ⟨0, _⟩ => ⟨S3072x2048, .bf16⟩
  | .hbm, ⟨1, _⟩ => ⟨S3x2048x2048, .bf16⟩
  | .hbm, ⟨2, _⟩ => ⟨S3072x2048, .i8⟩
  | .hbm, ⟨3, _⟩ => ⟨S3072x1, .f32⟩
  | .hbm, ⟨4, _⟩ => ⟨S3072x1, .f32⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S256x2048, .i8⟩
  | .local _ .vmem, ⟨4, _⟩ => ⟨S256x2048, .i8⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | _, _ => ⟨S3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RotWIdeal.lean ====
abbrev S3072x2048 : Shape := ⟨2, ![3072, 2048]⟩
abbrev S3x2048x2048 : Shape := ⟨3, ![3, 2048, 2048]⟩
abbrev S3072x1 : Shape := ⟨2, ![3072, 1]⟩
abbrev S256x2048 : Shape := ⟨2, ![256, 2048]⟩
abbrev S1x2048x2048 : Shape := ⟨3, ![1, 2048, 2048]⟩
abbrev S256x1 : Shape := ⟨2, ![256, 1]⟩
abbrev S2048x2048 : Shape := ⟨2, ![2048, 2048]⟩
abbrev S256 : Shape := ⟨1, ![256]⟩

abbrev nBuf : Space → Nat
  | .hbm => 5
  | .vmem => 9
  | .smem => 0
  | _ => 0

abbrev bufTy : (tb : Table) → Fin (tcTables nBuf tb) → BufTy
  | .hbm, ⟨0, _⟩ => ⟨S3072x2048, .bf16⟩
  | .hbm, ⟨1, _⟩ => ⟨S3x2048x2048, .bf16⟩
  | .hbm, ⟨2, _⟩ => ⟨S3072x2048, .i8⟩
  | .hbm, ⟨3, _⟩ => ⟨S3072x1, .f32⟩
  | .hbm, ⟨4, _⟩ => ⟨S3072x1, .f32⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S256x2048, .i8⟩
  | .local _ .vmem, ⟨4, _⟩ => ⟨S256x2048, .i8⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | _, _ => ⟨S3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RotWRefIdeal.lean ====
abbrev S3072x2048 : Shape := ⟨2, ![3072, 2048]⟩
abbrev S3x2048x2048 : Shape := ⟨3, ![3, 2048, 2048]⟩
abbrev S3072x1 : Shape := ⟨2, ![3072, 1]⟩
abbrev S1x2048x2048 : Shape := ⟨3, ![1, 2048, 2048]⟩
abbrev S2048x2048 : Shape := ⟨2, ![2048, 2048]⟩
abbrev S3072 : Shape := ⟨1, ![3072]⟩

abbrev nBuf : Space → Nat
  | .hbm => 5
  | .vmem => 5
  | .smem => 0
  | _ => 0

abbrev bufTy : (tb : Table) → Fin (tcTables nBuf tb) → BufTy
  | .hbm, ⟨0, _⟩ => ⟨S3072x2048, .bf16⟩
  | .hbm, ⟨1, _⟩ => ⟨S3x2048x2048, .bf16⟩
  | .hbm, ⟨2, _⟩ => ⟨S3072x2048, .i8⟩
  | .hbm, ⟨3, _⟩ => ⟨S3072x1, .f32⟩
  | .hbm, ⟨4, _⟩ => ⟨S3072x1, .f32⟩
  | .local _ .vmem, ⟨0, _⟩ => ⟨S3072x2048, .bf16⟩
  | .local _ .vmem, ⟨1, _⟩ => ⟨S3x2048x2048, .bf16⟩
  | .local _ .vmem, ⟨2, _⟩ => ⟨S3072x2048, .i8⟩
  | .local _ .vmem, ⟨3, _⟩ => ⟨S3072x1, .f32⟩
  | .local _ .vmem, ⟨4, _⟩ => ⟨S3072x1, .f32⟩
  | _, _ => ⟨S3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3072x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Mom.lean ====
abbrev S2048x2048 : Shape := ⟨2, ![2048, 2048]⟩
abbrev S2048x16 : Shape := ⟨2, ![2048, 16]⟩
abbrev S256x2048 : Shape := ⟨2, ![256, 2048]⟩
abbrev S256x16 : Shape := ⟨2, ![256, 16]⟩
abbrev S256x128 : Shape := ⟨2, ![256, 128]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .i8⟩
  | .hbm, ⟨1, _⟩ => ⟨S2048x16, .f32⟩
  | .hbm, ⟨2, _⟩ => ⟨S2048x2048, .f32⟩
  | .hbm, ⟨3, _⟩ => ⟨S2048x2048, .f32⟩
  | .local _ .vmem, ⟨0, _⟩ => ⟨S256x2048, .i8⟩
  | .local _ .vmem, ⟨1, _⟩ => ⟨S256x2048, .i8⟩
  | .local _ .vmem, ⟨2, _⟩ => ⟨S256x16, .f32⟩
  | .local _ .vmem, ⟨3, _⟩ => ⟨S256x16, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S2048x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MomRefIdeal.lean ====
abbrev S2048x2048 : Shape := ⟨2, ![2048, 2048]⟩
abbrev S2048x16 : Shape := ⟨2, ![2048, 16]⟩
abbrev S2048x16x128 : Shape := ⟨3, ![2048, 16, 128]⟩
abbrev S2048x16x1 : Shape := ⟨3, ![2048, 16, 1]⟩

abbrev nBuf : Space → Nat
  | .hbm => 4
  | .vmem => 4
  | .smem => 0
  | _ => 0

abbrev bufTy : (tb : Table) → Fin (tcTables nBuf tb) → BufTy
  | .hbm, ⟨0, _⟩ => ⟨S2048x2048, .i8⟩
  | .hbm, ⟨1, _⟩ => ⟨S2048x16, .f32⟩
  | .hbm, ⟨2, _⟩ => ⟨S2048x2048, .f32⟩
  | .hbm, ⟨3, _⟩ => ⟨S2048x2048, .f32⟩
  | .local _ .vmem, ⟨0, _⟩ => ⟨S2048x2048, .i8⟩
  | .local _ .vmem, ⟨1, _⟩ => ⟨S2048x16, .f32⟩
  | .local _ .vmem, ⟨2, _⟩ => ⟨S2048x2048, .f32⟩
  | .local _ .vmem, ⟨3, _⟩ => ⟨S2048x2048, .f32⟩
  | _, _ => ⟨S2048x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2048x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== D1.lean ====
abbrev S1x1 : Shape := ⟨2, ![1, 1]⟩
abbrev S2048x2048 : Shape := ⟨2, ![2048, 2048]⟩
abbrev S2048x16 : Shape := ⟨2, ![2048, 16]⟩
abbrev S256x2048 : Shape := ⟨2, ![256, 2048]⟩
abbrev S256x16 : Shape := ⟨2, ![256, 16]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S1x1, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .i8⟩
  | .hbm, ⟨5, _⟩ => ⟨S2048x16, .f32⟩
  | .local _ .vmem, ⟨0, _⟩ => ⟨S1x1, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .i8⟩
  | .local _ .vmem, ⟨8, _⟩ => ⟨S256x2048, .i8⟩
  | .local _ .vmem, ⟨9, _⟩ => ⟨S256x16, .f32⟩
  | .local _ .vmem, ⟨10, _⟩ => ⟨S256x16, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== D1RefIdeal.lean ====
abbrev S1x1 : Shape := ⟨2, ![1, 1]⟩
abbrev S2048x2048 : Shape := ⟨2, ![2048, 2048]⟩
abbrev S2048x16 : Shape := ⟨2, ![2048, 16]⟩
abbrev S2048x16x128 : Shape := ⟨3, ![2048, 16, 128]⟩
abbrev S2048x16x1 : Shape := ⟨3, ![2048, 16, 1]⟩

abbrev nBuf : Space → Nat
  | .hbm => 6
  | .vmem => 6
  | .smem => 0
  | _ => 0

abbrev bufTy : (tb : Table) → Fin (tcTables nBuf tb) → BufTy
  | .hbm, ⟨0, _⟩ => ⟨S1x1, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .i8⟩
  | .hbm, ⟨5, _⟩ => ⟨S2048x16, .f32⟩
  | .local _ .vmem, ⟨0, _⟩ => ⟨S1x1, .f32⟩
  | .local _ .vmem, ⟨1, _⟩ => ⟨S2048x2048, .f32⟩
  | .local _ .vmem, ⟨2, _⟩ => ⟨S2048x2048, .f32⟩
  | .local _ .vmem, ⟨3, _⟩ => ⟨S2048x2048, .f32⟩
  | .local _ .vmem, ⟨4, _⟩ => ⟨S2048x2048, .i8⟩
  | .local _ .vmem, ⟨5, _⟩ => ⟨S2048x16, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2048 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Step.lean ====
abbrev S1x1 : Shape := ⟨2, ![1, 1]⟩
abbrev S2048x2048 : Shape := ⟨2, ![2048, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 7
  | .vmem => 13
  | .smem => 0
  | _ => 0

abbrev bufTy : (tb : Table) → Fin (tcTables nBuf tb) → BufTy
  | .hbm, ⟨0, _⟩ => ⟨S1x1, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x1, .f32⟩
  | .local _ .vmem, ⟨0, _⟩ => ⟨S1x1, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x1, .f32⟩
  | .local _ .vmem, ⟨12, _⟩ => ⟨S256x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepRefIdeal.lean ====
abbrev S1x1 : Shape := ⟨2, ![1, 1]⟩
abbrev S2048x2048 : Shape := ⟨2, ![2048, 2048]⟩
abbrev S2048x1 : Shape := ⟨2, ![2048, 1]⟩
abbrev S2048 : Shape := ⟨1, ![2048]⟩

abbrev nBuf : Space → Nat
  | .hbm => 7
  | .vmem => 7
  | .smem => 0
  | _ => 0

abbrev bufTy : (tb : Table) → Fin (tcTables nBuf tb) → BufTy
  | .hbm, ⟨0, _⟩ => ⟨S1x1, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x1, .f32⟩
  | .local _ .vmem, ⟨0, _⟩ => ⟨S1x1, .f32⟩
  | .local _ .vmem, ⟨1, _⟩ => ⟨S2048x2048, .f32⟩
  | .local _ .vmem, ⟨2, _⟩ => ⟨S2048x2048, .f32⟩
  | .local _ .vmem, ⟨3, _⟩ => ⟨S2048x2048, .f32⟩
  | .local _ .vmem, ⟨4, _⟩ => ⟨S2048x2048, .f32⟩
  | .local _ .vmem, ⟨5, _⟩ => ⟨S2048x2048, .f32⟩
  | .local _ .vmem, ⟨6, _⟩ => ⟨S2048x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== MmT.lean ====
abbrev S2048x2048 : Shape := ⟨2, ![2048, 2048]⟩
abbrev S3x2048x2048 : Shape := ⟨3, ![3, 2048, 2048]⟩
abbrev S512x2048 : Shape := ⟨2, ![512, 2048]⟩
abbrev S3x512x2048 : Shape := ⟨3, ![3, 512, 2048]⟩
abbrev S1x512x2048 : Shape := ⟨3, ![1, 512, 2048]⟩
abbrev S1x256x256 : Shape := ⟨3, ![1, 256, 256]⟩
abbrev S256x256 : Shape := ⟨2, ![256, 256]⟩
abbrev S1x512x256 : Shape := ⟨3, ![1, 512, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S3x2048x2048, .bf16⟩
  | .hbm, ⟨2, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S3x2048x2048, .bf16⟩
  | .local _ .vmem, ⟨3, _⟩ => ⟨S512x2048, .f32⟩
  | .local _ .vmem, ⟨4, _⟩ => ⟨S512x2048, .f32⟩
  | .local _ .vmem, ⟨5, _⟩ => ⟨S3x512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MmTRefIdeal.lean ====
abbrev S2048x2048 : Shape := ⟨2, ![2048, 2048]⟩
abbrev S3x2048x2048 : Shape := ⟨3, ![3, 2048, 2048]⟩
abbrev S1x2048x2048 : Shape := ⟨3, ![1, 2048, 2048]⟩

abbrev nBuf : Space → Nat
  | .hbm => 3
  | .vmem => 3
  | .smem => 0
  | _ => 0

abbrev bufTy : (tb : Table) → Fin (tcTables nBuf tb) → BufTy
  | .hbm, ⟨0, _⟩ => ⟨S2048x2048, .f32⟩
  | .hbm, ⟨1, _⟩ => ⟨S3x2048x2048, .bf16⟩
  | .hbm, ⟨2, _⟩ => ⟨S2048x2048, .f32⟩
  | .local _ .vmem, ⟨0, _⟩ => ⟨S2048x2048, .f32⟩
  | .local _ .vmem, ⟨1, _⟩ => ⟨S3x2048x2048, .bf16⟩
  | .local _ .vmem, ⟨2, _⟩ => ⟨S2048x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== MmN.lean ====
abbrev S2048x2048 : Shape := ⟨2, ![2048, 2048]⟩
abbrev S3x2048x2048 : Shape := ⟨3, ![3, 2048, 2048]⟩
abbrev S512x2048 : Shape := ⟨2, ![512, 2048]⟩
abbrev S3x512x2048 : Shape := ⟨3, ![3, 512, 2048]⟩
abbrev S1x512x2048 : Shape := ⟨3, ![1, 512, 2048]⟩
abbrev S1x256x256 : Shape := ⟨3, ![1, 256, 256]⟩
abbrev S256x256 : Shape := ⟨2, ![256, 256]⟩
abbrev S1x512x256 : Shape := ⟨3, ![1, 512, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S3x2048x2048, .bf16⟩
  | .hbm, ⟨2, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S3x2048x2048, .bf16⟩
  | .local _ .vmem, ⟨3, _⟩ => ⟨S512x2048, .f32⟩
  | .local _ .vmem, ⟨4, _⟩ => ⟨S512x2048, .f32⟩
  | .local _ .vmem, ⟨5, _⟩ => ⟨S3x512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MmNRefIdeal.lean ====
abbrev S2048x2048 : Shape := ⟨2, ![2048, 2048]⟩
abbrev S3x2048x2048 : Shape := ⟨3, ![3, 2048, 2048]⟩
abbrev S1x2048x2048 : Shape := ⟨3, ![1, 2048, 2048]⟩

abbrev nBuf : Space → Nat
  | .hbm => 3
  | .vmem => 3
  | .smem => 0
  | _ => 0

abbrev bufTy : (tb : Table) → Fin (tcTables nBuf tb) → BufTy
  | .hbm, ⟨0, _⟩ => ⟨S2048x2048, .f32⟩
  | .hbm, ⟨1, _⟩ => ⟨S3x2048x2048, .bf16⟩
  | .hbm, ⟨2, _⟩ => ⟨S2048x2048, .f32⟩
  | .local _ .vmem, ⟨0, _⟩ => ⟨S2048x2048, .f32⟩
  | .local _ .vmem, ⟨1, _⟩ => ⟨S3x2048x2048, .bf16⟩
  | .local _ .vmem, ⟨2, _⟩ => ⟨S2048x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Reduce.lean ====
/-
  Matrices of any extents read at an index: the maximum and the sum of a row, the sum of a column, a row or a column spread over a
  matrix. Then the quantisation of one row by its largest absolute value.
-/
module

public import Idealize.ShloMosaic.Lib.Pointwise

@[expose] public section

noncomputable section

namespace Cert.Common

open Idealize.ShloMosaic

/-- A row's maximum is the fold of `max` over the row. -/
theorem rowMax {n k : ℕ} (v : FVec Ideal ⟨2, ![n, k]⟩ .f32) (acc : BitVec 32) (h : (⟨2, ![n, k]⟩ : Shape).Reduces [1] ⟨1, ![n]⟩)
    (hφ : FKind.Formats .f32) (hacc : acc = FKind.maximumf.neutral .f32 hφ) (a : Fin n) :
    multiReduction .maximumf [1] ⟨1, ![n]⟩ v acc h hφ hacc (ix1 a)
      = Finset.univ.fold max (Ideal.ofBits .f32 acc) fun l : Fin k => v (ix2 a l) := by
  rw [multiReduction_maximumf_eq_fold, h.fold_fiber_r2_a1]
  rfl

/-- A row's sum. -/
theorem rowSum {n k : ℕ} (v : FVec Ideal ⟨2, ![n, k]⟩ .f32) (acc : BitVec 32) (h : (⟨2, ![n, k]⟩ : Shape).Reduces [1] ⟨1, ![n]⟩)
    (hφ : FKind.Formats .f32) (hacc : acc = FKind.add.neutral .f32 hφ) (a : Fin n) :
    multiReduction .add [1] ⟨1, ![n]⟩ v acc h hφ hacc (ix1 a) = ∑ l : Fin k, v (ix2 a l) := by
  show FloatOps.reduceAdd [1] h v (ix1 a) = _
  rw [Ideal.reduceAdd_def]
  exact Ideal.reduceAdd_r2_a1 ..

/-- A column's sum. -/
theorem colSum {n k : ℕ} (v : FVec Ideal ⟨2, ![n, k]⟩ .f32) (acc : BitVec 32) (h : (⟨2, ![n, k]⟩ : Shape).Reduces [0] ⟨1, ![k]⟩)
    (hφ : FKind.Formats .f32) (hacc : acc = FKind.add.neutral .f32 hφ) (a : Fin k) :
    multiReduction .add [0] ⟨1, ![k]⟩ v acc h hφ hacc (ix1 a) = ∑ l : Fin n, v (ix2 l a) := by
  show FloatOps.reduceAdd [0] h v (ix1 a) = _
  rw [Ideal.reduceAdd_def]
  exact Ideal.reduceAdd_r2_a0 ..

/-- A column as a one-column matrix. -/
theorem castCol {α : Type} {n : ℕ} (v : (⟨1, ![n]⟩ : Shape).Idx → α) (h : (⟨1, ![n]⟩ : Shape).ShapeCasts ⟨2, ![n, 1]⟩) (a : Fin n) (b : Fin 1) :
    shapeCast ⟨2, ![n, 1]⟩ v h (ix2 a b) = v (ix1 a) := by
  refine shapeCast_apply v h _ _ ?_
  rw [Shape.rowMajor_val_two, Shape.rowMajor_val_one]
  show a.val = a.val * 1 + b.val
  omega

/-- A row as a one-row matrix. -/
theorem castRow {α : Type} {n : ℕ} (v : (⟨1, ![n]⟩ : Shape).Idx → α) (h : (⟨1, ![n]⟩ : Shape).ShapeCasts ⟨2, ![1, n]⟩) (a : Fin 1) (b : Fin n) :
    shapeCast ⟨2, ![1, n]⟩ v h (ix2 a b) = v (ix1 b) := by
  refine shapeCast_apply v h _ _ ?_
  rw [Shape.rowMajor_val_two, Shape.rowMajor_val_one]
  show b.val = a.val * n + b.val
  have : a.val = 0 := by omega
  rw [this]; omega

/-- A one-column matrix spread over the columns. -/
theorem bcCol {α : Type} {n k : ℕ} (v : (⟨2, ![n, 1]⟩ : Shape).Idx → α) (h : (⟨2, ![n, 1]⟩ : Shape).Broadcasts ⟨2, ![n, k]⟩) (a : Fin n) (b : Fin k) :
    broadcastTo ⟨2, ![n, k]⟩ v h (ix2 a b) = v (ix2 a 0) := by
  refine broadcastTo_apply v h _ _ fun c => ?_
  match c with
  | ⟨0, _⟩ =>
    show a.val = if n = 1 then 0 else a.val
    have := a.isLt
    split <;> omega
  | ⟨1, _⟩ => rfl

/-- A one-row matrix spread over the rows. -/
theorem bcRow {α : Type} {n k : ℕ} (v : (⟨2, ![1, k]⟩ : Shape).Idx → α) (h : (⟨2, ![1, k]⟩ : Shape).Broadcasts ⟨2, ![n, k]⟩) (a : Fin n) (b : Fin k) :
    broadcastTo ⟨2, ![n, k]⟩ v h (ix2 a b) = v (ix2 0 b) := by
  refine broadcastTo_apply v h _ _ fun c => ?_
  match c with
  | ⟨0, _⟩ => rfl
  | ⟨1, _⟩ =>
    show b.val = if k = 1 then 0 else b.val
    have := b.isLt
    split <;> omega

/-! ## The quantisation of one row by its largest absolute value -/

/-- The largest absolute value of a row. -/
def amax {k : ℕ} (v : Fin k → EReal) : EReal :=
  Finset.univ.fold max (Ideal.ofBits .f32 0xFF800000#32) fun l => FloatOps.absf (F := Ideal) (φ := .f32) (v l)

/-- The largest absolute value of a matrix's row. -/
theorem rowMax_abs {n k : ℕ} (v : FVec Ideal ⟨2, ![n, k]⟩ .f32) (acc : BitVec 32) (h : (⟨2, ![n, k]⟩ : Shape).Reduces [1] ⟨1, ![n]⟩)
    (hφ : FKind.Formats .f32) (hacc : acc = FKind.maximumf.neutral .f32 hφ) (a : Fin n) (ha : acc = 0xFF800000#32 := by rfl) :
    multiReduction .maximumf [1] ⟨1, ![n]⟩ (absf v) acc h hφ hacc (ix1 a) = amax fun l : Fin k => v (ix2 a l) := by
  subst ha
  exact rowMax ..

/-- The scale of a row whose largest absolute value is `z`: `z` over the number of levels `Q`, and one where the row is zero (`Z` and `O`
    are zero and one). -/
def scaleOf (Z O Q z : EReal) : EReal :=
  Scalar.select (FloatOps.cmpf (F := Ideal) (φ := .f32) .oeq z Z) O (FloatOps.divf (F := Ideal) (φ := .f32) z Q)

/-- The scales of a column of largest absolute values. -/
def scales {s : Shape} (Z O Q : EReal) (z : FVec Ideal s .f32) : FVec Ideal s .f32 :=
  select (cmpf .oeq z (broadcast s Z)) (broadcast s O) (divf z (broadcast s Q))

theorem scales_apply {s : Shape} (Z O Q : EReal) (z : FVec Ideal s .f32) (i : s.Idx) : scales Z O Q z i = scaleOf Z O Q (z i) := rfl

/-- The row's scale. -/
def scale {k : ℕ} (q : BitVec 32) (v : Fin k → EReal) : EReal :=
  scaleOf (Scalar.ofBits (F := Ideal) .f32 0x00000000#32) (Scalar.ofBits (F := Ideal) .f32 0x3F800000#32)
    (Scalar.ofBits (F := Ideal) .f32 q) (amax v)

/-- The code of the element `z` at scale `s`, as a real number: the quotient, rounded and clipped to `NQ … Q`. -/
def codeOf (Q NQ z s : EReal) : EReal :=
  FloatOps.minimumf (F := Ideal) (φ := .f32) Q (FloatOps.maximumf (F := Ideal) (φ := .f32) NQ
    (FloatOps.roundeven (F := Ideal) (φ := .f32) (FloatOps.divf (F := Ideal) (φ := .f32) z s)))

/-- The codes of the elements of `z` at the scales `w`. -/
def codes {s : Shape} (Q NQ : EReal) (z w : FVec Ideal s .f32) : FVec Ideal s .f32 :=
  minimumf (broadcast s Q) (maximumf (broadcast s NQ) (roundeven (divf z w)))

theorem codes_apply {s : Shape} (Q NQ : EReal) (z w : FVec Ideal s .f32) (i : s.Idx) : codes Q NQ z w i = codeOf Q NQ (z i) (w i) := rfl

/-- The code of an element of the row. -/
def code {k : ℕ} (q nq : BitVec 32) (v : Fin k → EReal) (b : Fin k) : EReal :=
  codeOf (Scalar.ofBits (F := Ideal) .f32 q) (Scalar.ofBits (F := Ideal) .f32 nq) (v b) (scale q v)

/-- The squared difference of `z` from scale times code. -/
def sqDiff (z s c : EReal) : EReal :=
  FloatOps.mulf (F := Ideal) (φ := .f32)
    (FloatOps.subf (F := Ideal) (φ := .f32) z (FloatOps.mulf (F := Ideal) (φ := .f32) s c))
    (FloatOps.subf (F := Ideal) (φ := .f32) z (FloatOps.mulf (F := Ideal) (φ := .f32) s c))

/-- The squared differences of the elements of `z` from scale times code. -/
def sqDiffs {s : Shape} (z w c : FVec Ideal s .f32) : FVec Ideal s .f32 := mulf (subf z (mulf w c)) (subf z (mulf w c))

theorem sqDiffs_apply {s : Shape} (z w c : FVec Ideal s .f32) (i : s.Idx) : sqDiffs z w c i = sqDiff (z i) (w i) (c i) := rfl

/-- The squared error of the row. -/
def sqErr {k : ℕ} (q nq : BitVec 32) (v : Fin k → EReal) : EReal := ∑ l, sqDiff (v l) (scale q v) (code q nq v l)

end Cert.Common

end
-- ==== Proof.FwdValue.lean ====
/-
  The forward pass (`fwd`): each grid point takes 256 rows of the rotated codes, multiplies them with all the weight codes and
  subtracts the target; the weight codes, converted once at the first point, stay in a scratch buffer. The four result arrays of the
  kernel (the errors, the errors times the row scales, the back-projected errors, the column sums of the squared errors) end equal to
  those of the reference, which takes all 1536 rows at once.
-/
module

public import proofs.«01_k».proof.Proof.Gen.FwdIdeal.Value
public import proofs.«01_k».proof.Proof.Gen.FwdRefIdeal.Value
public import proofs.«01_k».proof.Proof.Reduce
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference: what it computes from its arguments, element by element -/

namespace Cert.FwdRefIdeal.RefValue

open Cert.FwdRefIdeal Cert.FwdRefIdeal.Gen Idealize.ShloMosaic

variable (q : Vec Ideal S1536x2048 .i8) (w : Vec Ideal S3072x2048 .i8) (sx : Vec Ideal S1536x1 .f32) (sw : Vec Ideal S1x3072 .f32)
  (y : Vec Ideal S1536x3072 .bf16) (a : Fin 1536)

/-- A weight code as a real number. -/
theorem w_eq (k : Fin 3072) (b : Fin 2048) : k0_pay1 (F := Ideal) w (ix2 k b) = FloatOps.sitofp .bf16 (w (ix2 k b)) := by
  pointwise [k0_pay1]

/-- An error. -/
theorem e_eq (b : Fin 3072) : k0_pay2 q w sx sw y (ix2 a b)
    = (∑ k : Fin 2048, FloatOps.sitofp .bf16 (q (ix2 a k)) * k0_pay1 (F := Ideal) w (ix2 b k)) * sx (ix2 a 0) * sw (ix2 0 b)
      - y (ix2 a b) := by
  pointwise [k0_pay2]

/-- An error times its row's scale. -/
theorem ex_eq (b : Fin 3072) : k0_pay3 q w sx sw y sx (ix2 a b) = k0_pay2 q w sx sw y (ix2 a b) * sx (ix2 a 0) := by
  pointwise [k0_pay3]

/-- A back-projected error. -/
theorem p_eq (b : Fin 2048) : k0_pay4 q w sx sw y sw (ix2 a b)
    = ∑ k : Fin 3072, k0_pay2 q w sx sw y (ix2 a k) * sw (ix2 0 k) * k0_pay1 (F := Ideal) w (ix2 k b) := by
  pointwise [k0_pay4]

/-- The column sums as one expression of the errors. -/
theorem lay5 : k0_pay5 q w sx sw y = shapeCast S1x3072 (multiReduction .add [0] S3072 (mulf (k0_pay2 q w sx sw y) (k0_pay2 q w sx sw y))
    0x00000000#32 reduces_S1536x3072_S3072 (.inl rfl) rfl) shapeCasts_S3072_S1x3072 := rfl

/-- The column sum of the squared errors. -/
theorem l_eq (z : Fin 1) (b : Fin 3072) : k0_pay5 q w sx sw y (ix2 z b)
    = ∑ i : Fin 1536, k0_pay2 q w sx sw y (ix2 i b) * k0_pay2 q w sx sw y (ix2 i b) := by
  rw [lay5]
  exact (Common.castRow _ shapeCasts_S3072_S1x3072 z b).trans (Common.colSum _ _ reduces_S1536x3072_S3072 (.inl rfl) rfl b)

end Cert.FwdRefIdeal.RefValue

/-! ## A grid point: what it computes from its blocks, element by element -/

namespace Cert.FwdIdeal.RefValue

open Cert.FwdIdeal Cert.FwdIdeal.Gen Idealize.ShloMosaic

variable (q : Vec Ideal S256x2048 .i8) (sx : Vec Ideal S256x1 .f32) (sw : Vec Ideal S1x3072 .f32) (w : Vec Ideal S3072x2048 .bf16)
  (y : Vec Ideal S256x3072 .bf16)

/-- A weight code as a real number. -/
theorem w_eq (v : Vec Ideal S3072x2048 .i8) (k : Fin 3072) (b : Fin 2048) :
    k0_pay2 (F := Ideal) v (ix2 k b) = FloatOps.sitofp .bf16 (v (ix2 k b)) := by
  pointwise [k0_pay2]

/-- An error. -/
theorem e_eq (a : Fin 256) (b : Fin 3072) : k0_pay4 q sx sw w y (ix2 a b)
    = (∑ k : Fin 2048, FloatOps.sitofp (F := Ideal) .bf16 (q (ix2 a k)) * w (ix2 b k)) * sx (ix2 a 0) * sw (ix2 0 b) - y (ix2 a b) := by
  pointwise [k0_pay4]

/-- An error times its row's scale. -/
theorem ex_eq (a : Fin 256) (b : Fin 3072) : k0_pay6 q sx sw w y (ix2 a b) = k0_pay4 q sx sw w y (ix2 a b) * sx (ix2 a 0) := by
  pointwise [k0_pay6]

/-- An error times its column's scale. -/
theorem ew_eq (a : Fin 256) (b : Fin 3072) : k0_pay7 q sx sw w y (ix2 a b) = k0_pay4 q sx sw w y (ix2 a b) * sw (ix2 0 b) := by
  pointwise [k0_pay7]

/-- The back-projection of a block. -/
theorem p_eq (e : FVec Ideal S256x3072 .bf16) (a : Fin 256) (b : Fin 2048) :
    k0_pay1 e w (ix2 a b) = ∑ k : Fin 3072, e (ix2 a k) * w (ix2 k b) := by
  pointwise [k0_pay1]

/-- The block's column sums, added to what was there, as one expression of the errors. -/
theorem lay5 (l : Vec Ideal S1x3072 .f32) : k0_pay5 q sx sw w y l = addf (shapeCast S1x3072 l shapeCasts_S1x3072_S1x3072)
    (shapeCast S1x3072 (multiReduction .add [0] S3072 (mulf (k0_pay4 q sx sw w y) (k0_pay4 q sx sw w y)) 0x00000000#32
      reduces_S256x3072_S3072 (.inl rfl) rfl) shapeCasts_S3072_S1x3072) := rfl

/-- The block's column sum of the squared errors is added to what was there. -/
theorem l_eq (l : Vec Ideal S1x3072 .f32) (z : Fin 1) (b : Fin 3072) : k0_pay5 q sx sw w y l (ix2 z b)
    = l (ix2 z b) + ∑ i : Fin 256, k0_pay4 q sx sw w y (ix2 i b) * k0_pay4 q sx sw w y (ix2 i b) := by
  rw [lay5]
  refine congrArg₂ (α := EReal) (β := EReal) (γ := EReal) (· + ·) ?_ ?_
  · rw [shapeCast_self]
  · exact (Common.castRow _ shapeCasts_S3072_S1x3072 z b).trans (Common.colSum _ _ reduces_S256x3072_S3072 (.inl rfl) rfl b)

/-- The column sums start at zero. -/
theorem zero_eq (z : Fin 1) (b : Fin 3072) : k0_pay3 (F := Ideal) (ix2 z b) = (0 : EReal) := by
  pointwise [k0_pay3]

end Cert.FwdIdeal.RefValue

/-! ## The arrays -/

namespace Cert.FwdIdeal.RefValue

open Cert.FwdIdeal Cert.FwdIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The codes of `x`. -/
abbrev Qx (c : Dev nD) : Vec Ideal S1536x2048 .i8 := m ((c : Thread nD τ).loc main_arg0)
/-- The codes of `w`. -/
abbrev Qw (c : Dev nD) : Vec Ideal S3072x2048 .i8 := m ((c : Thread nD τ).loc main_arg1)
/-- The row scales of `x`. -/
abbrev Sx (c : Dev nD) : Vec Ideal S1536x1 .f32 := m ((c : Thread nD τ).loc main_arg2)
/-- The row scales of `w`, as a row. -/
abbrev Sw (c : Dev nD) : Vec Ideal S1x3072 .f32 := m ((c : Thread nD τ).loc main_arg3)
/-- The target. -/
abbrev Y (c : Dev nD) : Vec Ideal S1536x3072 .bf16 := m ((c : Thread nD τ).loc main_arg4)

/-- Where each window stands at grid point `t`. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![0, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![0, 0])

/-- The array's row that is row `a` of block `t`. -/
def row (t : Fin cfg0.N) (a : Fin 256) : Fin 1536 := ⟨t.val * 256 + a.val, by
  have h : t.val < 6 := lt_of_lt_of_eq t.isLt N_0
  omega⟩

theorem iblk0 (c : Dev nD) (t : Fin cfg0.N) (a : Fin 256) (k : Fin 2048) : iblk m c 0 t (ix2 a k) = Qx m c (ix2 (row t a) k) := by
  blk_ext [iblk, V, idx t, row]

theorem iblk1 (c : Dev nD) (t : Fin cfg0.N) : iblk m c 1 t = Qw m c := by
  funext i
  idx_vars i
  blk_ext [iblk, V, idx t]

theorem iblk2 (c : Dev nD) (t : Fin cfg0.N) (a : Fin 256) (k : Fin 1) : iblk m c 2 t (ix2 a k) = Sx m c (ix2 (row t a) k) := by
  blk_ext [iblk, V, idx t, row]

theorem iblk3 (c : Dev nD) (t : Fin cfg0.N) (a : Fin 1) (k : Fin 3072) : iblk m c 3 t (ix2 a k) = Sw m c (ix2 a k) := by
  blk_ext [iblk, V, idx t]

theorem iblk4 (c : Dev nD) (t : Fin cfg0.N) (a : Fin 256) (k : Fin 3072) : iblk m c 4 t (ix2 a k) = Y m c (ix2 (row t a) k) := by
  blk_ext [iblk, V, idx t, row]

/-- After every point the scratch buffer holds the converted weight codes. -/
theorem scratch (c : Dev nD) (n : ℕ) (h : n < cfg0.N) : (outsAt0 m c n h).2.2.2.2 = k0_pay2 (F := Ideal) (Qw m c) := by
  induction n with
  | zero =>
    rw [outsAt0_A m c ⟨0, h⟩ rfl]
    dsimp only
    frame_out
    rw [iblk1]
  | succ n ih =>
    have hN : n + 1 < 6 := lt_of_lt_of_eq h N_0
    rw [outsAt0_B m c ⟨n + 1, h⟩ (by show ¬(n + 1) % 6 = 0; omega)]
    dsimp only
    unfold sout0_B_0
    exact ih _

/-- The errors of block `t`. -/
def err (c : Dev nD) (t : Fin cfg0.N) : FVec Ideal S256x3072 .f32 :=
  k0_pay4 (iblk m c 0 t) (iblk m c 2 t) (iblk m c 3 t) (k0_pay2 (Qw m c)) (iblk m c 4 t)

/-- What a point leaves in the first three outputs. -/
theorem outs (c : Dev nD) (t : Fin cfg0.N) : (outsAt0 m c t.val t.isLt).1 = err m c t
    ∧ (outsAt0 m c t.val t.isLt).2.1 = k0_pay6 (iblk m c 0 t) (iblk m c 2 t) (iblk m c 3 t) (k0_pay2 (Qw m c)) (iblk m c 4 t)
    ∧ (outsAt0 m c t.val t.isLt).2.2.1
      = k0_pay1 (k0_pay7 (iblk m c 0 t) (iblk m c 2 t) (iblk m c 3 t) (k0_pay2 (Qw m c)) (iblk m c 4 t)) (k0_pay2 (Qw m c)) := by
  by_cases h : t.val % 6 = 0
  · rw [outsAt0_A m c t h]
    dsimp only
    refine ⟨?_, ?_, ?_⟩ <;> (frame_out; rw [iblk1])
    rfl
  · rw [outsAt0_B m c t h]
    dsimp only
    refine ⟨?_, ?_, ?_⟩ <;> (frame_out; rw [scratch, read_unread_whole])
    rfl

/-- What the first point leaves in the column sums. -/
theorem sumsA (c : Dev nD) (t : Fin cfg0.N) (h : t.val % 6 = 0) : (outsAt0 m c t.val t.isLt).2.2.2.1
    = k0_pay5 (iblk m c 0 t) (iblk m c 2 t) (iblk m c 3 t) (k0_pay2 (Qw m c)) (iblk m c 4 t) (k0_pay3 (F := Ideal)) := by
  rw [outsAt0_A m c t h]
  dsimp only
  frame_out
  rw [iblk1]

/-- What a later point leaves in the column sums. -/
theorem sumsB (c : Dev nD) (t : Fin cfg0.N) (h : ¬t.val % 6 = 0) : (outsAt0 m c t.val t.isLt).2.2.2.1
    = k0_pay5 (iblk m c 0 t) (iblk m c 2 t) (iblk m c 3 t) (k0_pay2 (Qw m c)) (iblk m c 4 t)
        (outsAt0 m c (t.val - 1) (Nat.lt_of_le_of_lt (Nat.sub_le _ _) t.isLt)).2.2.2.1 := by
  rw [outsAt0_B m c t h]
  dsimp only
  frame_out
  rw [scratch, read_unread_whole]

/-- The errors of the whole array. -/
abbrev Err (c : Dev nD) : FVec Ideal S1536x3072 .f32 := Cert.FwdRefIdeal.Gen.k0_pay2 (Qx m c) (Qw m c) (Sx m c) (Sw m c) (Y m c)

/-- An error of block `t` is an error of the array. -/
theorem err_eq (c : Dev nD) (t : Fin cfg0.N) (a : Fin 256) (b : Fin 3072) : err m c t (ix2 a b) = Err m c (ix2 (row t a) b) := by
  refine (e_eq _ _ _ _ _ a b).trans (Eq.trans ?_ (Cert.FwdRefIdeal.RefValue.e_eq _ _ _ _ _ (row t a) b).symm)
  rw [iblk2, iblk3, iblk4]
  simp only [iblk0, w_eq, Cert.FwdRefIdeal.RefValue.w_eq]

theorem covers5 : (cfg0.win 5).Covers := by decide +kernel
theorem covers6 : (cfg0.win 6).Covers := by decide +kernel
theorem covers7 : (cfg0.win 7).Covers := by decide +kernel

/-- The errors. -/
theorem final5 (c : Dev nD) : (dats m 0 c).arrAt 5 cfg0.N
    = Cert.FwdRefIdeal.Value.G5 (Qx m c) (Qw m c) (Sx m c) (Sw m c) (Y m c) := by
  refine (dats m 0 c).arrAt_eq_of_covers 5 _ covers5 fun t hf y => ?_
  blk_simp
  rw [after0_5, (outs m c t).1]
  unfold Cert.FwdRefIdeal.Value.G5
  idx_vars y
  have e : ((View.whole main_v0_0).slice (win0_5.rect t)).emb (ix2 y0 y1) = ix2 (row t y0) y1 := by
    blk_ext [idx t, row]
  rw [e]
  exact err_eq m c t y0 y1

/-- The errors times the row scales. -/
theorem final6 (c : Dev nD) : (dats m 0 c).arrAt 6 cfg0.N
    = Cert.FwdRefIdeal.Value.G6 (Qx m c) (Qw m c) (Sx m c) (Sw m c) (Y m c) := by
  refine (dats m 0 c).arrAt_eq_of_covers 6 _ covers6 fun t hf y => ?_
  blk_simp
  rw [after0_6, (outs m c t).2.1]
  unfold Cert.FwdRefIdeal.Value.G6
  idx_vars y
  have e : ((View.whole main_v0_1).slice (win0_6.rect t)).emb (ix2 y0 y1) = ix2 (row t y0) y1 := by
    blk_ext [idx t, row]
  rw [e]
  refine (ex_eq _ _ _ _ _ y0 y1).trans (Eq.trans ?_ (Cert.FwdRefIdeal.RefValue.ex_eq _ _ _ _ _ (row t y0) y1).symm)
  have h := err_eq m c t y0 y1
  unfold err at h
  rw [h, iblk2]

/-- The back-projected errors. -/
theorem final7 (c : Dev nD) : (dats m 0 c).arrAt 7 cfg0.N
    = Cert.FwdRefIdeal.Value.G7 (Qx m c) (Qw m c) (Sx m c) (Sw m c) (Y m c) := by
  refine (dats m 0 c).arrAt_eq_of_covers 7 _ covers7 fun t hf y => ?_
  blk_simp
  rw [after0_7, (outs m c t).2.2]
  unfold Cert.FwdRefIdeal.Value.G7
  idx_vars y
  have e : ((View.whole main_v0_2).slice (win0_7.rect t)).emb (ix2 y0 y1) = ix2 (row t y0) y1 := by
    blk_ext [idx t, row]
  rw [e]
  refine (p_eq _ _ y0 y1).trans (Eq.trans ?_ (Cert.FwdRefIdeal.RefValue.p_eq _ _ _ _ _ (row t y0) y1).symm)
  refine Finset.sum_congr rfl fun k _ => ?_
  have h := err_eq m c t y0 k
  unfold err at h
  rw [ew_eq, h, iblk3, w_eq, Cert.FwdRefIdeal.RefValue.w_eq]

/-- The column sums of the squared errors after the last point. -/
theorem sums (c : Dev nD) (t : Fin cfg0.N) (ht : t.val + 1 = cfg0.N) (z : Fin 1) (b : Fin 3072) :
    (outsAt0 m c t.val t.isLt).2.2.2.1 (ix2 z b) = ∑ i : Fin 1536, Err m c (ix2 i b) * Err m c (ix2 i b) := by
  rw [Pipeline.eq_sum_fin_of_reset_step_apply_last (fun n h (i : Fin 1 × Fin 3072) => (outsAt0 m c n h).2.2.2.1 (ix2 i.1 i.2)) 6
    (fun _ => (0 : EReal)) (fun p i => ∑ j : Fin 256, err m c p (ix2 j i.2) * err m c p (ix2 j i.2))
    (fun t h i => by
      rw [sumsA m c t h, l_eq, zero_eq]
      rfl)
    (fun t h i => by
      rw [sumsB m c t h, l_eq]
      rfl)
    (le_of_eq N_0) t ht (z, b), zero_add]
  simp only [err_eq]
  exact Fin.sum_mul_add_congr (S := cfg0.N) (n := 256) (L := 1536) (f := fun i => Err m c (ix2 i b) * Err m c (ix2 i b))
    (fun s k hl => rfl) (by rw [show cfg0.N = 6 from N_0])

/-- The column sums of the squared errors. -/
theorem final8 (c : Dev nD) : (dats m 0 c).arrAt 8 cfg0.N
    = Cert.FwdRefIdeal.Value.G8 (Qx m c) (Qw m c) (Sx m c) (Sw m c) (Y m c) := by
  refine (dats m 0 c).arrAt_eq_of_after_last 8 t0_5 (by decide +kernel) _ fun j => ?_
  rw [after0_8]
  idx_vars j
  refine (sums m c t0_5 (by decide +kernel) j0 j1).trans ?_
  exact (Cert.FwdRefIdeal.RefValue.l_eq _ _ _ _ _ j0 j1).symm

/-- The run of the kernel, its results named by the reference's functions of the arguments. -/
theorem run : θ_run defs (onTc (τ := τ) (main (F := Ideal))) ⟨m, fun _ => 0, ρ⟩ fun r => ∀ c : Dev nD,
      r.2.mem ((c : Thread nD τ).loc main_v0_0) = Cert.FwdRefIdeal.Value.G5 (Qx m c) (Qw m c) (Sx m c) (Sw m c) (Y m c)
      ∧ r.2.mem ((c : Thread nD τ).loc main_v0_1) = Cert.FwdRefIdeal.Value.G6 (Qx m c) (Qw m c) (Sx m c) (Sw m c) (Y m c)
      ∧ r.2.mem ((c : Thread nD τ).loc main_v0_2) = Cert.FwdRefIdeal.Value.G7 (Qx m c) (Qw m c) (Sx m c) (Sw m c) (Y m c)
      ∧ r.2.mem ((c : Thread nD τ).loc main_v0_3) = Cert.FwdRefIdeal.Value.G8 (Qx m c) (Qw m c) (Sx m c) (Sw m c) (Y m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1).trans (final5 m c), ((h c).2.1).trans (final6 m c), ((h c).2.2.1).trans (final7 m c),
    ((h c).2.2.2.1).trans (final8 m c), (h c).2.2.2.2⟩) (Cert.FwdIdeal.Value.run_blocks m ρ)

end Cert.FwdIdeal.RefValue

end
-- ==== Proof.GradValue.lean ====
/-
  The gradient (`grad`): the first grid point leaves the product of `x` and the back-projected errors in the result; each of the twelve
  points adds the product of 256 rows of `w` with the matching part of the errors times the codes of `x`; the last one scales the sum.
  The result ends equal to that of the reference, which takes the two products whole.
-/
module

public import proofs.«01_k».proof.Proof.Gen.GradIdeal.Value
public import proofs.«01_k».proof.Proof.Gen.GradRefIdeal.Value
public import proofs.«01_k».proof.Proof.Reduce
public import Idealize.ShloMosaic.Lib.Pipeline.ValueKit
public import Idealize.ShloMosaic.Lib.Pipeline.ReadBack
public import Idealize.ShloMosaic.Lib.Pointwise

@[expose] public section

set_option maxRecDepth 16384

noncomputable section

/-! ## The reference: what it computes from its arguments, element by element -/

namespace Cert.GradRefIdeal.RefValue

open Cert.GradRefIdeal Cert.GradRefIdeal.Gen Idealize.ShloMosaic

/-- The scaled sum of the two products. -/
theorem g_eq (ex : Vec Ideal S1536x3072 .bf16) (qx : Vec Ideal S1536x2048 .i8) (x p : Vec Ideal S1536x2048 .bf16)
    (w : Vec Ideal S3072x2048 .bf16) (a b : Fin 2048) : k0_pay1 ex qx x p w (ix2 a b)
    = FloatOps.mulf (F := Ideal) (φ := .f32) (Scalar.ofBits (F := Ideal) .f32 0x34E38E39#32)
      ((∑ k : Fin 1536, x (ix2 k a) * p (ix2 k b))
        + ∑ k : Fin 3072, w (ix2 k a) * ∑ i : Fin 1536, ex (ix2 i k) * FloatOps.sitofp (F := Ideal) .bf16 (qx (ix2 i b))) := by
  unfold k0_pay1
  refine congrArg (FloatOps.mulf (F := Ideal) (φ := .f32) _) ?_
  pointwise

end Cert.GradRefIdeal.RefValue

/-! ## A grid point: what it computes from its blocks, element by element -/

namespace Cert.GradIdeal.RefValue

open Cert.GradIdeal Cert.GradIdeal.Gen Idealize.ShloMosaic

/-- A code of `x` as a real number. -/
theorem q_eq (qx : Vec Ideal S1536x2048 .i8) (a : Fin 1536) (b : Fin 2048) :
    k0_pay1 (F := Ideal) qx (ix2 a b) = FloatOps.sitofp .bf16 (qx (ix2 a b)) := by
  pointwise [k0_pay1]

/-- The product of `x` and the back-projected errors. -/
theorem xp_eq (x p : Vec Ideal S1536x2048 .bf16) (a b : Fin 2048) :
    k0_pay2 x p (ix2 a b) = ∑ k : Fin 1536, x (ix2 k a) * p (ix2 k b) := by
  pointwise [k0_pay2]

/-- What a point adds. -/
theorem step_eq (ex : Vec Ideal S1536x256 .bf16) (q : Vec Ideal S1536x2048 .bf16) (g : Vec Ideal S2048x2048 .f32)
    (w : Vec Ideal S256x2048 .bf16) (a b : Fin 2048) : k0_pay3 ex q g w (ix2 a b)
    = g (ix2 a b) + ∑ k : Fin 256, w (ix2 k a) * ∑ i : Fin 1536, ex (ix2 i k) * q (ix2 i b) := by
  pointwise [k0_pay3]

/-- The final scaling. -/
theorem scale_eq (g : Vec Ideal S2048x2048 .f32) (a b : Fin 2048) : k0_pay4 g (ix2 a b)
    = FloatOps.mulf (F := Ideal) (φ := .f32) (Scalar.ofBits (F := Ideal) .f32 0x34E38E39#32) (g (ix2 a b)) := by
  unfold k0_pay4
  rw [shapeCast_self]
  rfl

end Cert.GradIdeal.RefValue

/-! ## The arrays -/

namespace Cert.GradIdeal.RefValue

open Cert.GradIdeal Cert.GradIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The activations. -/
abbrev X (c : Dev nD) : Vec Ideal S1536x2048 .bf16 := m ((c : Thread nD τ).loc main_arg0)
/-- The back-projected errors. -/
abbrev Pr (c : Dev nD) : Vec Ideal S1536x2048 .bf16 := m ((c : Thread nD τ).loc main_arg1)
/-- The codes of `x`. -/
abbrev Qx (c : Dev nD) : Vec Ideal S1536x2048 .i8 := m ((c : Thread nD τ).loc main_arg2)
/-- The errors times the row scales. -/
abbrev Ex (c : Dev nD) : Vec Ideal S1536x3072 .bf16 := m ((c : Thread nD τ).loc main_arg3)
/-- The weights. -/
abbrev Wt (c : Dev nD) : Vec Ideal S3072x2048 .bf16 := m ((c : Thread nD τ).loc main_arg4)

/-- Where each window stands at grid point `t`. -/
theorem idx : ∀ t : Fin cfg0.N, win0_0.index t = ![0, 0] ∧ win0_1.index t = ![0, 0] ∧ win0_2.index t = ![0, 0]
    ∧ win0_3.index t = ![0, t.val] ∧ win0_4.index t = ![t.val, 0] ∧ win0_5.index t = ![0, 0] :=
  (by decide +kernel : ∀ t : Fin grid0.N, win0_0.index t = ![0, 0] ∧ win0_1.index t = ![0, 0] ∧ win0_2.index t = ![0, 0]
    ∧ win0_3.index t = ![0, t.val] ∧ win0_4.index t = ![t.val, 0] ∧ win0_5.index t = ![0, 0])

/-- The row of `w` that is row `a` of block `t`. -/
def row (t : Fin cfg0.N) (a : Fin 256) : Fin 3072 := ⟨t.val * 256 + a.val, by
  have h : t.val < 12 := lt_of_lt_of_eq t.isLt N_0
  omega⟩

theorem iblk0 (c : Dev nD) (t : Fin cfg0.N) : iblk m c 0 t = X m c := by
  funext i
  idx_vars i
  blk_ext [iblk, V, idx t]

theorem iblk1 (c : Dev nD) (t : Fin cfg0.N) : iblk m c 1 t = Pr m c := by
  funext i
  idx_vars i
  blk_ext [iblk, V, idx t]

theorem iblk2 (c : Dev nD) (t : Fin cfg0.N) : iblk m c 2 t = Qx m c := by
  funext i
  idx_vars i
  blk_ext [iblk, V, idx t]

theorem iblk3 (c : Dev nD) (t : Fin cfg0.N) (a : Fin 1536) (k : Fin 256) : iblk m c 3 t (ix2 a k) = Ex m c (ix2 a (row t k)) := by
  blk_ext [iblk, V, idx t, row]

theorem iblk4 (c : Dev nD) (t : Fin cfg0.N) (k : Fin 256) (b : Fin 2048) : iblk m c 4 t (ix2 k b) = Wt m c (ix2 (row t k) b) := by
  blk_ext [iblk, V, idx t, row]

/-- After every point the scratch buffer holds the converted codes of `x`. -/
theorem scratch (c : Dev nD) (n : ℕ) (h : n < cfg0.N) : (outsAt0 m c n h).2 = k0_pay1 (F := Ideal) (Qx m c) := by
  induction n with
  | zero =>
    rw [outsAt0_A m c ⟨0, h⟩ rfl (by show ¬0 % 12 = 11; decide)]
    dsimp only
    frame_out
    rw [iblk2]
  | succ n ih =>
    have hN : n + 1 < 12 := lt_of_lt_of_eq h N_0
    have h0 : ¬(n + 1) % 12 = 0 := by omega
    by_cases h1 : (n + 1) % 12 = 11
    · rw [outsAt0_C m c ⟨n + 1, h⟩ h0 h1]
      dsimp only
      unfold sout0_C_0
      exact ih _
    · rw [outsAt0_B m c ⟨n + 1, h⟩ h0 h1]
      dsimp only
      unfold sout0_B_0
      exact ih _

/-- What the point before left in the result. -/
abbrev prev (c : Dev nD) (t : Fin cfg0.N) : Vec Ideal S2048x2048 .f32 :=
  (outsAt0 m c (t.val - 1) (Nat.lt_of_le_of_lt (Nat.sub_le _ _) t.isLt)).1

/-- The first point. -/
theorem outA (c : Dev nD) (t : Fin cfg0.N) (h : t.val % 12 = 0) : (outsAt0 m c t.val t.isLt).1
    = k0_pay3 (iblk m c 3 t) (k0_pay1 (F := Ideal) (Qx m c)) (k0_pay2 (X m c) (Pr m c)) (iblk m c 4 t) := by
  rw [outsAt0_A m c t h (by omega)]
  dsimp only
  frame_out
  rw [iblk0, iblk1, iblk2]

/-- A point in the middle. -/
theorem outB (c : Dev nD) (t : Fin cfg0.N) (h0 : ¬t.val % 12 = 0) (h1 : ¬t.val % 12 = 11) : (outsAt0 m c t.val t.isLt).1
    = k0_pay3 (iblk m c 3 t) (k0_pay1 (F := Ideal) (Qx m c)) (prev m c t) (iblk m c 4 t) := by
  rw [outsAt0_B m c t h0 h1]
  dsimp only
  frame_out
  rw [scratch, read_unread_whole]

/-- The last point. -/
theorem outC (c : Dev nD) (t : Fin cfg0.N) (h0 : ¬t.val % 12 = 0) (h1 : t.val % 12 = 11) : (outsAt0 m c t.val t.isLt).1
    = k0_pay4 (k0_pay3 (iblk m c 3 t) (k0_pay1 (F := Ideal) (Qx m c)) (prev m c t) (iblk m c 4 t)) := by
  rw [outsAt0_C m c t h0 h1]
  dsimp only
  frame_out
  rw [scratch, read_unread_whole]

/-- What point `t` adds at an element. -/
def term (c : Dev nD) (t : Fin cfg0.N) (i : Fin 2048 × Fin 2048) : EReal :=
  ∑ k : Fin 256, Wt m c (ix2 (row t k) i.1) * ∑ j : Fin 1536, Ex m c (ix2 j (row t k)) * FloatOps.sitofp (F := Ideal) .bf16 (Qx m c (ix2 j i.2))

/-- A point adds its term. -/
theorem add_term (c : Dev nD) (t : Fin cfg0.N) (g : Vec Ideal S2048x2048 .f32) (a b : Fin 2048) :
    k0_pay3 (iblk m c 3 t) (k0_pay1 (F := Ideal) (Qx m c)) g (iblk m c 4 t) (ix2 a b) = g (ix2 a b) + term m c t (a, b) := by
  rw [step_eq]
  simp only [iblk3, iblk4, q_eq]
  rfl

/-- The sum before the final scaling: at the last point what it is about to scale, before it what the result holds. -/
def partialSum (c : Dev nD) (n : ℕ) (h : n < cfg0.N) (i : Fin 2048 × Fin 2048) : EReal :=
  if n = 11 then prev m c ⟨n, h⟩ (ix2 i.1 i.2) + term m c ⟨n, h⟩ i else (outsAt0 m c n h).1 (ix2 i.1 i.2)

/-- After the last point the sum is the whole one. -/
theorem partialSum_last (c : Dev nD) (t : Fin cfg0.N) (ht : t.val + 1 = cfg0.N) (i : Fin 2048 × Fin 2048) :
    partialSum m c t.val t.isLt i = (∑ k : Fin 1536, X m c (ix2 k i.1) * Pr m c (ix2 k i.2)) + ∑ p : Fin cfg0.N, term m c p i := by
  refine Pipeline.eq_sum_fin_of_reset_step_apply_last (partialSum m c) 12
    (fun i => ∑ k : Fin 1536, X m c (ix2 k i.1) * Pr m c (ix2 k i.2)) (term m c) (fun t h i => ?_) (fun t h i => ?_) (le_of_eq N_0) t ht i
  · unfold partialSum
    rw [if_neg (by omega), outA m c t h, add_term, xp_eq]
  · have hN : t.val < 12 := lt_of_lt_of_eq t.isLt N_0
    unfold partialSum
    rw [if_neg (show ¬t.val - 1 = 11 by omega)]
    by_cases h1 : t.val = 11
    · rw [if_pos h1]
    · rw [if_neg h1, outB m c t h (by omega), add_term]

/-- The result. -/
theorem final5 (c : Dev nD) : (dats m 0 c).arrAt 5 cfg0.N
    = Cert.GradRefIdeal.Value.G5 (X m c) (Pr m c) (Qx m c) (Ex m c) (Wt m c) := by
  refine (dats m 0 c).arrAt_eq_of_after_last 5 t0_11 (by decide +kernel) _ fun j => ?_
  rw [after0_5, outC m c t0_11 (by decide +kernel) (by decide +kernel)]
  idx_vars j
  have e := partialSum_last m c t0_11 (by decide +kernel) (j0, j1)
  unfold partialSum at e
  rw [if_pos (by decide +kernel)] at e
  have e' := scale_eq (k0_pay3 (iblk m c 3 t0_11) (k0_pay1 (F := Ideal) (Qx m c)) (prev m c t0_11) (iblk m c 4 t0_11)) j0 j1
  rw [add_term] at e'
  refine e'.trans ?_
  refine Eq.trans ?_ (Cert.GradRefIdeal.RefValue.g_eq _ _ _ _ _ j0 j1).symm
  refine congrArg (FloatOps.mulf (F := Ideal) (φ := .f32) _) (e.trans ?_)
  refine congrArg (_ + ·) ?_
  exact Fin.sum_mul_add_congr (S := cfg0.N) (n := 256) (L := 3072)
    (f := fun k => Wt m c (ix2 k j0) * ∑ j : Fin 1536, Ex m c (ix2 j k) * FloatOps.sitofp (F := Ideal) .bf16 (Qx m c (ix2 j j1)))
    (fun s k hl => rfl) (by rw [show cfg0.N = 12 from N_0])

/-- The run of the kernel, its result named by the reference's function of the arguments. -/
theorem run : θ_run defs (onTc (τ := τ) (main (F := Ideal))) ⟨m, fun _ => 0, ρ⟩ fun r => ∀ c : Dev nD,
      r.2.mem ((c : Thread nD τ).loc main_v0) = Cert.GradRefIdeal.Value.G5 (X m c) (Pr m c) (Qx m c) (Ex m c) (Wt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1).trans (final5 m c), (h c).2⟩) (Cert.GradIdeal.Value.run_blocks m ρ)

end Cert.GradIdeal.RefValue

end
-- ==== Proof.RotXValue.lean ====
/-
  The rotation of `x` (`rotq`): each grid point rotates 256 rows and quantises them row by row. The three result arrays of
  the kernel (codes, scales, squared errors of the rows) end equal to those of the reference, which rotates and quantises all
  1536 rows at once.
-/
module

public import proofs.«01_k».proof.Proof.Gen.RotXIdeal.Value
public import proofs.«01_k».proof.Proof.Gen.RotXRefIdeal.Value
public import proofs.«01_k».proof.Proof.Reduce
public import Idealize.ShloMosaic.Lib.Pipeline.ValueKit
public import Idealize.ShloMosaic.Lib.Pointwise

@[expose] public section

set_option maxRecDepth 16384

noncomputable section

/-! ## The reference: what it computes from its loads, element by element -/

namespace Cert.RotXRefIdeal.RefValue

open Cert.RotXRefIdeal Cert.RotXRefIdeal.Gen Idealize.ShloMosaic

variable (x : Vec Ideal S1536x2048 .bf16) (r : Vec Ideal S1x2048x2048 .bf16) (a : Fin 1536)

/-- The rotated element. -/
theorem pay1_eq (b : Fin 2048) : k0_pay1 x r (ix2 a b) = ∑ k : Fin 2048, x (ix2 a k) * r (ix3 0 k b) := by
  pointwise [k0_pay1]

/-- The scales as one expression of the rotated block. -/
theorem lay2 : k0_pay2 x r = Common.scales (Scalar.ofBits (F := Ideal) .f32 0x00000000#32) (Scalar.ofBits (F := Ideal) .f32 0x3F800000#32)
    (Scalar.ofBits (F := Ideal) .f32 0x42FE0000#32) (shapeCast S1536x1 (multiReduction .maximumf [1] S1536 (absf (k0_pay1 x r)) 0xFF800000#32
      reduces_S1536x2048_S1536 (.inl rfl) rfl) shapeCasts_S1536_S1536x1) := rfl

/-- The codes, as real numbers, as one expression of the rotated block and the scales. -/
theorem lay3 : k0_pay3 x r = Common.codes (Scalar.ofBits (F := Ideal) .f32 0x42FE0000#32) (Scalar.ofBits (F := Ideal) .f32 0xC2FE0000#32)
    (k0_pay1 x r) (broadcastTo S1536x2048 (k0_pay2 x r) broadcasts_S1536x1_S1536x2048) := rfl

/-- The squared errors as one expression of the rotated block, the scales and the codes. -/
theorem lay5 : k0_pay5 x r = shapeCast S1536x1 (multiReduction .add [1] S1536
    (Common.sqDiffs (k0_pay1 x r) (broadcastTo S1536x2048 (k0_pay2 x r) broadcasts_S1536x1_S1536x2048) (k0_pay3 x r)) 0x00000000#32
      reduces_S1536x2048_S1536 (.inl rfl) rfl) shapeCasts_S1536_S1536x1 := rfl

/-- The scale of row `a`. -/
theorem pay2_eq (b : Fin 1) : k0_pay2 x r (ix2 a b) = Common.scale 0x42FE0000#32 (fun l => k0_pay1 x r (ix2 a l)) := by
  rw [lay2]
  exact (Common.scales_apply ..).trans (congrArg (Common.scaleOf _ _ _) ((Common.castCol _ shapeCasts_S1536_S1536x1 a b).trans
    (Common.rowMax_abs (k0_pay1 x r) _ reduces_S1536x2048_S1536 (.inl rfl) rfl a)))

/-- The code of an element, as a real number. -/
theorem pay3_eq (b : Fin 2048) : k0_pay3 x r (ix2 a b) = Common.code 0x42FE0000#32 0xC2FE0000#32 (fun l => k0_pay1 x r (ix2 a l)) b := by
  rw [lay3]
  exact (Common.codes_apply ..).trans (congrArg (Common.codeOf _ _ _)
    ((Common.bcCol (k0_pay2 x r) broadcasts_S1536x1_S1536x2048 a b).trans (pay2_eq x r a 0)))

/-- The code of an element. -/
theorem pay4_eq (b : Fin 2048) : k0_pay4 x r (ix2 a b)
    = FloatOps.fptosi (F := Ideal) (φ := .f32) 8 (Common.code 0x42FE0000#32 0xC2FE0000#32 (fun l => k0_pay1 x r (ix2 a l)) b) := by
  rw [← pay3_eq]
  rfl

/-- The squared error of row `a`. -/
theorem pay5_eq (b : Fin 1) : k0_pay5 x r (ix2 a b) = Common.sqErr 0x42FE0000#32 0xC2FE0000#32 (fun l => k0_pay1 x r (ix2 a l)) := by
  rw [lay5]
  refine (Common.castCol _ shapeCasts_S1536_S1536x1 a b).trans ((Common.rowSum _ _ reduces_S1536x2048_S1536 (.inl rfl) rfl a).trans ?_)
  refine Finset.sum_congr rfl fun l _ => (Common.sqDiffs_apply ..).trans ?_
  rw [pay3_eq, Common.bcCol, pay2_eq]

end Cert.RotXRefIdeal.RefValue

/-! ## A grid point: what it computes from its loads, element by element -/

namespace Cert.RotXIdeal.RefValue

open Cert.RotXIdeal Cert.RotXIdeal.Gen Idealize.ShloMosaic

variable (x : Vec Ideal S256x2048 .bf16) (r : Vec Ideal S1x2048x2048 .bf16) (a : Fin 256)

/-- The rotated element. -/
theorem pay1_eq (b : Fin 2048) : k0_pay1 x r (ix2 a b) = ∑ k : Fin 2048, x (ix2 a k) * r (ix3 0 k b) := by
  pointwise [k0_pay1]

/-- The scales as one expression of the rotated block. -/
theorem lay2 : k0_pay2 x r = Common.scales (Scalar.ofBits (F := Ideal) .f32 0x00000000#32) (Scalar.ofBits (F := Ideal) .f32 0x3F800000#32)
    (Scalar.ofBits (F := Ideal) .f32 0x42FE0000#32) (shapeCast S256x1 (multiReduction .maximumf [1] S256 (absf (k0_pay1 x r)) 0xFF800000#32
      reduces_S256x2048_S256 (.inl rfl) rfl) shapeCasts_S256_S256x1) := rfl

/-- The codes, as real numbers, as one expression of the rotated block and the scales. -/
theorem lay3 : k0_pay3 x r = Common.codes (Scalar.ofBits (F := Ideal) .f32 0x42FE0000#32) (Scalar.ofBits (F := Ideal) .f32 0xC2FE0000#32)
    (k0_pay1 x r) (broadcastTo S256x2048 (k0_pay2 x r) broadcasts_S256x1_S256x2048) := rfl

/-- The squared errors as one expression of the rotated block, the scales and the codes. -/
theorem lay5 : k0_pay5 x r = shapeCast S256x1 (multiReduction .add [1] S256
    (Common.sqDiffs (k0_pay1 x r) (broadcastTo S256x2048 (k0_pay2 x r) broadcasts_S256x1_S256x2048) (k0_pay3 x r)) 0x00000000#32
      reduces_S256x2048_S256 (.inl rfl) rfl) shapeCasts_S256_S256x1 := rfl

/-- The scale of row `a`. -/
theorem pay2_eq (b : Fin 1) : k0_pay2 x r (ix2 a b) = Common.scale 0x42FE0000#32 (fun l => k0_pay1 x r (ix2 a l)) := by
  rw [lay2]
  exact (Common.scales_apply ..).trans (congrArg (Common.scaleOf _ _ _) ((Common.castCol _ shapeCasts_S256_S256x1 a b).trans
    (Common.rowMax_abs (k0_pay1 x r) _ reduces_S256x2048_S256 (.inl rfl) rfl a)))

/-- The code of an element, as a real number. -/
theorem pay3_eq (b : Fin 2048) : k0_pay3 x r (ix2 a b) = Common.code 0x42FE0000#32 0xC2FE0000#32 (fun l => k0_pay1 x r (ix2 a l)) b := by
  rw [lay3]
  exact (Common.codes_apply ..).trans (congrArg (Common.codeOf _ _ _)
    ((Common.bcCol (k0_pay2 x r) broadcasts_S256x1_S256x2048 a b).trans (pay2_eq x r a 0)))

/-- The code of an element. -/
theorem pay4_eq (b : Fin 2048) : k0_pay4 x r (ix2 a b)
    = FloatOps.fptosi (F := Ideal) (φ := .f32) 8 (Common.code 0x42FE0000#32 0xC2FE0000#32 (fun l => k0_pay1 x r (ix2 a l)) b) := by
  rw [← pay3_eq]
  rfl

/-- The squared error of row `a`. -/
theorem pay5_eq (b : Fin 1) : k0_pay5 x r (ix2 a b) = Common.sqErr 0x42FE0000#32 0xC2FE0000#32 (fun l => k0_pay1 x r (ix2 a l)) := by
  rw [lay5]
  refine (Common.castCol _ shapeCasts_S256_S256x1 a b).trans ((Common.rowSum _ _ reduces_S256x2048_S256 (.inl rfl) rfl a).trans ?_)
  refine Finset.sum_congr rfl fun l _ => (Common.sqDiffs_apply ..).trans ?_
  rw [pay3_eq, Common.bcCol, pay2_eq]

end Cert.RotXIdeal.RefValue

/-! ## The arrays -/

namespace Cert.RotXIdeal.RefValue

open Cert.RotXIdeal Cert.RotXIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window stands at grid point `t`. -/
theorem idx : ∀ t : Fin cfg0.N, win0_0.index t = ![t.val, 0] ∧ win0_1.index t = ![0, 0, 0] ∧ win0_2.index t = ![t.val, 0]
    ∧ win0_3.index t = ![t.val, 0] ∧ win0_4.index t = ![t.val, 0] :=
  (by decide +kernel : ∀ t : Fin grid0.N, win0_0.index t = ![t.val, 0] ∧ win0_1.index t = ![0, 0, 0] ∧ win0_2.index t = ![t.val, 0]
    ∧ win0_3.index t = ![t.val, 0] ∧ win0_4.index t = ![t.val, 0])

/-- The array's row that is row `a` of block `t`. -/
def row (t : Fin cfg0.N) (a : Fin 256) : Fin 1536 := ⟨t.val * 256 + a.val, by
  have h : t.val < 6 := lt_of_lt_of_eq t.isLt N_0
  omega⟩

/-- Row `a` of the rotated block `t` is a row of the rotated array. -/
theorem row_eq (c : Dev nD) (t : Fin cfg0.N) (a : Fin 256) :
    (fun l => k0_pay1 (iblk m c 0 t) (iblk m c 1 t) (ix2 a l))
      = fun l : Fin 2048 => Cert.RotXRefIdeal.Gen.k0_pay1 (m ((c : Thread nD τ).loc main_arg0))
          (View.ld (m ((c : Thread nD τ).loc main_arg1)) Cert.RotXRefIdeal.Gen.r0_1) (ix2 (row t a) l) := by
  funext l
  rw [pay1_eq, Cert.RotXRefIdeal.RefValue.pay1_eq]
  refine Finset.sum_congr rfl fun k _ => ?_
  congr 1
  · blk_ext [iblk, V, idx t, row]
  · have e (Y : Vec Ideal Cert.RotXRefIdeal.S3x2048x2048 .bf16) : View.ld Y Cert.RotXRefIdeal.Gen.r0_1 (ix3 0 k l) = Y (ix3 0 k l) := by
      unfold Cert.RotXRefIdeal.Gen.r0_1
      pointwise
    refine Eq.trans ?_ (e _).symm
    blk_ext [iblk, V, idx t]

theorem covers2 : (cfg0.win 2).Covers := by decide +kernel
theorem covers3 : (cfg0.win 3).Covers := by decide +kernel
theorem covers4 : (cfg0.win 4).Covers := by decide +kernel

/-- The codes. -/
theorem final2 (c : Dev nD) : (dats m 0 c).arrAt 2 cfg0.N
    = Cert.RotXRefIdeal.Value.G2 (m ((c : Thread nD τ).loc main_arg0)) (m ((c : Thread nD τ).loc main_arg1)) := by
  refine (dats m 0 c).arrAt_eq_of_covers 2 _ covers2 fun t hf y => ?_
  blk_simp
  rw [after0_2]
  frame_out
  unfold Cert.RotXRefIdeal.Value.G2
  idx_vars y
  have e : ((View.whole main_v0_0).slice (win0_2.rect t)).emb (ix2 y0 y1) = ix2 (row t y0) y1 := by
    blk_ext [idx t, row]
  rw [pay4_eq, row_eq, e]
  exact (Cert.RotXRefIdeal.RefValue.pay4_eq _ _ _ _).symm

/-- The scales. -/
theorem final3 (c : Dev nD) : (dats m 0 c).arrAt 3 cfg0.N
    = Cert.RotXRefIdeal.Value.G3 (m ((c : Thread nD τ).loc main_arg0)) (m ((c : Thread nD τ).loc main_arg1)) := by
  refine (dats m 0 c).arrAt_eq_of_covers 3 _ covers3 fun t hf y => ?_
  blk_simp
  rw [after0_3]
  frame_out
  unfold Cert.RotXRefIdeal.Value.G3
  idx_vars y
  have e : ((View.whole main_v0_1).slice (win0_3.rect t)).emb (ix2 y0 y1) = ix2 (row t y0) y1 := by
    blk_ext [idx t, row]
  rw [pay2_eq, row_eq, e]
  exact (Cert.RotXRefIdeal.RefValue.pay2_eq _ _ _ _).symm

/-- The squared errors. -/
theorem final4 (c : Dev nD) : (dats m 0 c).arrAt 4 cfg0.N
    = Cert.RotXRefIdeal.Value.G4 (m ((c : Thread nD τ).loc main_arg0)) (m ((c : Thread nD τ).loc main_arg1)) := by
  refine (dats m 0 c).arrAt_eq_of_covers 4 _ covers4 fun t hf y => ?_
  blk_simp
  rw [after0_4]
  frame_out
  unfold Cert.RotXRefIdeal.Value.G4
  idx_vars y
  have e : ((View.whole main_v0_2).slice (win0_4.rect t)).emb (ix2 y0 y1) = ix2 (row t y0) y1 := by
    blk_ext [idx t, row]
  rw [pay5_eq, row_eq, e]
  exact (Cert.RotXRefIdeal.RefValue.pay5_eq _ _ _ _).symm

/-- The run of the kernel, its results named by the reference's functions of the arguments. -/
theorem run : θ_run defs (onTc (τ := τ) (main (F := Ideal))) ⟨m, fun _ => 0, ρ⟩ fun r => ∀ c : Dev nD,
      r.2.mem ((c : Thread nD τ).loc main_v0_0) = Cert.RotXRefIdeal.Value.G2 (m ((c : Thread nD τ).loc main_arg0)) (m ((c : Thread nD τ).loc main_arg1))
      ∧ r.2.mem ((c : Thread nD τ).loc main_v0_1) = Cert.RotXRefIdeal.Value.G3 (m ((c : Thread nD τ).loc main_arg0)) (m ((c : Thread nD τ).loc main_arg1))
      ∧ r.2.mem ((c : Thread nD τ).loc main_v0_2) = Cert.RotXRefIdeal.Value.G4 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1).trans (final2 m c), ((h c).2.1).trans (final3 m c), ((h c).2.2.1).trans (final4 m c),
    (h c).2.2.2.1, (h c).2.2.2.2⟩) (Cert.RotXIdeal.Value.run_blocks m ρ)
end Cert.RotXIdeal.RefValue

end
-- ==== Proof.RotWValue.lean ====
/-
  The rotation of `w` (`rotq`): each grid point rotates 256 rows and quantises them row by row. The three result arrays of
  the kernel (codes, scales, squared errors of the rows) end equal to those of the reference, which rotates and quantises all
  3072 rows at once.
-/
module

public import proofs.«01_k».proof.Proof.Gen.RotWIdeal.Value
public import proofs.«01_k».proof.Proof.Gen.RotWRefIdeal.Value
public import proofs.«01_k».proof.Proof.Reduce
public import Idealize.ShloMosaic.Lib.Pipeline.ValueKit
public import Idealize.ShloMosaic.Lib.Pointwise

@[expose] public section

set_option maxRecDepth 16384

noncomputable section

/-! ## The reference: what it computes from its loads, element by element -/

namespace Cert.RotWRefIdeal.RefValue

open Cert.RotWRefIdeal Cert.RotWRefIdeal.Gen Idealize.ShloMosaic

variable (x : Vec Ideal S3072x2048 .bf16) (r : Vec Ideal S1x2048x2048 .bf16) (a : Fin 3072)

/-- The rotated element. -/
theorem pay1_eq (b : Fin 2048) : k0_pay1 x r (ix2 a b) = ∑ k : Fin 2048, x (ix2 a k) * r (ix3 0 k b) := by
  pointwise [k0_pay1]

/-- The scales as one expression of the rotated block. -/
theorem lay2 : k0_pay2 x r = Common.scales (Scalar.ofBits (F := Ideal) .f32 0x00000000#32) (Scalar.ofBits (F := Ideal) .f32 0x3F800000#32)
    (Scalar.ofBits (F := Ideal) .f32 0x40E00000#32) (shapeCast S3072x1 (multiReduction .maximumf [1] S3072 (absf (k0_pay1 x r)) 0xFF800000#32
      reduces_S3072x2048_S3072 (.inl rfl) rfl) shapeCasts_S3072_S3072x1) := rfl

/-- The codes, as real numbers, as one expression of the rotated block and the scales. -/
theorem lay3 : k0_pay3 x r = Common.codes (Scalar.ofBits (F := Ideal) .f32 0x40E00000#32) (Scalar.ofBits (F := Ideal) .f32 0xC0E00000#32)
    (k0_pay1 x r) (broadcastTo S3072x2048 (k0_pay2 x r) broadcasts_S3072x1_S3072x2048) := rfl

/-- The squared errors as one expression of the rotated block, the scales and the codes. -/
theorem lay5 : k0_pay5 x r = shapeCast S3072x1 (multiReduction .add [1] S3072
    (Common.sqDiffs (k0_pay1 x r) (broadcastTo S3072x2048 (k0_pay2 x r) broadcasts_S3072x1_S3072x2048) (k0_pay3 x r)) 0x00000000#32
      reduces_S3072x2048_S3072 (.inl rfl) rfl) shapeCasts_S3072_S3072x1 := rfl

/-- The scale of row `a`. -/
theorem pay2_eq (b : Fin 1) : k0_pay2 x r (ix2 a b) = Common.scale 0x40E00000#32 (fun l => k0_pay1 x r (ix2 a l)) := by
  rw [lay2]
  exact (Common.scales_apply ..).trans (congrArg (Common.scaleOf _ _ _) ((Common.castCol _ shapeCasts_S3072_S3072x1 a b).trans
    (Common.rowMax_abs (k0_pay1 x r) _ reduces_S3072x2048_S3072 (.inl rfl) rfl a)))

/-- The code of an element, as a real number. -/
theorem pay3_eq (b : Fin 2048) : k0_pay3 x r (ix2 a b) = Common.code 0x40E00000#32 0xC0E00000#32 (fun l => k0_pay1 x r (ix2 a l)) b := by
  rw [lay3]
  exact (Common.codes_apply ..).trans (congrArg (Common.codeOf _ _ _)
    ((Common.bcCol (k0_pay2 x r) broadcasts_S3072x1_S3072x2048 a b).trans (pay2_eq x r a 0)))

/-- The code of an element. -/
theorem pay4_eq (b : Fin 2048) : k0_pay4 x r (ix2 a b)
    = FloatOps.fptosi (F := Ideal) (φ := .f32) 8 (Common.code 0x40E00000#32 0xC0E00000#32 (fun l => k0_pay1 x r (ix2 a l)) b) := by
  rw [← pay3_eq]
  rfl

/-- The squared error of row `a`. -/
theorem pay5_eq (b : Fin 1) : k0_pay5 x r (ix2 a b) = Common.sqErr 0x40E00000#32 0xC0E00000#32 (fun l => k0_pay1 x r (ix2 a l)) := by
  rw [lay5]
  refine (Common.castCol _ shapeCasts_S3072_S3072x1 a b).trans ((Common.rowSum _ _ reduces_S3072x2048_S3072 (.inl rfl) rfl a).trans ?_)
  refine Finset.sum_congr rfl fun l _ => (Common.sqDiffs_apply ..).trans ?_
  rw [pay3_eq, Common.bcCol, pay2_eq]

end Cert.RotWRefIdeal.RefValue

/-! ## A grid point: what it computes from its loads, element by element -/

namespace Cert.RotWIdeal.RefValue

open Cert.RotWIdeal Cert.RotWIdeal.Gen Idealize.ShloMosaic

variable (x : Vec Ideal S256x2048 .bf16) (r : Vec Ideal S1x2048x2048 .bf16) (a : Fin 256)

/-- The rotated element. -/
theorem pay1_eq (b : Fin 2048) : k0_pay1 x r (ix2 a b) = ∑ k : Fin 2048, x (ix2 a k) * r (ix3 0 k b) := by
  pointwise [k0_pay1]

/-- The scales as one expression of the rotated block. -/
theorem lay2 : k0_pay2 x r = Common.scales (Scalar.ofBits (F := Ideal) .f32 0x00000000#32) (Scalar.ofBits (F := Ideal) .f32 0x3F800000#32)
    (Scalar.ofBits (F := Ideal) .f32 0x40E00000#32) (shapeCast S256x1 (multiReduction .maximumf [1] S256 (absf (k0_pay1 x r)) 0xFF800000#32
      reduces_S256x2048_S256 (.inl rfl) rfl) shapeCasts_S256_S256x1) := rfl

/-- The codes, as real numbers, as one expression of the rotated block and the scales. -/
theorem lay3 : k0_pay3 x r = Common.codes (Scalar.ofBits (F := Ideal) .f32 0x40E00000#32) (Scalar.ofBits (F := Ideal) .f32 0xC0E00000#32)
    (k0_pay1 x r) (broadcastTo S256x2048 (k0_pay2 x r) broadcasts_S256x1_S256x2048) := rfl

/-- The squared errors as one expression of the rotated block, the scales and the codes. -/
theorem lay5 : k0_pay5 x r = shapeCast S256x1 (multiReduction .add [1] S256
    (Common.sqDiffs (k0_pay1 x r) (broadcastTo S256x2048 (k0_pay2 x r) broadcasts_S256x1_S256x2048) (k0_pay3 x r)) 0x00000000#32
      reduces_S256x2048_S256 (.inl rfl) rfl) shapeCasts_S256_S256x1 := rfl

/-- The scale of row `a`. -/
theorem pay2_eq (b : Fin 1) : k0_pay2 x r (ix2 a b) = Common.scale 0x40E00000#32 (fun l => k0_pay1 x r (ix2 a l)) := by
  rw [lay2]
  exact (Common.scales_apply ..).trans (congrArg (Common.scaleOf _ _ _) ((Common.castCol _ shapeCasts_S256_S256x1 a b).trans
    (Common.rowMax_abs (k0_pay1 x r) _ reduces_S256x2048_S256 (.inl rfl) rfl a)))

/-- The code of an element, as a real number. -/
theorem pay3_eq (b : Fin 2048) : k0_pay3 x r (ix2 a b) = Common.code 0x40E00000#32 0xC0E00000#32 (fun l => k0_pay1 x r (ix2 a l)) b := by
  rw [lay3]
  exact (Common.codes_apply ..).trans (congrArg (Common.codeOf _ _ _)
    ((Common.bcCol (k0_pay2 x r) broadcasts_S256x1_S256x2048 a b).trans (pay2_eq x r a 0)))

/-- The code of an element. -/
theorem pay4_eq (b : Fin 2048) : k0_pay4 x r (ix2 a b)
    = FloatOps.fptosi (F := Ideal) (φ := .f32) 8 (Common.code 0x40E00000#32 0xC0E00000#32 (fun l => k0_pay1 x r (ix2 a l)) b) := by
  rw [← pay3_eq]
  rfl

/-- The squared error of row `a`. -/
theorem pay5_eq (b : Fin 1) : k0_pay5 x r (ix2 a b) = Common.sqErr 0x40E00000#32 0xC0E00000#32 (fun l => k0_pay1 x r (ix2 a l)) := by
  rw [lay5]
  refine (Common.castCol _ shapeCasts_S256_S256x1 a b).trans ((Common.rowSum _ _ reduces_S256x2048_S256 (.inl rfl) rfl a).trans ?_)
  refine Finset.sum_congr rfl fun l _ => (Common.sqDiffs_apply ..).trans ?_
  rw [pay3_eq, Common.bcCol, pay2_eq]

end Cert.RotWIdeal.RefValue

/-! ## The arrays -/

namespace Cert.RotWIdeal.RefValue

open Cert.RotWIdeal Cert.RotWIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window stands at grid point `t`. -/
theorem idx : ∀ t : Fin cfg0.N, win0_0.index t = ![t.val, 0] ∧ win0_1.index t = ![0, 0, 0] ∧ win0_2.index t = ![t.val, 0]
    ∧ win0_3.index t = ![t.val, 0] ∧ win0_4.index t = ![t.val, 0] :=
  (by decide +kernel : ∀ t : Fin grid0.N, win0_0.index t = ![t.val, 0] ∧ win0_1.index t = ![0, 0, 0] ∧ win0_2.index t = ![t.val, 0]
    ∧ win0_3.index t = ![t.val, 0] ∧ win0_4.index t = ![t.val, 0])

/-- The array's row that is row `a` of block `t`. -/
def row (t : Fin cfg0.N) (a : Fin 256) : Fin 3072 := ⟨t.val * 256 + a.val, by
  have h : t.val < 12 := lt_of_lt_of_eq t.isLt N_0
  omega⟩

/-- Row `a` of the rotated block `t` is a row of the rotated array. -/
theorem row_eq (c : Dev nD) (t : Fin cfg0.N) (a : Fin 256) :
    (fun l => k0_pay1 (iblk m c 0 t) (iblk m c 1 t) (ix2 a l))
      = fun l : Fin 2048 => Cert.RotWRefIdeal.Gen.k0_pay1 (m ((c : Thread nD τ).loc main_arg0))
          (View.ld (m ((c : Thread nD τ).loc main_arg1)) Cert.RotWRefIdeal.Gen.r0_1) (ix2 (row t a) l) := by
  funext l
  rw [pay1_eq, Cert.RotWRefIdeal.RefValue.pay1_eq]
  refine Finset.sum_congr rfl fun k _ => ?_
  congr 1
  · blk_ext [iblk, V, idx t, row]
  · have e (Y : Vec Ideal Cert.RotWRefIdeal.S3x2048x2048 .bf16) : View.ld Y Cert.RotWRefIdeal.Gen.r0_1 (ix3 0 k l) = Y (ix3 0 k l) := by
      unfold Cert.RotWRefIdeal.Gen.r0_1
      pointwise
    refine Eq.trans ?_ (e _).symm
    blk_ext [iblk, V, idx t]

theorem covers2 : (cfg0.win 2).Covers := by decide +kernel
theorem covers3 : (cfg0.win 3).Covers := by decide +kernel
theorem covers4 : (cfg0.win 4).Covers := by decide +kernel

/-- The codes. -/
theorem final2 (c : Dev nD) : (dats m 0 c).arrAt 2 cfg0.N
    = Cert.RotWRefIdeal.Value.G2 (m ((c : Thread nD τ).loc main_arg0)) (m ((c : Thread nD τ).loc main_arg1)) := by
  refine (dats m 0 c).arrAt_eq_of_covers 2 _ covers2 fun t hf y => ?_
  blk_simp
  rw [after0_2]
  frame_out
  unfold Cert.RotWRefIdeal.Value.G2
  idx_vars y
  have e : ((View.whole main_v0_0).slice (win0_2.rect t)).emb (ix2 y0 y1) = ix2 (row t y0) y1 := by
    blk_ext [idx t, row]
  rw [pay4_eq, row_eq, e]
  exact (Cert.RotWRefIdeal.RefValue.pay4_eq _ _ _ _).symm

/-- The scales. -/
theorem final3 (c : Dev nD) : (dats m 0 c).arrAt 3 cfg0.N
    = Cert.RotWRefIdeal.Value.G3 (m ((c : Thread nD τ).loc main_arg0)) (m ((c : Thread nD τ).loc main_arg1)) := by
  refine (dats m 0 c).arrAt_eq_of_covers 3 _ covers3 fun t hf y => ?_
  blk_simp
  rw [after0_3]
  frame_out
  unfold Cert.RotWRefIdeal.Value.G3
  idx_vars y
  have e : ((View.whole main_v0_1).slice (win0_3.rect t)).emb (ix2 y0 y1) = ix2 (row t y0) y1 := by
    blk_ext [idx t, row]
  rw [pay2_eq, row_eq, e]
  exact (Cert.RotWRefIdeal.RefValue.pay2_eq _ _ _ _).symm

/-- The squared errors. -/
theorem final4 (c : Dev nD) : (dats m 0 c).arrAt 4 cfg0.N
    = Cert.RotWRefIdeal.Value.G4 (m ((c : Thread nD τ).loc main_arg0)) (m ((c : Thread nD τ).loc main_arg1)) := by
  refine (dats m 0 c).arrAt_eq_of_covers 4 _ covers4 fun t hf y => ?_
  blk_simp
  rw [after0_4]
  frame_out
  unfold Cert.RotWRefIdeal.Value.G4
  idx_vars y
  have e : ((View.whole main_v0_2).slice (win0_4.rect t)).emb (ix2 y0 y1) = ix2 (row t y0) y1 := by
    blk_ext [idx t, row]
  rw [pay5_eq, row_eq, e]
  exact (Cert.RotWRefIdeal.RefValue.pay5_eq _ _ _ _).symm

/-- The run of the kernel, its results named by the reference's functions of the arguments. -/
theorem run : θ_run defs (onTc (τ := τ) (main (F := Ideal))) ⟨m, fun _ => 0, ρ⟩ fun r => ∀ c : Dev nD,
      r.2.mem ((c : Thread nD τ).loc main_v0_0) = Cert.RotWRefIdeal.Value.G2 (m ((c : Thread nD τ).loc main_arg0)) (m ((c : Thread nD τ).loc main_arg1))
      ∧ r.2.mem ((c : Thread nD τ).loc main_v0_1) = Cert.RotWRefIdeal.Value.G3 (m ((c : Thread nD τ).loc main_arg0)) (m ((c : Thread nD τ).loc main_arg1))
      ∧ r.2.mem ((c : Thread nD τ).loc main_v0_2) = Cert.RotWRefIdeal.Value.G4 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1).trans (final2 m c), ((h c).2.1).trans (final3 m c), ((h c).2.2.1).trans (final4 m c),
    (h c).2.2.2.1, (h c).2.2.2.2⟩) (Cert.RotWIdeal.Value.run_blocks m ρ)
end Cert.RotWIdeal.RefValue

end
-- ==== Proof.Blocks.lean ====
/-
  Rows of 2048 elements in 16 blocks of 128, read at an index: the row split into blocks, the blocks put together again, one number per
  block spread over it, the block's largest absolute value. Then the quantisation block by block.
-/
module

public import proofs.«01_k».proof.Proof.Reduce
public import Idealize.ShloMosaic.Lib.Pointwise
public import Idealize.ShloMosaic.Lib.Pipeline.ValueKit

@[expose] public section

noncomputable section

namespace Cert.Common

open Idealize.ShloMosaic

/-- The block of a column. -/
def blkOf (b : Fin 2048) : Fin 16 := ⟨b.val / 128, by omega⟩
/-- The place of a column in its block. -/
def laneOf (b : Fin 2048) : Fin 128 := ⟨b.val % 128, by omega⟩
/-- The column at place `l` of block `j`. -/
def colOf (j : Fin 16) (l : Fin 128) : Fin 2048 := ⟨j.val * 128 + l.val, by omega⟩

theorem colOf_blk_lane (b : Fin 2048) : colOf (blkOf b) (laneOf b) = b := Fin.ext (by
  show b.val / 128 * 128 + b.val % 128 = b.val
  omega)
theorem blkOf_colOf (j : Fin 16) (l : Fin 128) : blkOf (colOf j l) = j := Fin.ext (by
  show (j.val * 128 + l.val) / 128 = j.val
  omega)
theorem laneOf_colOf (j : Fin 16) (l : Fin 128) : laneOf (colOf j l) = l := Fin.ext (by
  show (j.val * 128 + l.val) % 128 = l.val
  omega)

variable {n : ℕ}

/-- The rows split into blocks. -/
theorem split {α : Type} (v : (⟨2, ![n, 2048]⟩ : Shape).Idx → α) (h : (⟨2, ![n, 2048]⟩ : Shape).ShapeCasts ⟨3, ![n, 16, 128]⟩)
    (a : Fin n) (j : Fin 16) (l : Fin 128) : shapeCast ⟨3, ![n, 16, 128]⟩ v h (ix3 a j l) = v (ix2 a (colOf j l)) := by
  refine shapeCast_apply v h _ _ ?_
  rw [Shape.rowMajor_val_two, Shape.rowMajor_val_three]
  show a.val * 2048 + (j.val * 128 + l.val) = (a.val * 16 + j.val) * 128 + l.val
  omega

/-- The blocks put together. -/
theorem merge {α : Type} (v : (⟨3, ![n, 16, 128]⟩ : Shape).Idx → α) (h : (⟨3, ![n, 16, 128]⟩ : Shape).ShapeCasts ⟨2, ![n, 2048]⟩)
    (a : Fin n) (b : Fin 2048) : shapeCast ⟨2, ![n, 2048]⟩ v h (ix2 a b) = v (ix3 a (blkOf b) (laneOf b)) := by
  refine shapeCast_apply v h _ _ ?_
  rw [Shape.rowMajor_val_two, Shape.rowMajor_val_three]
  show (a.val * 16 + b.val / 128) * 128 + b.val % 128 = a.val * 2048 + b.val
  omega

/-- One number per block as blocks of one. -/
theorem castLast {α : Type} (v : (⟨2, ![n, 16]⟩ : Shape).Idx → α) (h : (⟨2, ![n, 16]⟩ : Shape).ShapeCasts ⟨3, ![n, 16, 1]⟩)
    (a : Fin n) (j : Fin 16) (z : Fin 1) : shapeCast ⟨3, ![n, 16, 1]⟩ v h (ix3 a j z) = v (ix2 a j) := by
  refine shapeCast_apply v h _ _ ?_
  rw [Shape.rowMajor_val_two, Shape.rowMajor_val_three]
  show a.val * 16 + j.val = (a.val * 16 + j.val) * 1 + z.val
  omega

/-- Blocks of one spread over the blocks. -/
theorem bcLast {α : Type} (v : (⟨3, ![n, 16, 1]⟩ : Shape).Idx → α) (h : (⟨3, ![n, 16, 1]⟩ : Shape).Broadcasts ⟨3, ![n, 16, 128]⟩)
    (a : Fin n) (j : Fin 16) (l : Fin 128) : broadcastTo ⟨3, ![n, 16, 128]⟩ v h (ix3 a j l) = v (ix3 a j 0) := by
  refine broadcastTo_apply v h _ _ fun c => ?_
  match c with
  | ⟨0, _⟩ =>
    show a.val = if n = 1 then 0 else a.val
    have := a.isLt
    split <;> omega
  | ⟨1, _⟩ => rfl
  | ⟨2, _⟩ => rfl

/-- The largest absolute value of a block. -/
theorem lastMax_abs (v : FVec Ideal ⟨3, ![n, 16, 128]⟩ .f32) (h : (⟨3, ![n, 16, 128]⟩ : Shape).Reduces [2] ⟨2, ![n, 16]⟩)
    (hφ : FKind.Formats .f32) (hacc : (0xFF800000#32 : BitVec 32) = FKind.maximumf.neutral .f32 hφ) (a : Fin n) (j : Fin 16) :
    multiReduction .maximumf [2] ⟨2, ![n, 16]⟩ (absf v) 0xFF800000#32 h hφ hacc (ix2 a j) = amax fun l : Fin 128 => v (ix3 a j l) := by
  rw [multiReduction_maximumf_eq_fold, h.fold_fiber_r3_a2]
  rfl

/-- Block `j` of row `a`. -/
def blk (v : (⟨2, ![n, 2048]⟩ : Shape).Idx → EReal) (a : Fin n) (j : Fin 16) : Fin 128 → EReal := fun l => v (ix2 a (colOf j l))

/-- A code of a block: the quotient by the block's scale, rounded and clipped to `-127 … 127`. -/
def blkCode (v : Fin 128 → EReal) (l : Fin 128) : BitVec 8 := FloatOps.fptosi (F := Ideal) (φ := .f32) 8
  (codeOf (Scalar.sitofp (F := Ideal) .f32 127#32) (Scalar.sitofp (F := Ideal) .f32 4294967169#32) (v l) (scale 0x42FE0000#32 v))

/-- One element of the momentum: `0.9` times code times scale, plus the gradient. -/
def momOf (q : BitVec 8) (s g : EReal) : EReal :=
  FloatOps.addf (F := Ideal) (φ := .f32) (FloatOps.mulf (F := Ideal) (φ := .f32) (Scalar.ofBits (F := Ideal) .f32 0x3F666666#32)
    (FloatOps.mulf (F := Ideal) (φ := .f32) (FloatOps.sitofp (F := Ideal) .f32 q) s)) g

/-- One element of the first step matrix: minus the step size times `u`, plus half its square times `v`. -/
def d1Of (al u v : EReal) : EReal :=
  FloatOps.addf (F := Ideal) (φ := .f32)
    (FloatOps.mulf (F := Ideal) (φ := .f32) (FloatOps.subf (F := Ideal) (φ := .f32) (Scalar.ofBits (F := Ideal) .f32 0x00000000#32) al) u)
    (FloatOps.mulf (F := Ideal) (φ := .f32) (FloatOps.mulf (F := Ideal) (φ := .f32)
      (FloatOps.mulf (F := Ideal) (φ := .f32) (Scalar.ofBits (F := Ideal) .f32 0x3F000000#32) al) al) v)

end Cert.Common

end
-- ==== Proof.MomValue.lean ====
/-
  The momentum (`mom`): each grid point takes 256 rows and works block of 128 columns by block. The result array of the kernel ends
  equal to that of the reference, which takes the whole matrix at once.
-/
module

public import proofs.«01_k».proof.Proof.Gen.MomIdeal.Value
public import proofs.«01_k».proof.Proof.Gen.MomRefIdeal.Value
public import proofs.«01_k».proof.Proof.Blocks
public import Idealize.ShloMosaic.Lib.Pipeline.ValueKit
public import Idealize.ShloMosaic.Lib.Pointwise

@[expose] public section

set_option maxRecDepth 16384

noncomputable section

/-! ## The reference -/

namespace Cert.MomRefIdeal.RefValue

open Cert.MomRefIdeal Cert.MomRefIdeal.Gen Idealize.ShloMosaic

variable (q : Vec Ideal S2048x2048 .i8) (s : Vec Ideal S2048x16 .f32) (g : Vec Ideal S2048x2048 .f32)

/-- The momentum as one expression of the arguments. -/
theorem lay1 : k0_pay1 q s g = addf (mulf (broadcast S2048x2048 (Scalar.ofBits (F := Ideal) .f32 0x3F666666#32))
    (shapeCast S2048x2048 (mulf (shapeCast S2048x16x128 (sitofp (F := Ideal) .f32 q) shapeCasts_S2048x2048_S2048x16x128)
      (broadcastTo S2048x16x128 (shapeCast S2048x16x1 s shapeCasts_S2048x16_S2048x16x1) broadcasts_S2048x16x1_S2048x16x128))
      shapeCasts_S2048x16x128_S2048x2048)) g := rfl

/-- An element of the momentum. -/
theorem pay1_eq (a b : Fin 2048) : k0_pay1 q s g (ix2 a b) = Common.momOf (q (ix2 a b)) (s (ix2 a (Common.blkOf b))) (g (ix2 a b)) := by
  rw [lay1]
  refine congrArg (fun z => FloatOps.addf (F := Ideal) (φ := .f32)
    (FloatOps.mulf (F := Ideal) (φ := .f32) (Scalar.ofBits (F := Ideal) .f32 0x3F666666#32) z) (g (ix2 a b))) ?_
  refine (Common.merge _ shapeCasts_S2048x16x128_S2048x2048 a b).trans ?_
  refine congrArg₂ (FloatOps.mulf (F := Ideal) (φ := .f32)) ?_ ?_
  · refine (Common.split _ shapeCasts_S2048x2048_S2048x16x128 a _ _).trans ?_
    rw [Common.colOf_blk_lane]
    rfl
  · exact (Common.bcLast _ broadcasts_S2048x16x1_S2048x16x128 a _ _).trans (Common.castLast _ shapeCasts_S2048x16_S2048x16x1 a _ _)

end Cert.MomRefIdeal.RefValue

/-! ## A grid point -/

namespace Cert.MomIdeal.RefValue

open Cert.MomIdeal Cert.MomIdeal.Gen Idealize.ShloMosaic

variable (q : Vec Ideal S256x2048 .i8) (s : Vec Ideal S256x16 .f32) (g : Vec Ideal S256x2048 .f32)

/-- The block's element. -/
def E (y : S256x2048.Idx) : EReal := Common.momOf (q y) (s (ix2 (y 0) (Common.blkOf (y 1)))) (g y)

/-- What is stored for block `j` of the columns. -/
theorem piece (j : ℕ) {c : ℕ} (h : ∀ a, (![0, c] : Fin 2 → ℕ) a + S256x128.size a ≤ S256x2048.size a)
    (h' : ∀ a, (![0, j] : Fin 2 → ℕ) a + S256x1.size a ≤ S256x16.size a)
    (q : Vec Ideal S256x2048 .i8) (s : Vec Ideal S256x16 .f32) (g : Vec Ideal S256x2048 .f32) (x : S256x128.Idx) (hc : c = 128 * j := by decide) :
    k0_pay1 (F := Ideal) (View.ld q (Rect.unit (s := S256x2048) ![0, c] S256x128.size h)) (View.ld s (Rect.unit (s := S256x16) ![0, j] S256x1.size h'))
      (View.ld g (Rect.unit (s := S256x2048) ![0, c] S256x128.size h)) x = E q s g ((Rect.unit (s := S256x2048) ![0, c] S256x128.size h).idx x) := by
  subst hc
  idx_vars x
  refine congrArg (fun z => Common.momOf (q ((Rect.unit (s := S256x2048) ![0, 128 * j] S256x128.size h).idx (ix2 x0 x1))) z
    (g ((Rect.unit (s := S256x2048) ![0, 128 * j] S256x128.size h).idx (ix2 x0 x1)))) ?_
  refine (Common.bcCol _ broadcasts_S256x1_S256x128 x0 x1).trans ?_
  refine View.ld_unit_apply_of s _ _ _ _ _ fun a => ?_
  match a with
  | ⟨0, _⟩ => show 0 + 1 * x0.val = 0 + x0.val; omega
  | ⟨1, _⟩ => show (128 * j + 1 * x1.val) / 128 = j + 0; omega

/-- The block a grid point leaves. -/
theorem out3_eq (y : S256x2048.Idx) : out0_3 q s g y = E q s g y := by
  unfold out0_3
  refine View.canon_apply_of_pieces (Val := Elt Ideal) (E q s g) _ ?_ y (cover0_3 _ _ _ _ _ _ _ _ _ _ _ _ _ _ _ _ y)
  intro pc hpc
  rcases List.mem_cons.mp hpc with rfl | hpc
  · exact fun x => piece 15 inb_S256x2048_S256x128_0_1920 inb_S256x16_S256x1_0_15 q s g x
  rcases List.mem_cons.mp hpc with rfl | hpc
  · exact fun x => piece 14 inb_S256x2048_S256x128_0_1792 inb_S256x16_S256x1_0_14 q s g x
  rcases List.mem_cons.mp hpc with rfl | hpc
  · exact fun x => piece 13 inb_S256x2048_S256x128_0_1664 inb_S256x16_S256x1_0_13 q s g x
  rcases List.mem_cons.mp hpc with rfl | hpc
  · exact fun x => piece 12 inb_S256x2048_S256x128_0_1536 inb_S256x16_S256x1_0_12 q s g x
  rcases List.mem_cons.mp hpc with rfl | hpc
  · exact fun x => piece 11 inb_S256x2048_S256x128_0_1408 inb_S256x16_S256x1_0_11 q s g x
  rcases List.mem_cons.mp hpc with rfl | hpc
  · exact fun x => piece 10 inb_S256x2048_S256x128_0_1280 inb_S256x16_S256x1_0_10 q s g x
  rcases List.mem_cons.mp hpc with rfl | hpc
  · exact fun x => piece 9 inb_S256x2048_S256x128_0_1152 inb_S256x16_S256x1_0_9 q s g x
  rcases List.mem_cons.mp hpc with rfl | hpc
  · exact fun x => piece 8 inb_S256x2048_S256x128_0_1024 inb_S256x16_S256x1_0_8 q s g x
  rcases List.mem_cons.mp hpc with rfl | hpc
  · exact fun x => piece 7 inb_S256x2048_S256x128_0_896 inb_S256x16_S256x1_0_7 q s g x
  rcases List.mem_cons.mp hpc with rfl | hpc
  · exact fun x => piece 6 inb_S256x2048_S256x128_0_768 inb_S256x16_S256x1_0_6 q s g x
  rcases List.mem_cons.mp hpc with rfl | hpc
  · exact fun x => piece 5 inb_S256x2048_S256x128_0_640 inb_S256x16_S256x1_0_5 q s g x
  rcases List.mem_cons.mp hpc with rfl | hpc
  · exact fun x => piece 4 inb_S256x2048_S256x128_0_512 inb_S256x16_S256x1_0_4 q s g x
  rcases List.mem_cons.mp hpc with rfl | hpc
  · exact fun x => piece 3 inb_S256x2048_S256x128_0_384 inb_S256x16_S256x1_0_3 q s g x
  rcases List.mem_cons.mp hpc with rfl | hpc
  · exact fun x => piece 2 inb_S256x2048_S256x128_0_256 inb_S256x16_S256x1_0_2 q s g x
  rcases List.mem_cons.mp hpc with rfl | hpc
  · exact fun x => piece 1 inb_S256x2048_S256x128_0_128 inb_S256x16_S256x1_0_1 q s g x
  rcases List.mem_cons.mp hpc with rfl | hpc
  · exact fun x => piece 0 inb_S256x2048_S256x128_0_0 inb_S256x16_S256x1_0_0 q s g x
  nomatch hpc

end Cert.MomIdeal.RefValue

/-! ## The array -/

namespace Cert.MomIdeal.RefValue

open Cert.MomIdeal Cert.MomIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The codes. -/
abbrev Q (c : Dev nD) : Vec Ideal S2048x2048 .i8 := m ((c : Thread nD τ).loc main_arg0)
/-- The scales. -/
abbrev Sc (c : Dev nD) : Vec Ideal S2048x16 .f32 := m ((c : Thread nD τ).loc main_arg1)
/-- The gradient. -/
abbrev Gr (c : Dev nD) : Vec Ideal S2048x2048 .f32 := m ((c : Thread nD τ).loc main_arg2)

/-- Where each window stands at grid point `t`. -/
theorem idx : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, win0_0.index t = ![t.val, 0] ∧ win0_1.index t = ![t.val, 0] ∧ win0_2.index t = ![t.val, 0]
    ∧ win0_3.index t = ![t.val, 0])

/-- The array's row that is row `a` of block `t`. -/
def row (t : Fin cfg0.N) (a : Fin 256) : Fin 2048 := ⟨t.val * 256 + a.val, by
  have h : t.val < 8 := lt_of_lt_of_eq t.isLt N_0
  omega⟩

theorem iblk0 (c : Dev nD) (t : Fin cfg0.N) (a : Fin 256) (k : Fin 2048) : iblk m c 0 t (ix2 a k) = Q m c (ix2 (row t a) k) := by
  blk_ext [iblk, V, idx t, row]
theorem iblk1 (c : Dev nD) (t : Fin cfg0.N) (a : Fin 256) (k : Fin 16) : iblk m c 1 t (ix2 a k) = Sc m c (ix2 (row t a) k) := by
  blk_ext [iblk, V, idx t, row]
theorem iblk2 (c : Dev nD) (t : Fin cfg0.N) (a : Fin 256) (k : Fin 2048) : iblk m c 2 t (ix2 a k) = Gr m c (ix2 (row t a) k) := by
  blk_ext [iblk, V, idx t, row]

theorem covers3 : (cfg0.win 3).Covers := by decide +kernel

/-- The momentum. -/
theorem final3 (c : Dev nD) : (dats m 0 c).arrAt 3 cfg0.N = Cert.MomRefIdeal.Value.G3 (Q m c) (Sc m c) (Gr m c) := by
  refine (dats m 0 c).arrAt_eq_of_covers 3 _ covers3 fun t hf y => ?_
  blk_simp
  rw [after0_3]
  unfold Cert.MomRefIdeal.Value.G3
  idx_vars y
  have e : ((View.whole main_v0).slice (win0_3.rect t)).emb (ix2 y0 y1) = ix2 (row t y0) y1 := by
    blk_ext [idx t, row]
  rw [e]
  refine (out3_eq _ _ _ _).trans (Eq.trans ?_ (Cert.MomRefIdeal.RefValue.pay1_eq _ _ _ _ _).symm)
  show Common.momOf (iblk m c 0 t (ix2 y0 y1)) (iblk m c 1 t (ix2 y0 (Common.blkOf y1))) (iblk m c 2 t (ix2 y0 y1)) = _
  rw [iblk0, iblk1, iblk2]

/-- The run of the kernel, its result named by the reference's function of the arguments. -/
theorem run : θ_run defs (onTc (τ := τ) (main (F := Ideal))) ⟨m, fun _ => 0, ρ⟩ fun r => ∀ c : Dev nD,
      r.2.mem ((c : Thread nD τ).loc main_v0) = Cert.MomRefIdeal.Value.G3 (Q m c) (Sc m c) (Gr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1).trans (final3 m c), (h c).2⟩) (Cert.MomIdeal.Value.run_blocks m ρ)

end Cert.MomIdeal.RefValue

end
-- ==== Proof.D1Value.lean ====
/-
  The first step matrix and the quantisation of the momentum (`d1`): each grid point takes 256 rows and quantises them block of 128
  columns by block. The three result arrays of the kernel (the step matrix, the codes, the scales) end equal to those of the reference,
  which takes the whole matrices at once.
-/
module

public import proofs.«01_k».proof.Proof.Gen.D1Ideal.Value
public import proofs.«01_k».proof.Proof.Gen.D1RefIdeal.Value
public import proofs.«01_k».proof.Proof.Blocks
public import Idealize.ShloMosaic.Lib.Pipeline.ValueKit
public import Idealize.ShloMosaic.Lib.Pointwise

@[expose] public section

set_option maxRecDepth 16384

noncomputable section

/-! ## The reference -/

namespace Cert.D1RefIdeal.RefValue

open Cert.D1RefIdeal Cert.D1RefIdeal.Gen Idealize.ShloMosaic

variable (al : Vec Ideal S1x1 .f32) (u v : Vec Ideal S2048x2048 .f32)

/-- An element of the step matrix. -/
theorem pay1_eq (a b : Fin 2048) : k0_pay1 al u v (ix2 a b) = Common.d1Of (al (ix2 0 0)) (u (ix2 a b)) (v (ix2 a b)) := by
  have e : extractAt ![0, 0] al inpos_S1x1_p0_0 = al (ix2 0 0) := by pointwise
  rw [← e]
  rfl

/-- An element of the blocks. -/
theorem pay2_eq (a : Fin 2048) (j : Fin 16) (l : Fin 128) : k0_pay2 u (ix3 a j l) = u (ix2 a (Common.colOf j l)) :=
  Common.split u shapeCasts_S2048x2048_S2048x16x128 a j l

/-- The scales as one expression of the blocks. -/
theorem lay3 : k0_pay3 u = Common.scales (Scalar.ofBits (F := Ideal) .f32 0x00000000#32) (Scalar.ofBits (F := Ideal) .f32 0x3F800000#32)
    (Scalar.ofBits (F := Ideal) .f32 0x42FE0000#32) (multiReduction .maximumf [2] S2048x16 (absf (k0_pay2 u)) 0xFF800000#32
      reduces_S2048x16x128_S2048x16 (.inl rfl) rfl) := rfl

/-- The scale of a block. -/
theorem pay3_eq (a : Fin 2048) (j : Fin 16) : k0_pay3 u (ix2 a j) = Common.scale 0x42FE0000#32 (Common.blk u a j) := by
  rw [lay3]
  refine (Common.scales_apply ..).trans (congrArg (Common.scaleOf _ _ _)
    ((Common.lastMax_abs (k0_pay2 u) reduces_S2048x16x128_S2048x16 (.inl rfl) rfl a j).trans (congrArg Common.amax (funext fun l => ?_))))
  exact pay2_eq u a j l

/-- The codes as one expression of the blocks and the scales. -/
theorem lay4 : k0_pay4 u = shapeCast S2048x2048 (fptosi (F := Ideal) 8 (Common.codes (Scalar.sitofp (F := Ideal) .f32 127#32)
    (Scalar.sitofp (F := Ideal) .f32 4294967169#32) (k0_pay2 u) (broadcastTo S2048x16x128 (shapeCast S2048x16x1 (k0_pay3 u)
      shapeCasts_S2048x16_S2048x16x1) broadcasts_S2048x16x1_S2048x16x128))) shapeCasts_S2048x16x128_S2048x2048 := rfl

/-- The code of an element. -/
theorem pay4_eq (a b : Fin 2048) : k0_pay4 u (ix2 a b) = Common.blkCode (Common.blk u a (Common.blkOf b)) (Common.laneOf b) := by
  rw [lay4]
  refine (Common.merge _ shapeCasts_S2048x16x128_S2048x2048 a b).trans ?_
  refine congrArg (FloatOps.fptosi (F := Ideal) (φ := .f32) 8) ((Common.codes_apply ..).trans
    (congrArg₂ (Common.codeOf _ _) (pay2_eq u a _ _) ?_))
  exact (Common.bcLast _ broadcasts_S2048x16x1_S2048x16x128 a _ _).trans
    ((Common.castLast _ shapeCasts_S2048x16_S2048x16x1 a _ _).trans (pay3_eq u a _))

end Cert.D1RefIdeal.RefValue

/-! ## A grid point -/

namespace Cert.D1Ideal.RefValue

open Cert.D1Ideal Cert.D1Ideal.Gen Idealize.ShloMosaic

variable (al : Vec Ideal S1x1 .f32) (u v : Vec Ideal S256x2048 .f32)

/-- An element of the step matrix. -/
theorem pay1_eq (a : Fin 256) (b : Fin 2048) : k0_pay1 al u v (ix2 a b) = Common.d1Of (al (ix2 0 0)) (u (ix2 a b)) (v (ix2 a b)) := by
  have e : extractAt ![0, 0] al inpos_S1x1_p0_0 = al (ix2 0 0) := by pointwise
  rw [← e]
  rfl

section Piece

variable (w : Vec Ideal S256x128 .f32)

/-- The scales of a block of columns as one expression. -/
theorem lay2 : k0_pay2 w = Common.scales (Scalar.ofBits (F := Ideal) .f32 0x00000000#32) (Scalar.ofBits (F := Ideal) .f32 0x3F800000#32)
    (Scalar.ofBits (F := Ideal) .f32 0x42FE0000#32) (shapeCast S256x1 (multiReduction .maximumf [1] S256 (absf w) 0xFF800000#32
      reduces_S256x128_S256 (.inl rfl) rfl) shapeCasts_S256_S256x1) := rfl

/-- The scale of a row of a block of columns. -/
theorem pay2_eq (a : Fin 256) (z : Fin 1) : k0_pay2 w (ix2 a z) = Common.scale 0x42FE0000#32 (fun l => w (ix2 a l)) := by
  rw [lay2]
  exact (Common.scales_apply ..).trans (congrArg (Common.scaleOf _ _ _) ((Common.castCol _ shapeCasts_S256_S256x1 a z).trans
    (Common.rowMax_abs w _ reduces_S256x128_S256 (.inl rfl) rfl a)))

/-- The codes of a block of columns as one expression. -/
theorem lay3 : k0_pay3 w = fptosi (F := Ideal) 8 (Common.codes (Scalar.sitofp (F := Ideal) .f32 127#32)
    (Scalar.sitofp (F := Ideal) .f32 4294967169#32) w (broadcastTo S256x128 (k0_pay2 w) broadcasts_S256x1_S256x128)) := rfl

/-- The code of an element of a block of columns. -/
theorem pay3_eq (a : Fin 256) (l : Fin 128) : k0_pay3 w (ix2 a l) = Common.blkCode (fun l => w (ix2 a l)) l := by
  rw [lay3]
  exact congrArg (FloatOps.fptosi (F := Ideal) (φ := .f32) 8) ((Common.codes_apply ..).trans
    (congrArg (Common.codeOf _ _ _) ((Common.bcCol _ broadcasts_S256x1_S256x128 a l).trans (pay2_eq w a 0))))

/-! Every block of columns is quantised by the same expression. -/

theorem same1 : k0_pay4 w = k0_pay2 (F := Ideal) w := rfl
theorem same2 : k0_pay6 w = k0_pay2 (F := Ideal) w := rfl
theorem same3 : k0_pay10 w = k0_pay2 (F := Ideal) w := rfl
theorem same4 : k0_pay14 (k0_pay12 w) (k0_pay13 w) (Scalar.ofBits .f32 0x42FE0000#32) = k0_pay2 (F := Ideal) w := rfl
theorem same5 : k0_pay16 w = k0_pay2 (F := Ideal) w := rfl
theorem same6 : k0_pay18 w = k0_pay2 (F := Ideal) w := rfl
theorem same7 : k0_pay20 w = k0_pay2 (F := Ideal) w := rfl
theorem same8 : k0_pay24 w = k0_pay2 (F := Ideal) w := rfl
theorem same9 : k0_pay28 (k0_pay26 w) (k0_pay27 w) (Scalar.ofBits .f32 0x42FE0000#32) = k0_pay2 (F := Ideal) w := rfl
theorem same10 : k0_pay30 w = k0_pay2 (F := Ideal) w := rfl
theorem same11 : k0_pay32 w = k0_pay2 (F := Ideal) w := rfl
theorem same12 : k0_pay34 w = k0_pay2 (F := Ideal) w := rfl
theorem same13 : k0_pay38 w = k0_pay2 (F := Ideal) w := rfl
theorem same14 : k0_pay42 (k0_pay40 w) (k0_pay41 w) (Scalar.ofBits .f32 0x42FE0000#32) = k0_pay2 (F := Ideal) w := rfl
theorem same15 : k0_pay44 w = k0_pay2 (F := Ideal) w := rfl

end Piece

/-- The block's code. -/
def E4 (y : S256x2048.Idx) : BitVec 8 := Common.blkCode (Common.blk u (y 0) (Common.blkOf (y 1))) (Common.laneOf (y 1))
/-- The block's scale. -/
def E5 (y : S256x16.Idx) : EReal := Common.scale 0x42FE0000#32 (Common.blk u (y 0) (y 1))

/-- A row of a block of columns. -/
theorem row_piece (j : ℕ) {c : ℕ} (h : ∀ a, (![0, c] : Fin 2 → ℕ) a + S256x128.size a ≤ S256x2048.size a)
    (a a' : Fin 256) (j' : Fin 16) (hc : c = 128 * j) (hj : j'.val = j) (ha : a'.val = a.val) :
    (fun l => View.ld (Val := Elt Ideal) (e' := .f32) u (Rect.unit (s := S256x2048) ![0, c] S256x128.size h) (ix2 a l)) = Common.blk u a' j' := by
  subst hc
  funext l
  refine View.ld_unit_apply_of u _ _ _ _ _ fun i => ?_
  match i with
  | ⟨0, _⟩ => show a'.val = 0 + a.val; omega
  | ⟨1, _⟩ => show j'.val * 128 + l.val = 128 * j + l.val; omega

/-- What is stored of the codes for block `j` of the columns. -/
theorem piece4 (j : ℕ) {c : ℕ} (h : ∀ a, (![0, c] : Fin 2 → ℕ) a + S256x128.size a ≤ S256x2048.size a)
    (u : Vec Ideal S256x2048 .f32) (x : S256x128.Idx) (hc : c = 128 * j := by decide) :
    k0_pay3 (F := Ideal) (View.ld u (Rect.unit (s := S256x2048) ![0, c] S256x128.size h)) x
      = E4 u ((Rect.unit (s := S256x2048) ![0, c] S256x128.size h).idx x) := by
  have hb : c + 128 ≤ 2048 := h 1
  idx_vars x
  refine (pay3_eq _ x0 x1).trans ?_
  refine congrArg₂ Common.blkCode (row_piece u j h x0 _ _ hc ?_ (by show 0 + 1 * x0.val = x0.val; omega)) (Fin.ext ?_)
  · show (c + 1 * x1.val) / 128 = j; omega
  · show x1.val = (c + 1 * x1.val) % 128; omega

/-- What is stored of the scales for block `j` of the columns. -/
theorem piece5 (j : ℕ) {c : ℕ} (h : ∀ a, (![0, c] : Fin 2 → ℕ) a + S256x128.size a ≤ S256x2048.size a)
    (h' : ∀ a, (![0, j] : Fin 2 → ℕ) a + S256x1.size a ≤ S256x16.size a)
    (u : Vec Ideal S256x2048 .f32) (x : S256x1.Idx) (hc : c = 128 * j := by decide) :
    k0_pay2 (F := Ideal) (View.ld u (Rect.unit (s := S256x2048) ![0, c] S256x128.size h)) x
      = E5 u ((Rect.unit (s := S256x16) ![0, j] S256x1.size h').idx x) := by
  idx_vars x
  refine (pay2_eq _ x0 x1).trans (congrArg (Common.scale _) (row_piece u j h x0 _ _ hc ?_ (by show 0 + 1 * x0.val = x0.val; omega)))
  show j + 1 * x1.val = j
  omega

/-- The codes a grid point leaves. -/
theorem out4_eq (y : S256x2048.Idx) : out0_4 (F := Ideal) al u v y = E4 u y := by
  unfold out0_4
  refine View.canon_apply_of_pieces (Val := Elt Ideal) (E4 u) _ ?_ y (cover0_4 _ _ _ _ _ _ _ _ _ _ _ _ _ _ _ _ y)
  intro pc hpc
  rcases List.mem_cons.mp hpc with rfl | hpc
  · dsimp only
    exact fun x => piece4 15 inb_S256x2048_S256x128_0_1920 u x
  rcases List.mem_cons.mp hpc with rfl | hpc
  · dsimp only
    exact fun x => piece4 14 inb_S256x2048_S256x128_0_1792 u x
  rcases List.mem_cons.mp hpc with rfl | hpc
  · dsimp only
    exact fun x => piece4 13 inb_S256x2048_S256x128_0_1664 u x
  rcases List.mem_cons.mp hpc with rfl | hpc
  · dsimp only
    exact fun x => piece4 12 inb_S256x2048_S256x128_0_1536 u x
  rcases List.mem_cons.mp hpc with rfl | hpc
  · dsimp only
    exact fun x => piece4 11 inb_S256x2048_S256x128_0_1408 u x
  rcases List.mem_cons.mp hpc with rfl | hpc
  · dsimp only
    exact fun x => piece4 10 inb_S256x2048_S256x128_0_1280 u x
  rcases List.mem_cons.mp hpc with rfl | hpc
  · dsimp only
    exact fun x => piece4 9 inb_S256x2048_S256x128_0_1152 u x
  rcases List.mem_cons.mp hpc with rfl | hpc
  · dsimp only
    exact fun x => piece4 8 inb_S256x2048_S256x128_0_1024 u x
  rcases List.mem_cons.mp hpc with rfl | hpc
  · dsimp only
    exact fun x => piece4 7 inb_S256x2048_S256x128_0_896 u x
  rcases List.mem_cons.mp hpc with rfl | hpc
  · dsimp only
    exact fun x => piece4 6 inb_S256x2048_S256x128_0_768 u x
  rcases List.mem_cons.mp hpc with rfl | hpc
  · dsimp only
    exact fun x => piece4 5 inb_S256x2048_S256x128_0_640 u x
  rcases List.mem_cons.mp hpc with rfl | hpc
  · dsimp only
    exact fun x => piece4 4 inb_S256x2048_S256x128_0_512 u x
  rcases List.mem_cons.mp hpc with rfl | hpc
  · dsimp only
    exact fun x => piece4 3 inb_S256x2048_S256x128_0_384 u x
  rcases List.mem_cons.mp hpc with rfl | hpc
  · dsimp only
    exact fun x => piece4 2 inb_S256x2048_S256x128_0_256 u x
  rcases List.mem_cons.mp hpc with rfl | hpc
  · dsimp only
    exact fun x => piece4 1 inb_S256x2048_S256x128_0_128 u x
  rcases List.mem_cons.mp hpc with rfl | hpc
  · dsimp only
    exact fun x => piece4 0 inb_S256x2048_S256x128_0_0 u x
  nomatch hpc

/-- The scales a grid point leaves. -/
theorem out5_eq (y : S256x16.Idx) : out0_5 al u v y = E5 u y := by
  unfold out0_5
  refine View.canon_apply_of_pieces (Val := Elt Ideal) (E5 u) _ ?_ y (cover0_5 _ _ _ _ _ _ _ _ _ _ _ _ _ _ _ _ y)
  intro pc hpc
  rcases List.mem_cons.mp hpc with rfl | hpc
  · dsimp only
    exact fun x => (congrFun (same15 (View.ld u r0_32)) x).trans (piece5 15 inb_S256x2048_S256x128_0_1920 inb_S256x16_S256x1_0_15 u x)
  rcases List.mem_cons.mp hpc with rfl | hpc
  · dsimp only
    exact fun x => (congrFun (same14 (View.ld u r0_30)) x).trans (piece5 14 inb_S256x2048_S256x128_0_1792 inb_S256x16_S256x1_0_14 u x)
  rcases List.mem_cons.mp hpc with rfl | hpc
  · dsimp only
    exact fun x => (congrFun (same13 (View.ld u r0_28)) x).trans (piece5 13 inb_S256x2048_S256x128_0_1664 inb_S256x16_S256x1_0_13 u x)
  rcases List.mem_cons.mp hpc with rfl | hpc
  · dsimp only
    exact fun x => (congrFun (same12 (View.ld u r0_26)) x).trans (piece5 12 inb_S256x2048_S256x128_0_1536 inb_S256x16_S256x1_0_12 u x)
  rcases List.mem_cons.mp hpc with rfl | hpc
  · dsimp only
    exact fun x => (congrFun (same11 (View.ld u r0_24)) x).trans (piece5 11 inb_S256x2048_S256x128_0_1408 inb_S256x16_S256x1_0_11 u x)
  rcases List.mem_cons.mp hpc with rfl | hpc
  · dsimp only
    exact fun x => (congrFun (same10 (View.ld u r0_22)) x).trans (piece5 10 inb_S256x2048_S256x128_0_1280 inb_S256x16_S256x1_0_10 u x)
  rcases List.mem_cons.mp hpc with rfl | hpc
  · dsimp only
    exact fun x => (congrFun (same9 (View.ld u r0_20)) x).trans (piece5 9 inb_S256x2048_S256x128_0_1152 inb_S256x16_S256x1_0_9 u x)
  rcases List.mem_cons.mp hpc with rfl | hpc
  · dsimp only
    exact fun x => (congrFun (same8 (View.ld u r0_18)) x).trans (piece5 8 inb_S256x2048_S256x128_0_1024 inb_S256x16_S256x1_0_8 u x)
  rcases List.mem_cons.mp hpc with rfl | hpc
  · dsimp only
    exact fun x => (congrFun (same7 (View.ld u r0_16)) x).trans (piece5 7 inb_S256x2048_S256x128_0_896 inb_S256x16_S256x1_0_7 u x)
  rcases List.mem_cons.mp hpc with rfl | hpc
  · dsimp only
    exact fun x => (congrFun (same6 (View.ld u r0_14)) x).trans (piece5 6 inb_S256x2048_S256x128_0_768 inb_S256x16_S256x1_0_6 u x)
  rcases List.mem_cons.mp hpc with rfl | hpc
  · dsimp only
    exact fun x => (congrFun (same5 (View.ld u r0_12)) x).trans (piece5 5 inb_S256x2048_S256x128_0_640 inb_S256x16_S256x1_0_5 u x)
  rcases List.mem_cons.mp hpc with rfl | hpc
  · dsimp only
    exact fun x => (congrFun (same4 (View.ld u r0_10)) x).trans (piece5 4 inb_S256x2048_S256x128_0_512 inb_S256x16_S256x1_0_4 u x)
  rcases List.mem_cons.mp hpc with rfl | hpc
  · dsimp only
    exact fun x => (congrFun (same3 (View.ld u r0_8)) x).trans (piece5 3 inb_S256x2048_S256x128_0_384 inb_S256x16_S256x1_0_3 u x)
  rcases List.mem_cons.mp hpc with rfl | hpc
  · dsimp only
    exact fun x => (congrFun (same2 (View.ld u r0_6)) x).trans (piece5 2 inb_S256x2048_S256x128_0_256 inb_S256x16_S256x1_0_2 u x)
  rcases List.mem_cons.mp hpc with rfl | hpc
  · dsimp only
    exact fun x => (congrFun (same1 (View.ld u r0_4)) x).trans (piece5 1 inb_S256x2048_S256x128_0_128 inb_S256x16_S256x1_0_1 u x)
  rcases List.mem_cons.mp hpc with rfl | hpc
  · dsimp only
    exact fun x => piece5 0 inb_S256x2048_S256x128_0_0 inb_S256x16_S256x1_0_0 u x
  nomatch hpc

end Cert.D1Ideal.RefValue

/-! ## The arrays -/

namespace Cert.D1Ideal.RefValue

open Cert.D1Ideal Cert.D1Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The step size. -/
abbrev Al (c : Dev nD) : Vec Ideal S1x1 .f32 := m ((c : Thread nD τ).loc main_arg0)
/-- The new momentum. -/
abbrev U (c : Dev nD) : Vec Ideal S2048x2048 .f32 := m ((c : Thread nD τ).loc main_arg1)
/-- The second matrix. -/
abbrev W (c : Dev nD) : Vec Ideal S2048x2048 .f32 := m ((c : Thread nD τ).loc main_arg2)

/-- Where each window stands at grid point `t`. -/
theorem idx : ∀ t : Fin cfg0.N, win0_0.index t = ![0, 0] ∧ win0_1.index t = ![t.val, 0] ∧ win0_2.index t = ![t.val, 0]
    ∧ win0_3.index t = ![t.val, 0] ∧ win0_4.index t = ![t.val, 0] ∧ win0_5.index t = ![t.val, 0] :=
  (by decide +kernel : ∀ t : Fin grid0.N, win0_0.index t = ![0, 0] ∧ win0_1.index t = ![t.val, 0] ∧ win0_2.index t = ![t.val, 0]
    ∧ win0_3.index t = ![t.val, 0] ∧ win0_4.index t = ![t.val, 0] ∧ win0_5.index t = ![t.val, 0])

/-- The array's row that is row `a` of block `t`. -/
def row (t : Fin cfg0.N) (a : Fin 256) : Fin 2048 := ⟨t.val * 256 + a.val, by
  have h : t.val < 8 := lt_of_lt_of_eq t.isLt N_0
  omega⟩

theorem iblk0 (c : Dev nD) (t : Fin cfg0.N) : iblk m c 0 t (ix2 0 0) = Al m c (ix2 0 0) := by
  blk_ext [iblk, V, idx t]
theorem iblk1 (c : Dev nD) (t : Fin cfg0.N) (a : Fin 256) (k : Fin 2048) : iblk m c 1 t (ix2 a k) = U m c (ix2 (row t a) k) := by
  blk_ext [iblk, V, idx t, row]
theorem iblk2 (c : Dev nD) (t : Fin cfg0.N) (a : Fin 256) (k : Fin 2048) : iblk m c 2 t (ix2 a k) = W m c (ix2 (row t a) k) := by
  blk_ext [iblk, V, idx t, row]

/-- A block of columns of a row of the grid point's block is one of the array's. -/
theorem blk_eq (c : Dev nD) (t : Fin cfg0.N) (a : Fin 256) (j : Fin 16) :
    Common.blk (n := 256) (iblk m c 1 t) a j = Common.blk (n := 2048) (U m c) (row t a) j := by
  funext l
  exact iblk1 m c t a _

theorem covers3 : (cfg0.win 3).Covers := by decide +kernel
theorem covers4 : (cfg0.win 4).Covers := by decide +kernel
theorem covers5 : (cfg0.win 5).Covers := by decide +kernel

/-- The step matrix. -/
theorem final3 (c : Dev nD) : (dats m 0 c).arrAt 3 cfg0.N = Cert.D1RefIdeal.Value.G3 (Al m c) (U m c) (W m c) := by
  refine (dats m 0 c).arrAt_eq_of_covers 3 _ covers3 fun t hf y => ?_
  blk_simp
  rw [after0_3]
  frame_out
  unfold Cert.D1RefIdeal.Value.G3
  idx_vars y
  have e : ((View.whole main_v0_0).slice (win0_3.rect t)).emb (ix2 y0 y1) = ix2 (row t y0) y1 := by
    blk_ext [idx t, row]
  rw [e, pay1_eq, iblk0, iblk1, iblk2]
  exact (Cert.D1RefIdeal.RefValue.pay1_eq _ _ _ _ _).symm

/-- The codes. -/
theorem final4 (c : Dev nD) : (dats m 0 c).arrAt 4 cfg0.N = Cert.D1RefIdeal.Value.G4 (Al m c) (U m c) (W m c) := by
  refine (dats m 0 c).arrAt_eq_of_covers 4 _ covers4 fun t hf y => ?_
  blk_simp
  rw [after0_4]
  unfold Cert.D1RefIdeal.Value.G4
  idx_vars y
  have e : ((View.whole main_v0_1).slice (win0_4.rect t)).emb (ix2 y0 y1) = ix2 (row t y0) y1 := by
    blk_ext [idx t, row]
  rw [e]
  refine (out4_eq _ _ _ _).trans (Eq.trans ?_ (Cert.D1RefIdeal.RefValue.pay4_eq _ _ _).symm)
  show Common.blkCode (Common.blk (n := 256) (iblk m c 1 t) y0 (Common.blkOf y1)) (Common.laneOf y1) = _
  rw [blk_eq]

/-- The scales. -/
theorem final5 (c : Dev nD) : (dats m 0 c).arrAt 5 cfg0.N = Cert.D1RefIdeal.Value.G5 (Al m c) (U m c) (W m c) := by
  refine (dats m 0 c).arrAt_eq_of_covers 5 _ covers5 fun t hf y => ?_
  blk_simp
  rw [after0_5]
  unfold Cert.D1RefIdeal.Value.G5
  idx_vars y
  have e : ((View.whole main_v0_2).slice (win0_5.rect t)).emb (ix2 y0 y1) = ix2 (row t y0) y1 := by
    blk_ext [idx t, row]
  rw [e]
  refine (out5_eq _ _ _ _).trans (Eq.trans ?_ (Cert.D1RefIdeal.RefValue.pay3_eq _ _ _).symm)
  show Common.scale _ (Common.blk (n := 256) (iblk m c 1 t) y0 y1) = _
  rw [blk_eq]

/-- The run of the kernel, its results named by the reference's functions of the arguments. -/
theorem run : θ_run defs (onTc (τ := τ) (main (F := Ideal))) ⟨m, fun _ => 0, ρ⟩ fun r => ∀ c : Dev nD,
      r.2.mem ((c : Thread nD τ).loc main_v0_0) = Cert.D1RefIdeal.Value.G3 (Al m c) (U m c) (W m c)
      ∧ r.2.mem ((c : Thread nD τ).loc main_v0_1) = Cert.D1RefIdeal.Value.G4 (Al m c) (U m c) (W m c)
      ∧ r.2.mem ((c : Thread nD τ).loc main_v0_2) = Cert.D1RefIdeal.Value.G5 (Al m c) (U m c) (W m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1).trans (final3 m c), ((h c).2.1).trans (final4 m c), ((h c).2.2.1).trans (final5 m c),
    (h c).2.2.2⟩) (Cert.D1Ideal.Value.run_blocks m ρ)

end Cert.D1Ideal.RefValue

end
-- ==== Proof.StepValue.lean ====
/-
  The step and its norm per row (`step`): each grid point takes 256 rows. The three result arrays of the kernel (the step, the moved
  rotation, the length each row moved) end equal to those of the reference, which takes all 2048 rows at once.
-/
module

public import proofs.«01_k».proof.Proof.Gen.StepIdeal.Value
public import proofs.«01_k».proof.Proof.Gen.StepRefIdeal.Value
public import proofs.«01_k».proof.Proof.Reduce
public import Idealize.ShloMosaic.Lib.Pipeline.ValueKit
public import Idealize.ShloMosaic.Lib.Pointwise

@[expose] public section

set_option maxRecDepth 16384

noncomputable section

namespace Cert.Common

open Idealize.ShloMosaic

/-- One element of the step: minus the step size times `u`, minus half the step size times `v`. -/
def stepOf (al u v : EReal) : EReal :=
  FloatOps.subf (F := Ideal) (φ := .f32)
    (FloatOps.mulf (F := Ideal) (φ := .f32) (FloatOps.subf (F := Ideal) (φ := .f32) (Scalar.ofBits (F := Ideal) .f32 0x00000000#32) al) u)
    (FloatOps.mulf (F := Ideal) (φ := .f32) (FloatOps.mulf (F := Ideal) (φ := .f32) (Scalar.ofBits (F := Ideal) .f32 0x3F000000#32) al) v)

/-- One element of the moved rotation. -/
def movedOf (r s : EReal) : EReal := FloatOps.addf (F := Ideal) (φ := .f32) r s

/-- The square of what an element moved. -/
def sqMove (z r : EReal) : EReal :=
  FloatOps.mulf (F := Ideal) (φ := .f32) (FloatOps.subf (F := Ideal) (φ := .f32) z r) (FloatOps.subf (F := Ideal) (φ := .f32) z r)

end Cert.Common

/-! ## The reference: what it computes from its arguments, element by element -/

namespace Cert.StepRefIdeal.RefValue

open Cert.StepRefIdeal Cert.StepRefIdeal.Gen Idealize.ShloMosaic

variable (al : Vec Ideal S1x1 .f32) (u v r : Vec Ideal S2048x2048 .f32) (a : Fin 2048)

/-- An element of the step. -/
theorem pay1_eq (b : Fin 2048) : k0_pay1 al u v (ix2 a b) = Common.stepOf (al (ix2 0 0)) (u (ix2 a b)) (v (ix2 a b)) := by
  have e : extractAt ![0, 0] al inpos_S1x1_p0_0 = al (ix2 0 0) := by pointwise
  rw [← e]
  rfl

/-- An element of the moved rotation. -/
theorem pay2_eq (b : Fin 2048) : k0_pay2 al u v r (ix2 a b) = Common.movedOf (r (ix2 a b)) (k0_pay1 al u v (ix2 a b)) := rfl

/-- The lengths as one expression of the moved rotation. -/
theorem lay3 : k0_pay3 al u v r r = sqrt (shapeCast S2048x1 (multiReduction .add [1] S2048
    (mulf (subf (k0_pay2 al u v r) r) (subf (k0_pay2 al u v r) r)) 0x00000000#32 reduces_S2048x2048_S2048 (.inl rfl) rfl)
      shapeCasts_S2048_S2048x1) := rfl

/-- The length row `a` moved. -/
theorem pay3_eq (b : Fin 1) : k0_pay3 al u v r r (ix2 a b)
    = FloatOps.sqrt (F := Ideal) (φ := .f32) (∑ l : Fin 2048, Common.sqMove (k0_pay2 al u v r (ix2 a l)) (r (ix2 a l))) := by
  rw [lay3]
  exact congrArg (FloatOps.sqrt (F := Ideal) (φ := .f32)) ((Common.castCol _ shapeCasts_S2048_S2048x1 a b).trans
    (Common.rowSum _ _ reduces_S2048x2048_S2048 (.inl rfl) rfl a))

end Cert.StepRefIdeal.RefValue

/-! ## A grid point: what it computes from its blocks, element by element -/

namespace Cert.StepIdeal.RefValue

open Cert.StepIdeal Cert.StepIdeal.Gen Idealize.ShloMosaic

variable (al : Vec Ideal S1x1 .f32) (u v r : Vec Ideal S256x2048 .f32) (a : Fin 256)

/-- An element of the step. -/
theorem pay1_eq (b : Fin 2048) : k0_pay1 al u v (ix2 a b) = Common.stepOf (al (ix2 0 0)) (u (ix2 a b)) (v (ix2 a b)) := by
  have e : extractAt ![0, 0] al inpos_S1x1_p0_0 = al (ix2 0 0) := by pointwise
  rw [← e]
  rfl

/-- An element of the moved rotation. -/
theorem pay2_eq (b : Fin 2048) : k0_pay2 al u v r (ix2 a b) = Common.movedOf (r (ix2 a b)) (k0_pay1 al u v (ix2 a b)) := rfl

/-- The lengths as one expression of the moved rotation. -/
theorem lay3 : k0_pay3 al u v r = sqrt (shapeCast S256x1 (multiReduction .add [1] S256
    (mulf (subf (k0_pay2 al u v r) r) (subf (k0_pay2 al u v r) r)) 0x00000000#32 reduces_S256x2048_S256 (.inl rfl) rfl)
      shapeCasts_S256_S256x1) := rfl

/-- The length row `a` moved. -/
theorem pay3_eq (b : Fin 1) : k0_pay3 al u v r (ix2 a b)
    = FloatOps.sqrt (F := Ideal) (φ := .f32) (∑ l : Fin 2048, Common.sqMove (k0_pay2 al u v r (ix2 a l)) (r (ix2 a l))) := by
  rw [lay3]
  exact congrArg (FloatOps.sqrt (F := Ideal) (φ := .f32)) ((Common.castCol _ shapeCasts_S256_S256x1 a b).trans
    (Common.rowSum _ _ reduces_S256x2048_S256 (.inl rfl) rfl a))

end Cert.StepIdeal.RefValue

/-! ## The arrays -/

namespace Cert.StepIdeal.RefValue

open Cert.StepIdeal Cert.StepIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The step size. -/
abbrev Al (c : Dev nD) : Vec Ideal S1x1 .f32 := m ((c : Thread nD τ).loc main_arg0)
/-- The first matrix. -/
abbrev U (c : Dev nD) : Vec Ideal S2048x2048 .f32 := m ((c : Thread nD τ).loc main_arg1)
/-- The second matrix. -/
abbrev W (c : Dev nD) : Vec Ideal S2048x2048 .f32 := m ((c : Thread nD τ).loc main_arg2)
/-- The rotation. -/
abbrev R (c : Dev nD) : Vec Ideal S2048x2048 .f32 := m ((c : Thread nD τ).loc main_arg3)

/-- Where each window stands at grid point `t`. -/
theorem idx : ∀ t : Fin cfg0.N, win0_0.index t = ![0, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, win0_0.index t = ![0, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0])

/-- The array's row that is row `a` of block `t`. -/
def row (t : Fin cfg0.N) (a : Fin 256) : Fin 2048 := ⟨t.val * 256 + a.val, by
  have h : t.val < 8 := lt_of_lt_of_eq t.isLt N_0
  omega⟩

theorem iblk0 (c : Dev nD) (t : Fin cfg0.N) : iblk m c 0 t (ix2 0 0) = Al m c (ix2 0 0) := by
  blk_ext [iblk, V, idx t]
theorem iblk1 (c : Dev nD) (t : Fin cfg0.N) (a : Fin 256) (k : Fin 2048) : iblk m c 1 t (ix2 a k) = U m c (ix2 (row t a) k) := by
  blk_ext [iblk, V, idx t, row]
theorem iblk2 (c : Dev nD) (t : Fin cfg0.N) (a : Fin 256) (k : Fin 2048) : iblk m c 2 t (ix2 a k) = W m c (ix2 (row t a) k) := by
  blk_ext [iblk, V, idx t, row]
theorem iblk3 (c : Dev nD) (t : Fin cfg0.N) (a : Fin 256) (k : Fin 2048) : iblk m c 3 t (ix2 a k) = R m c (ix2 (row t a) k) := by
  blk_ext [iblk, V, idx t, row]

/-- An element of a block's step is one of the array's. -/
theorem step_eq (c : Dev nD) (t : Fin cfg0.N) (a : Fin 256) (b : Fin 2048) : k0_pay1 (iblk m c 0 t) (iblk m c 1 t) (iblk m c 2 t) (ix2 a b)
    = Cert.StepRefIdeal.Gen.k0_pay1 (Al m c) (U m c) (W m c) (ix2 (row t a) b) := by
  rw [pay1_eq, Cert.StepRefIdeal.RefValue.pay1_eq, iblk0, iblk1, iblk2]

/-- An element of a block's moved rotation is one of the array's. -/
theorem moved_eq (c : Dev nD) (t : Fin cfg0.N) (a : Fin 256) (b : Fin 2048) :
    k0_pay2 (iblk m c 0 t) (iblk m c 1 t) (iblk m c 2 t) (iblk m c 3 t) (ix2 a b)
    = Cert.StepRefIdeal.Gen.k0_pay2 (Al m c) (U m c) (W m c) (R m c) (ix2 (row t a) b) := by
  rw [pay2_eq, Cert.StepRefIdeal.RefValue.pay2_eq, step_eq, iblk3]

theorem covers4 : (cfg0.win 4).Covers := by decide +kernel
theorem covers5 : (cfg0.win 5).Covers := by decide +kernel
theorem covers6 : (cfg0.win 6).Covers := by decide +kernel

/-- The step. -/
theorem final4 (c : Dev nD) : (dats m 0 c).arrAt 4 cfg0.N = Cert.StepRefIdeal.Value.G4 (Al m c) (U m c) (W m c) (R m c) := by
  refine (dats m 0 c).arrAt_eq_of_covers 4 _ covers4 fun t hf y => ?_
  blk_simp
  rw [after0_4]
  frame_out
  unfold Cert.StepRefIdeal.Value.G4
  idx_vars y
  have e : ((View.whole main_v0_0).slice (win0_4.rect t)).emb (ix2 y0 y1) = ix2 (row t y0) y1 := by
    blk_ext [idx t, row]
  rw [e]
  exact step_eq m c t y0 y1

/-- The moved rotation. -/
theorem final5 (c : Dev nD) : (dats m 0 c).arrAt 5 cfg0.N = Cert.StepRefIdeal.Value.G5 (Al m c) (U m c) (W m c) (R m c) := by
  refine (dats m 0 c).arrAt_eq_of_covers 5 _ covers5 fun t hf y => ?_
  blk_simp
  rw [after0_5]
  frame_out
  unfold Cert.StepRefIdeal.Value.G5
  idx_vars y
  have e : ((View.whole main_v0_1).slice (win0_5.rect t)).emb (ix2 y0 y1) = ix2 (row t y0) y1 := by
    blk_ext [idx t, row]
  rw [e]
  exact moved_eq m c t y0 y1

/-- The lengths. -/
theorem final6 (c : Dev nD) : (dats m 0 c).arrAt 6 cfg0.N = Cert.StepRefIdeal.Value.G6 (Al m c) (U m c) (W m c) (R m c) := by
  refine (dats m 0 c).arrAt_eq_of_covers 6 _ covers6 fun t hf y => ?_
  blk_simp
  rw [after0_6]
  frame_out
  unfold Cert.StepRefIdeal.Value.G6
  idx_vars y
  have e : ((View.whole main_v0_2).slice (win0_6.rect t)).emb (ix2 y0 y1) = ix2 (row t y0) y1 := by
    blk_ext [idx t, row]
  rw [e, pay3_eq]
  refine Eq.trans ?_ (Cert.StepRefIdeal.RefValue.pay3_eq _ _ _ _ _ _).symm
  refine congrArg (FloatOps.sqrt (F := Ideal) (φ := .f32)) (Finset.sum_congr rfl fun l _ => ?_)
  rw [moved_eq, iblk3]

/-- The run of the kernel, its results named by the reference's functions of the arguments. -/
theorem run : θ_run defs (onTc (τ := τ) (main (F := Ideal))) ⟨m, fun _ => 0, ρ⟩ fun r => ∀ c : Dev nD,
      r.2.mem ((c : Thread nD τ).loc main_v0_0) = Cert.StepRefIdeal.Value.G4 (Al m c) (U m c) (W m c) (R m c)
      ∧ r.2.mem ((c : Thread nD τ).loc main_v0_1) = Cert.StepRefIdeal.Value.G5 (Al m c) (U m c) (W m c) (R m c)
      ∧ r.2.mem ((c : Thread nD τ).loc main_v0_2) = Cert.StepRefIdeal.Value.G6 (Al m c) (U m c) (W m c) (R m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1).trans (final4 m c), ((h c).2.1).trans (final5 m c), ((h c).2.2.1).trans (final6 m c),
    (h c).2.2.2⟩) (Cert.StepIdeal.Value.run_blocks m ρ)

end Cert.StepIdeal.RefValue

end
-- ==== Proof.MmRules.lean ====
/-
  Running a body that has no branch: for a body over four memrefs (two read only, two also written), the statement that it ends with a
  given value and given contents of the two written ones, and one rule per kind of step.
-/
module

public import Idealize.ShloMosaic.Lib.Mxu.Lemmas
public import Idealize.ShloMosaic.Lib.Pipeline.FrameBody
public import Idealize.ShloMosaic.Lib.Writes
public import Idealize.ShloMosaic.Lib.Exec
public import Idealize.ShloMosaic.Lib.Tactic

@[expose] public section

noncomputable section

namespace Cert.Straight

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {nD : ℕ} {τ : Topo} {sig : RefSig} {Λ : Labels}

/-- The four memrefs, the core, and the contents of the two that are only read. -/
structure Ctx (F : FTy → Type) (nD : ℕ) (τ : Topo) (sig : RefSig) where
  c : Dev nD
  s1 : Shape
  s2 : Shape
  s3 : Shape
  s4 : Shape
  e1 : EltTy
  e2 : EltTy
  e3 : EltTy
  e4 : EltTy
  a1 : Memref sig .tc .vmem s1 e1
  a2 : Memref sig .tc .vmem s2 e2
  a3 : Memref sig .tc .vmem s3 e3
  a4 : Memref sig .tc .vmem s4 e4
  f1 : Buf (Elt F) (a1.view.loc (c : Thread nD τ))
  f2 : Buf (Elt F) (a2.view.loc (c : Thread nD τ))

local notation "𝕄" => MT nD τ sig Unit (Elt F) ℕ (UR sig nD τ) ℕ

/-- Owning the four, the written ones at `f3` and `f4`. -/
def Ctx.own (X : Ctx F nD τ sig) (f3 : Buf (Elt F) (X.a3.view.loc (X.c : Thread nD τ))) (f4 : Buf (Elt F) (X.a4.view.loc (X.c : Thread nD τ))) : sProp 𝕄 :=
  iprop((X.a1.view.loc (X.c : Thread nD τ) ↦[X.a1.view.set]{fullShare} X.f1) ∗ (X.a2.view.loc (X.c : Thread nD τ) ↦[X.a2.view.set]{fullShare} X.f2)
    ∗ (X.a3.view.loc (X.c : Thread nD τ) ↦[X.a3.view.set]{fullShare} f3) ∗ (X.a4.view.loc (X.c : Thread nD τ) ↦[X.a4.view.set]{fullShare} f4))

variable (defs : Defs nD τ sig (Elt F) Λ) (X : Ctx F nD τ sig) {α β : Type}
  {f3 f3' f3'' : Buf (Elt F) (X.a3.view.loc (X.c : Thread nD τ))} {f4 f4' f4'' : Buf (Elt F) (X.a4.view.loc (X.c : Thread nD τ))}

/-- From `f3`, `f4` the program ends with the value `r` and the contents `f3'`, `f4'`. -/
def Run (p : Prog (TpuEff nD τ sig (Elt F) Λ .tc) α) (f3 : Buf (Elt F) (X.a3.view.loc (X.c : Thread nD τ)))
    (f4 : Buf (Elt F) (X.a4.view.loc (X.c : Thread nD τ))) (r : α) (f3' : Buf (Elt F) (X.a3.view.loc (X.c : Thread nD τ)))
    (f4' : Buf (Elt F) (X.a4.view.loc (X.c : Thread nD τ))) : Prop :=
  ∀ (E : Set ℕ) (K : α → sProp 𝕄), iprop(X.own f3 f4 ∗ (X.own f3' f4' -∗ K r)) ⊢ wp frame (wpE defs Variants.none (X.c : Thread nD τ) none) E p K

variable {defs X}

/-- A value returned. -/
theorem Run.ret {r r' : α} (h : r = r') : Run defs X (pure r) f3 f4 r' f3 f4 := by
  subst h
  intro E K
  iintro ⟨H, Hk⟩
  sl_step
  iapply Hk
  iexact H

/-- A program, then another that takes its value. -/
theorem Run.bind {p : Prog (TpuEff nD τ sig (Elt F) Λ .tc) α} {k : α → Prog (TpuEff nD τ sig (Elt F) Λ .tc) β} {a : α} {b : β}
    (hp : Run defs X p f3 f4 a f3' f4') (hk : Run defs X (k a) f3' f4' b f3'' f4'') : Run defs X (p >>= k) f3 f4 b f3'' f4'' := by
  intro E K
  rw [wp_bind]
  refine .trans ?_ (hp E _)
  iintro ⟨H, Hk⟩
  isplitl [H]; · iexact H
  iintro H
  iapply (hk E K)
  isplitl [H]; · iexact H
  iexact Hk

/-- A load of the first memref. -/
theorem Run.load1 {r : Rect X.s1} {hl : X.a1.view.LoadsAt r.toLoadRect} {k : (r.shape.Idx → Elt F X.e1) → Prog (TpuEff nD τ sig (Elt F) Λ .tc) β} {b : β}
    (h : Run defs X (k (View.ld (X.a1.view.read (Elt F) X.f1) r)) f3 f4 b f3' f4') :
    Run defs X (Prog.lift (.load X.a1 r.toLoadRect hl) >>= k) f3 f4 b f3' f4' := by
  intro E K
  unfold Ctx.own
  iintro ⟨⟨H1, H2, H3, H4⟩, Hk⟩
  simp only [Prog.lift, Prog.bind_op, Prog.bind_ret]
  iapply (wp_load Variants.none (X.c : Thread nD τ) none E (View.setOn_subset_set _ _)) $$ H1
  iintro H1
  iapply (h E K)
  unfold Ctx.own
  isplitr [Hk]
  · isplitl [H1]; · iexact H1
    isplitl [H2]; · iexact H2
    isplitl [H3]; · iexact H3
    iexact H4
  iexact Hk

/-- A load of the second, known to read `B`. -/
theorem Run.load2 {B : X.s2.Idx → Elt F X.e2} (hB : X.a2.view.read (Elt F) X.f2 = B) {r : Rect X.s2} {hl : X.a2.view.LoadsAt r.toLoadRect} {k : (r.shape.Idx → Elt F X.e2) → Prog (TpuEff nD τ sig (Elt F) Λ .tc) β} {b : β}
    (h : Run defs X (k (View.ld B r)) f3 f4 b f3' f4') :
    Run defs X (Prog.lift (.load X.a2 r.toLoadRect hl) >>= k) f3 f4 b f3' f4' := by
  subst hB
  intro E K
  unfold Ctx.own
  iintro ⟨⟨H1, H2, H3, H4⟩, Hk⟩
  simp only [Prog.lift, Prog.bind_op, Prog.bind_ret]
  iapply (wp_load Variants.none (X.c : Thread nD τ) none E (View.setOn_subset_set _ _)) $$ H2
  iintro H2
  iapply (h E K)
  unfold Ctx.own
  isplitr [Hk]
  · isplitl [H1]; · iexact H1
    isplitl [H2]; · iexact H2
    isplitl [H3]; · iexact H3
    iexact H4
  iexact Hk

/-- A load of the third. -/
theorem Run.load3 {r : Rect X.s3} {hl : X.a3.view.LoadsAt r.toLoadRect} {k : (r.shape.Idx → Elt F X.e3) → Prog (TpuEff nD τ sig (Elt F) Λ .tc) β} {b : β}
    (h : Run defs X (k (View.ld (X.a3.view.read (Elt F) f3) r)) f3 f4 b f3' f4') :
    Run defs X (Prog.lift (.load X.a3 r.toLoadRect hl) >>= k) f3 f4 b f3' f4' := by
  intro E K
  unfold Ctx.own
  iintro ⟨⟨H1, H2, H3, H4⟩, Hk⟩
  simp only [Prog.lift, Prog.bind_op, Prog.bind_ret]
  iapply (wp_load Variants.none (X.c : Thread nD τ) none E (View.setOn_subset_set _ _)) $$ H3
  iintro H3
  iapply (h E K)
  unfold Ctx.own
  isplitr [Hk]
  · isplitl [H1]; · iexact H1
    isplitl [H2]; · iexact H2
    isplitl [H3]; · iexact H3
    iexact H4
  iexact Hk

/-- A load of the fourth, known to read `A`. -/
theorem Run.load4 {A : X.s4.Idx → Elt F X.e4} (hA : X.a4.view.read (Elt F) f4 = A) {r : Rect X.s4} {hl : X.a4.view.LoadsAt r.toLoadRect}
    {k : (r.shape.Idx → Elt F X.e4) → Prog (TpuEff nD τ sig (Elt F) Λ .tc) β} {b : β}
    (h : Run defs X (k (View.ld A r)) f3 f4 b f3' f4') :
    Run defs X (Prog.lift (.load X.a4 r.toLoadRect hl) >>= k) f3 f4 b f3' f4' := by
  subst hA
  intro E K
  unfold Ctx.own
  iintro ⟨⟨H1, H2, H3, H4⟩, Hk⟩
  simp only [Prog.lift, Prog.bind_op, Prog.bind_ret]
  iapply (wp_load Variants.none (X.c : Thread nD τ) none E (View.setOn_subset_set _ _)) $$ H4
  iintro H4
  iapply (h E K)
  unfold Ctx.own
  isplitr [Hk]
  · isplitl [H1]; · iexact H1
    isplitl [H2]; · iexact H2
    isplitl [H3]; · iexact H3
    iexact H4
  iexact Hk

/-- A store to the third, held at a list of writes. -/
theorem Run.store3 {L : List (View.Piece (Elt F) X.s3 X.e3)} {r : Rect X.s3} {w : r.shape.Idx → Elt F X.e3} {hx : (X.a3.access r).Stores Finset.univ}
    {hm : Finset.univ = Finset.univ ∨ ∀ a, r.stride a = 1} {k : PUnit → Prog (TpuEff nD τ sig (Elt F) Λ .tc) β} {b : β}
    {L' : List (View.Piece (Elt F) X.s3 X.e3)} (hL : (⟨r, w⟩ :: L) = L')
    (h : Run defs X (k ⟨⟩) (X.a3.view.writes (Elt F) f3 L') f4 b f3' f4') :
    Run defs X (Prog.lift (.store X.a3 r w Finset.univ hx hm) >>= k) (X.a3.view.writes (Elt F) f3 L) f4 b f3' f4' := by
  subst hL
  intro E K
  unfold Ctx.own
  iintro ⟨⟨H1, H2, H3, H4⟩, Hk⟩
  simp only [Prog.lift, Prog.bind_op, Prog.bind_ret]
  iapply (wp_store_writes Variants.none (X.c : Thread nD τ) none E (View.set_slice_subset _ _)) $$ H3
  iintro H3
  iapply (h E K)
  unfold Ctx.own
  isplitr [Hk]
  · isplitl [H1]; · iexact H1
    isplitl [H2]; · iexact H2
    isplitl [H3]; · iexact H3
    iexact H4
  iexact Hk

/-- A store to the fourth, held at a list of writes. -/
theorem Run.store4 {L : List (View.Piece (Elt F) X.s4 X.e4)} {r : Rect X.s4} {w : r.shape.Idx → Elt F X.e4} {hx : (X.a4.access r).Stores Finset.univ}
    {hm : Finset.univ = Finset.univ ∨ ∀ a, r.stride a = 1} {k : PUnit → Prog (TpuEff nD τ sig (Elt F) Λ .tc) β} {b : β}
    (h : Run defs X (k ⟨⟩) f3 (X.a4.view.writes (Elt F) f4 (⟨r, w⟩ :: L)) b f3' f4') :
    Run defs X (Prog.lift (.store X.a4 r w Finset.univ hx hm) >>= k) f3 (X.a4.view.writes (Elt F) f4 L) b f3' f4' := by
  intro E K
  unfold Ctx.own
  iintro ⟨⟨H1, H2, H3, H4⟩, Hk⟩
  simp only [Prog.lift, Prog.bind_op, Prog.bind_ret]
  iapply (wp_store_writes Variants.none (X.c : Thread nD τ) none E (View.set_slice_subset _ _)) $$ H4
  iintro H4
  iapply (h E K)
  unfold Ctx.own
  isplitr [Hk]
  · isplitl [H1]; · iexact H1
    isplitl [H2]; · iexact H2
    isplitl [H3]; · iexact H3
    iexact H4
  iexact Hk

/-- A push of the matrix unit: its state `u` is `s`, on which the push is allowed, and the state after it is `s'`. -/
theorem Run.push {u : Mxu F} (s s' : Mxu F) {q r : Fin 2} {tr : Bool} {φ : FTy} {v : FVec F (Mxu.STile 256) φ} (hok : s.PushOk q r tr)
    (hu : s.pushed q r tr v = s') (hs : u = s) {k : Mxu F → Prog (TpuEff nD τ sig (Elt F) Λ .tc) β} {b : β}
    (h : Run defs X (k s') f3 f4 b f3' f4') : Run defs X (u.pushRhs q r tr v >>= k) f3 f4 b f3' f4' := by
  subst hs
  subst hu
  intro E K
  exact (h E K).trans (Mxu.wp_pushRhs v hok)

/-- The end of the body: the matrix unit is drained. -/
theorem Run.exit {u : Mxu F} (s : Mxu F) (hd : s.Drained) (hs : u = s) {k : PUnit → Prog (TpuEff nD τ sig (Elt F) Λ .tc) β} {b : β}
    (h : Run defs X (k ⟨⟩) f3 f4 b f3' f4') : Run defs X (u.exit >>= k) f3 f4 b f3' f4' := by
  subst hs
  intro E K
  exact (h E K).trans (Mxu.wp_exit hd)

end Cert.Straight

end
-- ==== Proof.MmSpec.lean ====
/-
  The matrix unit's states in a product of a 512-row block, one after another, as a function of the tiles: four column groups of 512,
  in each 48 steps (six pairs of pieces, eight tiles along the contraction each), a step being a push and an accumulate on each of the two
  units, and at the end of a group the two pops.  What is proved: every push meets an empty register, the units end drained, and what a
  pop reads is the sum of the 48 passes.
-/
module

public import Idealize.ShloMosaic.Lib.Mxu.Lemmas

@[expose] public section

noncomputable section

namespace Cert.Mm

open Idealize.ShloMosaic

variable {F : FTy → Type} [FloatOps F]

/-- The first factor's piece in pair `p` of pieces, -/
def pieceA : ℕ → ℕ
  | 0 => 0 | 1 => 1 | 2 => 2 | 3 => 0 | 4 => 1 | _ => 0
/-- and the second factor's. -/
def pieceB : ℕ → ℕ
  | 0 => 2 | 1 => 1 | 2 => 0 | 3 => 1 | 4 => 0 | _ => 0

/-- A number as the number of a unit or of a register. -/
def two (k : ℕ) : Fin 2 := ⟨k % 2, Nat.mod_lt _ (by decide)⟩

/-- Where group `n` accumulates: the two halves of the buffer in turn. -/
def addr (n : ℕ) : ℕ := 128 * (n % 2)

theorem fits_addr (n : ℕ) : Mxu.Fits (addr n) 512 := by unfold Mxu.Fits addr; omega

/-- The tiles: how the second factor's are staged, the second factor's tile (piece, column tile, contraction tile) and the first factor's
    (piece, contraction tile). -/
structure Tiles (F : FTy → Type) where
  tr : Bool
  b : ℕ → ℕ → ℕ → FVec F (Mxu.STile 256) .bf16
  a : ℕ → ℕ → FVec F (Mxu.STile 512) .bf16

variable (T : Tiles F)

/-- Operation `N` of the matrix unit. -/
def op (N : ℕ) (s : Mxu F) : Mxu F :=
  bif Nat.blt (N % 194) 192 then
    bif Nat.blt (N % 194 % 4) 2 then
      s.pushed (two (N % 194 % 4)) (two (N % 194 / 4)) T.tr (T.b (pieceB (N % 194 / 32)) (2 * (N / 194) + N % 194 % 4) (N % 194 / 4 % 8))
    else
      s.accLhs (two (N % 194 % 4)) (two (N % 194 / 4)) (addr (N / 194)) (T.a (pieceA (N % 194 / 32)) (N % 194 / 4 % 8)) (fits_addr _)
  else s.pop (two (N % 194)) (addr (N / 194)) 512 (fits_addr _)

/-- The state after `N` operations. -/
def st : ℕ → Mxu F
  | 0 => Mxu.init
  | N + 1 => op T N (st N)

theorem st_zero : st T 0 = Mxu.init := rfl
theorem st_succ (N : ℕ) : st T (N + 1) = op T N (st T N) := rfl

attribute [irreducible] st

/-- The second factor's tile of step `t` of group `n` on unit `q`, -/
abbrev tileB (n q t : ℕ) : FVec F (Mxu.STile 256) .bf16 := T.b (pieceB (t / 8)) (2 * n + q) (t % 8)
/-- and the first factor's. -/
abbrev tileA (t : ℕ) : FVec F (Mxu.STile 512) .bf16 := T.a (pieceA (t / 8)) (t % 8)

theorem op_push {N n q t : ℕ} (hN : N = 194 * n + 4 * t + q) (hq : q < 2) (ht : t < 48) (s : Mxu F) :
    op T N s = s.pushed (two q) (two t) T.tr (tileB T n q t) := by
  subst hN
  have h1 : (194 * n + 4 * t + q) % 194 = 4 * t + q := by omega
  have h2 : (194 * n + 4 * t + q) / 194 = n := by omega
  have h3 : (4 * t + q) % 4 = q := by omega
  have h4 : (4 * t + q) / 4 = t := by omega
  have h5 : (4 * t + q) / 32 = t / 8 := by omega
  unfold op
  simp only [h1, h2, h3, h4, h5, show Nat.blt (4 * t + q) 192 = true by simp only [Nat.blt_eq]; omega,
    show Nat.blt q 2 = true by simp only [Nat.blt_eq]; omega, cond_true]

theorem op_acc {N n q t : ℕ} (hN : N = 194 * n + 4 * t + 2 + q) (hq : q < 2) (ht : t < 48) (s : Mxu F) :
    op T N s = s.accLhs (two q) (two t) (addr n) (tileA T t) (fits_addr n) := by
  subst hN
  have h1 : (194 * n + 4 * t + 2 + q) % 194 = 4 * t + 2 + q := by omega
  have h2 : (194 * n + 4 * t + 2 + q) / 194 = n := by omega
  have h3 : (4 * t + 2 + q) % 4 = 2 + q := by omega
  have h4 : (4 * t + 2 + q) / 4 = t := by omega
  have h5 : (4 * t + 2 + q) / 32 = t / 8 := by omega
  have h6 : two (2 + q) = two q := Fin.ext (by unfold two; simp only; omega)
  unfold op
  simp only [h1, h2, h3, h4, h5, h6, show Nat.blt (4 * t + 2 + q) 192 = true by simp only [Nat.blt_eq]; omega,
    show Nat.blt (2 + q) 2 = false by rw [Bool.eq_false_iff, ne_eq, Nat.blt_eq]; omega, cond_true, cond_false]

theorem op_pop {N n q : ℕ} (hN : N = 194 * n + 192 + q) (hq : q < 2) (s : Mxu F) :
    op T N s = s.pop (two q) (addr n) 512 (fits_addr n) := by
  subst hN
  have h1 : (194 * n + 192 + q) % 194 = 192 + q := by omega
  have h2 : (194 * n + 192 + q) / 194 = n := by omega
  have h6 : two (192 + q) = two q := Fin.ext (by unfold two; simp only; omega)
  unfold op
  simp only [h1, h2, h6, show Nat.blt (192 + q) 192 = false by rw [Bool.eq_false_iff, ne_eq, Nat.blt_eq]; omega, cond_false]

/-- The state after a push, -/
theorem st_push (n q t : ℕ) (hq : q < 2) (ht : t < 48) :
    (st T (194 * n + 4 * t + q)).pushed (two q) (two t) T.tr (tileB T n q t) = st T (194 * n + 4 * t + q + 1) := by
  rw [st_succ, op_push T rfl hq ht]

/-- after an accumulate -/
theorem st_acc (n q t : ℕ) (hq : q < 2) (ht : t < 48) {u : Mxu F} (hu : u = st T (194 * n + 4 * t + 2 + q)) :
    u.accLhs (two q) (two t) (addr n) (tileA T t) (fits_addr n) = st T (194 * n + 4 * t + 2 + q + 1) := by
  rw [st_succ, op_acc T rfl hq ht, hu]

/-- and after a pop. -/
theorem st_pop (n q : ℕ) (hq : q < 2) {u : Mxu F} (hu : u = st T (194 * n + 192 + q)) :
    u.pop (two q) (addr n) 512 (fits_addr n) = st T (194 * n + 192 + q + 1) := by
  rw [st_succ, op_pop T rfl hq, hu]

/-- What one step makes of a state. -/
def step (n t : ℕ) (s : Mxu F) : Mxu F :=
  (((s.pushed 0 (two t) T.tr (tileB T n 0 t)).pushed 1 (two t) T.tr (tileB T n 1 t)).accLhs 0 (two t) (addr n) (tileA T t) (fits_addr n)).accLhs
    1 (two t) (addr n) (tileA T t) (fits_addr n)

theorem st_step (n : ℕ) {t : ℕ} (ht : t < 48) : st T (194 * n + 4 * (t + 1)) = step T n t (st T (194 * n + 4 * t)) := by
  rw [show 194 * n + 4 * (t + 1) = 194 * n + 4 * t + 1 + 1 + 1 + 1 by omega]
  rw [st_succ, st_succ, st_succ, st_succ, op_acc T (n := n) (q := 1) (t := t) (by omega) (by omega) ht, op_acc T (n := n) (q := 0) (t := t) (by omega) (by omega) ht,
    op_push T (n := n) (q := 1) (t := t) (by omega) (by omega) ht, op_push T (n := n) (q := 0) (t := t) (by omega) (by omega) ht]
  rfl

theorem st_next (n : ℕ) : st T (194 * (n + 1)) = ((st T (194 * n + 4 * 48)).pop 0 (addr n) 512 (fits_addr n)).pop 1 (addr n) 512 (fits_addr n) := by
  rw [show 194 * (n + 1) = 194 * n + 192 + 1 + 1 by omega]
  rw [st_succ, st_succ, op_pop T (n := n) (q := 1) (by omega) (by omega), op_pop T (n := n) (q := 0) (by omega) (by omega)]
  rfl

/-! ## The registers -/

/-- No register holds a tile. -/
def Empty (s : Mxu F) : Prop := ∀ q r, s.reg q r = none

theorem empty_step (n t : ℕ) {s : Mxu F} (h : Empty s) : Empty (step T n t s) := by
  intro q r
  unfold step
  by_cases h1 : q = 1 ∧ r = two t
  · obtain ⟨rfl, rfl⟩ := h1; exact Mxu.reg_accLhs ..
  rw [Mxu.reg_accLhs_ne _ _ _ _ _ _ _ _ h1]
  by_cases h0 : q = 0 ∧ r = two t
  · obtain ⟨rfl, rfl⟩ := h0; exact Mxu.reg_accLhs ..
  rw [Mxu.reg_accLhs_ne _ _ _ _ _ _ _ _ h0, Mxu.reg_pushed_ne _ _ _ _ _ _ _ h1, Mxu.reg_pushed_ne _ _ _ _ _ _ _ h0]
  exact h q r

theorem empty_steps (n : ℕ) (h : Empty (st T (194 * n))) (t : ℕ) (ht : t ≤ 48) : Empty (st T (194 * n + 4 * t)) := by
  induction t with
  | zero => exact h
  | succ t ih => rw [st_step T n (by omega)]; exact empty_step T n t (ih (by omega))

theorem empty_group (n : ℕ) : Empty (st T (194 * n)) := by
  induction n with
  | zero => intro q r; rw [st_zero]; exact Mxu.reg_init q r
  | succ n ih =>
    rw [st_next]
    intro q r
    simp only [Mxu.reg_pop]
    exact empty_steps T n ih 48 le_rfl q r

/-- The first push of a step finds its register empty, -/
theorem pushOk0 (n t : ℕ) (ht : t ≤ 48) (tr : Bool) (r : Fin 2) : (st T (194 * n + 4 * t)).PushOk 0 r tr :=
  Mxu.pushOk_of_none _ _ _ _ (empty_steps T n (empty_group T n) t ht 0 r)

/-- and so does the second. -/
theorem pushOk1 (n t : ℕ) (ht : t < 48) (tr : Bool) (r : Fin 2) : (st T (194 * n + 4 * t + 1)).PushOk 1 r tr := by
  refine Mxu.pushOk_of_none _ _ _ _ ?_
  rw [st_succ, op_push T (n := n) (q := 0) (t := t) (by omega) (by omega) ht, Mxu.reg_pushed_ne _ _ _ _ _ _ _ (fun h => absurd h.1 (by decide))]
  exact empty_steps T n (empty_group T n) t (by omega) 1 r

/-! ## The accumulators -/

/-- Live rows are the group's own. -/
def LiveIn (n : ℕ) (s : Mxu F) : Prop := ∀ q (R : Fin 1024), s.live q R = true → 4 * addr n ≤ R.val ∧ R.val < 4 * addr n + 512

theorem liveIn_step (n t : ℕ) {s : Mxu F} (h : LiveIn n s) : LiveIn n (step T n t s) := by
  intro q R hl
  unfold step at hl
  rw [Mxu.live_accLhs] at hl
  split at hl
  · rename_i hc; exact hc.2
  rw [Mxu.live_accLhs] at hl
  split at hl
  · rename_i hc; exact hc.2
  rw [Mxu.live_pushed, Mxu.live_pushed] at hl
  exact h q R hl

theorem liveIn_steps (n : ℕ) (h : ∀ q R, (st T (194 * n)).live q R = false) (t : ℕ) (ht : t ≤ 48) : LiveIn n (st T (194 * n + 4 * t)) := by
  induction t with
  | zero => intro q R hl; exact absurd ((h q R).symm.trans hl) (by decide)
  | succ t ih => rw [st_step T n (by omega)]; exact liveIn_step T n t (ih (by omega))

theorem dead_group (n : ℕ) : ∀ q R, (st T (194 * n)).live q R = false := by
  induction n with
  | zero => intro q R; rw [st_zero]; exact Mxu.live_init q R
  | succ n ih =>
    intro q R
    rw [st_next, Mxu.live_pop]
    split
    · rfl
    rename_i h1
    rw [Mxu.live_pop]
    split
    · rfl
    rename_i h0
    refine Bool.eq_false_iff.mpr fun hl => ?_
    have hr := liveIn_steps T n ih 48 le_rfl q R hl
    match q with
    | 0 => exact h0 ⟨rfl, hr⟩
    | 1 => exact h1 ⟨rfl, hr⟩

/-- After the last group the matrix unit is drained. -/
theorem drained (n : ℕ) : (st T (194 * n)).Drained :=
  ⟨fun q r => by rw [empty_group T n q r]; rfl, fun q R => dead_group T n q R⟩

/-- What step `t` adds on unit `q`. -/
def pass (n q t : ℕ) : FVec F (Mxu.STile 512) .f32 := (⟨.bf16, T.tr, tileB T n q t⟩ : Mxu.Staged F).pass (tileA T t)

theorem live_step (n t : ℕ) (q : Fin 2) (s : Mxu F) (r : Fin 512) : (step T n t s).live q (Mxu.row (fits_addr n) r) = true := by
  unfold step
  match q with
  | 1 => exact Mxu.live_accLhs_row ..
  | 0 =>
    rw [Mxu.live_accLhs]
    split
    · rfl
    exact Mxu.live_accLhs_row ..

theorem staged0 (n t : ℕ) {s : Mxu F} (h : Empty s) :
    ((s.pushed 0 (two t) T.tr (tileB T n 0 t)).pushed 1 (two t) T.tr (tileB T n 1 t)).staged 0 (two t) = ⟨.bf16, T.tr, tileB T n 0 t⟩ := by
  rw [Mxu.staged_eq, Mxu.reg_pushed_ne _ _ _ _ _ _ _ (fun h => absurd h.1 (by decide)), Mxu.reg_pushed_of_none _ _ _ _ _ (h _ _)]
  rfl

theorem staged1 (n t : ℕ) {s : Mxu F} (h : Empty s) :
    (((s.pushed 0 (two t) T.tr (tileB T n 0 t)).pushed 1 (two t) T.tr (tileB T n 1 t)).accLhs 0 (two t) (addr n) (tileA T t) (fits_addr n)).staged 1 (two t)
      = ⟨.bf16, T.tr, tileB T n 1 t⟩ := by
  rw [Mxu.staged_eq, Mxu.reg_accLhs_ne _ _ _ _ _ _ _ _ (fun h => absurd h.1 (by decide)), Mxu.reg_pushed_of_none]
  · rfl
  rw [Mxu.reg_pushed_ne _ _ _ _ _ _ _ (fun h => absurd h.1 (by decide))]
  exact h _ _

/-- A step into rows not live leaves its pass; -/
theorem read_step_dead (n t : ℕ) (q : Fin 2) {s : Mxu F} (h : Empty s) (hd : ∀ q R, s.live q R = false) :
    (step T n t s).read q (addr n) (fits_addr n) = pass T n q t := by
  unfold step pass
  match q with
  | 0 =>
    rw [Mxu.read_accLhs_ne _ _ _ _ _ _ _ _ _ (Or.inl (by decide)), Mxu.read_accLhs_of_not_live _ _ _ _ _ _ (fun r => by simp only [Mxu.live_pushed]; exact hd _ _), staged0 T n t h]
    rfl
  | 1 =>
    rw [Mxu.read_accLhs_of_not_live, staged1 T n t h]
    · rfl
    intro r
    rw [Mxu.live_accLhs, if_neg (fun h => absurd h.1 (by decide)), Mxu.live_pushed, Mxu.live_pushed]
    exact hd _ _

/-- into live rows, the rows plus its pass. -/
theorem read_step_live (n t : ℕ) (q : Fin 2) {s : Mxu F} (h : Empty s) (hl : ∀ q r, s.live q (Mxu.row (fits_addr n) r) = true) :
    (step T n t s).read q (addr n) (fits_addr n) = addf (s.read q (addr n) (fits_addr n)) (pass T n q t) := by
  unfold step pass
  match q with
  | 0 =>
    rw [Mxu.read_accLhs_ne _ _ _ _ _ _ _ _ _ (Or.inl (by decide)), Mxu.read_accLhs_of_live _ _ _ _ _ _ (fun r => by simp only [Mxu.live_pushed]; exact hl _ _), staged0 T n t h,
      Mxu.read_pushed, Mxu.read_pushed]
    rfl
  | 1 =>
    rw [Mxu.read_accLhs_of_live, staged1 T n t h, Mxu.read_accLhs_ne _ _ _ _ _ _ _ _ _ (Or.inl (by decide)), Mxu.read_pushed, Mxu.read_pushed]
    · rfl
    intro r
    rw [Mxu.live_accLhs, if_neg (fun h => absurd h.1 (by decide)), Mxu.live_pushed, Mxu.live_pushed]
    exact hl _ _

/-- The sum of the passes of steps `0 … t`, in the order taken. -/
def total (n q : ℕ) : ℕ → FVec F (Mxu.STile 512) .f32
  | 0 => pass T n q 0
  | t + 1 => addf (total n q t) (pass T n q (t + 1))

theorem live_st (n t : ℕ) (ht : t < 48) (q : Fin 2) (r : Fin 512) : (st T (194 * n + 4 * (t + 1))).live q (Mxu.row (fits_addr n) r) = true := by
  rw [st_step T n ht]; exact live_step T n t q _ r

theorem read_st (n : ℕ) (q : Fin 2) (t : ℕ) (ht : t < 48) : (st T (194 * n + 4 * (t + 1))).read q (addr n) (fits_addr n) = total T n q t := by
  induction t with
  | zero =>
    rw [st_step T n (by omega)]
    exact read_step_dead T n 0 q (empty_group T n) (dead_group T n)
  | succ t ih =>
    rw [st_step T n ht, read_step_live T n (t + 1) q (empty_steps T n (empty_group T n) (t + 1) (by omega)) (fun q r => live_st T n t (by omega) q r), ih (by omega)]
    rfl

/-- What the pop of unit `0` reads, -/
theorem read0 (n : ℕ) : (st T (194 * n + 192)).read 0 (addr n) (fits_addr n) = total T n 0 47 := read_st T n 0 47 (by decide)

/-- and what the pop of unit `1` reads. -/
theorem read1 (n : ℕ) : (st T (194 * n + 193)).read 1 (addr n) (fits_addr n) = total T n 1 47 := by
  rw [st_succ, op_pop T (n := n) (q := 0) (by omega) (by omega), Mxu.read_pop_ne _ _ _ _ _ _ _ (Or.inl (by decide))]
  exact read_st T n 1 47 (by decide)

end Cert.Mm

end
-- ==== Proof.MmTile.lean ====
/-
  The tiles the two products read from their factors' pieces, and the blocks they store, in the order stored.
-/
module

public import proofs.«01_k».proof.Proof.MmSpec
public import Idealize.ShloMosaic.Lib.Pipeline.FrameBody

@[expose] public section

noncomputable section

namespace Cert.Mm

open Idealize.ShloMosaic

variable {F : FTy → Type} [FloatOps F]

abbrev SB : Shape := ⟨3, ![3, 2048, 2048]⟩
abbrev SA : Shape := ⟨3, ![3, 512, 2048]⟩
abbrev SO : Shape := ⟨2, ![512, 2048]⟩
abbrev SB1 : Shape := ⟨3, ![1, 256, 256]⟩
abbrev SA1 : Shape := ⟨3, ![1, 512, 256]⟩
abbrev SP1 : Shape := ⟨3, ![1, 512, 2048]⟩

theorem inB (j p q : ℕ) : ∀ a, (![j % 3, 256 * (p % 8), 256 * (q % 8)] : Fin 3 → ℕ) a + SB1.size a ≤ SB.size a := by
  intro a
  match a with
  | 0 => show j % 3 + 1 ≤ 3; omega
  | 1 => show 256 * (p % 8) + 256 ≤ 2048; omega
  | 2 => show 256 * (q % 8) + 256 ≤ 2048; omega

theorem inA (i k : ℕ) : ∀ a, (![i % 3, 0, 256 * (k % 8)] : Fin 3 → ℕ) a + SA1.size a ≤ SA.size a := by
  intro a
  match a with
  | 0 => show i % 3 + 1 ≤ 3; omega
  | 1 => show 0 + 512 ≤ 512; omega
  | 2 => show 256 * (k % 8) + 256 ≤ 2048; omega

theorem inO (j : ℕ) : ∀ a, (![0, 256 * (j % 8)] : Fin 2 → ℕ) a + (Mxu.STile 512).size a ≤ SO.size a := by
  intro a
  match a with
  | 0 => show 0 + 512 ≤ 512; omega
  | 1 => show 256 * (j % 8) + 256 ≤ 2048; omega

theorem inP (i : ℕ) : ∀ a, (![i % 3, 0, 0] : Fin 3 → ℕ) a + SP1.size a ≤ SA.size a := by
  intro a
  match a with
  | 0 => show i % 3 + 1 ≤ 3; omega
  | 1 => show 0 + 512 ≤ 512; omega
  | 2 => show 0 + 2048 ≤ 2048; omega

/-- Tile `(p, q)` of piece `j` of the second factor, -/
def rB (j p q : ℕ) : Rect SB := Rect.unit (s := SB) ![j % 3, 256 * (p % 8), 256 * (q % 8)] SB1.size (inB j p q)
/-- tile `k` of piece `i` of the first, -/
def rA (i k : ℕ) : Rect SA := Rect.unit (s := SA) ![i % 3, 0, 256 * (k % 8)] SA1.size (inA i k)
/-- all of piece `i` of the first, -/
def rP (i : ℕ) : Rect SA := Rect.unit (s := SA) ![i % 3, 0, 0] SP1.size (inP i)
/-- and block `j` of the result. -/
def rO (j : ℕ) : Rect SO := Rect.unit (s := SO) ![0, 256 * (j % 8)] (Mxu.STile 512).size (inO j)

/-- The tiles of the product with a transposed second factor, -/
def tilesT (A : Vec F SA .bf16) (B : Vec F SB .bf16) : Tiles F :=
  ⟨true, fun j c k => shapeCast (Mxu.STile 256) (View.ld B (rB j c k)) (show SB1.ShapeCasts _ by decide),
    fun i k => shapeCast (Mxu.STile 512) (View.ld A (rA i k)) (show SA1.ShapeCasts _ by decide)⟩

/-- and of the plain product. -/
def tilesN (A : Vec F SA .bf16) (B : Vec F SB .bf16) : Tiles F :=
  ⟨false, fun j c k => shapeCast (Mxu.STile 256) (View.ld B (rB j k c)) (show SB1.ShapeCasts _ by decide),
    fun i k => shapeCast (Mxu.STile 512) (View.ld A (rA i k)) (show SA1.ShapeCasts _ by decide)⟩

/-- What is stored in block `j` of the result: unit `j % 2`'s rows at the end of group `j / 2`. -/
def outP (T : Tiles F) (j : ℕ) : FVec F (Mxu.STile 512) .f32 :=
  bif Nat.blt (j % 2) 1 then (st T (194 * (j / 2) + 192)).read 0 (addr (j / 2)) (fits_addr _)
  else (st T (194 * (j / 2) + 193)).read 1 (addr (j / 2)) (fits_addr _)

theorem outP0 (T : Tiles F) (n : ℕ) {u : Mxu F} (hu : u = st T (194 * n + 192)) : u.read 0 (addr n) (fits_addr n) = outP T (2 * n) := by
  have h1 : 2 * n % 2 = 0 := by omega
  have h2 : 2 * n / 2 = n := by omega
  subst hu
  unfold outP
  simp only [h1, h2, show Nat.blt 0 1 = true from rfl, cond_true]
  exact (show ∀ k, k = n → (st T (194 * n + 192)).read 0 (addr n) (fits_addr n) = (st T (194 * n + 192)).read 0 (addr k) (fits_addr k) by
    rintro _ rfl; rfl) _ h2

theorem outP1 (T : Tiles F) (n : ℕ) {u : Mxu F} (hu : u = st T (194 * n + 193)) : u.read 1 (addr n) (fits_addr n) = outP T (2 * n + 1) := by
  have h1 : (2 * n + 1) % 2 = 1 := by omega
  have h2 : (2 * n + 1) / 2 = n := by omega
  subst hu
  unfold outP
  simp only [h1, h2, show Nat.blt 1 1 = false from rfl, cond_false]
  exact (show ∀ k, k = n → (st T (194 * n + 193)).read 1 (addr n) (fits_addr n) = (st T (194 * n + 193)).read 1 (addr k) (fits_addr k) by
    rintro _ rfl; rfl) _ h2

/-- The first `j` stores, the last first. -/
def pcs (T : Tiles F) : ℕ → List (View.Piece (Elt F) SO .f32)
  | 0 => []
  | j + 1 => ⟨rO j, outP T j⟩ :: pcs T j

theorem pcs_zero (T : Tiles F) : pcs T 0 = [] := rfl

theorem pcs_succ (T : Tiles F) (j : ℕ) {w : FVec F (Mxu.STile 512) .f32} (h : w = outP T j) : (⟨rO j, w⟩ :: pcs T j) = pcs T (j + 1) := by
  rw [h]; rfl

attribute [irreducible] pcs outP

/-- All eight, written out. -/
theorem pcs_eight (T : Tiles F) : pcs T 8 = [⟨rO 7, outP T 7⟩, ⟨rO 6, outP T 6⟩, ⟨rO 5, outP T 5⟩, ⟨rO 4, outP T 4⟩, ⟨rO 3, outP T 3⟩,
    ⟨rO 2, outP T 2⟩, ⟨rO 1, outP T 1⟩, ⟨rO 0, outP T 0⟩] := by
  simp only [← pcs_succ T _ rfl, pcs_zero]

/-- They cover the block. -/
theorem cover_pcs (T : Tiles F) (y : SO.Idx) : ∃ pc ∈ pcs T 8, y ∈ pc.1.set := by
  rw [pcs_eight]
  exact View.cover_of_tiled ([⟨rO 7, outP T 7⟩, ⟨rO 6, outP T 6⟩, ⟨rO 5, outP T 5⟩, ⟨rO 4, outP T 4⟩, ⟨rO 3, outP T 3⟩,
    ⟨rO 2, outP T 2⟩, ⟨rO 1, outP T 1⟩, ⟨rO 0, outP T 0⟩] : List (View.Piece (Elt F) SO .f32)) (Mxu.STile 512).size (by rfl) y

/-- Two equal pairs. -/
theorem pair_eq {α β : Type} {a a' : α} {b b' : β} (ha : a = a') (hb : b = b') : (⟨a, b⟩ : Σ' _ : α, β) = ⟨a', b'⟩ := by
  rw [ha, hb]

end Cert.Mm

end
-- ==== Proof.MmStep.lean ====
/-
  The rules for the matrix unit's operations in the order the products take them: a push or an accumulate, met in the state that
  operation number `N` leaves, goes to the state of number `N + 1`.
-/
module

public import proofs.«01_k».proof.Proof.MmRules
public import proofs.«01_k».proof.Proof.MmTile

@[expose] public section

noncomputable section

namespace Cert.Straight

open Idealize.ShloMosaic Idealize.ShloMosaic.TcCoe Idealize.SL.Sem Cert.Mm

variable {F : FTy → Type} [FloatOps F] {nD : ℕ} {τ : Topo} {sig : RefSig} {Λ : Labels}
  {defs : Defs nD τ sig (Elt F) Λ} {X : Ctx F nD τ sig} {β : Type}
  {f3 f3' : Buf (Elt F) (X.a3.view.loc (X.c : Thread nD τ))} {f4 f4' : Buf (Elt F) (X.a4.view.loc (X.c : Thread nD τ))}

/-- The push of step `t` of group `n` on unit `0`, -/
theorem Run.push0 (T : Tiles F) (n t : ℕ) {u : Mxu F} (hs : u = st T (194 * n + 4 * t))
    {k : Mxu F → Prog (TpuEff nD τ sig (Elt F) Λ .tc) β} {b : β} (h : Run defs X (k (st T (194 * n + 4 * t + 1))) f3 f4 b f3' f4')
    (ht : t < 48 := by decide) : Run defs X (u.pushRhs (two 0) (two t) T.tr (tileB T n 0 t) >>= k) f3 f4 b f3' f4' :=
  Run.push (st T (194 * n + 4 * t)) _ (pushOk0 T n t ht.le _ _) (st_push T n 0 t (by decide) ht) hs h

/-- and on unit `1`. -/
theorem Run.push1 (T : Tiles F) (n t : ℕ) {u : Mxu F} (hs : u = st T (194 * n + 4 * t + 1))
    {k : Mxu F → Prog (TpuEff nD τ sig (Elt F) Λ .tc) β} {b : β} (h : Run defs X (k (st T (194 * n + 4 * t + 1 + 1))) f3 f4 b f3' f4')
    (ht : t < 48 := by decide) : Run defs X (u.pushRhs (two 1) (two t) T.tr (tileB T n 1 t) >>= k) f3 f4 b f3' f4' :=
  Run.push (st T (194 * n + 4 * t + 1)) _ (pushOk1 T n t ht _ _) (st_push T n 1 t (by decide) ht) hs h

/-- The accumulate of step `t` of group `n` on unit `0`, -/
theorem acc0 (T : Tiles F) (n t : ℕ) {u : Mxu F} (hu : u = st T (194 * n + 4 * t + 2)) (ht : t < 48 := by decide) :
    u.accLhs (two 0) (two t) (addr n) (tileA T t) (fits_addr n) = st T (194 * n + 4 * t + 3) := st_acc T n 0 t (by decide) ht hu

/-- on unit `1`, -/
theorem acc1 (T : Tiles F) (n t : ℕ) {u : Mxu F} (hu : u = st T (194 * n + 4 * t + 3)) (ht : t < 48 := by decide) :
    u.accLhs (two 1) (two t) (addr n) (tileA T t) (fits_addr n) = st T (194 * n + 4 * t + 4) := st_acc T n 1 t (by decide) ht hu

/-- and on both. -/
theorem acc2 (T : Tiles F) (n t : ℕ) (ht : t < 48 := by decide) :
    ((st T (194 * n + 4 * t + 2)).accLhs (two 0) (two t) (addr n) (tileA T t) (fits_addr n)).accLhs (two 1) (two t) (addr n) (tileA T t) (fits_addr n)
      = st T (194 * n + 4 * t + 4) := acc1 T n t (acc0 T n t rfl ht) ht

end Cert.Straight

end
-- ==== Proof.MmTIdealWalk0.lean ====
/-
  The pieces the first factor is split into, and the body's memrefs.
-/
module

public import proofs.«01_k».proof.Proof.MmStep
public import proofs.«01_k».proof.Proof.Gen.MmTIdeal.Skeleton
public import proofs.«01_k».proof.Proof.Gen.MmTIdeal.Launch

@[expose] public section

set_option maxRecDepth 16384

noncomputable section

namespace Cert.MmTIdeal.HandFrame

open Idealize.ShloMosaic Idealize.ShloMosaic.TcCoe Idealize.SL.Sem Cert.MmTIdeal.Gen Cert.Mm Cert.Straight

variable {F : FTy → Type} [FloatOps F]

/-- The body's memrefs and the contents of the two it only reads. -/
abbrev ctx (c : Dev nD) (arg1 : Memref sig .tc .vmem S512x2048 .f32) (arg2 : Memref sig .tc .vmem S3x2048x2048 .bf16) (arg3 : Memref sig .tc .vmem S512x2048 .f32) (arg4 : Memref sig .tc .vmem S3x512x2048 .bf16)
    (f1 : Buf (Elt F) (arg1.view.loc (c : Thread nD τ))) (f2 : Buf (Elt F) (arg2.view.loc (c : Thread nD τ))) : Ctx F nD τ sig :=
  ⟨c, _, _, _, _, _, _, _, _, arg1, arg2, arg3, arg4, f1, f2⟩

/-- The three stores of the first factor's pieces, the last first: the block rounded, its remainder rounded, the second remainder. -/
def slabs (x : Vec F S512x2048 .f32) : List (View.Piece (Elt F) SA .bf16) :=
  [⟨rP 2, k0_pay6 (View.ld x (Rect.unit (s := S512x2048) ![0, 0] S512x2048.size inb_S512x2048_S512x2048_0_0))⟩,
    ⟨rP 1, k0_pay5 (View.ld x (Rect.unit (s := S512x2048) ![0, 0] S512x2048.size inb_S512x2048_S512x2048_0_0))⟩,
    ⟨rP 0, k0_pay4 (View.ld x (Rect.unit (s := S512x2048) ![0, 0] S512x2048.size inb_S512x2048_S512x2048_0_0))⟩]

end Cert.MmTIdeal.HandFrame

end
-- ==== Proof.MmTIdealWalk1.lean ====
/-
  Parts 1 to 21 of the body, each run from one state of the matrix unit to a later one.
-/
module

public import proofs.«01_k».proof.Proof.MmTIdealWalk0

@[expose] public section

set_option maxRecDepth 16384

noncomputable section

namespace Cert.MmTIdeal.HandFrame

open Idealize.ShloMosaic Idealize.ShloMosaic.TcCoe Idealize.SL.Sem Cert.MmTIdeal.Gen Cert.Mm Cert.Straight

variable {F : FTy → Type} [FloatOps F]

variable (c : Dev nD) (i : grid0.Coords) (arg1 : Memref sig .tc .vmem S512x2048 .f32) (harg1 : arg1.IsWhole) (arg2 : Memref sig .tc .vmem S3x2048x2048 .bf16) (harg2 : arg2.IsWhole) (arg3 : Memref sig .tc .vmem S512x2048 .f32) (harg3 : arg3.IsWhole) (arg4 : Memref sig .tc .vmem S3x512x2048 .bf16) (harg4 : arg4.IsWhole)
  (f1 : Buf (Elt F) (arg1.view.loc (c : Thread nD τ))) (f2 : Buf (Elt F) (arg2.view.loc (c : Thread nD τ)))
  (f3 : Buf (Elt F) (arg3.view.loc (c : Thread nD τ))) (f4 : Buf (Elt F) (arg4.view.loc (c : Thread nD τ)))
  (A : Vec F SA .bf16) (B : Vec F SB .bf16)

/-- Part 1 of the body. -/
theorem run1 (x : Vec F S512x2048 .f32) (hx : arg1.view.read (Elt F) f1 = x)
    (hA : arg4.view.read (Elt F) (arg4.view.writes (Elt F) f4 (slabs x)) = A) (hB : arg2.view.read (Elt F) f2 = B) :
    Run (defs₀ (F := F)) (ctx c arg1 arg2 arg3 arg4 f1 f2) (k0_part1 i arg1 harg1 arg2 harg2 arg3 harg3 arg4 harg4) (arg3.view.writes (Elt F) f3 (pcs (tilesT A B) 0)) (arg4.view.writes (Elt F) f4 [])
      (st (tilesT A B) 5) (arg3.view.writes (Elt F) f3 (pcs (tilesT A B) 0)) (arg4.view.writes (Elt F) f4 (slabs x)) := by
  subst hx
  rw [k0_part1_eq_skeleton]
  unfold k0_part1_skel
  dsimp only
  refine Run.load1 ?_
  refine Run.load4 rfl ?_
  refine Run.store4 ?_
  refine Run.load4 rfl ?_
  refine Run.store4 ?_
  refine Run.load4 rfl ?_
  refine Run.store4 ?_
  refine Run.load2 hB ?_
  refine Run.push0 (tilesT A B) 0 0 (st_zero (tilesT A B)).symm ?_
  refine Run.load2 hB ?_
  refine Run.push1 (tilesT A B) 0 0 rfl ?_
  refine Run.load4 hA ?_
  refine Run.load2 hB ?_
  refine Run.push0 (tilesT A B) 0 1 (acc2 (tilesT A B) 0 0) ?_
  exact Run.ret rfl

/-- Part 2 of the body. -/
theorem run2 (hA : arg4.view.read (Elt F) f4 = A) (hB : arg2.view.read (Elt F) f2 = B) :
    Run (defs₀ (F := F)) (ctx c arg1 arg2 arg3 arg4 f1 f2) (k0_part2 i arg1 harg1 arg2 harg2 arg3 harg3 arg4 harg4 (st (tilesT A B) 5)) (arg3.view.writes (Elt F) f3 (pcs (tilesT A B) 0)) f4
      ⟨(st (tilesT A B) 17), ((tilesT A B).b 2 1 4)⟩ (arg3.view.writes (Elt F) f3 (pcs (tilesT A B) 0)) f4 := by
  rw [k0_part2_eq_skeleton]
  unfold k0_part2_skel
  dsimp only
  refine Run.load2 hB ?_
  refine Run.push1 (tilesT A B) 0 1 rfl ?_
  refine Run.load4 hA ?_
  refine Run.load2 hB ?_
  refine Run.push0 (tilesT A B) 0 2 (acc2 (tilesT A B) 0 1) ?_
  refine Run.load2 hB ?_
  refine Run.push1 (tilesT A B) 0 2 rfl ?_
  refine Run.load4 hA ?_
  refine Run.load2 hB ?_
  refine Run.push0 (tilesT A B) 0 3 (acc2 (tilesT A B) 0 2) ?_
  refine Run.load2 hB ?_
  refine Run.push1 (tilesT A B) 0 3 rfl ?_
  refine Run.load4 hA ?_
  refine Run.load2 hB ?_
  refine Run.push0 (tilesT A B) 0 4 (acc2 (tilesT A B) 0 3) ?_
  refine Run.load2 hB ?_
  exact Run.ret (pair_eq rfl rfl)

/-- Part 3 of the body. -/
theorem run3 (hA : arg4.view.read (Elt F) f4 = A) (hB : arg2.view.read (Elt F) f2 = B) :
    Run (defs₀ (F := F)) (ctx c arg1 arg2 arg3 arg4 f1 f2) (k0_part3 i arg1 harg1 arg2 harg2 arg3 harg3 arg4 harg4 (st (tilesT A B) 17) ((tilesT A B).b 2 1 4)) (arg3.view.writes (Elt F) f3 (pcs (tilesT A B) 0)) f4
      (st (tilesT A B) 30) (arg3.view.writes (Elt F) f3 (pcs (tilesT A B) 0)) f4 := by
  rw [k0_part3_eq_skeleton]
  unfold k0_part3_skel
  dsimp only
  refine Run.push1 (tilesT A B) 0 4 rfl ?_
  refine Run.load4 hA ?_
  refine Run.load2 hB ?_
  refine Run.push0 (tilesT A B) 0 5 (acc2 (tilesT A B) 0 4) ?_
  refine Run.load2 hB ?_
  refine Run.push1 (tilesT A B) 0 5 rfl ?_
  refine Run.load4 hA ?_
  refine Run.load2 hB ?_
  refine Run.push0 (tilesT A B) 0 6 (acc2 (tilesT A B) 0 5) ?_
  refine Run.load2 hB ?_
  refine Run.push1 (tilesT A B) 0 6 rfl ?_
  refine Run.load4 hA ?_
  refine Run.load2 hB ?_
  refine Run.push0 (tilesT A B) 0 7 (acc2 (tilesT A B) 0 6) ?_
  refine Run.load2 hB ?_
  refine Run.push1 (tilesT A B) 0 7 rfl ?_
  exact Run.ret rfl

/-- Part 4 of the body. -/
theorem run4 (hA : arg4.view.read (Elt F) f4 = A) (hB : arg2.view.read (Elt F) f2 = B) :
    Run (defs₀ (F := F)) (ctx c arg1 arg2 arg3 arg4 f1 f2) (k0_part4 i arg1 harg1 arg2 harg2 arg3 harg3 arg4 harg4 (st (tilesT A B) 30)) (arg3.view.writes (Elt F) f3 (pcs (tilesT A B) 0)) f4
      ⟨(st (tilesT A B) 42), ((tilesT A B).a 1 2)⟩ (arg3.view.writes (Elt F) f3 (pcs (tilesT A B) 0)) f4 := by
  rw [k0_part4_eq_skeleton]
  unfold k0_part4_skel
  dsimp only
  refine Run.load4 hA ?_
  refine Run.load2 hB ?_
  refine Run.push0 (tilesT A B) 0 8 (acc2 (tilesT A B) 0 7) ?_
  refine Run.load2 hB ?_
  refine Run.push1 (tilesT A B) 0 8 rfl ?_
  refine Run.load4 hA ?_
  refine Run.load2 hB ?_
  refine Run.push0 (tilesT A B) 0 9 (acc2 (tilesT A B) 0 8) ?_
  refine Run.load2 hB ?_
  refine Run.push1 (tilesT A B) 0 9 rfl ?_
  refine Run.load4 hA ?_
  refine Run.load2 hB ?_
  refine Run.push0 (tilesT A B) 0 10 (acc2 (tilesT A B) 0 9) ?_
  refine Run.load2 hB ?_
  refine Run.push1 (tilesT A B) 0 10 rfl ?_
  refine Run.load4 hA ?_
  exact Run.ret (pair_eq rfl rfl)

/-- Part 5 of the body. -/
theorem run5 (hA : arg4.view.read (Elt F) f4 = A) (hB : arg2.view.read (Elt F) f2 = B) :
    Run (defs₀ (F := F)) (ctx c arg1 arg2 arg3 arg4 f1 f2) (k0_part5 i arg1 harg1 arg2 harg2 arg3 harg3 arg4 harg4 (st (tilesT A B) 42) ((tilesT A B).a 1 2)) (arg3.view.writes (Elt F) f3 (pcs (tilesT A B) 0)) f4
      (st (tilesT A B) 56) (arg3.view.writes (Elt F) f3 (pcs (tilesT A B) 0)) f4 := by
  rw [k0_part5_eq_skeleton]
  unfold k0_part5_skel
  dsimp only
  refine Run.load2 hB ?_
  refine Run.push0 (tilesT A B) 0 11 (acc2 (tilesT A B) 0 10) ?_
  refine Run.load2 hB ?_
  refine Run.push1 (tilesT A B) 0 11 rfl ?_
  refine Run.load4 hA ?_
  refine Run.load2 hB ?_
  refine Run.push0 (tilesT A B) 0 12 (acc2 (tilesT A B) 0 11) ?_
  refine Run.load2 hB ?_
  refine Run.push1 (tilesT A B) 0 12 rfl ?_
  refine Run.load4 hA ?_
  refine Run.load2 hB ?_
  refine Run.push0 (tilesT A B) 0 13 (acc2 (tilesT A B) 0 12) ?_
  refine Run.load2 hB ?_
  refine Run.push1 (tilesT A B) 0 13 rfl ?_
  refine Run.load4 hA ?_
  exact Run.ret (acc2 (tilesT A B) 0 13)

/-- Part 6 of the body. -/
theorem run6 (hA : arg4.view.read (Elt F) f4 = A) (hB : arg2.view.read (Elt F) f2 = B) :
    Run (defs₀ (F := F)) (ctx c arg1 arg2 arg3 arg4 f1 f2) (k0_part6 i arg1 harg1 arg2 harg2 arg3 harg3 arg4 harg4 (st (tilesT A B) 56)) (arg3.view.writes (Elt F) f3 (pcs (tilesT A B) 0)) f4
      ⟨(st (tilesT A B) 68), (View.ld B (rB 0 0 1))⟩ (arg3.view.writes (Elt F) f3 (pcs (tilesT A B) 0)) f4 := by
  rw [k0_part6_eq_skeleton]
  unfold k0_part6_skel
  dsimp only
  refine Run.load2 hB ?_
  refine Run.push0 (tilesT A B) 0 14 rfl ?_
  refine Run.load2 hB ?_
  refine Run.push1 (tilesT A B) 0 14 rfl ?_
  refine Run.load4 hA ?_
  refine Run.load2 hB ?_
  refine Run.push0 (tilesT A B) 0 15 (acc2 (tilesT A B) 0 14) ?_
  refine Run.load2 hB ?_
  refine Run.push1 (tilesT A B) 0 15 rfl ?_
  refine Run.load4 hA ?_
  refine Run.load2 hB ?_
  refine Run.push0 (tilesT A B) 0 16 (acc2 (tilesT A B) 0 15) ?_
  refine Run.load2 hB ?_
  refine Run.push1 (tilesT A B) 0 16 rfl ?_
  refine Run.load4 hA ?_
  refine Run.load2 hB ?_
  exact Run.ret (pair_eq (acc2 (tilesT A B) 0 16) rfl)

/-- Part 7 of the body. -/
theorem run7 (hA : arg4.view.read (Elt F) f4 = A) (hB : arg2.view.read (Elt F) f2 = B) :
    Run (defs₀ (F := F)) (ctx c arg1 arg2 arg3 arg4 f1 f2) (k0_part7 i arg1 harg1 arg2 harg2 arg3 harg3 arg4 harg4 (st (tilesT A B) 68) (View.ld B (rB 0 0 1))) (arg3.view.writes (Elt F) f3 (pcs (tilesT A B) 0)) f4
      (st (tilesT A B) 81) (arg3.view.writes (Elt F) f3 (pcs (tilesT A B) 0)) f4 := by
  rw [k0_part7_eq_skeleton]
  unfold k0_part7_skel
  dsimp only
  refine Run.push0 (tilesT A B) 0 17 rfl ?_
  refine Run.load2 hB ?_
  refine Run.push1 (tilesT A B) 0 17 rfl ?_
  refine Run.load4 hA ?_
  refine Run.load2 hB ?_
  refine Run.push0 (tilesT A B) 0 18 (acc2 (tilesT A B) 0 17) ?_
  refine Run.load2 hB ?_
  refine Run.push1 (tilesT A B) 0 18 rfl ?_
  refine Run.load4 hA ?_
  refine Run.load2 hB ?_
  refine Run.push0 (tilesT A B) 0 19 (acc2 (tilesT A B) 0 18) ?_
  refine Run.load2 hB ?_
  refine Run.push1 (tilesT A B) 0 19 rfl ?_
  refine Run.load4 hA ?_
  refine Run.load2 hB ?_
  refine Run.push0 (tilesT A B) 0 20 (acc2 (tilesT A B) 0 19) ?_
  exact Run.ret rfl

/-- Part 8 of the body. -/
theorem run8 (hA : arg4.view.read (Elt F) f4 = A) (hB : arg2.view.read (Elt F) f2 = B) :
    Run (defs₀ (F := F)) (ctx c arg1 arg2 arg3 arg4 f1 f2) (k0_part8 i arg1 harg1 arg2 harg2 arg3 harg3 arg4 harg4 (st (tilesT A B) 81)) (arg3.view.writes (Elt F) f3 (pcs (tilesT A B) 0)) f4
      ⟨(st (tilesT A B) 93), (View.ld B (rB 0 1 7))⟩ (arg3.view.writes (Elt F) f3 (pcs (tilesT A B) 0)) f4 := by
  rw [k0_part8_eq_skeleton]
  unfold k0_part8_skel
  dsimp only
  refine Run.load2 hB ?_
  refine Run.push1 (tilesT A B) 0 20 rfl ?_
  refine Run.load4 hA ?_
  refine Run.load2 hB ?_
  refine Run.push0 (tilesT A B) 0 21 (acc2 (tilesT A B) 0 20) ?_
  refine Run.load2 hB ?_
  refine Run.push1 (tilesT A B) 0 21 rfl ?_
  refine Run.load4 hA ?_
  refine Run.load2 hB ?_
  refine Run.push0 (tilesT A B) 0 22 (acc2 (tilesT A B) 0 21) ?_
  refine Run.load2 hB ?_
  refine Run.push1 (tilesT A B) 0 22 rfl ?_
  refine Run.load4 hA ?_
  refine Run.load2 hB ?_
  refine Run.push0 (tilesT A B) 0 23 (acc2 (tilesT A B) 0 22) ?_
  refine Run.load2 hB ?_
  exact Run.ret (pair_eq rfl rfl)

/-- Part 9 of the body. -/
theorem run9 (hA : arg4.view.read (Elt F) f4 = A) (hB : arg2.view.read (Elt F) f2 = B) :
    Run (defs₀ (F := F)) (ctx c arg1 arg2 arg3 arg4 f1 f2) (k0_part9 i arg1 harg1 arg2 harg2 arg3 harg3 arg4 harg4 (st (tilesT A B) 93) (View.ld B (rB 0 1 7))) (arg3.view.writes (Elt F) f3 (pcs (tilesT A B) 0)) f4
      (st (tilesT A B) 106) (arg3.view.writes (Elt F) f3 (pcs (tilesT A B) 0)) f4 := by
  rw [k0_part9_eq_skeleton]
  unfold k0_part9_skel
  dsimp only
  refine Run.push1 (tilesT A B) 0 23 rfl ?_
  refine Run.load4 hA ?_
  refine Run.load2 hB ?_
  refine Run.push0 (tilesT A B) 0 24 (acc2 (tilesT A B) 0 23) ?_
  refine Run.load2 hB ?_
  refine Run.push1 (tilesT A B) 0 24 rfl ?_
  refine Run.load4 hA ?_
  refine Run.load2 hB ?_
  refine Run.push0 (tilesT A B) 0 25 (acc2 (tilesT A B) 0 24) ?_
  refine Run.load2 hB ?_
  refine Run.push1 (tilesT A B) 0 25 rfl ?_
  refine Run.load4 hA ?_
  refine Run.load2 hB ?_
  refine Run.push0 (tilesT A B) 0 26 (acc2 (tilesT A B) 0 25) ?_
  refine Run.load2 hB ?_
  refine Run.push1 (tilesT A B) 0 26 rfl ?_
  exact Run.ret rfl

/-- Part 10 of the body. -/
theorem run10 (hA : arg4.view.read (Elt F) f4 = A) (hB : arg2.view.read (Elt F) f2 = B) :
    Run (defs₀ (F := F)) (ctx c arg1 arg2 arg3 arg4 f1 f2) (k0_part10 i arg1 harg1 arg2 harg2 arg3 harg3 arg4 harg4 (st (tilesT A B) 106)) (arg3.view.writes (Elt F) f3 (pcs (tilesT A B) 0)) f4
      ⟨(st (tilesT A B) 118), (View.ld A (rA 0 5))⟩ (arg3.view.writes (Elt F) f3 (pcs (tilesT A B) 0)) f4 := by
  rw [k0_part10_eq_skeleton]
  unfold k0_part10_skel
  dsimp only
  refine Run.load4 hA ?_
  refine Run.load2 hB ?_
  refine Run.push0 (tilesT A B) 0 27 (acc2 (tilesT A B) 0 26) ?_
  refine Run.load2 hB ?_
  refine Run.push1 (tilesT A B) 0 27 rfl ?_
  refine Run.load4 hA ?_
  refine Run.load2 hB ?_
  refine Run.push0 (tilesT A B) 0 28 (acc2 (tilesT A B) 0 27) ?_
  refine Run.load2 hB ?_
  refine Run.push1 (tilesT A B) 0 28 rfl ?_
  refine Run.load4 hA ?_
  refine Run.load2 hB ?_
  refine Run.push0 (tilesT A B) 0 29 (acc2 (tilesT A B) 0 28) ?_
  refine Run.load2 hB ?_
  refine Run.push1 (tilesT A B) 0 29 rfl ?_
  refine Run.load4 hA ?_
  exact Run.ret (pair_eq rfl rfl)

/-- Part 11 of the body. -/
theorem run11 (hA : arg4.view.read (Elt F) f4 = A) (hB : arg2.view.read (Elt F) f2 = B) :
    Run (defs₀ (F := F)) (ctx c arg1 arg2 arg3 arg4 f1 f2) (k0_part11 i arg1 harg1 arg2 harg2 arg3 harg3 arg4 harg4 (st (tilesT A B) 118) (View.ld A (rA 0 5))) (arg3.view.writes (Elt F) f3 (pcs (tilesT A B) 0)) f4
      (st (tilesT A B) 132) (arg3.view.writes (Elt F) f3 (pcs (tilesT A B) 0)) f4 := by
  rw [k0_part11_eq_skeleton]
  unfold k0_part11_skel
  dsimp only
  refine Run.load2 hB ?_
  refine Run.push0 (tilesT A B) 0 30 (acc2 (tilesT A B) 0 29) ?_
  refine Run.load2 hB ?_
  refine Run.push1 (tilesT A B) 0 30 rfl ?_
  refine Run.load4 hA ?_
  refine Run.load2 hB ?_
  refine Run.push0 (tilesT A B) 0 31 (acc2 (tilesT A B) 0 30) ?_
  refine Run.load2 hB ?_
  refine Run.push1 (tilesT A B) 0 31 rfl ?_
  refine Run.load4 hA ?_
  refine Run.load2 hB ?_
  refine Run.push0 (tilesT A B) 0 32 (acc2 (tilesT A B) 0 31) ?_
  refine Run.load2 hB ?_
  refine Run.push1 (tilesT A B) 0 32 rfl ?_
  refine Run.load4 hA ?_
  exact Run.ret (acc2 (tilesT A B) 0 32)

/-- Part 12 of the body. -/
theorem run12 (hA : arg4.view.read (Elt F) f4 = A) (hB : arg2.view.read (Elt F) f2 = B) :
    Run (defs₀ (F := F)) (ctx c arg1 arg2 arg3 arg4 f1 f2) (k0_part12 i arg1 harg1 arg2 harg2 arg3 harg3 arg4 harg4 (st (tilesT A B) 132)) (arg3.view.writes (Elt F) f3 (pcs (tilesT A B) 0)) f4
      (st (tilesT A B) 144) (arg3.view.writes (Elt F) f3 (pcs (tilesT A B) 0)) f4 := by
  rw [k0_part12_eq_skeleton]
  unfold k0_part12_skel
  dsimp only
  refine Run.load2 hB ?_
  refine Run.push0 (tilesT A B) 0 33 rfl ?_
  refine Run.load2 hB ?_
  refine Run.push1 (tilesT A B) 0 33 rfl ?_
  refine Run.load4 hA ?_
  refine Run.load2 hB ?_
  refine Run.push0 (tilesT A B) 0 34 (acc2 (tilesT A B) 0 33) ?_
  refine Run.load2 hB ?_
  refine Run.push1 (tilesT A B) 0 34 rfl ?_
  refine Run.load4 hA ?_
  refine Run.load2 hB ?_
  refine Run.push0 (tilesT A B) 0 35 (acc2 (tilesT A B) 0 34) ?_
  refine Run.load2 hB ?_
  refine Run.push1 (tilesT A B) 0 35 rfl ?_
  refine Run.load4 hA ?_
  exact Run.ret (acc2 (tilesT A B) 0 35)

/-- Part 13 of the body. -/
theorem run13 (hA : arg4.view.read (Elt F) f4 = A) (hB : arg2.view.read (Elt F) f2 = B) :
    Run (defs₀ (F := F)) (ctx c arg1 arg2 arg3 arg4 f1 f2) (k0_part13 i arg1 harg1 arg2 harg2 arg3 harg3 arg4 harg4 (st (tilesT A B) 144)) (arg3.view.writes (Elt F) f3 (pcs (tilesT A B) 0)) f4
      (st (tilesT A B) 157) (arg3.view.writes (Elt F) f3 (pcs (tilesT A B) 0)) f4 := by
  rw [k0_part13_eq_skeleton]
  unfold k0_part13_skel
  dsimp only
  refine Run.load2 hB ?_
  refine Run.push0 (tilesT A B) 0 36 rfl ?_
  refine Run.load2 hB ?_
  refine Run.push1 (tilesT A B) 0 36 rfl ?_
  refine Run.load4 hA ?_
  refine Run.load2 hB ?_
  refine Run.push0 (tilesT A B) 0 37 (acc2 (tilesT A B) 0 36) ?_
  refine Run.load2 hB ?_
  refine Run.push1 (tilesT A B) 0 37 rfl ?_
  refine Run.load4 hA ?_
  refine Run.load2 hB ?_
  refine Run.push0 (tilesT A B) 0 38 (acc2 (tilesT A B) 0 37) ?_
  refine Run.load2 hB ?_
  refine Run.push1 (tilesT A B) 0 38 rfl ?_
  refine Run.load4 hA ?_
  refine Run.load2 hB ?_
  refine Run.push0 (tilesT A B) 0 39 (acc2 (tilesT A B) 0 38) ?_
  exact Run.ret rfl

/-- Part 14 of the body. -/
theorem run14 (hA : arg4.view.read (Elt F) f4 = A) (hB : arg2.view.read (Elt F) f2 = B) :
    Run (defs₀ (F := F)) (ctx c arg1 arg2 arg3 arg4 f1 f2) (k0_part14 i arg1 harg1 arg2 harg2 arg3 harg3 arg4 harg4 (st (tilesT A B) 157)) (arg3.view.writes (Elt F) f3 (pcs (tilesT A B) 0)) f4
      (st (tilesT A B) 169) (arg3.view.writes (Elt F) f3 (pcs (tilesT A B) 0)) f4 := by
  rw [k0_part14_eq_skeleton]
  unfold k0_part14_skel
  dsimp only
  refine Run.load2 hB ?_
  refine Run.push1 (tilesT A B) 0 39 rfl ?_
  refine Run.load4 hA ?_
  refine Run.load2 hB ?_
  refine Run.push0 (tilesT A B) 0 40 (acc2 (tilesT A B) 0 39) ?_
  refine Run.load2 hB ?_
  refine Run.push1 (tilesT A B) 0 40 rfl ?_
  refine Run.load4 hA ?_
  refine Run.load2 hB ?_
  refine Run.push0 (tilesT A B) 0 41 (acc2 (tilesT A B) 0 40) ?_
  refine Run.load2 hB ?_
  refine Run.push1 (tilesT A B) 0 41 rfl ?_
  refine Run.load4 hA ?_
  refine Run.load2 hB ?_
  refine Run.push0 (tilesT A B) 0 42 (acc2 (tilesT A B) 0 41) ?_
  exact Run.ret rfl

/-- Part 15 of the body. -/
theorem run15 (hA : arg4.view.read (Elt F) f4 = A) (hB : arg2.view.read (Elt F) f2 = B) :
    Run (defs₀ (F := F)) (ctx c arg1 arg2 arg3 arg4 f1 f2) (k0_part15 i arg1 harg1 arg2 harg2 arg3 harg3 arg4 harg4 (st (tilesT A B) 169)) (arg3.view.writes (Elt F) f3 (pcs (tilesT A B) 0)) f4
      (st (tilesT A B) 182) (arg3.view.writes (Elt F) f3 (pcs (tilesT A B) 0)) f4 := by
  rw [k0_part15_eq_skeleton]
  unfold k0_part15_skel
  dsimp only
  refine Run.load2 hB ?_
  refine Run.push1 (tilesT A B) 0 42 rfl ?_
  refine Run.load4 hA ?_
  refine Run.load2 hB ?_
  refine Run.push0 (tilesT A B) 0 43 (acc2 (tilesT A B) 0 42) ?_
  refine Run.load2 hB ?_
  refine Run.push1 (tilesT A B) 0 43 rfl ?_
  refine Run.load4 hA ?_
  refine Run.load2 hB ?_
  refine Run.push0 (tilesT A B) 0 44 (acc2 (tilesT A B) 0 43) ?_
  refine Run.load2 hB ?_
  refine Run.push1 (tilesT A B) 0 44 rfl ?_
  refine Run.load4 hA ?_
  refine Run.load2 hB ?_
  refine Run.push0 (tilesT A B) 0 45 (acc2 (tilesT A B) 0 44) ?_
  refine Run.load2 hB ?_
  refine Run.push1 (tilesT A B) 0 45 rfl ?_
  exact Run.ret rfl

/-- Part 16 of the body. -/
theorem run16 (hA : arg4.view.read (Elt F) f4 = A) (hB : arg2.view.read (Elt F) f2 = B) :
    Run (defs₀ (F := F)) (ctx c arg1 arg2 arg3 arg4 f1 f2) (k0_part16 i arg1 harg1 arg2 harg2 arg3 harg3 arg4 harg4 (st (tilesT A B) 182)) (arg3.view.writes (Elt F) f3 (pcs (tilesT A B) 0)) f4
      (st (tilesT A B) 194) (arg3.view.writes (Elt F) f3 (pcs (tilesT A B) 2)) f4 := by
  rw [k0_part16_eq_skeleton]
  unfold k0_part16_skel
  dsimp only
  refine Run.load4 hA ?_
  refine Run.load2 hB ?_
  refine Run.push0 (tilesT A B) 0 46 (acc2 (tilesT A B) 0 45) ?_
  refine Run.load2 hB ?_
  refine Run.push1 (tilesT A B) 0 46 rfl ?_
  refine Run.load4 hA ?_
  refine Run.load2 hB ?_
  refine Run.push0 (tilesT A B) 0 47 (acc2 (tilesT A B) 0 46) ?_
  refine Run.load2 hB ?_
  refine Run.push1 (tilesT A B) 0 47 rfl ?_
  refine Run.load4 hA ?_
  refine Run.load3 ?_
  refine Run.store3 (L' := pcs (tilesT A B) 1) (pcs_succ (tilesT A B) 0 (outP0 (tilesT A B) 0 (acc2 (tilesT A B) 0 47))) ?_
  refine Run.load3 ?_
  refine Run.store3 (L' := pcs (tilesT A B) 2) (pcs_succ (tilesT A B) 1 (outP1 (tilesT A B) 0 (st_pop (tilesT A B) 0 0 (by decide) (acc2 (tilesT A B) 0 47)))) ?_
  exact Run.ret (st_pop (tilesT A B) 0 1 (by decide) (st_pop (tilesT A B) 0 0 (by decide) (acc2 (tilesT A B) 0 47)))

/-- Part 17 of the body. -/
theorem run17 (hA : arg4.view.read (Elt F) f4 = A) (hB : arg2.view.read (Elt F) f2 = B) :
    Run (defs₀ (F := F)) (ctx c arg1 arg2 arg3 arg4 f1 f2) (k0_part17 i arg1 harg1 arg2 harg2 arg3 harg3 arg4 harg4 (st (tilesT A B) 194)) (arg3.view.writes (Elt F) f3 (pcs (tilesT A B) 2)) f4
      (st (tilesT A B) 207) (arg3.view.writes (Elt F) f3 (pcs (tilesT A B) 2)) f4 := by
  rw [k0_part17_eq_skeleton]
  unfold k0_part17_skel
  dsimp only
  refine Run.load2 hB ?_
  refine Run.push0 (tilesT A B) 1 0 rfl ?_
  refine Run.load2 hB ?_
  refine Run.push1 (tilesT A B) 1 0 rfl ?_
  refine Run.load4 hA ?_
  refine Run.load2 hB ?_
  refine Run.push0 (tilesT A B) 1 1 (acc2 (tilesT A B) 1 0) ?_
  refine Run.load2 hB ?_
  refine Run.push1 (tilesT A B) 1 1 rfl ?_
  refine Run.load4 hA ?_
  refine Run.load2 hB ?_
  refine Run.push0 (tilesT A B) 1 2 (acc2 (tilesT A B) 1 1) ?_
  refine Run.load2 hB ?_
  refine Run.push1 (tilesT A B) 1 2 rfl ?_
  refine Run.load4 hA ?_
  refine Run.load2 hB ?_
  refine Run.push0 (tilesT A B) 1 3 (acc2 (tilesT A B) 1 2) ?_
  exact Run.ret rfl

/-- Part 18 of the body. -/
theorem run18 (hA : arg4.view.read (Elt F) f4 = A) (hB : arg2.view.read (Elt F) f2 = B) :
    Run (defs₀ (F := F)) (ctx c arg1 arg2 arg3 arg4 f1 f2) (k0_part18 i arg1 harg1 arg2 harg2 arg3 harg3 arg4 harg4 (st (tilesT A B) 207)) (arg3.view.writes (Elt F) f3 (pcs (tilesT A B) 2)) f4
      (st (tilesT A B) 219) (arg3.view.writes (Elt F) f3 (pcs (tilesT A B) 2)) f4 := by
  rw [k0_part18_eq_skeleton]
  unfold k0_part18_skel
  dsimp only
  refine Run.load2 hB ?_
  refine Run.push1 (tilesT A B) 1 3 rfl ?_
  refine Run.load4 hA ?_
  refine Run.load2 hB ?_
  refine Run.push0 (tilesT A B) 1 4 (acc2 (tilesT A B) 1 3) ?_
  refine Run.load2 hB ?_
  refine Run.push1 (tilesT A B) 1 4 rfl ?_
  refine Run.load4 hA ?_
  refine Run.load2 hB ?_
  refine Run.push0 (tilesT A B) 1 5 (acc2 (tilesT A B) 1 4) ?_
  refine Run.load2 hB ?_
  refine Run.push1 (tilesT A B) 1 5 rfl ?_
  refine Run.load4 hA ?_
  refine Run.load2 hB ?_
  refine Run.push0 (tilesT A B) 1 6 (acc2 (tilesT A B) 1 5) ?_
  exact Run.ret rfl

/-- Part 19 of the body. -/
theorem run19 (hA : arg4.view.read (Elt F) f4 = A) (hB : arg2.view.read (Elt F) f2 = B) :
    Run (defs₀ (F := F)) (ctx c arg1 arg2 arg3 arg4 f1 f2) (k0_part19 i arg1 harg1 arg2 harg2 arg3 harg3 arg4 harg4 (st (tilesT A B) 219)) (arg3.view.writes (Elt F) f3 (pcs (tilesT A B) 2)) f4
      (st (tilesT A B) 232) (arg3.view.writes (Elt F) f3 (pcs (tilesT A B) 2)) f4 := by
  rw [k0_part19_eq_skeleton]
  unfold k0_part19_skel
  dsimp only
  refine Run.load2 hB ?_
  refine Run.push1 (tilesT A B) 1 6 rfl ?_
  refine Run.load4 hA ?_
  refine Run.load2 hB ?_
  refine Run.push0 (tilesT A B) 1 7 (acc2 (tilesT A B) 1 6) ?_
  refine Run.load2 hB ?_
  refine Run.push1 (tilesT A B) 1 7 rfl ?_
  refine Run.load4 hA ?_
  refine Run.load2 hB ?_
  refine Run.push0 (tilesT A B) 1 8 (acc2 (tilesT A B) 1 7) ?_
  refine Run.load2 hB ?_
  refine Run.push1 (tilesT A B) 1 8 rfl ?_
  refine Run.load4 hA ?_
  refine Run.load2 hB ?_
  refine Run.push0 (tilesT A B) 1 9 (acc2 (tilesT A B) 1 8) ?_
  refine Run.load2 hB ?_
  refine Run.push1 (tilesT A B) 1 9 rfl ?_
  exact Run.ret rfl

/-- Part 20 of the body. -/
theorem run20 (hA : arg4.view.read (Elt F) f4 = A) (hB : arg2.view.read (Elt F) f2 = B) :
    Run (defs₀ (F := F)) (ctx c arg1 arg2 arg3 arg4 f1 f2) (k0_part20 i arg1 harg1 arg2 harg2 arg3 harg3 arg4 harg4 (st (tilesT A B) 232)) (arg3.view.writes (Elt F) f3 (pcs (tilesT A B) 2)) f4
      (st (tilesT A B) 244) (arg3.view.writes (Elt F) f3 (pcs (tilesT A B) 2)) f4 := by
  rw [k0_part20_eq_skeleton]
  unfold k0_part20_skel
  dsimp only
  refine Run.load4 hA ?_
  refine Run.load2 hB ?_
  refine Run.push0 (tilesT A B) 1 10 (acc2 (tilesT A B) 1 9) ?_
  refine Run.load2 hB ?_
  refine Run.push1 (tilesT A B) 1 10 rfl ?_
  refine Run.load4 hA ?_
  refine Run.load2 hB ?_
  refine Run.push0 (tilesT A B) 1 11 (acc2 (tilesT A B) 1 10) ?_
  refine Run.load2 hB ?_
  refine Run.push1 (tilesT A B) 1 11 rfl ?_
  refine Run.load4 hA ?_
  refine Run.load2 hB ?_
  refine Run.push0 (tilesT A B) 1 12 (acc2 (tilesT A B) 1 11) ?_
  refine Run.load2 hB ?_
  refine Run.push1 (tilesT A B) 1 12 rfl ?_
  exact Run.ret rfl

/-- Part 21 of the body. -/
theorem run21 (hA : arg4.view.read (Elt F) f4 = A) (hB : arg2.view.read (Elt F) f2 = B) :
    Run (defs₀ (F := F)) (ctx c arg1 arg2 arg3 arg4 f1 f2) (k0_part21 i arg1 harg1 arg2 harg2 arg3 harg3 arg4 harg4 (st (tilesT A B) 244)) (arg3.view.writes (Elt F) f3 (pcs (tilesT A B) 2)) f4
      ⟨((tilesT A B).a 1 7), (st (tilesT A B) 257)⟩ (arg3.view.writes (Elt F) f3 (pcs (tilesT A B) 2)) f4 := by
  rw [k0_part21_eq_skeleton]
  unfold k0_part21_skel
  dsimp only
  refine Run.load4 hA ?_
  refine Run.load2 hB ?_
  refine Run.push0 (tilesT A B) 1 13 (acc2 (tilesT A B) 1 12) ?_
  refine Run.load2 hB ?_
  refine Run.push1 (tilesT A B) 1 13 rfl ?_
  refine Run.load4 hA ?_
  refine Run.load2 hB ?_
  refine Run.push0 (tilesT A B) 1 14 (acc2 (tilesT A B) 1 13) ?_
  refine Run.load2 hB ?_
  refine Run.push1 (tilesT A B) 1 14 rfl ?_
  refine Run.load4 hA ?_
  refine Run.load2 hB ?_
  refine Run.push0 (tilesT A B) 1 15 (acc2 (tilesT A B) 1 14) ?_
  refine Run.load2 hB ?_
  refine Run.push1 (tilesT A B) 1 15 rfl ?_
  refine Run.load4 hA ?_
  exact Run.ret (pair_eq rfl (acc0 (tilesT A B) 1 15 rfl))

end Cert.MmTIdeal.HandFrame

end
-- ==== Proof.MmTIdealWalk2.lean ====
/-
  Parts 22 to 42 of the body, each run from one state of the matrix unit to a later one.
-/
module

public import proofs.«01_k».proof.Proof.MmTIdealWalk0

@[expose] public section

set_option maxRecDepth 16384

noncomputable section

namespace Cert.MmTIdeal.HandFrame

open Idealize.ShloMosaic Idealize.ShloMosaic.TcCoe Idealize.SL.Sem Cert.MmTIdeal.Gen Cert.Mm Cert.Straight

variable {F : FTy → Type} [FloatOps F]

variable (c : Dev nD) (i : grid0.Coords) (arg1 : Memref sig .tc .vmem S512x2048 .f32) (harg1 : arg1.IsWhole) (arg2 : Memref sig .tc .vmem S3x2048x2048 .bf16) (harg2 : arg2.IsWhole) (arg3 : Memref sig .tc .vmem S512x2048 .f32) (harg3 : arg3.IsWhole) (arg4 : Memref sig .tc .vmem S3x512x2048 .bf16) (harg4 : arg4.IsWhole)
  (f1 : Buf (Elt F) (arg1.view.loc (c : Thread nD τ))) (f2 : Buf (Elt F) (arg2.view.loc (c : Thread nD τ)))
  (f3 : Buf (Elt F) (arg3.view.loc (c : Thread nD τ))) (f4 : Buf (Elt F) (arg4.view.loc (c : Thread nD τ)))
  (A : Vec F SA .bf16) (B : Vec F SB .bf16)

/-- Part 22 of the body. -/
theorem run22 (hA : arg4.view.read (Elt F) f4 = A) (hB : arg2.view.read (Elt F) f2 = B) :
    Run (defs₀ (F := F)) (ctx c arg1 arg2 arg3 arg4 f1 f2) (k0_part22 i arg1 harg1 arg2 harg2 arg3 harg3 arg4 harg4 ((tilesT A B).a 1 7) (st (tilesT A B) 257)) (arg3.view.writes (Elt F) f3 (pcs (tilesT A B) 2)) f4
      (st (tilesT A B) 270) (arg3.view.writes (Elt F) f3 (pcs (tilesT A B) 2)) f4 := by
  rw [k0_part22_eq_skeleton]
  unfold k0_part22_skel
  dsimp only
  refine Run.load2 hB ?_
  refine Run.push0 (tilesT A B) 1 16 (acc1 (tilesT A B) 1 15 rfl) ?_
  refine Run.load2 hB ?_
  refine Run.push1 (tilesT A B) 1 16 rfl ?_
  refine Run.load4 hA ?_
  refine Run.load2 hB ?_
  refine Run.push0 (tilesT A B) 1 17 (acc2 (tilesT A B) 1 16) ?_
  refine Run.load2 hB ?_
  refine Run.push1 (tilesT A B) 1 17 rfl ?_
  refine Run.load4 hA ?_
  refine Run.load2 hB ?_
  refine Run.push0 (tilesT A B) 1 18 (acc2 (tilesT A B) 1 17) ?_
  refine Run.load2 hB ?_
  refine Run.push1 (tilesT A B) 1 18 rfl ?_
  refine Run.load4 hA ?_
  exact Run.ret (acc2 (tilesT A B) 1 18)

/-- Part 23 of the body. -/
theorem run23 (hA : arg4.view.read (Elt F) f4 = A) (hB : arg2.view.read (Elt F) f2 = B) :
    Run (defs₀ (F := F)) (ctx c arg1 arg2 arg3 arg4 f1 f2) (k0_part23 i arg1 harg1 arg2 harg2 arg3 harg3 arg4 harg4 (st (tilesT A B) 270)) (arg3.view.writes (Elt F) f3 (pcs (tilesT A B) 2)) f4
      ⟨(st (tilesT A B) 282), ((tilesT A B).b 0 2 6)⟩ (arg3.view.writes (Elt F) f3 (pcs (tilesT A B) 2)) f4 := by
  rw [k0_part23_eq_skeleton]
  unfold k0_part23_skel
  dsimp only
  refine Run.load2 hB ?_
  refine Run.push0 (tilesT A B) 1 19 rfl ?_
  refine Run.load2 hB ?_
  refine Run.push1 (tilesT A B) 1 19 rfl ?_
  refine Run.load4 hA ?_
  refine Run.load2 hB ?_
  refine Run.push0 (tilesT A B) 1 20 (acc2 (tilesT A B) 1 19) ?_
  refine Run.load2 hB ?_
  refine Run.push1 (tilesT A B) 1 20 rfl ?_
  refine Run.load4 hA ?_
  refine Run.load2 hB ?_
  refine Run.push0 (tilesT A B) 1 21 (acc2 (tilesT A B) 1 20) ?_
  refine Run.load2 hB ?_
  refine Run.push1 (tilesT A B) 1 21 rfl ?_
  refine Run.load4 hA ?_
  refine Run.load2 hB ?_
  exact Run.ret (pair_eq (acc2 (tilesT A B) 1 21) rfl)

/-- Part 24 of the body. -/
theorem run24 (hA : arg4.view.read (Elt F) f4 = A) (hB : arg2.view.read (Elt F) f2 = B) :
    Run (defs₀ (F := F)) (ctx c arg1 arg2 arg3 arg4 f1 f2) (k0_part24 i arg1 harg1 arg2 harg2 arg3 harg3 arg4 harg4 (st (tilesT A B) 282) ((tilesT A B).b 0 2 6)) (arg3.view.writes (Elt F) f3 (pcs (tilesT A B) 2)) f4
      (st (tilesT A B) 295) (arg3.view.writes (Elt F) f3 (pcs (tilesT A B) 2)) f4 := by
  rw [k0_part24_eq_skeleton]
  unfold k0_part24_skel
  dsimp only
  refine Run.push0 (tilesT A B) 1 22 rfl ?_
  refine Run.load2 hB ?_
  refine Run.push1 (tilesT A B) 1 22 rfl ?_
  refine Run.load4 hA ?_
  refine Run.load2 hB ?_
  refine Run.push0 (tilesT A B) 1 23 (acc2 (tilesT A B) 1 22) ?_
  refine Run.load2 hB ?_
  refine Run.push1 (tilesT A B) 1 23 rfl ?_
  refine Run.load4 hA ?_
  refine Run.load2 hB ?_
  refine Run.push0 (tilesT A B) 1 24 (acc2 (tilesT A B) 1 23) ?_
  refine Run.load2 hB ?_
  refine Run.push1 (tilesT A B) 1 24 rfl ?_
  refine Run.load4 hA ?_
  refine Run.load2 hB ?_
  refine Run.push0 (tilesT A B) 1 25 (acc2 (tilesT A B) 1 24) ?_
  exact Run.ret rfl

/-- Part 25 of the body. -/
theorem run25 (hA : arg4.view.read (Elt F) f4 = A) (hB : arg2.view.read (Elt F) f2 = B) :
    Run (defs₀ (F := F)) (ctx c arg1 arg2 arg3 arg4 f1 f2) (k0_part25 i arg1 harg1 arg2 harg2 arg3 harg3 arg4 harg4 (st (tilesT A B) 295)) (arg3.view.writes (Elt F) f3 (pcs (tilesT A B) 2)) f4
      ⟨(st (tilesT A B) 307), ((tilesT A B).b 1 3 4)⟩ (arg3.view.writes (Elt F) f3 (pcs (tilesT A B) 2)) f4 := by
  rw [k0_part25_eq_skeleton]
  unfold k0_part25_skel
  dsimp only
  refine Run.load2 hB ?_
  refine Run.push1 (tilesT A B) 1 25 rfl ?_
  refine Run.load4 hA ?_
  refine Run.load2 hB ?_
  refine Run.push0 (tilesT A B) 1 26 (acc2 (tilesT A B) 1 25) ?_
  refine Run.load2 hB ?_
  refine Run.push1 (tilesT A B) 1 26 rfl ?_
  refine Run.load4 hA ?_
  refine Run.load2 hB ?_
  refine Run.push0 (tilesT A B) 1 27 (acc2 (tilesT A B) 1 26) ?_
  refine Run.load2 hB ?_
  refine Run.push1 (tilesT A B) 1 27 rfl ?_
  refine Run.load4 hA ?_
  refine Run.load2 hB ?_
  refine Run.push0 (tilesT A B) 1 28 (acc2 (tilesT A B) 1 27) ?_
  refine Run.load2 hB ?_
  exact Run.ret (pair_eq rfl rfl)

/-- Part 26 of the body. -/
theorem run26 (hA : arg4.view.read (Elt F) f4 = A) (hB : arg2.view.read (Elt F) f2 = B) :
    Run (defs₀ (F := F)) (ctx c arg1 arg2 arg3 arg4 f1 f2) (k0_part26 i arg1 harg1 arg2 harg2 arg3 harg3 arg4 harg4 (st (tilesT A B) 307) ((tilesT A B).b 1 3 4)) (arg3.view.writes (Elt F) f3 (pcs (tilesT A B) 2)) f4
      (st (tilesT A B) 320) (arg3.view.writes (Elt F) f3 (pcs (tilesT A B) 2)) f4 := by
  rw [k0_part26_eq_skeleton]
  unfold k0_part26_skel
  dsimp only
  refine Run.push1 (tilesT A B) 1 28 rfl ?_
  refine Run.load4 hA ?_
  refine Run.load2 hB ?_
  refine Run.push0 (tilesT A B) 1 29 (acc2 (tilesT A B) 1 28) ?_
  refine Run.load2 hB ?_
  refine Run.push1 (tilesT A B) 1 29 rfl ?_
  refine Run.load4 hA ?_
  refine Run.load2 hB ?_
  refine Run.push0 (tilesT A B) 1 30 (acc2 (tilesT A B) 1 29) ?_
  refine Run.load2 hB ?_
  refine Run.push1 (tilesT A B) 1 30 rfl ?_
  refine Run.load4 hA ?_
  refine Run.load2 hB ?_
  refine Run.push0 (tilesT A B) 1 31 (acc2 (tilesT A B) 1 30) ?_
  refine Run.load2 hB ?_
  refine Run.push1 (tilesT A B) 1 31 rfl ?_
  exact Run.ret rfl

/-- Part 27 of the body. -/
theorem run27 (hA : arg4.view.read (Elt F) f4 = A) (hB : arg2.view.read (Elt F) f2 = B) :
    Run (defs₀ (F := F)) (ctx c arg1 arg2 arg3 arg4 f1 f2) (k0_part27 i arg1 harg1 arg2 harg2 arg3 harg3 arg4 harg4 (st (tilesT A B) 320)) (arg3.view.writes (Elt F) f3 (pcs (tilesT A B) 2)) f4
      ⟨(st (tilesT A B) 332), ((tilesT A B).a 1 2)⟩ (arg3.view.writes (Elt F) f3 (pcs (tilesT A B) 2)) f4 := by
  rw [k0_part27_eq_skeleton]
  unfold k0_part27_skel
  dsimp only
  refine Run.load4 hA ?_
  refine Run.load2 hB ?_
  refine Run.push0 (tilesT A B) 1 32 (acc2 (tilesT A B) 1 31) ?_
  refine Run.load2 hB ?_
  refine Run.push1 (tilesT A B) 1 32 rfl ?_
  refine Run.load4 hA ?_
  refine Run.load2 hB ?_
  refine Run.push0 (tilesT A B) 1 33 (acc2 (tilesT A B) 1 32) ?_
  refine Run.load2 hB ?_
  refine Run.push1 (tilesT A B) 1 33 rfl ?_
  refine Run.load4 hA ?_
  refine Run.load2 hB ?_
  refine Run.push0 (tilesT A B) 1 34 (acc2 (tilesT A B) 1 33) ?_
  refine Run.load2 hB ?_
  refine Run.push1 (tilesT A B) 1 34 rfl ?_
  refine Run.load4 hA ?_
  exact Run.ret (pair_eq rfl rfl)

/-- Part 28 of the body. -/
theorem run28 (hA : arg4.view.read (Elt F) f4 = A) (hB : arg2.view.read (Elt F) f2 = B) :
    Run (defs₀ (F := F)) (ctx c arg1 arg2 arg3 arg4 f1 f2) (k0_part28 i arg1 harg1 arg2 harg2 arg3 harg3 arg4 harg4 (st (tilesT A B) 332) ((tilesT A B).a 1 2)) (arg3.view.writes (Elt F) f3 (pcs (tilesT A B) 2)) f4
      (st (tilesT A B) 346) (arg3.view.writes (Elt F) f3 (pcs (tilesT A B) 2)) f4 := by
  rw [k0_part28_eq_skeleton]
  unfold k0_part28_skel
  dsimp only
  refine Run.load2 hB ?_
  refine Run.push0 (tilesT A B) 1 35 (acc2 (tilesT A B) 1 34) ?_
  refine Run.load2 hB ?_
  refine Run.push1 (tilesT A B) 1 35 rfl ?_
  refine Run.load4 hA ?_
  refine Run.load2 hB ?_
  refine Run.push0 (tilesT A B) 1 36 (acc2 (tilesT A B) 1 35) ?_
  refine Run.load2 hB ?_
  refine Run.push1 (tilesT A B) 1 36 rfl ?_
  refine Run.load4 hA ?_
  refine Run.load2 hB ?_
  refine Run.push0 (tilesT A B) 1 37 (acc2 (tilesT A B) 1 36) ?_
  refine Run.load2 hB ?_
  refine Run.push1 (tilesT A B) 1 37 rfl ?_
  refine Run.load4 hA ?_
  exact Run.ret (acc2 (tilesT A B) 1 37)

/-- Part 29 of the body. -/
theorem run29 (hA : arg4.view.read (Elt F) f4 = A) (hB : arg2.view.read (Elt F) f2 = B) :
    Run (defs₀ (F := F)) (ctx c arg1 arg2 arg3 arg4 f1 f2) (k0_part29 i arg1 harg1 arg2 harg2 arg3 harg3 arg4 harg4 (st (tilesT A B) 346)) (arg3.view.writes (Elt F) f3 (pcs (tilesT A B) 2)) f4
      ⟨(st (tilesT A B) 358), (View.ld B (rB 0 2 1))⟩ (arg3.view.writes (Elt F) f3 (pcs (tilesT A B) 2)) f4 := by
  rw [k0_part29_eq_skeleton]
  unfold k0_part29_skel
  dsimp only
  refine Run.load2 hB ?_
  refine Run.push0 (tilesT A B) 1 38 rfl ?_
  refine Run.load2 hB ?_
  refine Run.push1 (tilesT A B) 1 38 rfl ?_
  refine Run.load4 hA ?_
  refine Run.load2 hB ?_
  refine Run.push0 (tilesT A B) 1 39 (acc2 (tilesT A B) 1 38) ?_
  refine Run.load2 hB ?_
  refine Run.push1 (tilesT A B) 1 39 rfl ?_
  refine Run.load4 hA ?_
  refine Run.load2 hB ?_
  refine Run.push0 (tilesT A B) 1 40 (acc2 (tilesT A B) 1 39) ?_
  refine Run.load2 hB ?_
  refine Run.push1 (tilesT A B) 1 40 rfl ?_
  refine Run.load4 hA ?_
  refine Run.load2 hB ?_
  exact Run.ret (pair_eq (acc2 (tilesT A B) 1 40) rfl)

/-- Part 30 of the body. -/
theorem run30 (hA : arg4.view.read (Elt F) f4 = A) (hB : arg2.view.read (Elt F) f2 = B) :
    Run (defs₀ (F := F)) (ctx c arg1 arg2 arg3 arg4 f1 f2) (k0_part30 i arg1 harg1 arg2 harg2 arg3 harg3 arg4 harg4 (st (tilesT A B) 358) (View.ld B (rB 0 2 1))) (arg3.view.writes (Elt F) f3 (pcs (tilesT A B) 2)) f4
      (st (tilesT A B) 371) (arg3.view.writes (Elt F) f3 (pcs (tilesT A B) 2)) f4 := by
  rw [k0_part30_eq_skeleton]
  unfold k0_part30_skel
  dsimp only
  refine Run.push0 (tilesT A B) 1 41 rfl ?_
  refine Run.load2 hB ?_
  refine Run.push1 (tilesT A B) 1 41 rfl ?_
  refine Run.load4 hA ?_
  refine Run.load2 hB ?_
  refine Run.push0 (tilesT A B) 1 42 (acc2 (tilesT A B) 1 41) ?_
  refine Run.load2 hB ?_
  refine Run.push1 (tilesT A B) 1 42 rfl ?_
  refine Run.load4 hA ?_
  refine Run.load2 hB ?_
  refine Run.push0 (tilesT A B) 1 43 (acc2 (tilesT A B) 1 42) ?_
  refine Run.load2 hB ?_
  refine Run.push1 (tilesT A B) 1 43 rfl ?_
  refine Run.load4 hA ?_
  refine Run.load2 hB ?_
  refine Run.push0 (tilesT A B) 1 44 (acc2 (tilesT A B) 1 43) ?_
  exact Run.ret rfl

/-- Part 31 of the body. -/
theorem run31 (hA : arg4.view.read (Elt F) f4 = A) (hB : arg2.view.read (Elt F) f2 = B) :
    Run (defs₀ (F := F)) (ctx c arg1 arg2 arg3 arg4 f1 f2) (k0_part31 i arg1 harg1 arg2 harg2 arg3 harg3 arg4 harg4 (st (tilesT A B) 371)) (arg3.view.writes (Elt F) f3 (pcs (tilesT A B) 2)) f4
      ⟨(st (tilesT A B) 383), (View.ld B (rB 0 3 7))⟩ (arg3.view.writes (Elt F) f3 (pcs (tilesT A B) 2)) f4 := by
  rw [k0_part31_eq_skeleton]
  unfold k0_part31_skel
  dsimp only
  refine Run.load2 hB ?_
  refine Run.push1 (tilesT A B) 1 44 rfl ?_
  refine Run.load4 hA ?_
  refine Run.load2 hB ?_
  refine Run.push0 (tilesT A B) 1 45 (acc2 (tilesT A B) 1 44) ?_
  refine Run.load2 hB ?_
  refine Run.push1 (tilesT A B) 1 45 rfl ?_
  refine Run.load4 hA ?_
  refine Run.load2 hB ?_
  refine Run.push0 (tilesT A B) 1 46 (acc2 (tilesT A B) 1 45) ?_
  refine Run.load2 hB ?_
  refine Run.push1 (tilesT A B) 1 46 rfl ?_
  refine Run.load4 hA ?_
  refine Run.load2 hB ?_
  refine Run.push0 (tilesT A B) 1 47 (acc2 (tilesT A B) 1 46) ?_
  refine Run.load2 hB ?_
  exact Run.ret (pair_eq rfl rfl)

/-- Part 32 of the body. -/
theorem run32 (hA : arg4.view.read (Elt F) f4 = A) (hB : arg2.view.read (Elt F) f2 = B) :
    Run (defs₀ (F := F)) (ctx c arg1 arg2 arg3 arg4 f1 f2) (k0_part32 i arg1 harg1 arg2 harg2 arg3 harg3 arg4 harg4 (st (tilesT A B) 383) (View.ld B (rB 0 3 7))) (arg3.view.writes (Elt F) f3 (pcs (tilesT A B) 2)) f4
      (st (tilesT A B) 396) (arg3.view.writes (Elt F) f3 (pcs (tilesT A B) 4)) f4 := by
  rw [k0_part32_eq_skeleton]
  unfold k0_part32_skel
  dsimp only
  refine Run.push1 (tilesT A B) 1 47 rfl ?_
  refine Run.load4 hA ?_
  refine Run.load3 ?_
  refine Run.store3 (L' := pcs (tilesT A B) 3) (pcs_succ (tilesT A B) 2 (outP0 (tilesT A B) 1 (acc2 (tilesT A B) 1 47))) ?_
  refine Run.load3 ?_
  refine Run.store3 (L' := pcs (tilesT A B) 4) (pcs_succ (tilesT A B) 3 (outP1 (tilesT A B) 1 (st_pop (tilesT A B) 1 0 (by decide) (acc2 (tilesT A B) 1 47)))) ?_
  refine Run.load2 hB ?_
  refine Run.push0 (tilesT A B) 2 0 (st_pop (tilesT A B) 1 1 (by decide) (st_pop (tilesT A B) 1 0 (by decide) (acc2 (tilesT A B) 1 47))) ?_
  refine Run.load2 hB ?_
  refine Run.push1 (tilesT A B) 2 0 rfl ?_
  refine Run.load4 hA ?_
  refine Run.load2 hB ?_
  refine Run.push0 (tilesT A B) 2 1 (acc2 (tilesT A B) 2 0) ?_
  refine Run.load2 hB ?_
  refine Run.push1 (tilesT A B) 2 1 rfl ?_
  refine Run.load4 hA ?_
  exact Run.ret (acc2 (tilesT A B) 2 1)

/-- Part 33 of the body. -/
theorem run33 (hA : arg4.view.read (Elt F) f4 = A) (hB : arg2.view.read (Elt F) f2 = B) :
    Run (defs₀ (F := F)) (ctx c arg1 arg2 arg3 arg4 f1 f2) (k0_part33 i arg1 harg1 arg2 harg2 arg3 harg3 arg4 harg4 (st (tilesT A B) 396)) (arg3.view.writes (Elt F) f3 (pcs (tilesT A B) 4)) f4
      ⟨(st (tilesT A B) 408), (View.ld B (rB 2 4 5))⟩ (arg3.view.writes (Elt F) f3 (pcs (tilesT A B) 4)) f4 := by
  rw [k0_part33_eq_skeleton]
  unfold k0_part33_skel
  dsimp only
  refine Run.load2 hB ?_
  refine Run.push0 (tilesT A B) 2 2 rfl ?_
  refine Run.load2 hB ?_
  refine Run.push1 (tilesT A B) 2 2 rfl ?_
  refine Run.load4 hA ?_
  refine Run.load2 hB ?_
  refine Run.push0 (tilesT A B) 2 3 (acc2 (tilesT A B) 2 2) ?_
  refine Run.load2 hB ?_
  refine Run.push1 (tilesT A B) 2 3 rfl ?_
  refine Run.load4 hA ?_
  refine Run.load2 hB ?_
  refine Run.push0 (tilesT A B) 2 4 (acc2 (tilesT A B) 2 3) ?_
  refine Run.load2 hB ?_
  refine Run.push1 (tilesT A B) 2 4 rfl ?_
  refine Run.load4 hA ?_
  refine Run.load2 hB ?_
  exact Run.ret (pair_eq (acc2 (tilesT A B) 2 4) rfl)

/-- Part 34 of the body. -/
theorem run34 (hA : arg4.view.read (Elt F) f4 = A) (hB : arg2.view.read (Elt F) f2 = B) :
    Run (defs₀ (F := F)) (ctx c arg1 arg2 arg3 arg4 f1 f2) (k0_part34 i arg1 harg1 arg2 harg2 arg3 harg3 arg4 harg4 (st (tilesT A B) 408) (View.ld B (rB 2 4 5))) (arg3.view.writes (Elt F) f3 (pcs (tilesT A B) 4)) f4
      (st (tilesT A B) 421) (arg3.view.writes (Elt F) f3 (pcs (tilesT A B) 4)) f4 := by
  rw [k0_part34_eq_skeleton]
  unfold k0_part34_skel
  dsimp only
  refine Run.push0 (tilesT A B) 2 5 rfl ?_
  refine Run.load2 hB ?_
  refine Run.push1 (tilesT A B) 2 5 rfl ?_
  refine Run.load4 hA ?_
  refine Run.load2 hB ?_
  refine Run.push0 (tilesT A B) 2 6 (acc2 (tilesT A B) 2 5) ?_
  refine Run.load2 hB ?_
  refine Run.push1 (tilesT A B) 2 6 rfl ?_
  refine Run.load4 hA ?_
  refine Run.load2 hB ?_
  refine Run.push0 (tilesT A B) 2 7 (acc2 (tilesT A B) 2 6) ?_
  refine Run.load2 hB ?_
  refine Run.push1 (tilesT A B) 2 7 rfl ?_
  refine Run.load4 hA ?_
  refine Run.load2 hB ?_
  refine Run.push0 (tilesT A B) 2 8 (acc2 (tilesT A B) 2 7) ?_
  exact Run.ret rfl

/-- Part 35 of the body. -/
theorem run35 (hA : arg4.view.read (Elt F) f4 = A) (hB : arg2.view.read (Elt F) f2 = B) :
    Run (defs₀ (F := F)) (ctx c arg1 arg2 arg3 arg4 f1 f2) (k0_part35 i arg1 harg1 arg2 harg2 arg3 harg3 arg4 harg4 (st (tilesT A B) 421)) (arg3.view.writes (Elt F) f3 (pcs (tilesT A B) 4)) f4
      ⟨(st (tilesT A B) 433), (View.ld B (rB 1 5 3))⟩ (arg3.view.writes (Elt F) f3 (pcs (tilesT A B) 4)) f4 := by
  rw [k0_part35_eq_skeleton]
  unfold k0_part35_skel
  dsimp only
  refine Run.load2 hB ?_
  refine Run.push1 (tilesT A B) 2 8 rfl ?_
  refine Run.load4 hA ?_
  refine Run.load2 hB ?_
  refine Run.push0 (tilesT A B) 2 9 (acc2 (tilesT A B) 2 8) ?_
  refine Run.load2 hB ?_
  refine Run.push1 (tilesT A B) 2 9 rfl ?_
  refine Run.load4 hA ?_
  refine Run.load2 hB ?_
  refine Run.push0 (tilesT A B) 2 10 (acc2 (tilesT A B) 2 9) ?_
  refine Run.load2 hB ?_
  refine Run.push1 (tilesT A B) 2 10 rfl ?_
  refine Run.load4 hA ?_
  refine Run.load2 hB ?_
  refine Run.push0 (tilesT A B) 2 11 (acc2 (tilesT A B) 2 10) ?_
  refine Run.load2 hB ?_
  exact Run.ret (pair_eq rfl rfl)

/-- Part 36 of the body. -/
theorem run36 (hA : arg4.view.read (Elt F) f4 = A) (hB : arg2.view.read (Elt F) f2 = B) :
    Run (defs₀ (F := F)) (ctx c arg1 arg2 arg3 arg4 f1 f2) (k0_part36 i arg1 harg1 arg2 harg2 arg3 harg3 arg4 harg4 (st (tilesT A B) 433) (View.ld B (rB 1 5 3))) (arg3.view.writes (Elt F) f3 (pcs (tilesT A B) 4)) f4
      (st (tilesT A B) 446) (arg3.view.writes (Elt F) f3 (pcs (tilesT A B) 4)) f4 := by
  rw [k0_part36_eq_skeleton]
  unfold k0_part36_skel
  dsimp only
  refine Run.push1 (tilesT A B) 2 11 rfl ?_
  refine Run.load4 hA ?_
  refine Run.load2 hB ?_
  refine Run.push0 (tilesT A B) 2 12 (acc2 (tilesT A B) 2 11) ?_
  refine Run.load2 hB ?_
  refine Run.push1 (tilesT A B) 2 12 rfl ?_
  refine Run.load4 hA ?_
  refine Run.load2 hB ?_
  refine Run.push0 (tilesT A B) 2 13 (acc2 (tilesT A B) 2 12) ?_
  refine Run.load2 hB ?_
  refine Run.push1 (tilesT A B) 2 13 rfl ?_
  refine Run.load4 hA ?_
  refine Run.load2 hB ?_
  refine Run.push0 (tilesT A B) 2 14 (acc2 (tilesT A B) 2 13) ?_
  refine Run.load2 hB ?_
  refine Run.push1 (tilesT A B) 2 14 rfl ?_
  exact Run.ret rfl

/-- Part 37 of the body. -/
theorem run37 (hA : arg4.view.read (Elt F) f4 = A) (hB : arg2.view.read (Elt F) f2 = B) :
    Run (defs₀ (F := F)) (ctx c arg1 arg2 arg3 arg4 f1 f2) (k0_part37 i arg1 harg1 arg2 harg2 arg3 harg3 arg4 harg4 (st (tilesT A B) 446)) (arg3.view.writes (Elt F) f3 (pcs (tilesT A B) 4)) f4
      ⟨(st (tilesT A B) 458), (View.ld A (rA 2 1))⟩ (arg3.view.writes (Elt F) f3 (pcs (tilesT A B) 4)) f4 := by
  rw [k0_part37_eq_skeleton]
  unfold k0_part37_skel
  dsimp only
  refine Run.load4 hA ?_
  refine Run.load2 hB ?_
  refine Run.push0 (tilesT A B) 2 15 (acc2 (tilesT A B) 2 14) ?_
  refine Run.load2 hB ?_
  refine Run.push1 (tilesT A B) 2 15 rfl ?_
  refine Run.load4 hA ?_
  refine Run.load2 hB ?_
  refine Run.push0 (tilesT A B) 2 16 (acc2 (tilesT A B) 2 15) ?_
  refine Run.load2 hB ?_
  refine Run.push1 (tilesT A B) 2 16 rfl ?_
  refine Run.load4 hA ?_
  refine Run.load2 hB ?_
  refine Run.push0 (tilesT A B) 2 17 (acc2 (tilesT A B) 2 16) ?_
  refine Run.load2 hB ?_
  refine Run.push1 (tilesT A B) 2 17 rfl ?_
  refine Run.load4 hA ?_
  exact Run.ret (pair_eq rfl rfl)

/-- Part 38 of the body. -/
theorem run38 (hA : arg4.view.read (Elt F) f4 = A) (hB : arg2.view.read (Elt F) f2 = B) :
    Run (defs₀ (F := F)) (ctx c arg1 arg2 arg3 arg4 f1 f2) (k0_part38 i arg1 harg1 arg2 harg2 arg3 harg3 arg4 harg4 (st (tilesT A B) 458) (View.ld A (rA 2 1))) (arg3.view.writes (Elt F) f3 (pcs (tilesT A B) 4)) f4
      (st (tilesT A B) 472) (arg3.view.writes (Elt F) f3 (pcs (tilesT A B) 4)) f4 := by
  rw [k0_part38_eq_skeleton]
  unfold k0_part38_skel
  dsimp only
  refine Run.load2 hB ?_
  refine Run.push0 (tilesT A B) 2 18 (acc2 (tilesT A B) 2 17) ?_
  refine Run.load2 hB ?_
  refine Run.push1 (tilesT A B) 2 18 rfl ?_
  refine Run.load4 hA ?_
  refine Run.load2 hB ?_
  refine Run.push0 (tilesT A B) 2 19 (acc2 (tilesT A B) 2 18) ?_
  refine Run.load2 hB ?_
  refine Run.push1 (tilesT A B) 2 19 rfl ?_
  refine Run.load4 hA ?_
  refine Run.load2 hB ?_
  refine Run.push0 (tilesT A B) 2 20 (acc2 (tilesT A B) 2 19) ?_
  refine Run.load2 hB ?_
  refine Run.push1 (tilesT A B) 2 20 rfl ?_
  refine Run.load4 hA ?_
  exact Run.ret (acc2 (tilesT A B) 2 20)

/-- Part 39 of the body. -/
theorem run39 (hA : arg4.view.read (Elt F) f4 = A) (hB : arg2.view.read (Elt F) f2 = B) :
    Run (defs₀ (F := F)) (ctx c arg1 arg2 arg3 arg4 f1 f2) (k0_part39 i arg1 harg1 arg2 harg2 arg3 harg3 arg4 harg4 (st (tilesT A B) 472)) (arg3.view.writes (Elt F) f3 (pcs (tilesT A B) 4)) f4
      (st (tilesT A B) 484) (arg3.view.writes (Elt F) f3 (pcs (tilesT A B) 4)) f4 := by
  rw [k0_part39_eq_skeleton]
  unfold k0_part39_skel
  dsimp only
  refine Run.load2 hB ?_
  refine Run.push0 (tilesT A B) 2 21 rfl ?_
  refine Run.load2 hB ?_
  refine Run.push1 (tilesT A B) 2 21 rfl ?_
  refine Run.load4 hA ?_
  refine Run.load2 hB ?_
  refine Run.push0 (tilesT A B) 2 22 (acc2 (tilesT A B) 2 21) ?_
  refine Run.load2 hB ?_
  refine Run.push1 (tilesT A B) 2 22 rfl ?_
  refine Run.load4 hA ?_
  refine Run.load2 hB ?_
  refine Run.push0 (tilesT A B) 2 23 (acc2 (tilesT A B) 2 22) ?_
  refine Run.load2 hB ?_
  refine Run.push1 (tilesT A B) 2 23 rfl ?_
  refine Run.load4 hA ?_
  exact Run.ret (acc2 (tilesT A B) 2 23)

/-- Part 40 of the body. -/
theorem run40 (hA : arg4.view.read (Elt F) f4 = A) (hB : arg2.view.read (Elt F) f2 = B) :
    Run (defs₀ (F := F)) (ctx c arg1 arg2 arg3 arg4 f1 f2) (k0_part40 i arg1 harg1 arg2 harg2 arg3 harg3 arg4 harg4 (st (tilesT A B) 484)) (arg3.view.writes (Elt F) f3 (pcs (tilesT A B) 4)) f4
      (st (tilesT A B) 497) (arg3.view.writes (Elt F) f3 (pcs (tilesT A B) 4)) f4 := by
  rw [k0_part40_eq_skeleton]
  unfold k0_part40_skel
  dsimp only
  refine Run.load2 hB ?_
  refine Run.push0 (tilesT A B) 2 24 rfl ?_
  refine Run.load2 hB ?_
  refine Run.push1 (tilesT A B) 2 24 rfl ?_
  refine Run.load4 hA ?_
  refine Run.load2 hB ?_
  refine Run.push0 (tilesT A B) 2 25 (acc2 (tilesT A B) 2 24) ?_
  refine Run.load2 hB ?_
  refine Run.push1 (tilesT A B) 2 25 rfl ?_
  refine Run.load4 hA ?_
  refine Run.load2 hB ?_
  refine Run.push0 (tilesT A B) 2 26 (acc2 (tilesT A B) 2 25) ?_
  refine Run.load2 hB ?_
  refine Run.push1 (tilesT A B) 2 26 rfl ?_
  refine Run.load4 hA ?_
  refine Run.load2 hB ?_
  refine Run.push0 (tilesT A B) 2 27 (acc2 (tilesT A B) 2 26) ?_
  exact Run.ret rfl

/-- Part 41 of the body. -/
theorem run41 (hA : arg4.view.read (Elt F) f4 = A) (hB : arg2.view.read (Elt F) f2 = B) :
    Run (defs₀ (F := F)) (ctx c arg1 arg2 arg3 arg4 f1 f2) (k0_part41 i arg1 harg1 arg2 harg2 arg3 harg3 arg4 harg4 (st (tilesT A B) 497)) (arg3.view.writes (Elt F) f3 (pcs (tilesT A B) 4)) f4
      (st (tilesT A B) 509) (arg3.view.writes (Elt F) f3 (pcs (tilesT A B) 4)) f4 := by
  rw [k0_part41_eq_skeleton]
  unfold k0_part41_skel
  dsimp only
  refine Run.load2 hB ?_
  refine Run.push1 (tilesT A B) 2 27 rfl ?_
  refine Run.load4 hA ?_
  refine Run.load2 hB ?_
  refine Run.push0 (tilesT A B) 2 28 (acc2 (tilesT A B) 2 27) ?_
  refine Run.load2 hB ?_
  refine Run.push1 (tilesT A B) 2 28 rfl ?_
  refine Run.load4 hA ?_
  refine Run.load2 hB ?_
  refine Run.push0 (tilesT A B) 2 29 (acc2 (tilesT A B) 2 28) ?_
  refine Run.load2 hB ?_
  refine Run.push1 (tilesT A B) 2 29 rfl ?_
  refine Run.load4 hA ?_
  refine Run.load2 hB ?_
  refine Run.push0 (tilesT A B) 2 30 (acc2 (tilesT A B) 2 29) ?_
  exact Run.ret rfl

/-- Part 42 of the body. -/
theorem run42 (hA : arg4.view.read (Elt F) f4 = A) (hB : arg2.view.read (Elt F) f2 = B) :
    Run (defs₀ (F := F)) (ctx c arg1 arg2 arg3 arg4 f1 f2) (k0_part42 i arg1 harg1 arg2 harg2 arg3 harg3 arg4 harg4 (st (tilesT A B) 509)) (arg3.view.writes (Elt F) f3 (pcs (tilesT A B) 4)) f4
      (st (tilesT A B) 522) (arg3.view.writes (Elt F) f3 (pcs (tilesT A B) 4)) f4 := by
  rw [k0_part42_eq_skeleton]
  unfold k0_part42_skel
  dsimp only
  refine Run.load2 hB ?_
  refine Run.push1 (tilesT A B) 2 30 rfl ?_
  refine Run.load4 hA ?_
  refine Run.load2 hB ?_
  refine Run.push0 (tilesT A B) 2 31 (acc2 (tilesT A B) 2 30) ?_
  refine Run.load2 hB ?_
  refine Run.push1 (tilesT A B) 2 31 rfl ?_
  refine Run.load4 hA ?_
  refine Run.load2 hB ?_
  refine Run.push0 (tilesT A B) 2 32 (acc2 (tilesT A B) 2 31) ?_
  refine Run.load2 hB ?_
  refine Run.push1 (tilesT A B) 2 32 rfl ?_
  refine Run.load4 hA ?_
  refine Run.load2 hB ?_
  refine Run.push0 (tilesT A B) 2 33 (acc2 (tilesT A B) 2 32) ?_
  refine Run.load2 hB ?_
  refine Run.push1 (tilesT A B) 2 33 rfl ?_
  exact Run.ret rfl

end Cert.MmTIdeal.HandFrame

end
-- ==== Proof.MmTIdealWalk3.lean ====
/-
  Parts 43 to 62 of the body, each run from one state of the matrix unit to a later one.
-/
module

public import proofs.«01_k».proof.Proof.MmTIdealWalk0

@[expose] public section

set_option maxRecDepth 16384

noncomputable section

namespace Cert.MmTIdeal.HandFrame

open Idealize.ShloMosaic Idealize.ShloMosaic.TcCoe Idealize.SL.Sem Cert.MmTIdeal.Gen Cert.Mm Cert.Straight

variable {F : FTy → Type} [FloatOps F]

variable (c : Dev nD) (i : grid0.Coords) (arg1 : Memref sig .tc .vmem S512x2048 .f32) (harg1 : arg1.IsWhole) (arg2 : Memref sig .tc .vmem S3x2048x2048 .bf16) (harg2 : arg2.IsWhole) (arg3 : Memref sig .tc .vmem S512x2048 .f32) (harg3 : arg3.IsWhole) (arg4 : Memref sig .tc .vmem S3x512x2048 .bf16) (harg4 : arg4.IsWhole)
  (f1 : Buf (Elt F) (arg1.view.loc (c : Thread nD τ))) (f2 : Buf (Elt F) (arg2.view.loc (c : Thread nD τ)))
  (f3 : Buf (Elt F) (arg3.view.loc (c : Thread nD τ))) (f4 : Buf (Elt F) (arg4.view.loc (c : Thread nD τ)))
  (A : Vec F SA .bf16) (B : Vec F SB .bf16)

/-- Part 43 of the body. -/
theorem run43 (hA : arg4.view.read (Elt F) f4 = A) (hB : arg2.view.read (Elt F) f2 = B) :
    Run (defs₀ (F := F)) (ctx c arg1 arg2 arg3 arg4 f1 f2) (k0_part43 i arg1 harg1 arg2 harg2 arg3 harg3 arg4 harg4 (st (tilesT A B) 522)) (arg3.view.writes (Elt F) f3 (pcs (tilesT A B) 4)) f4
      (st (tilesT A B) 534) (arg3.view.writes (Elt F) f3 (pcs (tilesT A B) 4)) f4 := by
  rw [k0_part43_eq_skeleton]
  unfold k0_part43_skel
  dsimp only
  refine Run.load4 hA ?_
  refine Run.load2 hB ?_
  refine Run.push0 (tilesT A B) 2 34 (acc2 (tilesT A B) 2 33) ?_
  refine Run.load2 hB ?_
  refine Run.push1 (tilesT A B) 2 34 rfl ?_
  refine Run.load4 hA ?_
  refine Run.load2 hB ?_
  refine Run.push0 (tilesT A B) 2 35 (acc2 (tilesT A B) 2 34) ?_
  refine Run.load2 hB ?_
  refine Run.push1 (tilesT A B) 2 35 rfl ?_
  refine Run.load4 hA ?_
  refine Run.load2 hB ?_
  refine Run.push0 (tilesT A B) 2 36 (acc2 (tilesT A B) 2 35) ?_
  refine Run.load2 hB ?_
  refine Run.push1 (tilesT A B) 2 36 rfl ?_
  exact Run.ret rfl

/-- Part 44 of the body. -/
theorem run44 (hA : arg4.view.read (Elt F) f4 = A) (hB : arg2.view.read (Elt F) f2 = B) :
    Run (defs₀ (F := F)) (ctx c arg1 arg2 arg3 arg4 f1 f2) (k0_part44 i arg1 harg1 arg2 harg2 arg3 harg3 arg4 harg4 (st (tilesT A B) 534)) (arg3.view.writes (Elt F) f3 (pcs (tilesT A B) 4)) f4
      ⟨((tilesT A B).a 1 7), (st (tilesT A B) 547)⟩ (arg3.view.writes (Elt F) f3 (pcs (tilesT A B) 4)) f4 := by
  rw [k0_part44_eq_skeleton]
  unfold k0_part44_skel
  dsimp only
  refine Run.load4 hA ?_
  refine Run.load2 hB ?_
  refine Run.push0 (tilesT A B) 2 37 (acc2 (tilesT A B) 2 36) ?_
  refine Run.load2 hB ?_
  refine Run.push1 (tilesT A B) 2 37 rfl ?_
  refine Run.load4 hA ?_
  refine Run.load2 hB ?_
  refine Run.push0 (tilesT A B) 2 38 (acc2 (tilesT A B) 2 37) ?_
  refine Run.load2 hB ?_
  refine Run.push1 (tilesT A B) 2 38 rfl ?_
  refine Run.load4 hA ?_
  refine Run.load2 hB ?_
  refine Run.push0 (tilesT A B) 2 39 (acc2 (tilesT A B) 2 38) ?_
  refine Run.load2 hB ?_
  refine Run.push1 (tilesT A B) 2 39 rfl ?_
  refine Run.load4 hA ?_
  exact Run.ret (pair_eq rfl (acc0 (tilesT A B) 2 39 rfl))

/-- Part 45 of the body. -/
theorem run45 (hA : arg4.view.read (Elt F) f4 = A) (hB : arg2.view.read (Elt F) f2 = B) :
    Run (defs₀ (F := F)) (ctx c arg1 arg2 arg3 arg4 f1 f2) (k0_part45 i arg1 harg1 arg2 harg2 arg3 harg3 arg4 harg4 ((tilesT A B).a 1 7) (st (tilesT A B) 547)) (arg3.view.writes (Elt F) f3 (pcs (tilesT A B) 4)) f4
      (st (tilesT A B) 560) (arg3.view.writes (Elt F) f3 (pcs (tilesT A B) 4)) f4 := by
  rw [k0_part45_eq_skeleton]
  unfold k0_part45_skel
  dsimp only
  refine Run.load2 hB ?_
  refine Run.push0 (tilesT A B) 2 40 (acc1 (tilesT A B) 2 39 rfl) ?_
  refine Run.load2 hB ?_
  refine Run.push1 (tilesT A B) 2 40 rfl ?_
  refine Run.load4 hA ?_
  refine Run.load2 hB ?_
  refine Run.push0 (tilesT A B) 2 41 (acc2 (tilesT A B) 2 40) ?_
  refine Run.load2 hB ?_
  refine Run.push1 (tilesT A B) 2 41 rfl ?_
  refine Run.load4 hA ?_
  refine Run.load2 hB ?_
  refine Run.push0 (tilesT A B) 2 42 (acc2 (tilesT A B) 2 41) ?_
  refine Run.load2 hB ?_
  refine Run.push1 (tilesT A B) 2 42 rfl ?_
  refine Run.load4 hA ?_
  exact Run.ret (acc2 (tilesT A B) 2 42)

/-- Part 46 of the body. -/
theorem run46 (hA : arg4.view.read (Elt F) f4 = A) (hB : arg2.view.read (Elt F) f2 = B) :
    Run (defs₀ (F := F)) (ctx c arg1 arg2 arg3 arg4 f1 f2) (k0_part46 i arg1 harg1 arg2 harg2 arg3 harg3 arg4 harg4 (st (tilesT A B) 560)) (arg3.view.writes (Elt F) f3 (pcs (tilesT A B) 4)) f4
      ⟨(st (tilesT A B) 572), ((tilesT A B).b 0 4 6)⟩ (arg3.view.writes (Elt F) f3 (pcs (tilesT A B) 4)) f4 := by
  rw [k0_part46_eq_skeleton]
  unfold k0_part46_skel
  dsimp only
  refine Run.load2 hB ?_
  refine Run.push0 (tilesT A B) 2 43 rfl ?_
  refine Run.load2 hB ?_
  refine Run.push1 (tilesT A B) 2 43 rfl ?_
  refine Run.load4 hA ?_
  refine Run.load2 hB ?_
  refine Run.push0 (tilesT A B) 2 44 (acc2 (tilesT A B) 2 43) ?_
  refine Run.load2 hB ?_
  refine Run.push1 (tilesT A B) 2 44 rfl ?_
  refine Run.load4 hA ?_
  refine Run.load2 hB ?_
  refine Run.push0 (tilesT A B) 2 45 (acc2 (tilesT A B) 2 44) ?_
  refine Run.load2 hB ?_
  refine Run.push1 (tilesT A B) 2 45 rfl ?_
  refine Run.load4 hA ?_
  refine Run.load2 hB ?_
  exact Run.ret (pair_eq (acc2 (tilesT A B) 2 45) rfl)

/-- Part 47 of the body. -/
theorem run47 (hA : arg4.view.read (Elt F) f4 = A) (hB : arg2.view.read (Elt F) f2 = B) :
    Run (defs₀ (F := F)) (ctx c arg1 arg2 arg3 arg4 f1 f2) (k0_part47 i arg1 harg1 arg2 harg2 arg3 harg3 arg4 harg4 (st (tilesT A B) 572) ((tilesT A B).b 0 4 6)) (arg3.view.writes (Elt F) f3 (pcs (tilesT A B) 4)) f4
      (st (tilesT A B) 584) (arg3.view.writes (Elt F) f3 (pcs (tilesT A B) 6)) f4 := by
  rw [k0_part47_eq_skeleton]
  unfold k0_part47_skel
  dsimp only
  refine Run.push0 (tilesT A B) 2 46 rfl ?_
  refine Run.load2 hB ?_
  refine Run.push1 (tilesT A B) 2 46 rfl ?_
  refine Run.load4 hA ?_
  refine Run.load2 hB ?_
  refine Run.push0 (tilesT A B) 2 47 (acc2 (tilesT A B) 2 46) ?_
  refine Run.load2 hB ?_
  refine Run.push1 (tilesT A B) 2 47 rfl ?_
  refine Run.load4 hA ?_
  refine Run.load3 ?_
  refine Run.store3 (L' := pcs (tilesT A B) 5) (pcs_succ (tilesT A B) 4 (outP0 (tilesT A B) 2 (acc2 (tilesT A B) 2 47))) ?_
  refine Run.load3 ?_
  refine Run.store3 (L' := pcs (tilesT A B) 6) (pcs_succ (tilesT A B) 5 (outP1 (tilesT A B) 2 (st_pop (tilesT A B) 2 0 (by decide) (acc2 (tilesT A B) 2 47)))) ?_
  refine Run.load2 hB ?_
  refine Run.push0 (tilesT A B) 3 0 (st_pop (tilesT A B) 2 1 (by decide) (st_pop (tilesT A B) 2 0 (by decide) (acc2 (tilesT A B) 2 47))) ?_
  refine Run.load2 hB ?_
  refine Run.push1 (tilesT A B) 3 0 rfl ?_
  exact Run.ret rfl

/-- Part 48 of the body. -/
theorem run48 (hA : arg4.view.read (Elt F) f4 = A) (hB : arg2.view.read (Elt F) f2 = B) :
    Run (defs₀ (F := F)) (ctx c arg1 arg2 arg3 arg4 f1 f2) (k0_part48 i arg1 harg1 arg2 harg2 arg3 harg3 arg4 harg4 (st (tilesT A B) 584)) (arg3.view.writes (Elt F) f3 (pcs (tilesT A B) 6)) f4
      ⟨((tilesT A B).a 0 3), (st (tilesT A B) 597)⟩ (arg3.view.writes (Elt F) f3 (pcs (tilesT A B) 6)) f4 := by
  rw [k0_part48_eq_skeleton]
  unfold k0_part48_skel
  dsimp only
  refine Run.load4 hA ?_
  refine Run.load2 hB ?_
  refine Run.push0 (tilesT A B) 3 1 (acc2 (tilesT A B) 3 0) ?_
  refine Run.load2 hB ?_
  refine Run.push1 (tilesT A B) 3 1 rfl ?_
  refine Run.load4 hA ?_
  refine Run.load2 hB ?_
  refine Run.push0 (tilesT A B) 3 2 (acc2 (tilesT A B) 3 1) ?_
  refine Run.load2 hB ?_
  refine Run.push1 (tilesT A B) 3 2 rfl ?_
  refine Run.load4 hA ?_
  refine Run.load2 hB ?_
  refine Run.push0 (tilesT A B) 3 3 (acc2 (tilesT A B) 3 2) ?_
  refine Run.load2 hB ?_
  refine Run.push1 (tilesT A B) 3 3 rfl ?_
  refine Run.load4 hA ?_
  exact Run.ret (pair_eq rfl (acc0 (tilesT A B) 3 3 rfl))

/-- Part 49 of the body. -/
theorem run49 (hA : arg4.view.read (Elt F) f4 = A) (hB : arg2.view.read (Elt F) f2 = B) :
    Run (defs₀ (F := F)) (ctx c arg1 arg2 arg3 arg4 f1 f2) (k0_part49 i arg1 harg1 arg2 harg2 arg3 harg3 arg4 harg4 ((tilesT A B).a 0 3) (st (tilesT A B) 597)) (arg3.view.writes (Elt F) f3 (pcs (tilesT A B) 6)) f4
      (st (tilesT A B) 610) (arg3.view.writes (Elt F) f3 (pcs (tilesT A B) 6)) f4 := by
  rw [k0_part49_eq_skeleton]
  unfold k0_part49_skel
  dsimp only
  refine Run.load2 hB ?_
  refine Run.push0 (tilesT A B) 3 4 (acc1 (tilesT A B) 3 3 rfl) ?_
  refine Run.load2 hB ?_
  refine Run.push1 (tilesT A B) 3 4 rfl ?_
  refine Run.load4 hA ?_
  refine Run.load2 hB ?_
  refine Run.push0 (tilesT A B) 3 5 (acc2 (tilesT A B) 3 4) ?_
  refine Run.load2 hB ?_
  refine Run.push1 (tilesT A B) 3 5 rfl ?_
  refine Run.load4 hA ?_
  refine Run.load2 hB ?_
  refine Run.push0 (tilesT A B) 3 6 (acc2 (tilesT A B) 3 5) ?_
  refine Run.load2 hB ?_
  refine Run.push1 (tilesT A B) 3 6 rfl ?_
  refine Run.load4 hA ?_
  exact Run.ret (acc2 (tilesT A B) 3 6)

/-- Part 50 of the body. -/
theorem run50 (hA : arg4.view.read (Elt F) f4 = A) (hB : arg2.view.read (Elt F) f2 = B) :
    Run (defs₀ (F := F)) (ctx c arg1 arg2 arg3 arg4 f1 f2) (k0_part50 i arg1 harg1 arg2 harg2 arg3 harg3 arg4 harg4 (st (tilesT A B) 610)) (arg3.view.writes (Elt F) f3 (pcs (tilesT A B) 6)) f4
      ⟨(st (tilesT A B) 622), ((tilesT A B).b 1 6 2)⟩ (arg3.view.writes (Elt F) f3 (pcs (tilesT A B) 6)) f4 := by
  rw [k0_part50_eq_skeleton]
  unfold k0_part50_skel
  dsimp only
  refine Run.load2 hB ?_
  refine Run.push0 (tilesT A B) 3 7 rfl ?_
  refine Run.load2 hB ?_
  refine Run.push1 (tilesT A B) 3 7 rfl ?_
  refine Run.load4 hA ?_
  refine Run.load2 hB ?_
  refine Run.push0 (tilesT A B) 3 8 (acc2 (tilesT A B) 3 7) ?_
  refine Run.load2 hB ?_
  refine Run.push1 (tilesT A B) 3 8 rfl ?_
  refine Run.load4 hA ?_
  refine Run.load2 hB ?_
  refine Run.push0 (tilesT A B) 3 9 (acc2 (tilesT A B) 3 8) ?_
  refine Run.load2 hB ?_
  refine Run.push1 (tilesT A B) 3 9 rfl ?_
  refine Run.load4 hA ?_
  refine Run.load2 hB ?_
  exact Run.ret (pair_eq (acc2 (tilesT A B) 3 9) rfl)

/-- Part 51 of the body. -/
theorem run51 (hA : arg4.view.read (Elt F) f4 = A) (hB : arg2.view.read (Elt F) f2 = B) :
    Run (defs₀ (F := F)) (ctx c arg1 arg2 arg3 arg4 f1 f2) (k0_part51 i arg1 harg1 arg2 harg2 arg3 harg3 arg4 harg4 (st (tilesT A B) 622) ((tilesT A B).b 1 6 2)) (arg3.view.writes (Elt F) f3 (pcs (tilesT A B) 6)) f4
      (st (tilesT A B) 635) (arg3.view.writes (Elt F) f3 (pcs (tilesT A B) 6)) f4 := by
  rw [k0_part51_eq_skeleton]
  unfold k0_part51_skel
  dsimp only
  refine Run.push0 (tilesT A B) 3 10 rfl ?_
  refine Run.load2 hB ?_
  refine Run.push1 (tilesT A B) 3 10 rfl ?_
  refine Run.load4 hA ?_
  refine Run.load2 hB ?_
  refine Run.push0 (tilesT A B) 3 11 (acc2 (tilesT A B) 3 10) ?_
  refine Run.load2 hB ?_
  refine Run.push1 (tilesT A B) 3 11 rfl ?_
  refine Run.load4 hA ?_
  refine Run.load2 hB ?_
  refine Run.push0 (tilesT A B) 3 12 (acc2 (tilesT A B) 3 11) ?_
  refine Run.load2 hB ?_
  refine Run.push1 (tilesT A B) 3 12 rfl ?_
  refine Run.load4 hA ?_
  refine Run.load2 hB ?_
  refine Run.push0 (tilesT A B) 3 13 (acc2 (tilesT A B) 3 12) ?_
  exact Run.ret rfl

/-- Part 52 of the body. -/
theorem run52 (hA : arg4.view.read (Elt F) f4 = A) (hB : arg2.view.read (Elt F) f2 = B) :
    Run (defs₀ (F := F)) (ctx c arg1 arg2 arg3 arg4 f1 f2) (k0_part52 i arg1 harg1 arg2 harg2 arg3 harg3 arg4 harg4 (st (tilesT A B) 635)) (arg3.view.writes (Elt F) f3 (pcs (tilesT A B) 6)) f4
      ⟨(st (tilesT A B) 647), ((tilesT A B).b 0 7 0)⟩ (arg3.view.writes (Elt F) f3 (pcs (tilesT A B) 6)) f4 := by
  rw [k0_part52_eq_skeleton]
  unfold k0_part52_skel
  dsimp only
  refine Run.load2 hB ?_
  refine Run.push1 (tilesT A B) 3 13 rfl ?_
  refine Run.load4 hA ?_
  refine Run.load2 hB ?_
  refine Run.push0 (tilesT A B) 3 14 (acc2 (tilesT A B) 3 13) ?_
  refine Run.load2 hB ?_
  refine Run.push1 (tilesT A B) 3 14 rfl ?_
  refine Run.load4 hA ?_
  refine Run.load2 hB ?_
  refine Run.push0 (tilesT A B) 3 15 (acc2 (tilesT A B) 3 14) ?_
  refine Run.load2 hB ?_
  refine Run.push1 (tilesT A B) 3 15 rfl ?_
  refine Run.load4 hA ?_
  refine Run.load2 hB ?_
  refine Run.push0 (tilesT A B) 3 16 (acc2 (tilesT A B) 3 15) ?_
  refine Run.load2 hB ?_
  exact Run.ret (pair_eq rfl rfl)

/-- Part 53 of the body. -/
theorem run53 (hA : arg4.view.read (Elt F) f4 = A) (hB : arg2.view.read (Elt F) f2 = B) :
    Run (defs₀ (F := F)) (ctx c arg1 arg2 arg3 arg4 f1 f2) (k0_part53 i arg1 harg1 arg2 harg2 arg3 harg3 arg4 harg4 (st (tilesT A B) 647) ((tilesT A B).b 0 7 0)) (arg3.view.writes (Elt F) f3 (pcs (tilesT A B) 6)) f4
      (st (tilesT A B) 660) (arg3.view.writes (Elt F) f3 (pcs (tilesT A B) 6)) f4 := by
  rw [k0_part53_eq_skeleton]
  unfold k0_part53_skel
  dsimp only
  refine Run.push1 (tilesT A B) 3 16 rfl ?_
  refine Run.load4 hA ?_
  refine Run.load2 hB ?_
  refine Run.push0 (tilesT A B) 3 17 (acc2 (tilesT A B) 3 16) ?_
  refine Run.load2 hB ?_
  refine Run.push1 (tilesT A B) 3 17 rfl ?_
  refine Run.load4 hA ?_
  refine Run.load2 hB ?_
  refine Run.push0 (tilesT A B) 3 18 (acc2 (tilesT A B) 3 17) ?_
  refine Run.load2 hB ?_
  refine Run.push1 (tilesT A B) 3 18 rfl ?_
  refine Run.load4 hA ?_
  refine Run.load2 hB ?_
  refine Run.push0 (tilesT A B) 3 19 (acc2 (tilesT A B) 3 18) ?_
  refine Run.load2 hB ?_
  refine Run.push1 (tilesT A B) 3 19 rfl ?_
  exact Run.ret rfl

/-- Part 54 of the body. -/
theorem run54 (hA : arg4.view.read (Elt F) f4 = A) (hB : arg2.view.read (Elt F) f2 = B) :
    Run (defs₀ (F := F)) (ctx c arg1 arg2 arg3 arg4 f1 f2) (k0_part54 i arg1 harg1 arg2 harg2 arg3 harg3 arg4 harg4 (st (tilesT A B) 660)) (arg3.view.writes (Elt F) f3 (pcs (tilesT A B) 6)) f4
      ⟨(st (tilesT A B) 672), ((tilesT A B).a 2 6)⟩ (arg3.view.writes (Elt F) f3 (pcs (tilesT A B) 6)) f4 := by
  rw [k0_part54_eq_skeleton]
  unfold k0_part54_skel
  dsimp only
  refine Run.load4 hA ?_
  refine Run.load2 hB ?_
  refine Run.push0 (tilesT A B) 3 20 (acc2 (tilesT A B) 3 19) ?_
  refine Run.load2 hB ?_
  refine Run.push1 (tilesT A B) 3 20 rfl ?_
  refine Run.load4 hA ?_
  refine Run.load2 hB ?_
  refine Run.push0 (tilesT A B) 3 21 (acc2 (tilesT A B) 3 20) ?_
  refine Run.load2 hB ?_
  refine Run.push1 (tilesT A B) 3 21 rfl ?_
  refine Run.load4 hA ?_
  refine Run.load2 hB ?_
  refine Run.push0 (tilesT A B) 3 22 (acc2 (tilesT A B) 3 21) ?_
  refine Run.load2 hB ?_
  refine Run.push1 (tilesT A B) 3 22 rfl ?_
  refine Run.load4 hA ?_
  exact Run.ret (pair_eq rfl rfl)

/-- Part 55 of the body. -/
theorem run55 (hA : arg4.view.read (Elt F) f4 = A) (hB : arg2.view.read (Elt F) f2 = B) :
    Run (defs₀ (F := F)) (ctx c arg1 arg2 arg3 arg4 f1 f2) (k0_part55 i arg1 harg1 arg2 harg2 arg3 harg3 arg4 harg4 (st (tilesT A B) 672) ((tilesT A B).a 2 6)) (arg3.view.writes (Elt F) f3 (pcs (tilesT A B) 6)) f4
      (st (tilesT A B) 686) (arg3.view.writes (Elt F) f3 (pcs (tilesT A B) 6)) f4 := by
  rw [k0_part55_eq_skeleton]
  unfold k0_part55_skel
  dsimp only
  refine Run.load2 hB ?_
  refine Run.push0 (tilesT A B) 3 23 (acc2 (tilesT A B) 3 22) ?_
  refine Run.load2 hB ?_
  refine Run.push1 (tilesT A B) 3 23 rfl ?_
  refine Run.load4 hA ?_
  refine Run.load2 hB ?_
  refine Run.push0 (tilesT A B) 3 24 (acc2 (tilesT A B) 3 23) ?_
  refine Run.load2 hB ?_
  refine Run.push1 (tilesT A B) 3 24 rfl ?_
  refine Run.load4 hA ?_
  refine Run.load2 hB ?_
  refine Run.push0 (tilesT A B) 3 25 (acc2 (tilesT A B) 3 24) ?_
  refine Run.load2 hB ?_
  refine Run.push1 (tilesT A B) 3 25 rfl ?_
  refine Run.load4 hA ?_
  exact Run.ret (acc2 (tilesT A B) 3 25)

/-- Part 56 of the body. -/
theorem run56 (hA : arg4.view.read (Elt F) f4 = A) (hB : arg2.view.read (Elt F) f2 = B) :
    Run (defs₀ (F := F)) (ctx c arg1 arg2 arg3 arg4 f1 f2) (k0_part56 i arg1 harg1 arg2 harg2 arg3 harg3 arg4 harg4 (st (tilesT A B) 686)) (arg3.view.writes (Elt F) f3 (pcs (tilesT A B) 6)) f4
      ⟨(st (tilesT A B) 698), (View.ld B (rB 1 6 5))⟩ (arg3.view.writes (Elt F) f3 (pcs (tilesT A B) 6)) f4 := by
  rw [k0_part56_eq_skeleton]
  unfold k0_part56_skel
  dsimp only
  refine Run.load2 hB ?_
  refine Run.push0 (tilesT A B) 3 26 rfl ?_
  refine Run.load2 hB ?_
  refine Run.push1 (tilesT A B) 3 26 rfl ?_
  refine Run.load4 hA ?_
  refine Run.load2 hB ?_
  refine Run.push0 (tilesT A B) 3 27 (acc2 (tilesT A B) 3 26) ?_
  refine Run.load2 hB ?_
  refine Run.push1 (tilesT A B) 3 27 rfl ?_
  refine Run.load4 hA ?_
  refine Run.load2 hB ?_
  refine Run.push0 (tilesT A B) 3 28 (acc2 (tilesT A B) 3 27) ?_
  refine Run.load2 hB ?_
  refine Run.push1 (tilesT A B) 3 28 rfl ?_
  refine Run.load4 hA ?_
  refine Run.load2 hB ?_
  exact Run.ret (pair_eq (acc2 (tilesT A B) 3 28) rfl)

/-- Part 57 of the body. -/
theorem run57 (hA : arg4.view.read (Elt F) f4 = A) (hB : arg2.view.read (Elt F) f2 = B) :
    Run (defs₀ (F := F)) (ctx c arg1 arg2 arg3 arg4 f1 f2) (k0_part57 i arg1 harg1 arg2 harg2 arg3 harg3 arg4 harg4 (st (tilesT A B) 698) (View.ld B (rB 1 6 5))) (arg3.view.writes (Elt F) f3 (pcs (tilesT A B) 6)) f4
      (st (tilesT A B) 711) (arg3.view.writes (Elt F) f3 (pcs (tilesT A B) 6)) f4 := by
  rw [k0_part57_eq_skeleton]
  unfold k0_part57_skel
  dsimp only
  refine Run.push0 (tilesT A B) 3 29 rfl ?_
  refine Run.load2 hB ?_
  refine Run.push1 (tilesT A B) 3 29 rfl ?_
  refine Run.load4 hA ?_
  refine Run.load2 hB ?_
  refine Run.push0 (tilesT A B) 3 30 (acc2 (tilesT A B) 3 29) ?_
  refine Run.load2 hB ?_
  refine Run.push1 (tilesT A B) 3 30 rfl ?_
  refine Run.load4 hA ?_
  refine Run.load2 hB ?_
  refine Run.push0 (tilesT A B) 3 31 (acc2 (tilesT A B) 3 30) ?_
  refine Run.load2 hB ?_
  refine Run.push1 (tilesT A B) 3 31 rfl ?_
  refine Run.load4 hA ?_
  refine Run.load2 hB ?_
  refine Run.push0 (tilesT A B) 3 32 (acc2 (tilesT A B) 3 31) ?_
  exact Run.ret rfl

/-- Part 58 of the body. -/
theorem run58 (hA : arg4.view.read (Elt F) f4 = A) (hB : arg2.view.read (Elt F) f2 = B) :
    Run (defs₀ (F := F)) (ctx c arg1 arg2 arg3 arg4 f1 f2) (k0_part58 i arg1 harg1 arg2 harg2 arg3 harg3 arg4 harg4 (st (tilesT A B) 711)) (arg3.view.writes (Elt F) f3 (pcs (tilesT A B) 6)) f4
      ⟨(st (tilesT A B) 723), (View.ld B (rB 0 7 3))⟩ (arg3.view.writes (Elt F) f3 (pcs (tilesT A B) 6)) f4 := by
  rw [k0_part58_eq_skeleton]
  unfold k0_part58_skel
  dsimp only
  refine Run.load2 hB ?_
  refine Run.push1 (tilesT A B) 3 32 rfl ?_
  refine Run.load4 hA ?_
  refine Run.load2 hB ?_
  refine Run.push0 (tilesT A B) 3 33 (acc2 (tilesT A B) 3 32) ?_
  refine Run.load2 hB ?_
  refine Run.push1 (tilesT A B) 3 33 rfl ?_
  refine Run.load4 hA ?_
  refine Run.load2 hB ?_
  refine Run.push0 (tilesT A B) 3 34 (acc2 (tilesT A B) 3 33) ?_
  refine Run.load2 hB ?_
  refine Run.push1 (tilesT A B) 3 34 rfl ?_
  refine Run.load4 hA ?_
  refine Run.load2 hB ?_
  refine Run.push0 (tilesT A B) 3 35 (acc2 (tilesT A B) 3 34) ?_
  refine Run.load2 hB ?_
  exact Run.ret (pair_eq rfl rfl)

/-- Part 59 of the body. -/
theorem run59 (hA : arg4.view.read (Elt F) f4 = A) (hB : arg2.view.read (Elt F) f2 = B) :
    Run (defs₀ (F := F)) (ctx c arg1 arg2 arg3 arg4 f1 f2) (k0_part59 i arg1 harg1 arg2 harg2 arg3 harg3 arg4 harg4 (st (tilesT A B) 723) (View.ld B (rB 0 7 3))) (arg3.view.writes (Elt F) f3 (pcs (tilesT A B) 6)) f4
      (st (tilesT A B) 736) (arg3.view.writes (Elt F) f3 (pcs (tilesT A B) 6)) f4 := by
  rw [k0_part59_eq_skeleton]
  unfold k0_part59_skel
  dsimp only
  refine Run.push1 (tilesT A B) 3 35 rfl ?_
  refine Run.load4 hA ?_
  refine Run.load2 hB ?_
  refine Run.push0 (tilesT A B) 3 36 (acc2 (tilesT A B) 3 35) ?_
  refine Run.load2 hB ?_
  refine Run.push1 (tilesT A B) 3 36 rfl ?_
  refine Run.load4 hA ?_
  refine Run.load2 hB ?_
  refine Run.push0 (tilesT A B) 3 37 (acc2 (tilesT A B) 3 36) ?_
  refine Run.load2 hB ?_
  refine Run.push1 (tilesT A B) 3 37 rfl ?_
  refine Run.load4 hA ?_
  refine Run.load2 hB ?_
  refine Run.push0 (tilesT A B) 3 38 (acc2 (tilesT A B) 3 37) ?_
  refine Run.load2 hB ?_
  refine Run.push1 (tilesT A B) 3 38 rfl ?_
  exact Run.ret rfl

/-- Part 60 of the body. -/
theorem run60 (hA : arg4.view.read (Elt F) f4 = A) (hB : arg2.view.read (Elt F) f2 = B) :
    Run (defs₀ (F := F)) (ctx c arg1 arg2 arg3 arg4 f1 f2) (k0_part60 i arg1 harg1 arg2 harg2 arg3 harg3 arg4 harg4 (st (tilesT A B) 736)) (arg3.view.writes (Elt F) f3 (pcs (tilesT A B) 6)) f4
      ⟨(st (tilesT A B) 748), (View.ld A (rA 0 1))⟩ (arg3.view.writes (Elt F) f3 (pcs (tilesT A B) 6)) f4 := by
  rw [k0_part60_eq_skeleton]
  unfold k0_part60_skel
  dsimp only
  refine Run.load4 hA ?_
  refine Run.load2 hB ?_
  refine Run.push0 (tilesT A B) 3 39 (acc2 (tilesT A B) 3 38) ?_
  refine Run.load2 hB ?_
  refine Run.push1 (tilesT A B) 3 39 rfl ?_
  refine Run.load4 hA ?_
  refine Run.load2 hB ?_
  refine Run.push0 (tilesT A B) 3 40 (acc2 (tilesT A B) 3 39) ?_
  refine Run.load2 hB ?_
  refine Run.push1 (tilesT A B) 3 40 rfl ?_
  refine Run.load4 hA ?_
  refine Run.load2 hB ?_
  refine Run.push0 (tilesT A B) 3 41 (acc2 (tilesT A B) 3 40) ?_
  refine Run.load2 hB ?_
  refine Run.push1 (tilesT A B) 3 41 rfl ?_
  refine Run.load4 hA ?_
  exact Run.ret (pair_eq rfl rfl)

/-- Part 61 of the body. -/
theorem run61 (hA : arg4.view.read (Elt F) f4 = A) (hB : arg2.view.read (Elt F) f2 = B) :
    Run (defs₀ (F := F)) (ctx c arg1 arg2 arg3 arg4 f1 f2) (k0_part61 i arg1 harg1 arg2 harg2 arg3 harg3 arg4 harg4 (st (tilesT A B) 748) (View.ld A (rA 0 1))) (arg3.view.writes (Elt F) f3 (pcs (tilesT A B) 6)) f4
      (st (tilesT A B) 762) (arg3.view.writes (Elt F) f3 (pcs (tilesT A B) 6)) f4 := by
  rw [k0_part61_eq_skeleton]
  unfold k0_part61_skel
  dsimp only
  refine Run.load2 hB ?_
  refine Run.push0 (tilesT A B) 3 42 (acc2 (tilesT A B) 3 41) ?_
  refine Run.load2 hB ?_
  refine Run.push1 (tilesT A B) 3 42 rfl ?_
  refine Run.load4 hA ?_
  refine Run.load2 hB ?_
  refine Run.push0 (tilesT A B) 3 43 (acc2 (tilesT A B) 3 42) ?_
  refine Run.load2 hB ?_
  refine Run.push1 (tilesT A B) 3 43 rfl ?_
  refine Run.load4 hA ?_
  refine Run.load2 hB ?_
  refine Run.push0 (tilesT A B) 3 44 (acc2 (tilesT A B) 3 43) ?_
  refine Run.load2 hB ?_
  refine Run.push1 (tilesT A B) 3 44 rfl ?_
  refine Run.load4 hA ?_
  exact Run.ret (acc2 (tilesT A B) 3 44)

/-- Part 62 of the body. -/
theorem run62 (hA : arg4.view.read (Elt F) f4 = A) (hB : arg2.view.read (Elt F) f2 = B) :
    Run (defs₀ (F := F)) (ctx c arg1 arg2 arg3 arg4 f1 f2) (k0_part62 i arg1 harg1 arg2 harg2 arg3 harg3 arg4 harg4 (st (tilesT A B) 762)) (arg3.view.writes (Elt F) f3 (pcs (tilesT A B) 6)) f4
      ⟨(outP (tilesT A B) 6), (st (tilesT A B) 775)⟩ (arg3.view.writes (Elt F) f3 (pcs (tilesT A B) 6)) f4 := by
  rw [k0_part62_eq_skeleton]
  unfold k0_part62_skel
  dsimp only
  refine Run.load2 hB ?_
  refine Run.push0 (tilesT A B) 3 45 rfl ?_
  refine Run.load2 hB ?_
  refine Run.push1 (tilesT A B) 3 45 rfl ?_
  refine Run.load4 hA ?_
  refine Run.load2 hB ?_
  refine Run.push0 (tilesT A B) 3 46 (acc2 (tilesT A B) 3 45) ?_
  refine Run.load2 hB ?_
  refine Run.push1 (tilesT A B) 3 46 rfl ?_
  refine Run.load4 hA ?_
  refine Run.load2 hB ?_
  refine Run.push0 (tilesT A B) 3 47 (acc2 (tilesT A B) 3 46) ?_
  refine Run.load2 hB ?_
  refine Run.push1 (tilesT A B) 3 47 rfl ?_
  refine Run.load4 hA ?_
  exact Run.ret (pair_eq (outP0 (tilesT A B) 3 (acc2 (tilesT A B) 3 47)) (st_pop (tilesT A B) 3 0 (by decide) (acc2 (tilesT A B) 3 47)))

end Cert.MmTIdeal.HandFrame

end
-- ==== Proof.MmTIdealFrame.lean ====
/-
  The product's body as a whole, what it leaves in the result's block, and from it the call's run: every execution ends, the arguments
  unchanged, the result's blocks as computed, every counter at zero.
-/
module

public import proofs.«01_k».proof.Proof.MmTIdealWalk1
public import proofs.«01_k».proof.Proof.MmTIdealWalk2
public import proofs.«01_k».proof.Proof.MmTIdealWalk3
public import proofs.«01_k».proof.Proof.Gen.MmTIdeal.Frame
public import Idealize.ShloMosaic.Lib.Claim

@[expose] public section

set_option maxRecDepth 16384

noncomputable section

namespace Cert.MmTIdeal.HandFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MmTIdeal.Gen Cert.Mm Cert.Straight

variable {F : FTy → Type} [FloatOps F]

local notation "𝕄" => MT nD τ sig Unit (Elt F) ℕ (UR sig nD τ) ℕ

section

variable (c : Dev nD) (i : grid0.Coords) (arg1 : Memref sig .tc .vmem S512x2048 .f32) (harg1 : arg1.IsWhole) (arg2 : Memref sig .tc .vmem S3x2048x2048 .bf16) (harg2 : arg2.IsWhole) (arg3 : Memref sig .tc .vmem S512x2048 .f32) (harg3 : arg3.IsWhole) (arg4 : Memref sig .tc .vmem S3x512x2048 .bf16) (harg4 : arg4.IsWhole)
  (f1 : Buf (Elt F) (arg1.view.loc (c : Thread nD τ))) (f2 : Buf (Elt F) (arg2.view.loc (c : Thread nD τ)))
  (f3 : Buf (Elt F) (arg3.view.loc (c : Thread nD τ))) (f4 : Buf (Elt F) (arg4.view.loc (c : Thread nD τ)))
  (A : Vec F SA .bf16) (B : Vec F SB .bf16)

set_option maxHeartbeats 2000000 in
/-- Parts 1 to 60 of the body. -/
theorem run63 (x : Vec F S512x2048 .f32) (hx : arg1.view.read (Elt F) f1 = x)
    (hA : arg4.view.read (Elt F) (arg4.view.writes (Elt F) f4 (slabs x)) = A) (hB : arg2.view.read (Elt F) f2 = B) :
    Run (defs₀ (F := F)) (ctx c arg1 arg2 arg3 arg4 f1 f2) (k0_part63 i arg1 harg1 arg2 harg2 arg3 harg3 arg4 harg4) (arg3.view.writes (Elt F) f3 (pcs (tilesT A B) 0)) (arg4.view.writes (Elt F) f4 [])
      ⟨st (tilesT A B) 748, View.ld A (rA 0 1)⟩ (arg3.view.writes (Elt F) f3 (pcs (tilesT A B) 6)) (arg4.view.writes (Elt F) f4 (slabs x)) := by
  rw [k0_part63_eq_skeleton]
  unfold k0_part63_skel
  refine Run.bind (run1 c i arg1 harg1 arg2 harg2 arg3 harg3 arg4 harg4 f1 f2 f3 f4 A B x hx hA hB) ?_
  refine Run.bind (run2 c i arg1 harg1 arg2 harg2 arg3 harg3 arg4 harg4 f1 f2 f3 _ A B hA hB) ?_
  refine Run.bind (run3 c i arg1 harg1 arg2 harg2 arg3 harg3 arg4 harg4 f1 f2 f3 _ A B hA hB) ?_
  refine Run.bind (run4 c i arg1 harg1 arg2 harg2 arg3 harg3 arg4 harg4 f1 f2 f3 _ A B hA hB) ?_
  refine Run.bind (run5 c i arg1 harg1 arg2 harg2 arg3 harg3 arg4 harg4 f1 f2 f3 _ A B hA hB) ?_
  refine Run.bind (run6 c i arg1 harg1 arg2 harg2 arg3 harg3 arg4 harg4 f1 f2 f3 _ A B hA hB) ?_
  refine Run.bind (run7 c i arg1 harg1 arg2 harg2 arg3 harg3 arg4 harg4 f1 f2 f3 _ A B hA hB) ?_
  refine Run.bind (run8 c i arg1 harg1 arg2 harg2 arg3 harg3 arg4 harg4 f1 f2 f3 _ A B hA hB) ?_
  refine Run.bind (run9 c i arg1 harg1 arg2 harg2 arg3 harg3 arg4 harg4 f1 f2 f3 _ A B hA hB) ?_
  refine Run.bind (run10 c i arg1 harg1 arg2 harg2 arg3 harg3 arg4 harg4 f1 f2 f3 _ A B hA hB) ?_
  refine Run.bind (run11 c i arg1 harg1 arg2 harg2 arg3 harg3 arg4 harg4 f1 f2 f3 _ A B hA hB) ?_
  refine Run.bind (run12 c i arg1 harg1 arg2 harg2 arg3 harg3 arg4 harg4 f1 f2 f3 _ A B hA hB) ?_
  refine Run.bind (run13 c i arg1 harg1 arg2 harg2 arg3 harg3 arg4 harg4 f1 f2 f3 _ A B hA hB) ?_
  refine Run.bind (run14 c i arg1 harg1 arg2 harg2 arg3 harg3 arg4 harg4 f1 f2 f3 _ A B hA hB) ?_
  refine Run.bind (run15 c i arg1 harg1 arg2 harg2 arg3 harg3 arg4 harg4 f1 f2 f3 _ A B hA hB) ?_
  refine Run.bind (run16 c i arg1 harg1 arg2 harg2 arg3 harg3 arg4 harg4 f1 f2 f3 _ A B hA hB) ?_
  refine Run.bind (run17 c i arg1 harg1 arg2 harg2 arg3 harg3 arg4 harg4 f1 f2 f3 _ A B hA hB) ?_
  refine Run.bind (run18 c i arg1 harg1 arg2 harg2 arg3 harg3 arg4 harg4 f1 f2 f3 _ A B hA hB) ?_
  refine Run.bind (run19 c i arg1 harg1 arg2 harg2 arg3 harg3 arg4 harg4 f1 f2 f3 _ A B hA hB) ?_
  refine Run.bind (run20 c i arg1 harg1 arg2 harg2 arg3 harg3 arg4 harg4 f1 f2 f3 _ A B hA hB) ?_
  refine Run.bind (run21 c i arg1 harg1 arg2 harg2 arg3 harg3 arg4 harg4 f1 f2 f3 _ A B hA hB) ?_
  refine Run.bind (run22 c i arg1 harg1 arg2 harg2 arg3 harg3 arg4 harg4 f1 f2 f3 _ A B hA hB) ?_
  refine Run.bind (run23 c i arg1 harg1 arg2 harg2 arg3 harg3 arg4 harg4 f1 f2 f3 _ A B hA hB) ?_
  refine Run.bind (run24 c i arg1 harg1 arg2 harg2 arg3 harg3 arg4 harg4 f1 f2 f3 _ A B hA hB) ?_
  refine Run.bind (run25 c i arg1 harg1 arg2 harg2 arg3 harg3 arg4 harg4 f1 f2 f3 _ A B hA hB) ?_
  refine Run.bind (run26 c i arg1 harg1 arg2 harg2 arg3 harg3 arg4 harg4 f1 f2 f3 _ A B hA hB) ?_
  refine Run.bind (run27 c i arg1 harg1 arg2 harg2 arg3 harg3 arg4 harg4 f1 f2 f3 _ A B hA hB) ?_
  refine Run.bind (run28 c i arg1 harg1 arg2 harg2 arg3 harg3 arg4 harg4 f1 f2 f3 _ A B hA hB) ?_
  refine Run.bind (run29 c i arg1 harg1 arg2 harg2 arg3 harg3 arg4 harg4 f1 f2 f3 _ A B hA hB) ?_
  refine Run.bind (run30 c i arg1 harg1 arg2 harg2 arg3 harg3 arg4 harg4 f1 f2 f3 _ A B hA hB) ?_
  refine Run.bind (run31 c i arg1 harg1 arg2 harg2 arg3 harg3 arg4 harg4 f1 f2 f3 _ A B hA hB) ?_
  refine Run.bind (run32 c i arg1 harg1 arg2 harg2 arg3 harg3 arg4 harg4 f1 f2 f3 _ A B hA hB) ?_
  refine Run.bind (run33 c i arg1 harg1 arg2 harg2 arg3 harg3 arg4 harg4 f1 f2 f3 _ A B hA hB) ?_
  refine Run.bind (run34 c i arg1 harg1 arg2 harg2 arg3 harg3 arg4 harg4 f1 f2 f3 _ A B hA hB) ?_
  refine Run.bind (run35 c i arg1 harg1 arg2 harg2 arg3 harg3 arg4 harg4 f1 f2 f3 _ A B hA hB) ?_
  refine Run.bind (run36 c i arg1 harg1 arg2 harg2 arg3 harg3 arg4 harg4 f1 f2 f3 _ A B hA hB) ?_
  refine Run.bind (run37 c i arg1 harg1 arg2 harg2 arg3 harg3 arg4 harg4 f1 f2 f3 _ A B hA hB) ?_
  refine Run.bind (run38 c i arg1 harg1 arg2 harg2 arg3 harg3 arg4 harg4 f1 f2 f3 _ A B hA hB) ?_
  refine Run.bind (run39 c i arg1 harg1 arg2 harg2 arg3 harg3 arg4 harg4 f1 f2 f3 _ A B hA hB) ?_
  refine Run.bind (run40 c i arg1 harg1 arg2 harg2 arg3 harg3 arg4 harg4 f1 f2 f3 _ A B hA hB) ?_
  refine Run.bind (run41 c i arg1 harg1 arg2 harg2 arg3 harg3 arg4 harg4 f1 f2 f3 _ A B hA hB) ?_
  refine Run.bind (run42 c i arg1 harg1 arg2 harg2 arg3 harg3 arg4 harg4 f1 f2 f3 _ A B hA hB) ?_
  refine Run.bind (run43 c i arg1 harg1 arg2 harg2 arg3 harg3 arg4 harg4 f1 f2 f3 _ A B hA hB) ?_
  refine Run.bind (run44 c i arg1 harg1 arg2 harg2 arg3 harg3 arg4 harg4 f1 f2 f3 _ A B hA hB) ?_
  refine Run.bind (run45 c i arg1 harg1 arg2 harg2 arg3 harg3 arg4 harg4 f1 f2 f3 _ A B hA hB) ?_
  refine Run.bind (run46 c i arg1 harg1 arg2 harg2 arg3 harg3 arg4 harg4 f1 f2 f3 _ A B hA hB) ?_
  refine Run.bind (run47 c i arg1 harg1 arg2 harg2 arg3 harg3 arg4 harg4 f1 f2 f3 _ A B hA hB) ?_
  refine Run.bind (run48 c i arg1 harg1 arg2 harg2 arg3 harg3 arg4 harg4 f1 f2 f3 _ A B hA hB) ?_
  refine Run.bind (run49 c i arg1 harg1 arg2 harg2 arg3 harg3 arg4 harg4 f1 f2 f3 _ A B hA hB) ?_
  refine Run.bind (run50 c i arg1 harg1 arg2 harg2 arg3 harg3 arg4 harg4 f1 f2 f3 _ A B hA hB) ?_
  refine Run.bind (run51 c i arg1 harg1 arg2 harg2 arg3 harg3 arg4 harg4 f1 f2 f3 _ A B hA hB) ?_
  refine Run.bind (run52 c i arg1 harg1 arg2 harg2 arg3 harg3 arg4 harg4 f1 f2 f3 _ A B hA hB) ?_
  refine Run.bind (run53 c i arg1 harg1 arg2 harg2 arg3 harg3 arg4 harg4 f1 f2 f3 _ A B hA hB) ?_
  refine Run.bind (run54 c i arg1 harg1 arg2 harg2 arg3 harg3 arg4 harg4 f1 f2 f3 _ A B hA hB) ?_
  refine Run.bind (run55 c i arg1 harg1 arg2 harg2 arg3 harg3 arg4 harg4 f1 f2 f3 _ A B hA hB) ?_
  refine Run.bind (run56 c i arg1 harg1 arg2 harg2 arg3 harg3 arg4 harg4 f1 f2 f3 _ A B hA hB) ?_
  refine Run.bind (run57 c i arg1 harg1 arg2 harg2 arg3 harg3 arg4 harg4 f1 f2 f3 _ A B hA hB) ?_
  refine Run.bind (run58 c i arg1 harg1 arg2 harg2 arg3 harg3 arg4 harg4 f1 f2 f3 _ A B hA hB) ?_
  refine Run.bind (run59 c i arg1 harg1 arg2 harg2 arg3 harg3 arg4 harg4 f1 f2 f3 _ A B hA hB) ?_
  refine Run.bind (run60 c i arg1 harg1 arg2 harg2 arg3 harg3 arg4 harg4 f1 f2 f3 _ A B hA hB) ?_
  exact Run.ret rfl

set_option maxHeartbeats 2000000 in
/-- The body. -/
theorem run (x : Vec F S512x2048 .f32) (hx : arg1.view.read (Elt F) f1 = x)
    (hA : arg4.view.read (Elt F) (arg4.view.writes (Elt F) f4 (slabs x)) = A) (hB : arg2.view.read (Elt F) f2 = B) :
    Run (defs₀ (F := F)) (ctx c arg1 arg2 arg3 arg4 f1 f2) (cc0_mm_t1 i arg1 harg1 arg2 harg2 arg3 harg3 arg4 harg4) (arg3.view.writes (Elt F) f3 (pcs (tilesT A B) 0)) (arg4.view.writes (Elt F) f4 [])
      ⟨⟩ (arg3.view.writes (Elt F) f3 (pcs (tilesT A B) 8)) (arg4.view.writes (Elt F) f4 (slabs x)) := by
  rw [cc0_mm_t1_eq_skeleton]
  unfold cc0_mm_t1_skel
  refine Run.bind (run63 c i arg1 harg1 arg2 harg2 arg3 harg3 arg4 harg4 f1 f2 f3 f4 A B x hx hA hB) ?_
  refine Run.bind (run61 c i arg1 harg1 arg2 harg2 arg3 harg3 arg4 harg4 f1 f2 f3 _ A B hA hB) ?_
  refine Run.bind (run62 c i arg1 harg1 arg2 harg2 arg3 harg3 arg4 harg4 f1 f2 f3 _ A B hA hB) ?_
  refine Run.load3 ?_
  refine Run.store3 (pcs_succ (tilesT A B) 6 rfl) ?_
  refine Run.load3 ?_
  refine Run.store3 (pcs_succ (tilesT A B) 7 (outP1 (tilesT A B) 3 rfl)) ?_
  refine Run.exit (st (tilesT A B) (194 * 4)) (drained (tilesT A B) 4) (st_pop (tilesT A B) 3 1 (by decide) rfl) ?_
  exact Run.ret rfl

end

/-- The three stores of the first factor's pieces cover their buffer. -/
theorem cover_slabs (x : Vec F S512x2048 .f32) (y : SA.Idx) : ∃ pc ∈ slabs x, y ∈ pc.1.set :=
  View.cover_of_tiled (slabs x) SP1.size (by rfl) y

/-- The result's block after the body, of the first factor's block and the second factor's pieces. -/
def out (x : Vec F S512x2048 .f32) (B : Vec F SB .bf16) : Vec F S512x2048 .f32 :=
  View.canon (pcs (tilesT (View.canon (slabs x)) B) 8)

/-- The body's triple. -/
theorem sound_kernel (c : Dev nD) (E : Set ℕ) (i : grid0.Coords) (arg1 : Memref sig .tc .vmem S512x2048 .f32) (harg1 : arg1.IsWhole) (arg2 : Memref sig .tc .vmem S3x2048x2048 .bf16) (harg2 : arg2.IsWhole) (arg3 : Memref sig .tc .vmem S512x2048 .f32) (harg3 : arg3.IsWhole) (arg4 : Memref sig .tc .vmem S3x512x2048 .bf16) (harg4 : arg4.IsWhole)
    (x0 : Vec F S512x2048 .f32) (x1 : Vec F S3x2048x2048 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out x0 x1) ∗ (∃ d, owns (c : Thread nD τ) arg4 fullShare d)) -∗ K ⟨⟩))
      ⊢ wp frame (wpE (defs₀ (F := F)) Variants.none c none) E (cc0_mm_t1 i arg1 harg1 arg2 harg2 arg3 harg3 arg4 harg4) K := by
  unfold owns
  iintro ⟨⟨%f0, %hf0, H0⟩, ⟨%f1, %hf1, H1⟩, ⟨%d2, %f2, -, H2⟩, ⟨%d3, %f3, -, H3⟩, Hk⟩
  subst hf0 hf1
  have hA := View.read_writes_eq_canon arg4.view f3 (slabs (arg1.view.read (Elt F) f0)) (cover_slabs _)
  iapply (run c i arg1 harg1 arg2 harg2 arg3 harg3 arg4 harg4 f0 f1 f2 f3 _ _ _ rfl hA rfl E K)
  isplitl [H0 H1 H2 H3]
  · unfold Ctx.own
    isplitl [H0]; · iexact H0
    isplitl [H1]; · iexact H1
    isplitl [H2]
    · rw [pcs_zero]; iexact H2
    iexact H3
  unfold Ctx.own
  iintro ⟨H0, H1, H2, H3⟩
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_pcs _)
  iexists _; iexists _; isplitr
  swap; · iexact H3
  ipureintro; rfl

variable (m : (ℓ : Loc nD τ sig) → Buf (Elt F) ℓ) (ρ : Dev nD → PrngReg)

/-- The proof data of the one pipeline: the arrays as the region finds them; after the body each input's block in place and the
    result's block at `out` of them; the scratch and the generator register at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The scratch buffer and the generator register, the scratch as a memref owned at anything. -/
theorem PhiA0_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, PhiA0_eq]
  iintro ⟨⟨HS, Hg⟩, Ho, ⟨%d0, H0⟩, ⟨%d1, H1⟩, ⟨%d2, H2⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [HS]; · iexact HS
  iintro ⟨H0, H1, H2, HS⟩
  isplitl [HS Hg]
  · isplitl [HS]; · iexact HS
    iexact Hg
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the implicit arguments are found by unifying the conclusion with this one, which takes unfolding plain definitions in a
-- metavariable's type
set_option backward.isDefEq.respectTransparency.types false in
set_option maxHeartbeats 800000 in
/-- The launch: every array as the proof data gives it, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.MmTIdeal.HandFrame

end
-- ==== Proof.MmReal.lean ====
/-
  The product of a 512-row block over the reals: the sum the units' 48 passes make, put together to the six sums over the contraction,
  and, when the first factor's second and third pieces are zero and everything is finite, to one sum against the sum of the three pieces of
  the second factor.
-/
module

public import proofs.«01_k».proof.Proof.MmTile
public import Idealize.ShloMosaic.Lib.MatmulPlain
public import Idealize.ShloMosaic.Lib.KernelVsHost
public import Idealize.ShloMosaic.Lib.Pointwise
public import Idealize.ShloMosaic.Lib.Pipeline.ValueKit

@[expose] public section

noncomputable section

namespace Cert.Mm

open Idealize.ShloMosaic

/-! ## Sums over blocks -/

/-- A sum over `m` blocks of `w` terms, block by block. -/
theorem sum_blocks (w : ℕ) (G : ℕ → EReal) : ∀ m : ℕ,
    ∑ t ∈ Finset.range (m * w), G t = ∑ p ∈ Finset.range m, ∑ k ∈ Finset.range w, G (w * p + k)
  | 0 => by simp
  | m + 1 => by
    rw [Nat.add_mul, Nat.one_mul, Finset.sum_range_add, Finset.sum_range_succ, sum_blocks w G m, Nat.mul_comm m w]

/-- The 48 steps' sums of 256 terms are six sums of 2048. -/
theorem sum_steps (H : ℕ → ℕ → EReal) :
    ∑ t ∈ Finset.range 48, ∑ l ∈ Finset.range 256, H (t / 8) (256 * (t % 8) + l) = ∑ p ∈ Finset.range 6, ∑ k ∈ Finset.range 2048, H p k := by
  refine (sum_blocks 8 _ 6).trans (Finset.sum_congr rfl fun p _ => ?_)
  refine Eq.trans (Finset.sum_congr rfl fun k hk => Finset.sum_congr rfl fun l _ => ?_) (sum_blocks 256 (H p) 8).symm
  have := Finset.mem_range.mp hk
  rw [show (8 * p + k) / 8 = p by omega, show (8 * p + k) % 8 = k by omega]

/-! ## Tiles and passes, element by element -/

/-- An element of a piece of the first factor, by piece, row and column, -/
def eltA (A : Vec Ideal SA .bf16) (i : ℕ) (a : Fin 512) (k : ℕ) : EReal :=
  A (ix3 ⟨i % 3, Nat.mod_lt _ (by decide)⟩ a ⟨k % 2048, Nat.mod_lt _ (by decide)⟩)
/-- and of a piece of the second. -/
def eltB (B : Vec Ideal SB .bf16) (j p q : ℕ) : EReal :=
  B (ix3 ⟨j % 3, Nat.mod_lt _ (by decide)⟩ ⟨p % 2048, Nat.mod_lt _ (by decide)⟩ ⟨q % 2048, Nat.mod_lt _ (by decide)⟩)

/-- A one-page vector without its page axis. -/
theorem dropPage {α : Type} {M N : ℕ} (v : (⟨3, ![1, M, N]⟩ : Shape).Idx → α) (h : (⟨3, ![1, M, N]⟩ : Shape).ShapeCasts ⟨2, ![M, N]⟩)
    (a : Fin M) (b : Fin N) : shapeCast ⟨2, ![M, N]⟩ v h (ix2 a b) = v (ix3 0 a b) := by
  refine shapeCast_apply v h _ _ ?_
  rw [Shape.rowMajor_val_two, Shape.rowMajor_val_three]
  show (0 * M + a.val) * N + b.val = a.val * N + b.val
  rw [Nat.zero_mul, Nat.zero_add]

/-- A page axis put in front. -/
theorem addPage {α : Type} {M N : ℕ} (v : (⟨2, ![M, N]⟩ : Shape).Idx → α) (h : (⟨2, ![M, N]⟩ : Shape).ShapeCasts ⟨3, ![1, M, N]⟩)
    (z : Fin 1) (a : Fin M) (b : Fin N) : shapeCast ⟨3, ![1, M, N]⟩ v h (ix3 z a b) = v (ix2 a b) := by
  refine shapeCast_apply v h _ _ ?_
  rw [Shape.rowMajor_val_two, Shape.rowMajor_val_three]
  show a.val * N + b.val = (z.val * M + a.val) * N + b.val
  rw [show z.val = 0 by omega, Nat.zero_mul, Nat.zero_add]

theorem tileA_apply (A : Vec Ideal SA .bf16) (i k : ℕ) (h : SA1.ShapeCasts (Mxu.STile 512)) (a : Fin 512) (l : Fin 256) :
    shapeCast (Mxu.STile 512) (View.ld A (rA i k)) h (ix2 a l) = eltA A i a (256 * (k % 8) + l.val) := by
  refine (dropPage (View.ld A (rA i k)) h a l).trans (congrArg A (funext fun b => Fin.ext ?_))
  match b with
  | ⟨0, _⟩ => show i % 3 + 1 * 0 = i % 3; omega
  | ⟨1, _⟩ => show 0 + 1 * a.val = a.val; omega
  | ⟨2, _⟩ => show 256 * (k % 8) + 1 * l.val = (256 * (k % 8) + l.val) % 2048; omega

theorem tileB_apply (B : Vec Ideal SB .bf16) (j p q : ℕ) (h : SB1.ShapeCasts (Mxu.STile 256)) (c l : Fin 256) :
    shapeCast (Mxu.STile 256) (View.ld B (rB j p q)) h (ix2 c l) = eltB B j (256 * p + c.val) (256 * q + l.val) := by
  refine (dropPage (View.ld B (rB j p q)) h c l).trans (congrArg B (funext fun b => Fin.ext ?_))
  match b with
  | ⟨0, _⟩ => show j % 3 + 1 * 0 = j % 3; omega
  | ⟨1, _⟩ => show 256 * (p % 8) + 1 * c.val = (256 * p + c.val) % 2048; omega
  | ⟨2, _⟩ => show 256 * (q % 8) + 1 * l.val = (256 * q + l.val) % 2048; omega

/-- A pass with the tile staged as it is, -/
theorem pass_plain (v : FVec Ideal (Mxu.STile 256) .bf16) (u : FVec Ideal (Mxu.STile 512) .bf16) (a : Fin 512) (c : Fin 256) :
    (⟨.bf16, false, v⟩ : Mxu.Staged Ideal).pass u (ix2 a c) = ∑ l : Fin 256, (u (ix2 a l) : EReal) * (v (ix2 l c) : EReal) := by
  have h := Ideal.matmul_plain_apply none u v (fun _ => (0 : EReal)) a c
  rw [zero_add] at h
  refine Eq.trans ?_ h
  exact (zero_add _).symm

/-- and staged transposed. -/
theorem pass_transposed (v : FVec Ideal (Mxu.STile 256) .bf16) (u : FVec Ideal (Mxu.STile 512) .bf16) (a : Fin 512) (c : Fin 256) :
    (⟨.bf16, true, v⟩ : Mxu.Staged Ideal).pass u (ix2 a c) = ∑ l : Fin 256, (u (ix2 a l) : EReal) * (v (ix2 c l) : EReal) := by
  have h := Ideal.matmul_transposedRhs_apply none u v (fun _ => (0 : EReal)) a c
  rw [zero_add] at h
  refine Eq.trans ?_ h
  exact (zero_add _).symm

/-! ## The block stored -/

/-- What every pass of a product is: the sum of 256 products of `f` (piece, row, contraction index) and `g` (piece, column, contraction
    index). -/
def Reads (T : Tiles Ideal) (f : ℕ → Fin 512 → ℕ → EReal) (g : ℕ → ℕ → ℕ → EReal) : Prop :=
  ∀ (n q t : ℕ) (a : Fin 512) (c : Fin 256), (pass T n q t (ix2 a c) : EReal)
    = ∑ l ∈ Finset.range 256, f (pieceA (t / 8)) a (256 * (t % 8) + l) * g (pieceB (t / 8)) (256 * (2 * n + q) + c.val) (256 * (t % 8) + l)

theorem reads_tilesT (A : Vec Ideal SA .bf16) (B : Vec Ideal SB .bf16) : Reads (tilesT A B) (eltA A) (eltB B) := by
  intro n q t a c
  rw [Finset.sum_range]
  refine (pass_transposed _ _ a c).trans (Finset.sum_congr rfl fun l _ => congrArg₂ (· * ·) ?_ ?_)
  · exact (tileA_apply A _ _ _ a l).trans (by rw [Nat.mod_mod])
  · exact tileB_apply B _ _ _ _ c l

theorem reads_tilesN (A : Vec Ideal SA .bf16) (B : Vec Ideal SB .bf16) : Reads (tilesN A B) (eltA A) (fun j col k => eltB B j k col) := by
  intro n q t a c
  rw [Finset.sum_range]
  refine (pass_plain _ _ a c).trans (Finset.sum_congr rfl fun l _ => congrArg₂ (· * ·) ?_ ?_)
  · exact (tileA_apply A _ _ _ a l).trans (by rw [Nat.mod_mod])
  · exact tileB_apply B _ _ _ _ l c

section

variable {T : Tiles Ideal} {f : ℕ → Fin 512 → ℕ → EReal} {g : ℕ → ℕ → ℕ → EReal} (hT : Reads T f g)

/-- The six sums over the contraction. -/
def six (f : ℕ → Fin 512 → ℕ → EReal) (g : ℕ → ℕ → ℕ → EReal) (a : Fin 512) (col : ℕ) : EReal :=
  ∑ p ∈ Finset.range 6, ∑ k ∈ Finset.range 2048, f (pieceA p) a k * g (pieceB p) col k

theorem total_sum (n q : ℕ) (i : (Mxu.STile 512).Idx) : ∀ t : ℕ, (total T n q t i : EReal) = ∑ s ∈ Finset.range (t + 1), (pass T n q s i : EReal)
  | 0 => by simp [total]
  | t + 1 => by
    rw [Finset.sum_range_succ, ← total_sum n q i t]
    rfl

include hT

theorem total_eq (n q : ℕ) (a : Fin 512) (c : Fin 256) : (total T n q 47 (ix2 a c) : EReal) = six f g a (256 * (2 * n + q) + c.val) := by
  rw [total_sum]
  refine Eq.trans (Finset.sum_congr rfl fun t _ => hT n q t a c) ?_
  exact sum_steps fun p k => f (pieceA p) a k * g (pieceB p) (256 * (2 * n + q) + c.val) k

theorem outP_eq (j : ℕ) (a : Fin 512) (c : Fin 256) : (outP T j (ix2 a c) : EReal) = six f g a (256 * j + c.val) := by
  rcases Nat.even_or_odd' j with ⟨n, rfl | rfl⟩
  · rw [← outP0 T n rfl, read0]
    exact total_eq hT n 0 a c
  · rw [← outP1 T n rfl, read1]
    exact total_eq hT n 1 a c

theorem pcs_eq (J : ℕ) (hJ : J ≤ 8) : ∀ p ∈ pcs T J, ∀ x : p.1.shape.Idx, (p.2 x : EReal) = six f g (p.1.emb x 0) (p.1.emb x 1).val := by
  induction J with
  | zero => rw [pcs_zero]; intro p hp; simp at hp
  | succ J ih =>
    rw [← pcs_succ T J rfl]
    intro p hp
    rcases List.mem_cons.mp hp with rfl | hp
    · intro x
      obtain ⟨a, c, rfl⟩ : ∃ (a : Fin 512) (c : Fin 256), x = ix2 a c := ⟨x 0, x 1, by
        funext b
        match b with
        | ⟨0, _⟩ => rfl
        | ⟨1, _⟩ => rfl⟩
      refine (outP_eq hT J a c).trans ?_
      have e0 : (rO J).emb (ix2 a c) 0 = a := Fin.ext (by show 0 + 1 * a.val = a.val; omega)
      have e1 : ((rO J).emb (ix2 a c) 1).val = 256 * J + c.val := by show 256 * (J % 8) + 1 * c.val = _; omega
      exact congrArg₂ (six f g) e0.symm e1.symm
    · exact ih (by omega) p hp

/-- The block stored, at an index. -/
theorem canon_eq (y : SO.Idx) : (View.canon (pcs T 8) y : EReal) = six f g (y 0) (y 1).val :=
  View.canon_apply_of_pieces (Val := Elt Ideal) (e := .f32) (fun y => six f g (y 0) (y 1).val) (pcs T 8) (pcs_eq hT 8 le_rfl) y (cover_pcs T y)

end

/-! ## Finite factors -/

/-- A number that is no infinity. -/
def Finite (x : EReal) : Prop := ∃ r : ℝ, x = r

theorem Finite.sub_self {x : EReal} (h : Finite x) : x - x = 0 := by
  obtain ⟨r, rfl⟩ := h
  rw [← EReal.coe_sub, _root_.sub_self, EReal.coe_zero]

/-- Three products of one finite number as one. -/
theorem three {x y0 y1 y2 : EReal} (hx : Finite x) (h0 : Finite y0) (h1 : Finite y1) (h2 : Finite y2) :
    x * y2 + (x * y1 + x * y0) = x * ((y0 + y1) + y2) := by
  obtain ⟨x, rfl⟩ := hx
  obtain ⟨y0, rfl⟩ := h0
  obtain ⟨y1, rfl⟩ := h1
  obtain ⟨y2, rfl⟩ := h2
  norm_cast
  ring

/-- The six sums, the first factor's second and third pieces zero and the rest finite. -/
theorem six_eq (f : ℕ → Fin 512 → ℕ → EReal) (g : ℕ → ℕ → ℕ → EReal) (a : Fin 512) (col : ℕ) (hf : ∀ k, Finite (f 0 a k))
    (h1 : ∀ k, f 1 a k = 0) (h2 : ∀ k, f 2 a k = 0) (hg : ∀ j k, Finite (g j col k)) :
    six f g a col = ∑ k : Fin 2048, f 0 a k * ((g 0 col k + g 1 col k) + g 2 col k) := by
  rw [Finset.sum_range (f := fun k => f 0 a k * ((g 0 col k + g 1 col k) + g 2 col k)) |>.symm]
  unfold six
  simp only [Finset.sum_range_succ (n := 5), Finset.sum_range_succ (n := 4), Finset.sum_range_succ (n := 3), Finset.sum_range_succ (n := 2),
    Finset.sum_range_succ (n := 1), Finset.sum_range_succ (n := 0), Finset.sum_range_zero, pieceA, pieceB, h1, h2, zero_mul,
    Finset.sum_const_zero, zero_add, add_zero]
  rw [add_assoc, ← Finset.sum_add_distrib, ← Finset.sum_add_distrib]
  exact Finset.sum_congr rfl fun k _ => three (hf k) (hg 0 k) (hg 1 k) (hg 2 k)

/-! ## The block of a product of finite factors -/

/-- The three pieces of the first factor's block over the reals: the first is the block, the others are zero. -/
def pieces (x : Vec Ideal SO .f32) (y : SA.Idx) : EReal := if (y 0).val = 0 then x (ix2 (y 1) (y 2)) else 0

theorem pieces_first (x : Vec Ideal SO .f32) (z : Fin 3) (a : Fin 512) (k : Fin 2048) (h : z.val = 0) : pieces x (ix3 z a k) = x (ix2 a k) :=
  if_pos h
theorem pieces_other (x : Vec Ideal SO .f32) (z : Fin 3) (a : Fin 512) (k : Fin 2048) (h : z.val ≠ 0) : pieces x (ix3 z a k) = 0 :=
  if_neg h

attribute [irreducible] pieces

/-- Where an index of piece `j` stands among the pieces. -/
theorem emb_rP (j : ℕ) (z : Fin 3) (hz : z.val = j) (i : Fin 1) (a : Fin 512) (k : Fin 2048) : (rP j).emb (ix3 i a k) = ix3 z a k :=
  funext fun d => Fin.ext (by
    have := z.isLt
    match d with
    | ⟨0, _⟩ => show j % 3 + 1 * i.val = z.val; omega
    | ⟨1, _⟩ => show 0 + 1 * a.val = a.val; omega
    | ⟨2, _⟩ => show 0 + 1 * k.val = k.val; omega)

section

variable (x : Vec Ideal SO .f32) (hx : ∀ y, Finite (x y)) (A : Vec Ideal SA .bf16) (hA : ∀ y, (A y : EReal) = pieces x y)
  (B : Vec Ideal SB .bf16) (hB : ∀ y, Finite (B y)) (a : Fin 512) (b : Fin 2048)

include hA

theorem elt0 (k : ℕ) : eltA A 0 a k = x (ix2 a ⟨k % 2048, Nat.mod_lt _ (by decide)⟩) := (hA _).trans (pieces_first x _ a _ rfl)
theorem elt1 (k : ℕ) : eltA A 1 a k = 0 := (hA _).trans (pieces_other x _ a _ (by decide))
theorem elt2 (k : ℕ) : eltA A 2 a k = 0 := (hA _).trans (pieces_other x _ a _ (by decide))

include hx hB

/-- The block of the product with a transposed second factor, -/
theorem blockT : (View.canon (pcs (tilesT A B) 8) (ix2 a b) : EReal)
    = ∑ k : Fin 2048, (x (ix2 a k) : EReal) * (((B (ix3 0 b k) : EReal) + B (ix3 1 b k)) + B (ix3 2 b k)) := by
  refine (canon_eq (reads_tilesT A B) (ix2 a b)).trans ?_
  refine (six_eq (eltA A) (eltB B) a b.val (fun k => by rw [elt0 x A hA]; exact hx _) (elt1 x A hA a) (elt2 x A hA a)
    (fun j k => hB _)).trans ?_
  refine Finset.sum_congr rfl fun k _ => ?_
  rw [elt0 x A hA]
  unfold eltB
  rw [show (⟨b.val % 2048, Nat.mod_lt _ (by decide)⟩ : Fin 2048) = b from Fin.ext (Nat.mod_eq_of_lt b.isLt),
    show (⟨k.val % 2048, Nat.mod_lt _ (by decide)⟩ : Fin 2048) = k from Fin.ext (Nat.mod_eq_of_lt k.isLt)]
  rfl

/-- and of the plain product. -/
theorem blockN : (View.canon (pcs (tilesN A B) 8) (ix2 a b) : EReal)
    = ∑ k : Fin 2048, (x (ix2 a k) : EReal) * (((B (ix3 0 k b) : EReal) + B (ix3 1 k b)) + B (ix3 2 k b)) := by
  refine (canon_eq (reads_tilesN A B) (ix2 a b)).trans ?_
  refine (six_eq (eltA A) (fun j col k => eltB B j k col) a b.val (fun k => by rw [elt0 x A hA]; exact hx _) (elt1 x A hA a) (elt2 x A hA a)
    (fun j k => hB _)).trans ?_
  refine Finset.sum_congr rfl fun k _ => ?_
  rw [elt0 x A hA]
  unfold eltB
  rw [show (⟨b.val % 2048, Nat.mod_lt _ (by decide)⟩ : Fin 2048) = b from Fin.ext (Nat.mod_eq_of_lt b.isLt),
    show (⟨k.val % 2048, Nat.mod_lt _ (by decide)⟩ : Fin 2048) = k from Fin.ext (Nat.mod_eq_of_lt k.isLt)]
  rfl

end

/-- What the comparison with infinity says: `|x| < ∞`. -/
theorem finite_of_cmp (x : Ideal .f32)
    (h : FloatOps.cmpf .olt (FloatOps.hostAbsf x) (FloatOps.ofBits (F := Ideal) .f32 0x7F800000#32) = 1#1) : Finite x := by
  rw [← Ideal.xori_weird_eq_hostAbsf_olt_inf] at h
  have h' : IntOp.xori (BitVec.ofBool (decide ((x : EReal) = ⊤ ∨ (x : EReal) = ⊥))) 1#1 = 1#1 := h
  by_cases hx : (x : EReal) = ⊤ ∨ (x : EReal) = ⊥
  · rw [decide_eq_true hx] at h'
    exact absurd h' (by decide)
  · push Not at hx
    exact ⟨EReal.toReal x, (EReal.coe_toReal hx.1 hx.2).symm⟩

end Cert.Mm

end
-- ==== Proof.MmTValue.lean ====
/-
  The product with a transposed second factor (`mm6`): each grid point takes 512 rows of the first factor, splits them into three pieces and
  sums the six leading products of pieces. For finite factors the result array ends equal to that of the reference, which takes all 2048
  rows at once against the sum of the second factor's pieces.
-/
module

public import proofs.«01_k».proof.Proof.MmTIdealFrame
public import proofs.«01_k».proof.Proof.MmReal
public import proofs.«01_k».proof.Proof.Gen.MmTRefIdeal.Value
public import proofs.«01_k».proof.Proof.Gen.Pre_finite
public import proofs.«01_k».proof.Defs

@[expose] public section

set_option maxRecDepth 16384

noncomputable section

/-! ## The reference -/

namespace Cert.MmTRefIdeal.RefValue

open Cert.MmTRefIdeal Cert.MmTRefIdeal.Gen Cert.Mm Idealize.ShloMosaic

/-- An element of piece `j` of the second factor. -/
theorem page0 (B : Vec Ideal S3x2048x2048 .bf16) (p q : Fin 2048) : View.ld B r0_0 (ix3 0 p q) = B (ix3 0 p q) :=
  congrArg B (funext fun b => Fin.ext (by
    match b with
    | ⟨0, _⟩ => rfl
    | ⟨1, _⟩ => show 0 + 1 * p.val = p.val; omega
    | ⟨2, _⟩ => show 0 + 1 * q.val = q.val; omega))
theorem page1 (B : Vec Ideal S3x2048x2048 .bf16) (p q : Fin 2048) : View.ld B r0_1 (ix3 0 p q) = B (ix3 1 p q) :=
  congrArg B (funext fun b => Fin.ext (by
    match b with
    | ⟨0, _⟩ => rfl
    | ⟨1, _⟩ => show 0 + 1 * p.val = p.val; omega
    | ⟨2, _⟩ => show 0 + 1 * q.val = q.val; omega))
theorem page2 (B : Vec Ideal S3x2048x2048 .bf16) (p q : Fin 2048) : View.ld B r0_2 (ix3 0 p q) = B (ix3 2 p q) :=
  congrArg B (funext fun b => Fin.ext (by
    match b with
    | ⟨0, _⟩ => rfl
    | ⟨1, _⟩ => show 0 + 1 * p.val = p.val; omega
    | ⟨2, _⟩ => show 0 + 1 * q.val = q.val; omega))

/-- An element of the product, from its loads, -/
theorem pay1_eq (v0 v1 v2 : Vec Ideal S1x2048x2048 .bf16) (x : Vec Ideal S2048x2048 .f32) (a b : Fin 2048) :
    k0_pay1 v0 v1 v2 x (ix2 a b) = ∑ k : Fin 2048, (x (ix2 a k) : EReal) * (((v0 (ix3 0 b k) : EReal) + v1 (ix3 0 b k)) + v2 (ix3 0 b k)) := by
  pointwise [k0_pay1]

/-- and from its arguments. -/
theorem G2_eq (x : Vec Ideal S2048x2048 .f32) (B : Vec Ideal S3x2048x2048 .bf16) (a b : Fin 2048) :
    Cert.MmTRefIdeal.Value.G2 x B (ix2 a b)
      = ∑ k : Fin 2048, (x (ix2 a k) : EReal) * (((B (ix3 0 b k) : EReal) + B (ix3 1 b k)) + B (ix3 2 b k)) :=
  (pay1_eq _ _ _ x a b).trans (Finset.sum_congr rfl fun k _ => by rw [page0, page1, page2])

end Cert.MmTRefIdeal.RefValue

/-! ## A grid point -/

namespace Cert.MmTIdeal.RefValue

open Cert.MmTIdeal Cert.MmTIdeal.Gen Cert.MmTIdeal.HandFrame Cert.Mm Idealize.ShloMosaic Idealize.ShloMosaic.TcCoe Idealize.SL.Sem
open Idealize.ShloMosaic.Pipeline (Dat)

section

variable (x : Vec Ideal S512x2048 .f32) (hx : ∀ y, Finite (x y)) (a : Fin 512) (k : Fin 2048)

theorem ld_x : View.ld x (Rect.unit (s := S512x2048) ![0, 0] S512x2048.size inb_S512x2048_S512x2048_0_0) = x := by
  refine funext fun y => congrArg x (funext fun b => Fin.ext ?_)
  match b with
  | ⟨0, _⟩ => show 0 + 1 * (y 0).val = (y 0).val; omega
  | ⟨1, _⟩ => show 0 + 1 * (y 1).val = (y 1).val; omega

theorem slabs_eq : slabs x = [⟨rP 2, k0_pay6 x⟩, ⟨rP 1, k0_pay5 x⟩, ⟨rP 0, k0_pay4 x⟩] :=
  congrArg (fun z : Vec Ideal S512x2048 .f32 =>
    ([⟨rP 2, k0_pay6 z⟩, ⟨rP 1, k0_pay5 z⟩, ⟨rP 0, k0_pay4 z⟩] : List (View.Piece (Elt Ideal) SA .bf16))) (ld_x x)

theorem pay4_eq (z : Fin 1) : (k0_pay4 x (ix3 z a k) : EReal) = x (ix2 a k) :=
  addPage (k0_pay1 x) shapeCasts_S512x2048_S1x512x2048 z a k

include hx

theorem pay5_eq (z : Fin 1) : (k0_pay5 x (ix3 z a k) : EReal) = 0 :=
  (addPage (k0_pay3 x) shapeCasts_S512x2048_S1x512x2048 z a k).trans (hx (ix2 a k)).sub_self

theorem pay6_eq (z : Fin 1) : (k0_pay6 x (ix3 z a k) : EReal) = 0 := by
  refine (addPage (fun y => ((x y : EReal) - (x y : EReal)) - ((x y : EReal) - (x y : EReal))) shapeCasts_S512x2048_S1x512x2048 z a k).trans ?_
  show ((x (ix2 a k) : EReal) - x (ix2 a k)) - (x (ix2 a k) - x (ix2 a k)) = 0
  rw [(hx _).sub_self, sub_zero]

theorem canon_slabs (y : SA.Idx) : (View.canon (slabs x) y : EReal) = pieces x y := by
  refine View.canon_apply_of_pieces (Val := Elt Ideal) (e := .bf16) (pieces x) (slabs x) (fun p hp => ?_) y (cover_slabs x y)
  have key : ∀ z : SP1.Idx, ∃ (i : Fin 1) (b : Fin 512) (l : Fin 2048), z = ix3 i b l := fun z => ⟨z 0, z 1, z 2, by
    funext b
    match b with
    | ⟨0, _⟩ => rfl
    | ⟨1, _⟩ => rfl
    | ⟨2, _⟩ => rfl⟩
  simp only [slabs_eq, List.mem_cons, List.not_mem_nil, or_false] at hp
  rcases hp with rfl | rfl | rfl <;> intro z <;> obtain ⟨i, b, l, rfl⟩ := key z
  · exact (pay6_eq x hx b l i).trans ((congrArg (pieces x) (emb_rP 2 2 rfl i b l)).trans (pieces_other x 2 b l (by decide))).symm
  · exact (pay5_eq x hx b l i).trans ((congrArg (pieces x) (emb_rP 1 1 rfl i b l)).trans (pieces_other x 1 b l (by decide))).symm
  · exact (pay4_eq x b l i).trans ((congrArg (pieces x) (emb_rP 0 0 rfl i b l)).trans (pieces_first x 0 b l rfl)).symm

/-- The block a grid point stores. -/
theorem out_eq (B : Vec Ideal S3x2048x2048 .bf16) (hB : ∀ y, Finite (B y)) (b : Fin 2048) : (out x B (ix2 a b) : EReal)
    = ∑ k : Fin 2048, (x (ix2 a k) : EReal) * (((B (ix3 0 b k) : EReal) + B (ix3 1 b k)) + B (ix3 2 b k)) :=
  blockT x hx (View.canon (slabs x)) (canon_slabs x hx) B hB a b

end

/-! ## The arrays -/

variable (m : (ℓ : Loc nD τ sig) → Buf (Elt Ideal) ℓ) (ρ : Dev nD → PrngReg)

/-- The first factor. -/
abbrev X (c : Dev nD) : Vec Ideal S2048x2048 .f32 := m ((c : Thread nD τ).loc main_arg0)
/-- The second factor's pieces. -/
abbrev B3 (c : Dev nD) : Vec Ideal S3x2048x2048 .bf16 := m ((c : Thread nD τ).loc main_arg1)

/-- Where each window stands at grid point `t`. -/
theorem idx : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

/-- The array's row that is row `a` of block `t`. -/
def row (t : Fin cfg0.N) (a : Fin 512) : Fin 2048 := ⟨t.val * 512 + a.val, by
  have h : t.val < 4 := lt_of_lt_of_eq t.isLt N_0
  omega⟩

theorem iblk0 (c : Dev nD) (t : Fin cfg0.N) (a : Fin 512) (k : Fin 2048) : iblk m c 0 t (ix2 a k) = X m c (ix2 (row t a) k) := by
  blk_ext [iblk, V, idx t, row]
theorem iblk1 (c : Dev nD) (t : Fin cfg0.N) (j : Fin 3) (p q : Fin 2048) : iblk m c 1 t (ix3 j p q) = B3 m c (ix3 j p q) := by
  blk_ext [iblk, V, idx t]

theorem covers2 : (cfg0.win 2).Covers := by decide +kernel

/-- The factors the precondition admits are finite. -/
theorem finiteX (hpre : Cert.Pre_MmTIdeal_finite m) (c : Dev nD) (y : S2048x2048.Idx) : Finite (X m c y) :=
  finite_of_cmp _ (congrFun (hpre c).1 y)
theorem finiteB (hpre : Cert.Pre_MmTIdeal_finite m) (c : Dev nD) (y : S3x2048x2048.Idx) : Finite (B3 m c y) :=
  finite_of_cmp _ (congrFun (hpre c).2 y)

/-- The result array. -/
theorem final2 (hpre : Cert.Pre_MmTIdeal_finite m) (c : Dev nD) :
    (dats m 0 c).arrAt 2 cfg0.N = Cert.MmTRefIdeal.Value.G2 (X m c) (B3 m c) := by
  refine (dats m 0 c).arrAt_eq_of_covers 2 _ covers2 fun t hf y => ?_
  blk_simp
  rw [after0_2]
  idx_vars y
  have e : ((View.whole main_v0).slice (win0_2.rect t)).emb (ix2 y0 y1) = ix2 (row t y0) y1 := by
    blk_ext [idx t, row]
  rw [e]
  have hx : ∀ y, Finite (iblk m c 0 t y) := fun y => finiteX m hpre c _
  have hB : ∀ y, Finite (iblk m c 1 t y) := fun y => finiteB m hpre c _
  refine (out_eq (iblk m c 0 t) hx y0 (iblk m c 1 t) hB y1).trans ?_
  refine Eq.trans (Finset.sum_congr rfl fun k _ => ?_) (Cert.MmTRefIdeal.RefValue.G2_eq (X m c) (B3 m c) (row t y0) y1).symm
  rw [iblk0, iblk1, iblk1, iblk1]

/-- The run of the kernel, its result named by the reference's function of the arguments. -/
theorem run (hpre : Cert.Pre_MmTIdeal_finite m) : θ_run defs (onTc (τ := τ) (main (F := Ideal))) ⟨m, fun _ => 0, ρ⟩ fun r => ∀ c : Dev nD,
      r.2.mem ((c : Thread nD τ).loc main_v0) = Cert.MmTRefIdeal.Value.G2 (X m c) (B3 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m hpre c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

end Cert.MmTIdeal.RefValue

end
-- ==== Proof.MmNIdealWalk0.lean ====
/-
  The pieces the first factor is split into, and the body's memrefs.
-/
module

public import proofs.«01_k».proof.Proof.MmStep
public import proofs.«01_k».proof.Proof.Gen.MmNIdeal.Skeleton
public import proofs.«01_k».proof.Proof.Gen.MmNIdeal.Launch

@[expose] public section

set_option maxRecDepth 16384

noncomputable section

namespace Cert.MmNIdeal.HandFrame

open Idealize.ShloMosaic Idealize.ShloMosaic.TcCoe Idealize.SL.Sem Cert.MmNIdeal.Gen Cert.Mm Cert.Straight

variable {F : FTy → Type} [FloatOps F]

/-- The body's memrefs and the contents of the two it only reads. -/
abbrev ctx (c : Dev nD) (arg1 : Memref sig .tc .vmem S512x2048 .f32) (arg2 : Memref sig .tc .vmem S3x2048x2048 .bf16) (arg3 : Memref sig .tc .vmem S512x2048 .f32) (arg4 : Memref sig .tc .vmem S3x512x2048 .bf16)
    (f1 : Buf (Elt F) (arg1.view.loc (c : Thread nD τ))) (f2 : Buf (Elt F) (arg2.view.loc (c : Thread nD τ))) : Ctx F nD τ sig :=
  ⟨c, _, _, _, _, _, _, _, _, arg1, arg2, arg3, arg4, f1, f2⟩

/-- The three stores of the first factor's pieces, the last first: the block rounded, its remainder rounded, the second remainder. -/
def slabs (x : Vec F S512x2048 .f32) : List (View.Piece (Elt F) SA .bf16) :=
  [⟨rP 2, k0_pay6 (View.ld x (Rect.unit (s := S512x2048) ![0, 0] S512x2048.size inb_S512x2048_S512x2048_0_0))⟩,
    ⟨rP 1, k0_pay5 (View.ld x (Rect.unit (s := S512x2048) ![0, 0] S512x2048.size inb_S512x2048_S512x2048_0_0))⟩,
    ⟨rP 0, k0_pay4 (View.ld x (Rect.unit (s := S512x2048) ![0, 0] S512x2048.size inb_S512x2048_S512x2048_0_0))⟩]

end Cert.MmNIdeal.HandFrame

end
-- ==== Proof.MmNIdealWalk1.lean ====
/-
  Parts 1 to 21 of the body, each run from one state of the matrix unit to a later one.
-/
module

public import proofs.«01_k».proof.Proof.MmNIdealWalk0

@[expose] public section

set_option maxRecDepth 16384

noncomputable section

namespace Cert.MmNIdeal.HandFrame

open Idealize.ShloMosaic Idealize.ShloMosaic.TcCoe Idealize.SL.Sem Cert.MmNIdeal.Gen Cert.Mm Cert.Straight

variable {F : FTy → Type} [FloatOps F]

variable (c : Dev nD) (i : grid0.Coords) (arg1 : Memref sig .tc .vmem S512x2048 .f32) (harg1 : arg1.IsWhole) (arg2 : Memref sig .tc .vmem S3x2048x2048 .bf16) (harg2 : arg2.IsWhole) (arg3 : Memref sig .tc .vmem S512x2048 .f32) (harg3 : arg3.IsWhole) (arg4 : Memref sig .tc .vmem S3x512x2048 .bf16) (harg4 : arg4.IsWhole)
  (f1 : Buf (Elt F) (arg1.view.loc (c : Thread nD τ))) (f2 : Buf (Elt F) (arg2.view.loc (c : Thread nD τ)))
  (f3 : Buf (Elt F) (arg3.view.loc (c : Thread nD τ))) (f4 : Buf (Elt F) (arg4.view.loc (c : Thread nD τ)))
  (A : Vec F SA .bf16) (B : Vec F SB .bf16)

/-- Part 1 of the body. -/
theorem run1 (x : Vec F S512x2048 .f32) (hx : arg1.view.read (Elt F) f1 = x)
    (hA : arg4.view.read (Elt F) (arg4.view.writes (Elt F) f4 (slabs x)) = A) (hB : arg2.view.read (Elt F) f2 = B) :
    Run (defs₀ (F := F)) (ctx c arg1 arg2 arg3 arg4 f1 f2) (k0_part1 i arg1 harg1 arg2 harg2 arg3 harg3 arg4 harg4) (arg3.view.writes (Elt F) f3 (pcs (tilesN A B) 0)) (arg4.view.writes (Elt F) f4 [])
      (st (tilesN A B) 5) (arg3.view.writes (Elt F) f3 (pcs (tilesN A B) 0)) (arg4.view.writes (Elt F) f4 (slabs x)) := by
  subst hx
  rw [k0_part1_eq_skeleton]
  unfold k0_part1_skel
  dsimp only
  refine Run.load1 ?_
  refine Run.load4 rfl ?_
  refine Run.store4 ?_
  refine Run.load4 rfl ?_
  refine Run.store4 ?_
  refine Run.load4 rfl ?_
  refine Run.store4 ?_
  refine Run.load2 hB ?_
  refine Run.push0 (tilesN A B) 0 0 (st_zero (tilesN A B)).symm ?_
  refine Run.load2 hB ?_
  refine Run.push1 (tilesN A B) 0 0 rfl ?_
  refine Run.load4 hA ?_
  refine Run.load2 hB ?_
  refine Run.push0 (tilesN A B) 0 1 (acc2 (tilesN A B) 0 0) ?_
  exact Run.ret rfl

/-- Part 2 of the body. -/
theorem run2 (hA : arg4.view.read (Elt F) f4 = A) (hB : arg2.view.read (Elt F) f2 = B) :
    Run (defs₀ (F := F)) (ctx c arg1 arg2 arg3 arg4 f1 f2) (k0_part2 i arg1 harg1 arg2 harg2 arg3 harg3 arg4 harg4 (st (tilesN A B) 5)) (arg3.view.writes (Elt F) f3 (pcs (tilesN A B) 0)) f4
      ⟨(st (tilesN A B) 17), ((tilesN A B).b 2 1 4)⟩ (arg3.view.writes (Elt F) f3 (pcs (tilesN A B) 0)) f4 := by
  rw [k0_part2_eq_skeleton]
  unfold k0_part2_skel
  dsimp only
  refine Run.load2 hB ?_
  refine Run.push1 (tilesN A B) 0 1 rfl ?_
  refine Run.load4 hA ?_
  refine Run.load2 hB ?_
  refine Run.push0 (tilesN A B) 0 2 (acc2 (tilesN A B) 0 1) ?_
  refine Run.load2 hB ?_
  refine Run.push1 (tilesN A B) 0 2 rfl ?_
  refine Run.load4 hA ?_
  refine Run.load2 hB ?_
  refine Run.push0 (tilesN A B) 0 3 (acc2 (tilesN A B) 0 2) ?_
  refine Run.load2 hB ?_
  refine Run.push1 (tilesN A B) 0 3 rfl ?_
  refine Run.load4 hA ?_
  refine Run.load2 hB ?_
  refine Run.push0 (tilesN A B) 0 4 (acc2 (tilesN A B) 0 3) ?_
  refine Run.load2 hB ?_
  exact Run.ret (pair_eq rfl rfl)

/-- Part 3 of the body. -/
theorem run3 (hA : arg4.view.read (Elt F) f4 = A) (hB : arg2.view.read (Elt F) f2 = B) :
    Run (defs₀ (F := F)) (ctx c arg1 arg2 arg3 arg4 f1 f2) (k0_part3 i arg1 harg1 arg2 harg2 arg3 harg3 arg4 harg4 (st (tilesN A B) 17) ((tilesN A B).b 2 1 4)) (arg3.view.writes (Elt F) f3 (pcs (tilesN A B) 0)) f4
      (st (tilesN A B) 30) (arg3.view.writes (Elt F) f3 (pcs (tilesN A B) 0)) f4 := by
  rw [k0_part3_eq_skeleton]
  unfold k0_part3_skel
  dsimp only
  refine Run.push1 (tilesN A B) 0 4 rfl ?_
  refine Run.load4 hA ?_
  refine Run.load2 hB ?_
  refine Run.push0 (tilesN A B) 0 5 (acc2 (tilesN A B) 0 4) ?_
  refine Run.load2 hB ?_
  refine Run.push1 (tilesN A B) 0 5 rfl ?_
  refine Run.load4 hA ?_
  refine Run.load2 hB ?_
  refine Run.push0 (tilesN A B) 0 6 (acc2 (tilesN A B) 0 5) ?_
  refine Run.load2 hB ?_
  refine Run.push1 (tilesN A B) 0 6 rfl ?_
  refine Run.load4 hA ?_
  refine Run.load2 hB ?_
  refine Run.push0 (tilesN A B) 0 7 (acc2 (tilesN A B) 0 6) ?_
  refine Run.load2 hB ?_
  refine Run.push1 (tilesN A B) 0 7 rfl ?_
  exact Run.ret rfl

/-- Part 4 of the body. -/
theorem run4 (hA : arg4.view.read (Elt F) f4 = A) (hB : arg2.view.read (Elt F) f2 = B) :
    Run (defs₀ (F := F)) (ctx c arg1 arg2 arg3 arg4 f1 f2) (k0_part4 i arg1 harg1 arg2 harg2 arg3 harg3 arg4 harg4 (st (tilesN A B) 30)) (arg3.view.writes (Elt F) f3 (pcs (tilesN A B) 0)) f4
      ⟨(st (tilesN A B) 42), ((tilesN A B).a 1 2)⟩ (arg3.view.writes (Elt F) f3 (pcs (tilesN A B) 0)) f4 := by
  rw [k0_part4_eq_skeleton]
  unfold k0_part4_skel
  dsimp only
  refine Run.load4 hA ?_
  refine Run.load2 hB ?_
  refine Run.push0 (tilesN A B) 0 8 (acc2 (tilesN A B) 0 7) ?_
  refine Run.load2 hB ?_
  refine Run.push1 (tilesN A B) 0 8 rfl ?_
  refine Run.load4 hA ?_
  refine Run.load2 hB ?_
  refine Run.push0 (tilesN A B) 0 9 (acc2 (tilesN A B) 0 8) ?_
  refine Run.load2 hB ?_
  refine Run.push1 (tilesN A B) 0 9 rfl ?_
  refine Run.load4 hA ?_
  refine Run.load2 hB ?_
  refine Run.push0 (tilesN A B) 0 10 (acc2 (tilesN A B) 0 9) ?_
  refine Run.load2 hB ?_
  refine Run.push1 (tilesN A B) 0 10 rfl ?_
  refine Run.load4 hA ?_
  exact Run.ret (pair_eq rfl rfl)

/-- Part 5 of the body. -/
theorem run5 (hA : arg4.view.read (Elt F) f4 = A) (hB : arg2.view.read (Elt F) f2 = B) :
    Run (defs₀ (F := F)) (ctx c arg1 arg2 arg3 arg4 f1 f2) (k0_part5 i arg1 harg1 arg2 harg2 arg3 harg3 arg4 harg4 (st (tilesN A B) 42) ((tilesN A B).a 1 2)) (arg3.view.writes (Elt F) f3 (pcs (tilesN A B) 0)) f4
      (st (tilesN A B) 56) (arg3.view.writes (Elt F) f3 (pcs (tilesN A B) 0)) f4 := by
  rw [k0_part5_eq_skeleton]
  unfold k0_part5_skel
  dsimp only
  refine Run.load2 hB ?_
  refine Run.push0 (tilesN A B) 0 11 (acc2 (tilesN A B) 0 10) ?_
  refine Run.load2 hB ?_
  refine Run.push1 (tilesN A B) 0 11 rfl ?_
  refine Run.load4 hA ?_
  refine Run.load2 hB ?_
  refine Run.push0 (tilesN A B) 0 12 (acc2 (tilesN A B) 0 11) ?_
  refine Run.load2 hB ?_
  refine Run.push1 (tilesN A B) 0 12 rfl ?_
  refine Run.load4 hA ?_
  refine Run.load2 hB ?_
  refine Run.push0 (tilesN A B) 0 13 (acc2 (tilesN A B) 0 12) ?_
  refine Run.load2 hB ?_
  refine Run.push1 (tilesN A B) 0 13 rfl ?_
  refine Run.load4 hA ?_
  exact Run.ret (acc2 (tilesN A B) 0 13)

/-- Part 6 of the body. -/
theorem run6 (hA : arg4.view.read (Elt F) f4 = A) (hB : arg2.view.read (Elt F) f2 = B) :
    Run (defs₀ (F := F)) (ctx c arg1 arg2 arg3 arg4 f1 f2) (k0_part6 i arg1 harg1 arg2 harg2 arg3 harg3 arg4 harg4 (st (tilesN A B) 56)) (arg3.view.writes (Elt F) f3 (pcs (tilesN A B) 0)) f4
      ⟨(st (tilesN A B) 68), (View.ld B (rB 0 1 0))⟩ (arg3.view.writes (Elt F) f3 (pcs (tilesN A B) 0)) f4 := by
  rw [k0_part6_eq_skeleton]
  unfold k0_part6_skel
  dsimp only
  refine Run.load2 hB ?_
  refine Run.push0 (tilesN A B) 0 14 rfl ?_
  refine Run.load2 hB ?_
  refine Run.push1 (tilesN A B) 0 14 rfl ?_
  refine Run.load4 hA ?_
  refine Run.load2 hB ?_
  refine Run.push0 (tilesN A B) 0 15 (acc2 (tilesN A B) 0 14) ?_
  refine Run.load2 hB ?_
  refine Run.push1 (tilesN A B) 0 15 rfl ?_
  refine Run.load4 hA ?_
  refine Run.load2 hB ?_
  refine Run.push0 (tilesN A B) 0 16 (acc2 (tilesN A B) 0 15) ?_
  refine Run.load2 hB ?_
  refine Run.push1 (tilesN A B) 0 16 rfl ?_
  refine Run.load4 hA ?_
  refine Run.load2 hB ?_
  exact Run.ret (pair_eq (acc2 (tilesN A B) 0 16) rfl)

/-- Part 7 of the body. -/
theorem run7 (hA : arg4.view.read (Elt F) f4 = A) (hB : arg2.view.read (Elt F) f2 = B) :
    Run (defs₀ (F := F)) (ctx c arg1 arg2 arg3 arg4 f1 f2) (k0_part7 i arg1 harg1 arg2 harg2 arg3 harg3 arg4 harg4 (st (tilesN A B) 68) (View.ld B (rB 0 1 0))) (arg3.view.writes (Elt F) f3 (pcs (tilesN A B) 0)) f4
      (st (tilesN A B) 81) (arg3.view.writes (Elt F) f3 (pcs (tilesN A B) 0)) f4 := by
  rw [k0_part7_eq_skeleton]
  unfold k0_part7_skel
  dsimp only
  refine Run.push0 (tilesN A B) 0 17 rfl ?_
  refine Run.load2 hB ?_
  refine Run.push1 (tilesN A B) 0 17 rfl ?_
  refine Run.load4 hA ?_
  refine Run.load2 hB ?_
  refine Run.push0 (tilesN A B) 0 18 (acc2 (tilesN A B) 0 17) ?_
  refine Run.load2 hB ?_
  refine Run.push1 (tilesN A B) 0 18 rfl ?_
  refine Run.load4 hA ?_
  refine Run.load2 hB ?_
  refine Run.push0 (tilesN A B) 0 19 (acc2 (tilesN A B) 0 18) ?_
  refine Run.load2 hB ?_
  refine Run.push1 (tilesN A B) 0 19 rfl ?_
  refine Run.load4 hA ?_
  refine Run.load2 hB ?_
  refine Run.push0 (tilesN A B) 0 20 (acc2 (tilesN A B) 0 19) ?_
  exact Run.ret rfl

/-- Part 8 of the body. -/
theorem run8 (hA : arg4.view.read (Elt F) f4 = A) (hB : arg2.view.read (Elt F) f2 = B) :
    Run (defs₀ (F := F)) (ctx c arg1 arg2 arg3 arg4 f1 f2) (k0_part8 i arg1 harg1 arg2 harg2 arg3 harg3 arg4 harg4 (st (tilesN A B) 81)) (arg3.view.writes (Elt F) f3 (pcs (tilesN A B) 0)) f4
      ⟨(st (tilesN A B) 93), (View.ld B (rB 0 7 1))⟩ (arg3.view.writes (Elt F) f3 (pcs (tilesN A B) 0)) f4 := by
  rw [k0_part8_eq_skeleton]
  unfold k0_part8_skel
  dsimp only
  refine Run.load2 hB ?_
  refine Run.push1 (tilesN A B) 0 20 rfl ?_
  refine Run.load4 hA ?_
  refine Run.load2 hB ?_
  refine Run.push0 (tilesN A B) 0 21 (acc2 (tilesN A B) 0 20) ?_
  refine Run.load2 hB ?_
  refine Run.push1 (tilesN A B) 0 21 rfl ?_
  refine Run.load4 hA ?_
  refine Run.load2 hB ?_
  refine Run.push0 (tilesN A B) 0 22 (acc2 (tilesN A B) 0 21) ?_
  refine Run.load2 hB ?_
  refine Run.push1 (tilesN A B) 0 22 rfl ?_
  refine Run.load4 hA ?_
  refine Run.load2 hB ?_
  refine Run.push0 (tilesN A B) 0 23 (acc2 (tilesN A B) 0 22) ?_
  refine Run.load2 hB ?_
  exact Run.ret (pair_eq rfl rfl)

/-- Part 9 of the body. -/
theorem run9 (hA : arg4.view.read (Elt F) f4 = A) (hB : arg2.view.read (Elt F) f2 = B) :
    Run (defs₀ (F := F)) (ctx c arg1 arg2 arg3 arg4 f1 f2) (k0_part9 i arg1 harg1 arg2 harg2 arg3 harg3 arg4 harg4 (st (tilesN A B) 93) (View.ld B (rB 0 7 1))) (arg3.view.writes (Elt F) f3 (pcs (tilesN A B) 0)) f4
      (st (tilesN A B) 106) (arg3.view.writes (Elt F) f3 (pcs (tilesN A B) 0)) f4 := by
  rw [k0_part9_eq_skeleton]
  unfold k0_part9_skel
  dsimp only
  refine Run.push1 (tilesN A B) 0 23 rfl ?_
  refine Run.load4 hA ?_
  refine Run.load2 hB ?_
  refine Run.push0 (tilesN A B) 0 24 (acc2 (tilesN A B) 0 23) ?_
  refine Run.load2 hB ?_
  refine Run.push1 (tilesN A B) 0 24 rfl ?_
  refine Run.load4 hA ?_
  refine Run.load2 hB ?_
  refine Run.push0 (tilesN A B) 0 25 (acc2 (tilesN A B) 0 24) ?_
  refine Run.load2 hB ?_
  refine Run.push1 (tilesN A B) 0 25 rfl ?_
  refine Run.load4 hA ?_
  refine Run.load2 hB ?_
  refine Run.push0 (tilesN A B) 0 26 (acc2 (tilesN A B) 0 25) ?_
  refine Run.load2 hB ?_
  refine Run.push1 (tilesN A B) 0 26 rfl ?_
  exact Run.ret rfl

/-- Part 10 of the body. -/
theorem run10 (hA : arg4.view.read (Elt F) f4 = A) (hB : arg2.view.read (Elt F) f2 = B) :
    Run (defs₀ (F := F)) (ctx c arg1 arg2 arg3 arg4 f1 f2) (k0_part10 i arg1 harg1 arg2 harg2 arg3 harg3 arg4 harg4 (st (tilesN A B) 106)) (arg3.view.writes (Elt F) f3 (pcs (tilesN A B) 0)) f4
      ⟨(st (tilesN A B) 118), (View.ld A (rA 0 5))⟩ (arg3.view.writes (Elt F) f3 (pcs (tilesN A B) 0)) f4 := by
  rw [k0_part10_eq_skeleton]
  unfold k0_part10_skel
  dsimp only
  refine Run.load4 hA ?_
  refine Run.load2 hB ?_
  refine Run.push0 (tilesN A B) 0 27 (acc2 (tilesN A B) 0 26) ?_
  refine Run.load2 hB ?_
  refine Run.push1 (tilesN A B) 0 27 rfl ?_
  refine Run.load4 hA ?_
  refine Run.load2 hB ?_
  refine Run.push0 (tilesN A B) 0 28 (acc2 (tilesN A B) 0 27) ?_
  refine Run.load2 hB ?_
  refine Run.push1 (tilesN A B) 0 28 rfl ?_
  refine Run.load4 hA ?_
  refine Run.load2 hB ?_
  refine Run.push0 (tilesN A B) 0 29 (acc2 (tilesN A B) 0 28) ?_
  refine Run.load2 hB ?_
  refine Run.push1 (tilesN A B) 0 29 rfl ?_
  refine Run.load4 hA ?_
  exact Run.ret (pair_eq rfl rfl)

/-- Part 11 of the body. -/
theorem run11 (hA : arg4.view.read (Elt F) f4 = A) (hB : arg2.view.read (Elt F) f2 = B) :
    Run (defs₀ (F := F)) (ctx c arg1 arg2 arg3 arg4 f1 f2) (k0_part11 i arg1 harg1 arg2 harg2 arg3 harg3 arg4 harg4 (st (tilesN A B) 118) (View.ld A (rA 0 5))) (arg3.view.writes (Elt F) f3 (pcs (tilesN A B) 0)) f4
      (st (tilesN A B) 132) (arg3.view.writes (Elt F) f3 (pcs (tilesN A B) 0)) f4 := by
  rw [k0_part11_eq_skeleton]
  unfold k0_part11_skel
  dsimp only
  refine Run.load2 hB ?_
  refine Run.push0 (tilesN A B) 0 30 (acc2 (tilesN A B) 0 29) ?_
  refine Run.load2 hB ?_
  refine Run.push1 (tilesN A B) 0 30 rfl ?_
  refine Run.load4 hA ?_
  refine Run.load2 hB ?_
  refine Run.push0 (tilesN A B) 0 31 (acc2 (tilesN A B) 0 30) ?_
  refine Run.load2 hB ?_
  refine Run.push1 (tilesN A B) 0 31 rfl ?_
  refine Run.load4 hA ?_
  refine Run.load2 hB ?_
  refine Run.push0 (tilesN A B) 0 32 (acc2 (tilesN A B) 0 31) ?_
  refine Run.load2 hB ?_
  refine Run.push1 (tilesN A B) 0 32 rfl ?_
  refine Run.load4 hA ?_
  exact Run.ret (acc2 (tilesN A B) 0 32)

/-- Part 12 of the body. -/
theorem run12 (hA : arg4.view.read (Elt F) f4 = A) (hB : arg2.view.read (Elt F) f2 = B) :
    Run (defs₀ (F := F)) (ctx c arg1 arg2 arg3 arg4 f1 f2) (k0_part12 i arg1 harg1 arg2 harg2 arg3 harg3 arg4 harg4 (st (tilesN A B) 132)) (arg3.view.writes (Elt F) f3 (pcs (tilesN A B) 0)) f4
      (st (tilesN A B) 144) (arg3.view.writes (Elt F) f3 (pcs (tilesN A B) 0)) f4 := by
  rw [k0_part12_eq_skeleton]
  unfold k0_part12_skel
  dsimp only
  refine Run.load2 hB ?_
  refine Run.push0 (tilesN A B) 0 33 rfl ?_
  refine Run.load2 hB ?_
  refine Run.push1 (tilesN A B) 0 33 rfl ?_
  refine Run.load4 hA ?_
  refine Run.load2 hB ?_
  refine Run.push0 (tilesN A B) 0 34 (acc2 (tilesN A B) 0 33) ?_
  refine Run.load2 hB ?_
  refine Run.push1 (tilesN A B) 0 34 rfl ?_
  refine Run.load4 hA ?_
  refine Run.load2 hB ?_
  refine Run.push0 (tilesN A B) 0 35 (acc2 (tilesN A B) 0 34) ?_
  refine Run.load2 hB ?_
  refine Run.push1 (tilesN A B) 0 35 rfl ?_
  refine Run.load4 hA ?_
  exact Run.ret (acc2 (tilesN A B) 0 35)

/-- Part 13 of the body. -/
theorem run13 (hA : arg4.view.read (Elt F) f4 = A) (hB : arg2.view.read (Elt F) f2 = B) :
    Run (defs₀ (F := F)) (ctx c arg1 arg2 arg3 arg4 f1 f2) (k0_part13 i arg1 harg1 arg2 harg2 arg3 harg3 arg4 harg4 (st (tilesN A B) 144)) (arg3.view.writes (Elt F) f3 (pcs (tilesN A B) 0)) f4
      (st (tilesN A B) 157) (arg3.view.writes (Elt F) f3 (pcs (tilesN A B) 0)) f4 := by
  rw [k0_part13_eq_skeleton]
  unfold k0_part13_skel
  dsimp only
  refine Run.load2 hB ?_
  refine Run.push0 (tilesN A B) 0 36 rfl ?_
  refine Run.load2 hB ?_
  refine Run.push1 (tilesN A B) 0 36 rfl ?_
  refine Run.load4 hA ?_
  refine Run.load2 hB ?_
  refine Run.push0 (tilesN A B) 0 37 (acc2 (tilesN A B) 0 36) ?_
  refine Run.load2 hB ?_
  refine Run.push1 (tilesN A B) 0 37 rfl ?_
  refine Run.load4 hA ?_
  refine Run.load2 hB ?_
  refine Run.push0 (tilesN A B) 0 38 (acc2 (tilesN A B) 0 37) ?_
  refine Run.load2 hB ?_
  refine Run.push1 (tilesN A B) 0 38 rfl ?_
  refine Run.load4 hA ?_
  refine Run.load2 hB ?_
  refine Run.push0 (tilesN A B) 0 39 (acc2 (tilesN A B) 0 38) ?_
  exact Run.ret rfl

/-- Part 14 of the body. -/
theorem run14 (hA : arg4.view.read (Elt F) f4 = A) (hB : arg2.view.read (Elt F) f2 = B) :
    Run (defs₀ (F := F)) (ctx c arg1 arg2 arg3 arg4 f1 f2) (k0_part14 i arg1 harg1 arg2 harg2 arg3 harg3 arg4 harg4 (st (tilesN A B) 157)) (arg3.view.writes (Elt F) f3 (pcs (tilesN A B) 0)) f4
      (st (tilesN A B) 169) (arg3.view.writes (Elt F) f3 (pcs (tilesN A B) 0)) f4 := by
  rw [k0_part14_eq_skeleton]
  unfold k0_part14_skel
  dsimp only
  refine Run.load2 hB ?_
  refine Run.push1 (tilesN A B) 0 39 rfl ?_
  refine Run.load4 hA ?_
  refine Run.load2 hB ?_
  refine Run.push0 (tilesN A B) 0 40 (acc2 (tilesN A B) 0 39) ?_
  refine Run.load2 hB ?_
  refine Run.push1 (tilesN A B) 0 40 rfl ?_
  refine Run.load4 hA ?_
  refine Run.load2 hB ?_
  refine Run.push0 (tilesN A B) 0 41 (acc2 (tilesN A B) 0 40) ?_
  refine Run.load2 hB ?_
  refine Run.push1 (tilesN A B) 0 41 rfl ?_
  refine Run.load4 hA ?_
  refine Run.load2 hB ?_
  refine Run.push0 (tilesN A B) 0 42 (acc2 (tilesN A B) 0 41) ?_
  exact Run.ret rfl

/-- Part 15 of the body. -/
theorem run15 (hA : arg4.view.read (Elt F) f4 = A) (hB : arg2.view.read (Elt F) f2 = B) :
    Run (defs₀ (F := F)) (ctx c arg1 arg2 arg3 arg4 f1 f2) (k0_part15 i arg1 harg1 arg2 harg2 arg3 harg3 arg4 harg4 (st (tilesN A B) 169)) (arg3.view.writes (Elt F) f3 (pcs (tilesN A B) 0)) f4
      (st (tilesN A B) 182) (arg3.view.writes (Elt F) f3 (pcs (tilesN A B) 0)) f4 := by
  rw [k0_part15_eq_skeleton]
  unfold k0_part15_skel
  dsimp only
  refine Run.load2 hB ?_
  refine Run.push1 (tilesN A B) 0 42 rfl ?_
  refine Run.load4 hA ?_
  refine Run.load2 hB ?_
  refine Run.push0 (tilesN A B) 0 43 (acc2 (tilesN A B) 0 42) ?_
  refine Run.load2 hB ?_
  refine Run.push1 (tilesN A B) 0 43 rfl ?_
  refine Run.load4 hA ?_
  refine Run.load2 hB ?_
  refine Run.push0 (tilesN A B) 0 44 (acc2 (tilesN A B) 0 43) ?_
  refine Run.load2 hB ?_
  refine Run.push1 (tilesN A B) 0 44 rfl ?_
  refine Run.load4 hA ?_
  refine Run.load2 hB ?_
  refine Run.push0 (tilesN A B) 0 45 (acc2 (tilesN A B) 0 44) ?_
  refine Run.load2 hB ?_
  refine Run.push1 (tilesN A B) 0 45 rfl ?_
  exact Run.ret rfl

/-- Part 16 of the body. -/
theorem run16 (hA : arg4.view.read (Elt F) f4 = A) (hB : arg2.view.read (Elt F) f2 = B) :
    Run (defs₀ (F := F)) (ctx c arg1 arg2 arg3 arg4 f1 f2) (k0_part16 i arg1 harg1 arg2 harg2 arg3 harg3 arg4 harg4 (st (tilesN A B) 182)) (arg3.view.writes (Elt F) f3 (pcs (tilesN A B) 0)) f4
      (st (tilesN A B) 194) (arg3.view.writes (Elt F) f3 (pcs (tilesN A B) 2)) f4 := by
  rw [k0_part16_eq_skeleton]
  unfold k0_part16_skel
  dsimp only
  refine Run.load4 hA ?_
  refine Run.load2 hB ?_
  refine Run.push0 (tilesN A B) 0 46 (acc2 (tilesN A B) 0 45) ?_
  refine Run.load2 hB ?_
  refine Run.push1 (tilesN A B) 0 46 rfl ?_
  refine Run.load4 hA ?_
  refine Run.load2 hB ?_
  refine Run.push0 (tilesN A B) 0 47 (acc2 (tilesN A B) 0 46) ?_
  refine Run.load2 hB ?_
  refine Run.push1 (tilesN A B) 0 47 rfl ?_
  refine Run.load4 hA ?_
  refine Run.load3 ?_
  refine Run.store3 (L' := pcs (tilesN A B) 1) (pcs_succ (tilesN A B) 0 (outP0 (tilesN A B) 0 (acc2 (tilesN A B) 0 47))) ?_
  refine Run.load3 ?_
  refine Run.store3 (L' := pcs (tilesN A B) 2) (pcs_succ (tilesN A B) 1 (outP1 (tilesN A B) 0 (st_pop (tilesN A B) 0 0 (by decide) (acc2 (tilesN A B) 0 47)))) ?_
  exact Run.ret (st_pop (tilesN A B) 0 1 (by decide) (st_pop (tilesN A B) 0 0 (by decide) (acc2 (tilesN A B) 0 47)))

/-- Part 17 of the body. -/
theorem run17 (hA : arg4.view.read (Elt F) f4 = A) (hB : arg2.view.read (Elt F) f2 = B) :
    Run (defs₀ (F := F)) (ctx c arg1 arg2 arg3 arg4 f1 f2) (k0_part17 i arg1 harg1 arg2 harg2 arg3 harg3 arg4 harg4 (st (tilesN A B) 194)) (arg3.view.writes (Elt F) f3 (pcs (tilesN A B) 2)) f4
      (st (tilesN A B) 207) (arg3.view.writes (Elt F) f3 (pcs (tilesN A B) 2)) f4 := by
  rw [k0_part17_eq_skeleton]
  unfold k0_part17_skel
  dsimp only
  refine Run.load2 hB ?_
  refine Run.push0 (tilesN A B) 1 0 rfl ?_
  refine Run.load2 hB ?_
  refine Run.push1 (tilesN A B) 1 0 rfl ?_
  refine Run.load4 hA ?_
  refine Run.load2 hB ?_
  refine Run.push0 (tilesN A B) 1 1 (acc2 (tilesN A B) 1 0) ?_
  refine Run.load2 hB ?_
  refine Run.push1 (tilesN A B) 1 1 rfl ?_
  refine Run.load4 hA ?_
  refine Run.load2 hB ?_
  refine Run.push0 (tilesN A B) 1 2 (acc2 (tilesN A B) 1 1) ?_
  refine Run.load2 hB ?_
  refine Run.push1 (tilesN A B) 1 2 rfl ?_
  refine Run.load4 hA ?_
  refine Run.load2 hB ?_
  refine Run.push0 (tilesN A B) 1 3 (acc2 (tilesN A B) 1 2) ?_
  exact Run.ret rfl

/-- Part 18 of the body. -/
theorem run18 (hA : arg4.view.read (Elt F) f4 = A) (hB : arg2.view.read (Elt F) f2 = B) :
    Run (defs₀ (F := F)) (ctx c arg1 arg2 arg3 arg4 f1 f2) (k0_part18 i arg1 harg1 arg2 harg2 arg3 harg3 arg4 harg4 (st (tilesN A B) 207)) (arg3.view.writes (Elt F) f3 (pcs (tilesN A B) 2)) f4
      (st (tilesN A B) 219) (arg3.view.writes (Elt F) f3 (pcs (tilesN A B) 2)) f4 := by
  rw [k0_part18_eq_skeleton]
  unfold k0_part18_skel
  dsimp only
  refine Run.load2 hB ?_
  refine Run.push1 (tilesN A B) 1 3 rfl ?_
  refine Run.load4 hA ?_
  refine Run.load2 hB ?_
  refine Run.push0 (tilesN A B) 1 4 (acc2 (tilesN A B) 1 3) ?_
  refine Run.load2 hB ?_
  refine Run.push1 (tilesN A B) 1 4 rfl ?_
  refine Run.load4 hA ?_
  refine Run.load2 hB ?_
  refine Run.push0 (tilesN A B) 1 5 (acc2 (tilesN A B) 1 4) ?_
  refine Run.load2 hB ?_
  refine Run.push1 (tilesN A B) 1 5 rfl ?_
  refine Run.load4 hA ?_
  refine Run.load2 hB ?_
  refine Run.push0 (tilesN A B) 1 6 (acc2 (tilesN A B) 1 5) ?_
  exact Run.ret rfl

/-- Part 19 of the body. -/
theorem run19 (hA : arg4.view.read (Elt F) f4 = A) (hB : arg2.view.read (Elt F) f2 = B) :
    Run (defs₀ (F := F)) (ctx c arg1 arg2 arg3 arg4 f1 f2) (k0_part19 i arg1 harg1 arg2 harg2 arg3 harg3 arg4 harg4 (st (tilesN A B) 219)) (arg3.view.writes (Elt F) f3 (pcs (tilesN A B) 2)) f4
      (st (tilesN A B) 232) (arg3.view.writes (Elt F) f3 (pcs (tilesN A B) 2)) f4 := by
  rw [k0_part19_eq_skeleton]
  unfold k0_part19_skel
  dsimp only
  refine Run.load2 hB ?_
  refine Run.push1 (tilesN A B) 1 6 rfl ?_
  refine Run.load4 hA ?_
  refine Run.load2 hB ?_
  refine Run.push0 (tilesN A B) 1 7 (acc2 (tilesN A B) 1 6) ?_
  refine Run.load2 hB ?_
  refine Run.push1 (tilesN A B) 1 7 rfl ?_
  refine Run.load4 hA ?_
  refine Run.load2 hB ?_
  refine Run.push0 (tilesN A B) 1 8 (acc2 (tilesN A B) 1 7) ?_
  refine Run.load2 hB ?_
  refine Run.push1 (tilesN A B) 1 8 rfl ?_
  refine Run.load4 hA ?_
  refine Run.load2 hB ?_
  refine Run.push0 (tilesN A B) 1 9 (acc2 (tilesN A B) 1 8) ?_
  refine Run.load2 hB ?_
  refine Run.push1 (tilesN A B) 1 9 rfl ?_
  exact Run.ret rfl

/-- Part 20 of the body. -/
theorem run20 (hA : arg4.view.read (Elt F) f4 = A) (hB : arg2.view.read (Elt F) f2 = B) :
    Run (defs₀ (F := F)) (ctx c arg1 arg2 arg3 arg4 f1 f2) (k0_part20 i arg1 harg1 arg2 harg2 arg3 harg3 arg4 harg4 (st (tilesN A B) 232)) (arg3.view.writes (Elt F) f3 (pcs (tilesN A B) 2)) f4
      (st (tilesN A B) 244) (arg3.view.writes (Elt F) f3 (pcs (tilesN A B) 2)) f4 := by
  rw [k0_part20_eq_skeleton]
  unfold k0_part20_skel
  dsimp only
  refine Run.load4 hA ?_
  refine Run.load2 hB ?_
  refine Run.push0 (tilesN A B) 1 10 (acc2 (tilesN A B) 1 9) ?_
  refine Run.load2 hB ?_
  refine Run.push1 (tilesN A B) 1 10 rfl ?_
  refine Run.load4 hA ?_
  refine Run.load2 hB ?_
  refine Run.push0 (tilesN A B) 1 11 (acc2 (tilesN A B) 1 10) ?_
  refine Run.load2 hB ?_
  refine Run.push1 (tilesN A B) 1 11 rfl ?_
  refine Run.load4 hA ?_
  refine Run.load2 hB ?_
  refine Run.push0 (tilesN A B) 1 12 (acc2 (tilesN A B) 1 11) ?_
  refine Run.load2 hB ?_
  refine Run.push1 (tilesN A B) 1 12 rfl ?_
  exact Run.ret rfl

/-- Part 21 of the body. -/
theorem run21 (hA : arg4.view.read (Elt F) f4 = A) (hB : arg2.view.read (Elt F) f2 = B) :
    Run (defs₀ (F := F)) (ctx c arg1 arg2 arg3 arg4 f1 f2) (k0_part21 i arg1 harg1 arg2 harg2 arg3 harg3 arg4 harg4 (st (tilesN A B) 244)) (arg3.view.writes (Elt F) f3 (pcs (tilesN A B) 2)) f4
      ⟨((tilesN A B).a 1 7), (st (tilesN A B) 257)⟩ (arg3.view.writes (Elt F) f3 (pcs (tilesN A B) 2)) f4 := by
  rw [k0_part21_eq_skeleton]
  unfold k0_part21_skel
  dsimp only
  refine Run.load4 hA ?_
  refine Run.load2 hB ?_
  refine Run.push0 (tilesN A B) 1 13 (acc2 (tilesN A B) 1 12) ?_
  refine Run.load2 hB ?_
  refine Run.push1 (tilesN A B) 1 13 rfl ?_
  refine Run.load4 hA ?_
  refine Run.load2 hB ?_
  refine Run.push0 (tilesN A B) 1 14 (acc2 (tilesN A B) 1 13) ?_
  refine Run.load2 hB ?_
  refine Run.push1 (tilesN A B) 1 14 rfl ?_
  refine Run.load4 hA ?_
  refine Run.load2 hB ?_
  refine Run.push0 (tilesN A B) 1 15 (acc2 (tilesN A B) 1 14) ?_
  refine Run.load2 hB ?_
  refine Run.push1 (tilesN A B) 1 15 rfl ?_
  refine Run.load4 hA ?_
  exact Run.ret (pair_eq rfl (acc0 (tilesN A B) 1 15 rfl))

end Cert.MmNIdeal.HandFrame

end
-- ==== Proof.MmNIdealWalk2.lean ====
/-
  Parts 22 to 42 of the body, each run from one state of the matrix unit to a later one.
-/
module

public import proofs.«01_k».proof.Proof.MmNIdealWalk0

@[expose] public section

set_option maxRecDepth 16384

noncomputable section

namespace Cert.MmNIdeal.HandFrame

open Idealize.ShloMosaic Idealize.ShloMosaic.TcCoe Idealize.SL.Sem Cert.MmNIdeal.Gen Cert.Mm Cert.Straight

variable {F : FTy → Type} [FloatOps F]

variable (c : Dev nD) (i : grid0.Coords) (arg1 : Memref sig .tc .vmem S512x2048 .f32) (harg1 : arg1.IsWhole) (arg2 : Memref sig .tc .vmem S3x2048x2048 .bf16) (harg2 : arg2.IsWhole) (arg3 : Memref sig .tc .vmem S512x2048 .f32) (harg3 : arg3.IsWhole) (arg4 : Memref sig .tc .vmem S3x512x2048 .bf16) (harg4 : arg4.IsWhole)
  (f1 : Buf (Elt F) (arg1.view.loc (c : Thread nD τ))) (f2 : Buf (Elt F) (arg2.view.loc (c : Thread nD τ)))
  (f3 : Buf (Elt F) (arg3.view.loc (c : Thread nD τ))) (f4 : Buf (Elt F) (arg4.view.loc (c : Thread nD τ)))
  (A : Vec F SA .bf16) (B : Vec F SB .bf16)

/-- Part 22 of the body. -/
theorem run22 (hA : arg4.view.read (Elt F) f4 = A) (hB : arg2.view.read (Elt F) f2 = B) :
    Run (defs₀ (F := F)) (ctx c arg1 arg2 arg3 arg4 f1 f2) (k0_part22 i arg1 harg1 arg2 harg2 arg3 harg3 arg4 harg4 ((tilesN A B).a 1 7) (st (tilesN A B) 257)) (arg3.view.writes (Elt F) f3 (pcs (tilesN A B) 2)) f4
      (st (tilesN A B) 270) (arg3.view.writes (Elt F) f3 (pcs (tilesN A B) 2)) f4 := by
  rw [k0_part22_eq_skeleton]
  unfold k0_part22_skel
  dsimp only
  refine Run.load2 hB ?_
  refine Run.push0 (tilesN A B) 1 16 (acc1 (tilesN A B) 1 15 rfl) ?_
  refine Run.load2 hB ?_
  refine Run.push1 (tilesN A B) 1 16 rfl ?_
  refine Run.load4 hA ?_
  refine Run.load2 hB ?_
  refine Run.push0 (tilesN A B) 1 17 (acc2 (tilesN A B) 1 16) ?_
  refine Run.load2 hB ?_
  refine Run.push1 (tilesN A B) 1 17 rfl ?_
  refine Run.load4 hA ?_
  refine Run.load2 hB ?_
  refine Run.push0 (tilesN A B) 1 18 (acc2 (tilesN A B) 1 17) ?_
  refine Run.load2 hB ?_
  refine Run.push1 (tilesN A B) 1 18 rfl ?_
  refine Run.load4 hA ?_
  exact Run.ret (acc2 (tilesN A B) 1 18)

/-- Part 23 of the body. -/
theorem run23 (hA : arg4.view.read (Elt F) f4 = A) (hB : arg2.view.read (Elt F) f2 = B) :
    Run (defs₀ (F := F)) (ctx c arg1 arg2 arg3 arg4 f1 f2) (k0_part23 i arg1 harg1 arg2 harg2 arg3 harg3 arg4 harg4 (st (tilesN A B) 270)) (arg3.view.writes (Elt F) f3 (pcs (tilesN A B) 2)) f4
      ⟨(st (tilesN A B) 282), ((tilesN A B).b 0 2 6)⟩ (arg3.view.writes (Elt F) f3 (pcs (tilesN A B) 2)) f4 := by
  rw [k0_part23_eq_skeleton]
  unfold k0_part23_skel
  dsimp only
  refine Run.load2 hB ?_
  refine Run.push0 (tilesN A B) 1 19 rfl ?_
  refine Run.load2 hB ?_
  refine Run.push1 (tilesN A B) 1 19 rfl ?_
  refine Run.load4 hA ?_
  refine Run.load2 hB ?_
  refine Run.push0 (tilesN A B) 1 20 (acc2 (tilesN A B) 1 19) ?_
  refine Run.load2 hB ?_
  refine Run.push1 (tilesN A B) 1 20 rfl ?_
  refine Run.load4 hA ?_
  refine Run.load2 hB ?_
  refine Run.push0 (tilesN A B) 1 21 (acc2 (tilesN A B) 1 20) ?_
  refine Run.load2 hB ?_
  refine Run.push1 (tilesN A B) 1 21 rfl ?_
  refine Run.load4 hA ?_
  refine Run.load2 hB ?_
  exact Run.ret (pair_eq (acc2 (tilesN A B) 1 21) rfl)

/-- Part 24 of the body. -/
theorem run24 (hA : arg4.view.read (Elt F) f4 = A) (hB : arg2.view.read (Elt F) f2 = B) :
    Run (defs₀ (F := F)) (ctx c arg1 arg2 arg3 arg4 f1 f2) (k0_part24 i arg1 harg1 arg2 harg2 arg3 harg3 arg4 harg4 (st (tilesN A B) 282) ((tilesN A B).b 0 2 6)) (arg3.view.writes (Elt F) f3 (pcs (tilesN A B) 2)) f4
      (st (tilesN A B) 295) (arg3.view.writes (Elt F) f3 (pcs (tilesN A B) 2)) f4 := by
  rw [k0_part24_eq_skeleton]
  unfold k0_part24_skel
  dsimp only
  refine Run.push0 (tilesN A B) 1 22 rfl ?_
  refine Run.load2 hB ?_
  refine Run.push1 (tilesN A B) 1 22 rfl ?_
  refine Run.load4 hA ?_
  refine Run.load2 hB ?_
  refine Run.push0 (tilesN A B) 1 23 (acc2 (tilesN A B) 1 22) ?_
  refine Run.load2 hB ?_
  refine Run.push1 (tilesN A B) 1 23 rfl ?_
  refine Run.load4 hA ?_
  refine Run.load2 hB ?_
  refine Run.push0 (tilesN A B) 1 24 (acc2 (tilesN A B) 1 23) ?_
  refine Run.load2 hB ?_
  refine Run.push1 (tilesN A B) 1 24 rfl ?_
  refine Run.load4 hA ?_
  refine Run.load2 hB ?_
  refine Run.push0 (tilesN A B) 1 25 (acc2 (tilesN A B) 1 24) ?_
  exact Run.ret rfl

/-- Part 25 of the body. -/
theorem run25 (hA : arg4.view.read (Elt F) f4 = A) (hB : arg2.view.read (Elt F) f2 = B) :
    Run (defs₀ (F := F)) (ctx c arg1 arg2 arg3 arg4 f1 f2) (k0_part25 i arg1 harg1 arg2 harg2 arg3 harg3 arg4 harg4 (st (tilesN A B) 295)) (arg3.view.writes (Elt F) f3 (pcs (tilesN A B) 2)) f4
      ⟨(st (tilesN A B) 307), ((tilesN A B).b 1 3 4)⟩ (arg3.view.writes (Elt F) f3 (pcs (tilesN A B) 2)) f4 := by
  rw [k0_part25_eq_skeleton]
  unfold k0_part25_skel
  dsimp only
  refine Run.load2 hB ?_
  refine Run.push1 (tilesN A B) 1 25 rfl ?_
  refine Run.load4 hA ?_
  refine Run.load2 hB ?_
  refine Run.push0 (tilesN A B) 1 26 (acc2 (tilesN A B) 1 25) ?_
  refine Run.load2 hB ?_
  refine Run.push1 (tilesN A B) 1 26 rfl ?_
  refine Run.load4 hA ?_
  refine Run.load2 hB ?_
  refine Run.push0 (tilesN A B) 1 27 (acc2 (tilesN A B) 1 26) ?_
  refine Run.load2 hB ?_
  refine Run.push1 (tilesN A B) 1 27 rfl ?_
  refine Run.load4 hA ?_
  refine Run.load2 hB ?_
  refine Run.push0 (tilesN A B) 1 28 (acc2 (tilesN A B) 1 27) ?_
  refine Run.load2 hB ?_
  exact Run.ret (pair_eq rfl rfl)

/-- Part 26 of the body. -/
theorem run26 (hA : arg4.view.read (Elt F) f4 = A) (hB : arg2.view.read (Elt F) f2 = B) :
    Run (defs₀ (F := F)) (ctx c arg1 arg2 arg3 arg4 f1 f2) (k0_part26 i arg1 harg1 arg2 harg2 arg3 harg3 arg4 harg4 (st (tilesN A B) 307) ((tilesN A B).b 1 3 4)) (arg3.view.writes (Elt F) f3 (pcs (tilesN A B) 2)) f4
      (st (tilesN A B) 320) (arg3.view.writes (Elt F) f3 (pcs (tilesN A B) 2)) f4 := by
  rw [k0_part26_eq_skeleton]
  unfold k0_part26_skel
  dsimp only
  refine Run.push1 (tilesN A B) 1 28 rfl ?_
  refine Run.load4 hA ?_
  refine Run.load2 hB ?_
  refine Run.push0 (tilesN A B) 1 29 (acc2 (tilesN A B) 1 28) ?_
  refine Run.load2 hB ?_
  refine Run.push1 (tilesN A B) 1 29 rfl ?_
  refine Run.load4 hA ?_
  refine Run.load2 hB ?_
  refine Run.push0 (tilesN A B) 1 30 (acc2 (tilesN A B) 1 29) ?_
  refine Run.load2 hB ?_
  refine Run.push1 (tilesN A B) 1 30 rfl ?_
  refine Run.load4 hA ?_
  refine Run.load2 hB ?_
  refine Run.push0 (tilesN A B) 1 31 (acc2 (tilesN A B) 1 30) ?_
  refine Run.load2 hB ?_
  refine Run.push1 (tilesN A B) 1 31 rfl ?_
  exact Run.ret rfl

/-- Part 27 of the body. -/
theorem run27 (hA : arg4.view.read (Elt F) f4 = A) (hB : arg2.view.read (Elt F) f2 = B) :
    Run (defs₀ (F := F)) (ctx c arg1 arg2 arg3 arg4 f1 f2) (k0_part27 i arg1 harg1 arg2 harg2 arg3 harg3 arg4 harg4 (st (tilesN A B) 320)) (arg3.view.writes (Elt F) f3 (pcs (tilesN A B) 2)) f4
      ⟨(st (tilesN A B) 332), ((tilesN A B).a 1 2)⟩ (arg3.view.writes (Elt F) f3 (pcs (tilesN A B) 2)) f4 := by
  rw [k0_part27_eq_skeleton]
  unfold k0_part27_skel
  dsimp only
  refine Run.load4 hA ?_
  refine Run.load2 hB ?_
  refine Run.push0 (tilesN A B) 1 32 (acc2 (tilesN A B) 1 31) ?_
  refine Run.load2 hB ?_
  refine Run.push1 (tilesN A B) 1 32 rfl ?_
  refine Run.load4 hA ?_
  refine Run.load2 hB ?_
  refine Run.push0 (tilesN A B) 1 33 (acc2 (tilesN A B) 1 32) ?_
  refine Run.load2 hB ?_
  refine Run.push1 (tilesN A B) 1 33 rfl ?_
  refine Run.load4 hA ?_
  refine Run.load2 hB ?_
  refine Run.push0 (tilesN A B) 1 34 (acc2 (tilesN A B) 1 33) ?_
  refine Run.load2 hB ?_
  refine Run.push1 (tilesN A B) 1 34 rfl ?_
  refine Run.load4 hA ?_
  exact Run.ret (pair_eq rfl rfl)

/-- Part 28 of the body. -/
theorem run28 (hA : arg4.view.read (Elt F) f4 = A) (hB : arg2.view.read (Elt F) f2 = B) :
    Run (defs₀ (F := F)) (ctx c arg1 arg2 arg3 arg4 f1 f2) (k0_part28 i arg1 harg1 arg2 harg2 arg3 harg3 arg4 harg4 (st (tilesN A B) 332) ((tilesN A B).a 1 2)) (arg3.view.writes (Elt F) f3 (pcs (tilesN A B) 2)) f4
      (st (tilesN A B) 346) (arg3.view.writes (Elt F) f3 (pcs (tilesN A B) 2)) f4 := by
  rw [k0_part28_eq_skeleton]
  unfold k0_part28_skel
  dsimp only
  refine Run.load2 hB ?_
  refine Run.push0 (tilesN A B) 1 35 (acc2 (tilesN A B) 1 34) ?_
  refine Run.load2 hB ?_
  refine Run.push1 (tilesN A B) 1 35 rfl ?_
  refine Run.load4 hA ?_
  refine Run.load2 hB ?_
  refine Run.push0 (tilesN A B) 1 36 (acc2 (tilesN A B) 1 35) ?_
  refine Run.load2 hB ?_
  refine Run.push1 (tilesN A B) 1 36 rfl ?_
  refine Run.load4 hA ?_
  refine Run.load2 hB ?_
  refine Run.push0 (tilesN A B) 1 37 (acc2 (tilesN A B) 1 36) ?_
  refine Run.load2 hB ?_
  refine Run.push1 (tilesN A B) 1 37 rfl ?_
  refine Run.load4 hA ?_
  exact Run.ret (acc2 (tilesN A B) 1 37)

/-- Part 29 of the body. -/
theorem run29 (hA : arg4.view.read (Elt F) f4 = A) (hB : arg2.view.read (Elt F) f2 = B) :
    Run (defs₀ (F := F)) (ctx c arg1 arg2 arg3 arg4 f1 f2) (k0_part29 i arg1 harg1 arg2 harg2 arg3 harg3 arg4 harg4 (st (tilesN A B) 346)) (arg3.view.writes (Elt F) f3 (pcs (tilesN A B) 2)) f4
      ⟨(st (tilesN A B) 358), (View.ld B (rB 0 1 2))⟩ (arg3.view.writes (Elt F) f3 (pcs (tilesN A B) 2)) f4 := by
  rw [k0_part29_eq_skeleton]
  unfold k0_part29_skel
  dsimp only
  refine Run.load2 hB ?_
  refine Run.push0 (tilesN A B) 1 38 rfl ?_
  refine Run.load2 hB ?_
  refine Run.push1 (tilesN A B) 1 38 rfl ?_
  refine Run.load4 hA ?_
  refine Run.load2 hB ?_
  refine Run.push0 (tilesN A B) 1 39 (acc2 (tilesN A B) 1 38) ?_
  refine Run.load2 hB ?_
  refine Run.push1 (tilesN A B) 1 39 rfl ?_
  refine Run.load4 hA ?_
  refine Run.load2 hB ?_
  refine Run.push0 (tilesN A B) 1 40 (acc2 (tilesN A B) 1 39) ?_
  refine Run.load2 hB ?_
  refine Run.push1 (tilesN A B) 1 40 rfl ?_
  refine Run.load4 hA ?_
  refine Run.load2 hB ?_
  exact Run.ret (pair_eq (acc2 (tilesN A B) 1 40) rfl)

/-- Part 30 of the body. -/
theorem run30 (hA : arg4.view.read (Elt F) f4 = A) (hB : arg2.view.read (Elt F) f2 = B) :
    Run (defs₀ (F := F)) (ctx c arg1 arg2 arg3 arg4 f1 f2) (k0_part30 i arg1 harg1 arg2 harg2 arg3 harg3 arg4 harg4 (st (tilesN A B) 358) (View.ld B (rB 0 1 2))) (arg3.view.writes (Elt F) f3 (pcs (tilesN A B) 2)) f4
      (st (tilesN A B) 371) (arg3.view.writes (Elt F) f3 (pcs (tilesN A B) 2)) f4 := by
  rw [k0_part30_eq_skeleton]
  unfold k0_part30_skel
  dsimp only
  refine Run.push0 (tilesN A B) 1 41 rfl ?_
  refine Run.load2 hB ?_
  refine Run.push1 (tilesN A B) 1 41 rfl ?_
  refine Run.load4 hA ?_
  refine Run.load2 hB ?_
  refine Run.push0 (tilesN A B) 1 42 (acc2 (tilesN A B) 1 41) ?_
  refine Run.load2 hB ?_
  refine Run.push1 (tilesN A B) 1 42 rfl ?_
  refine Run.load4 hA ?_
  refine Run.load2 hB ?_
  refine Run.push0 (tilesN A B) 1 43 (acc2 (tilesN A B) 1 42) ?_
  refine Run.load2 hB ?_
  refine Run.push1 (tilesN A B) 1 43 rfl ?_
  refine Run.load4 hA ?_
  refine Run.load2 hB ?_
  refine Run.push0 (tilesN A B) 1 44 (acc2 (tilesN A B) 1 43) ?_
  exact Run.ret rfl

/-- Part 31 of the body. -/
theorem run31 (hA : arg4.view.read (Elt F) f4 = A) (hB : arg2.view.read (Elt F) f2 = B) :
    Run (defs₀ (F := F)) (ctx c arg1 arg2 arg3 arg4 f1 f2) (k0_part31 i arg1 harg1 arg2 harg2 arg3 harg3 arg4 harg4 (st (tilesN A B) 371)) (arg3.view.writes (Elt F) f3 (pcs (tilesN A B) 2)) f4
      ⟨(st (tilesN A B) 383), (View.ld B (rB 0 7 3))⟩ (arg3.view.writes (Elt F) f3 (pcs (tilesN A B) 2)) f4 := by
  rw [k0_part31_eq_skeleton]
  unfold k0_part31_skel
  dsimp only
  refine Run.load2 hB ?_
  refine Run.push1 (tilesN A B) 1 44 rfl ?_
  refine Run.load4 hA ?_
  refine Run.load2 hB ?_
  refine Run.push0 (tilesN A B) 1 45 (acc2 (tilesN A B) 1 44) ?_
  refine Run.load2 hB ?_
  refine Run.push1 (tilesN A B) 1 45 rfl ?_
  refine Run.load4 hA ?_
  refine Run.load2 hB ?_
  refine Run.push0 (tilesN A B) 1 46 (acc2 (tilesN A B) 1 45) ?_
  refine Run.load2 hB ?_
  refine Run.push1 (tilesN A B) 1 46 rfl ?_
  refine Run.load4 hA ?_
  refine Run.load2 hB ?_
  refine Run.push0 (tilesN A B) 1 47 (acc2 (tilesN A B) 1 46) ?_
  refine Run.load2 hB ?_
  exact Run.ret (pair_eq rfl rfl)

/-- Part 32 of the body. -/
theorem run32 (hA : arg4.view.read (Elt F) f4 = A) (hB : arg2.view.read (Elt F) f2 = B) :
    Run (defs₀ (F := F)) (ctx c arg1 arg2 arg3 arg4 f1 f2) (k0_part32 i arg1 harg1 arg2 harg2 arg3 harg3 arg4 harg4 (st (tilesN A B) 383) (View.ld B (rB 0 7 3))) (arg3.view.writes (Elt F) f3 (pcs (tilesN A B) 2)) f4
      (st (tilesN A B) 396) (arg3.view.writes (Elt F) f3 (pcs (tilesN A B) 4)) f4 := by
  rw [k0_part32_eq_skeleton]
  unfold k0_part32_skel
  dsimp only
  refine Run.push1 (tilesN A B) 1 47 rfl ?_
  refine Run.load4 hA ?_
  refine Run.load3 ?_
  refine Run.store3 (L' := pcs (tilesN A B) 3) (pcs_succ (tilesN A B) 2 (outP0 (tilesN A B) 1 (acc2 (tilesN A B) 1 47))) ?_
  refine Run.load3 ?_
  refine Run.store3 (L' := pcs (tilesN A B) 4) (pcs_succ (tilesN A B) 3 (outP1 (tilesN A B) 1 (st_pop (tilesN A B) 1 0 (by decide) (acc2 (tilesN A B) 1 47)))) ?_
  refine Run.load2 hB ?_
  refine Run.push0 (tilesN A B) 2 0 (st_pop (tilesN A B) 1 1 (by decide) (st_pop (tilesN A B) 1 0 (by decide) (acc2 (tilesN A B) 1 47))) ?_
  refine Run.load2 hB ?_
  refine Run.push1 (tilesN A B) 2 0 rfl ?_
  refine Run.load4 hA ?_
  refine Run.load2 hB ?_
  refine Run.push0 (tilesN A B) 2 1 (acc2 (tilesN A B) 2 0) ?_
  refine Run.load2 hB ?_
  refine Run.push1 (tilesN A B) 2 1 rfl ?_
  refine Run.load4 hA ?_
  exact Run.ret (acc2 (tilesN A B) 2 1)

/-- Part 33 of the body. -/
theorem run33 (hA : arg4.view.read (Elt F) f4 = A) (hB : arg2.view.read (Elt F) f2 = B) :
    Run (defs₀ (F := F)) (ctx c arg1 arg2 arg3 arg4 f1 f2) (k0_part33 i arg1 harg1 arg2 harg2 arg3 harg3 arg4 harg4 (st (tilesN A B) 396)) (arg3.view.writes (Elt F) f3 (pcs (tilesN A B) 4)) f4
      ⟨(st (tilesN A B) 408), (View.ld B (rB 2 5 4))⟩ (arg3.view.writes (Elt F) f3 (pcs (tilesN A B) 4)) f4 := by
  rw [k0_part33_eq_skeleton]
  unfold k0_part33_skel
  dsimp only
  refine Run.load2 hB ?_
  refine Run.push0 (tilesN A B) 2 2 rfl ?_
  refine Run.load2 hB ?_
  refine Run.push1 (tilesN A B) 2 2 rfl ?_
  refine Run.load4 hA ?_
  refine Run.load2 hB ?_
  refine Run.push0 (tilesN A B) 2 3 (acc2 (tilesN A B) 2 2) ?_
  refine Run.load2 hB ?_
  refine Run.push1 (tilesN A B) 2 3 rfl ?_
  refine Run.load4 hA ?_
  refine Run.load2 hB ?_
  refine Run.push0 (tilesN A B) 2 4 (acc2 (tilesN A B) 2 3) ?_
  refine Run.load2 hB ?_
  refine Run.push1 (tilesN A B) 2 4 rfl ?_
  refine Run.load4 hA ?_
  refine Run.load2 hB ?_
  exact Run.ret (pair_eq (acc2 (tilesN A B) 2 4) rfl)

/-- Part 34 of the body. -/
theorem run34 (hA : arg4.view.read (Elt F) f4 = A) (hB : arg2.view.read (Elt F) f2 = B) :
    Run (defs₀ (F := F)) (ctx c arg1 arg2 arg3 arg4 f1 f2) (k0_part34 i arg1 harg1 arg2 harg2 arg3 harg3 arg4 harg4 (st (tilesN A B) 408) (View.ld B (rB 2 5 4))) (arg3.view.writes (Elt F) f3 (pcs (tilesN A B) 4)) f4
      (st (tilesN A B) 421) (arg3.view.writes (Elt F) f3 (pcs (tilesN A B) 4)) f4 := by
  rw [k0_part34_eq_skeleton]
  unfold k0_part34_skel
  dsimp only
  refine Run.push0 (tilesN A B) 2 5 rfl ?_
  refine Run.load2 hB ?_
  refine Run.push1 (tilesN A B) 2 5 rfl ?_
  refine Run.load4 hA ?_
  refine Run.load2 hB ?_
  refine Run.push0 (tilesN A B) 2 6 (acc2 (tilesN A B) 2 5) ?_
  refine Run.load2 hB ?_
  refine Run.push1 (tilesN A B) 2 6 rfl ?_
  refine Run.load4 hA ?_
  refine Run.load2 hB ?_
  refine Run.push0 (tilesN A B) 2 7 (acc2 (tilesN A B) 2 6) ?_
  refine Run.load2 hB ?_
  refine Run.push1 (tilesN A B) 2 7 rfl ?_
  refine Run.load4 hA ?_
  refine Run.load2 hB ?_
  refine Run.push0 (tilesN A B) 2 8 (acc2 (tilesN A B) 2 7) ?_
  exact Run.ret rfl

/-- Part 35 of the body. -/
theorem run35 (hA : arg4.view.read (Elt F) f4 = A) (hB : arg2.view.read (Elt F) f2 = B) :
    Run (defs₀ (F := F)) (ctx c arg1 arg2 arg3 arg4 f1 f2) (k0_part35 i arg1 harg1 arg2 harg2 arg3 harg3 arg4 harg4 (st (tilesN A B) 421)) (arg3.view.writes (Elt F) f3 (pcs (tilesN A B) 4)) f4
      ⟨(st (tilesN A B) 433), (View.ld B (rB 1 3 5))⟩ (arg3.view.writes (Elt F) f3 (pcs (tilesN A B) 4)) f4 := by
  rw [k0_part35_eq_skeleton]
  unfold k0_part35_skel
  dsimp only
  refine Run.load2 hB ?_
  refine Run.push1 (tilesN A B) 2 8 rfl ?_
  refine Run.load4 hA ?_
  refine Run.load2 hB ?_
  refine Run.push0 (tilesN A B) 2 9 (acc2 (tilesN A B) 2 8) ?_
  refine Run.load2 hB ?_
  refine Run.push1 (tilesN A B) 2 9 rfl ?_
  refine Run.load4 hA ?_
  refine Run.load2 hB ?_
  refine Run.push0 (tilesN A B) 2 10 (acc2 (tilesN A B) 2 9) ?_
  refine Run.load2 hB ?_
  refine Run.push1 (tilesN A B) 2 10 rfl ?_
  refine Run.load4 hA ?_
  refine Run.load2 hB ?_
  refine Run.push0 (tilesN A B) 2 11 (acc2 (tilesN A B) 2 10) ?_
  refine Run.load2 hB ?_
  exact Run.ret (pair_eq rfl rfl)

/-- Part 36 of the body. -/
theorem run36 (hA : arg4.view.read (Elt F) f4 = A) (hB : arg2.view.read (Elt F) f2 = B) :
    Run (defs₀ (F := F)) (ctx c arg1 arg2 arg3 arg4 f1 f2) (k0_part36 i arg1 harg1 arg2 harg2 arg3 harg3 arg4 harg4 (st (tilesN A B) 433) (View.ld B (rB 1 3 5))) (arg3.view.writes (Elt F) f3 (pcs (tilesN A B) 4)) f4
      (st (tilesN A B) 446) (arg3.view.writes (Elt F) f3 (pcs (tilesN A B) 4)) f4 := by
  rw [k0_part36_eq_skeleton]
  unfold k0_part36_skel
  dsimp only
  refine Run.push1 (tilesN A B) 2 11 rfl ?_
  refine Run.load4 hA ?_
  refine Run.load2 hB ?_
  refine Run.push0 (tilesN A B) 2 12 (acc2 (tilesN A B) 2 11) ?_
  refine Run.load2 hB ?_
  refine Run.push1 (tilesN A B) 2 12 rfl ?_
  refine Run.load4 hA ?_
  refine Run.load2 hB ?_
  refine Run.push0 (tilesN A B) 2 13 (acc2 (tilesN A B) 2 12) ?_
  refine Run.load2 hB ?_
  refine Run.push1 (tilesN A B) 2 13 rfl ?_
  refine Run.load4 hA ?_
  refine Run.load2 hB ?_
  refine Run.push0 (tilesN A B) 2 14 (acc2 (tilesN A B) 2 13) ?_
  refine Run.load2 hB ?_
  refine Run.push1 (tilesN A B) 2 14 rfl ?_
  exact Run.ret rfl

/-- Part 37 of the body. -/
theorem run37 (hA : arg4.view.read (Elt F) f4 = A) (hB : arg2.view.read (Elt F) f2 = B) :
    Run (defs₀ (F := F)) (ctx c arg1 arg2 arg3 arg4 f1 f2) (k0_part37 i arg1 harg1 arg2 harg2 arg3 harg3 arg4 harg4 (st (tilesN A B) 446)) (arg3.view.writes (Elt F) f3 (pcs (tilesN A B) 4)) f4
      ⟨(st (tilesN A B) 458), (View.ld A (rA 2 1))⟩ (arg3.view.writes (Elt F) f3 (pcs (tilesN A B) 4)) f4 := by
  rw [k0_part37_eq_skeleton]
  unfold k0_part37_skel
  dsimp only
  refine Run.load4 hA ?_
  refine Run.load2 hB ?_
  refine Run.push0 (tilesN A B) 2 15 (acc2 (tilesN A B) 2 14) ?_
  refine Run.load2 hB ?_
  refine Run.push1 (tilesN A B) 2 15 rfl ?_
  refine Run.load4 hA ?_
  refine Run.load2 hB ?_
  refine Run.push0 (tilesN A B) 2 16 (acc2 (tilesN A B) 2 15) ?_
  refine Run.load2 hB ?_
  refine Run.push1 (tilesN A B) 2 16 rfl ?_
  refine Run.load4 hA ?_
  refine Run.load2 hB ?_
  refine Run.push0 (tilesN A B) 2 17 (acc2 (tilesN A B) 2 16) ?_
  refine Run.load2 hB ?_
  refine Run.push1 (tilesN A B) 2 17 rfl ?_
  refine Run.load4 hA ?_
  exact Run.ret (pair_eq rfl rfl)

/-- Part 38 of the body. -/
theorem run38 (hA : arg4.view.read (Elt F) f4 = A) (hB : arg2.view.read (Elt F) f2 = B) :
    Run (defs₀ (F := F)) (ctx c arg1 arg2 arg3 arg4 f1 f2) (k0_part38 i arg1 harg1 arg2 harg2 arg3 harg3 arg4 harg4 (st (tilesN A B) 458) (View.ld A (rA 2 1))) (arg3.view.writes (Elt F) f3 (pcs (tilesN A B) 4)) f4
      (st (tilesN A B) 472) (arg3.view.writes (Elt F) f3 (pcs (tilesN A B) 4)) f4 := by
  rw [k0_part38_eq_skeleton]
  unfold k0_part38_skel
  dsimp only
  refine Run.load2 hB ?_
  refine Run.push0 (tilesN A B) 2 18 (acc2 (tilesN A B) 2 17) ?_
  refine Run.load2 hB ?_
  refine Run.push1 (tilesN A B) 2 18 rfl ?_
  refine Run.load4 hA ?_
  refine Run.load2 hB ?_
  refine Run.push0 (tilesN A B) 2 19 (acc2 (tilesN A B) 2 18) ?_
  refine Run.load2 hB ?_
  refine Run.push1 (tilesN A B) 2 19 rfl ?_
  refine Run.load4 hA ?_
  refine Run.load2 hB ?_
  refine Run.push0 (tilesN A B) 2 20 (acc2 (tilesN A B) 2 19) ?_
  refine Run.load2 hB ?_
  refine Run.push1 (tilesN A B) 2 20 rfl ?_
  refine Run.load4 hA ?_
  exact Run.ret (acc2 (tilesN A B) 2 20)

/-- Part 39 of the body. -/
theorem run39 (hA : arg4.view.read (Elt F) f4 = A) (hB : arg2.view.read (Elt F) f2 = B) :
    Run (defs₀ (F := F)) (ctx c arg1 arg2 arg3 arg4 f1 f2) (k0_part39 i arg1 harg1 arg2 harg2 arg3 harg3 arg4 harg4 (st (tilesN A B) 472)) (arg3.view.writes (Elt F) f3 (pcs (tilesN A B) 4)) f4
      (st (tilesN A B) 484) (arg3.view.writes (Elt F) f3 (pcs (tilesN A B) 4)) f4 := by
  rw [k0_part39_eq_skeleton]
  unfold k0_part39_skel
  dsimp only
  refine Run.load2 hB ?_
  refine Run.push0 (tilesN A B) 2 21 rfl ?_
  refine Run.load2 hB ?_
  refine Run.push1 (tilesN A B) 2 21 rfl ?_
  refine Run.load4 hA ?_
  refine Run.load2 hB ?_
  refine Run.push0 (tilesN A B) 2 22 (acc2 (tilesN A B) 2 21) ?_
  refine Run.load2 hB ?_
  refine Run.push1 (tilesN A B) 2 22 rfl ?_
  refine Run.load4 hA ?_
  refine Run.load2 hB ?_
  refine Run.push0 (tilesN A B) 2 23 (acc2 (tilesN A B) 2 22) ?_
  refine Run.load2 hB ?_
  refine Run.push1 (tilesN A B) 2 23 rfl ?_
  refine Run.load4 hA ?_
  exact Run.ret (acc2 (tilesN A B) 2 23)

/-- Part 40 of the body. -/
theorem run40 (hA : arg4.view.read (Elt F) f4 = A) (hB : arg2.view.read (Elt F) f2 = B) :
    Run (defs₀ (F := F)) (ctx c arg1 arg2 arg3 arg4 f1 f2) (k0_part40 i arg1 harg1 arg2 harg2 arg3 harg3 arg4 harg4 (st (tilesN A B) 484)) (arg3.view.writes (Elt F) f3 (pcs (tilesN A B) 4)) f4
      (st (tilesN A B) 497) (arg3.view.writes (Elt F) f3 (pcs (tilesN A B) 4)) f4 := by
  rw [k0_part40_eq_skeleton]
  unfold k0_part40_skel
  dsimp only
  refine Run.load2 hB ?_
  refine Run.push0 (tilesN A B) 2 24 rfl ?_
  refine Run.load2 hB ?_
  refine Run.push1 (tilesN A B) 2 24 rfl ?_
  refine Run.load4 hA ?_
  refine Run.load2 hB ?_
  refine Run.push0 (tilesN A B) 2 25 (acc2 (tilesN A B) 2 24) ?_
  refine Run.load2 hB ?_
  refine Run.push1 (tilesN A B) 2 25 rfl ?_
  refine Run.load4 hA ?_
  refine Run.load2 hB ?_
  refine Run.push0 (tilesN A B) 2 26 (acc2 (tilesN A B) 2 25) ?_
  refine Run.load2 hB ?_
  refine Run.push1 (tilesN A B) 2 26 rfl ?_
  refine Run.load4 hA ?_
  refine Run.load2 hB ?_
  refine Run.push0 (tilesN A B) 2 27 (acc2 (tilesN A B) 2 26) ?_
  exact Run.ret rfl

/-- Part 41 of the body. -/
theorem run41 (hA : arg4.view.read (Elt F) f4 = A) (hB : arg2.view.read (Elt F) f2 = B) :
    Run (defs₀ (F := F)) (ctx c arg1 arg2 arg3 arg4 f1 f2) (k0_part41 i arg1 harg1 arg2 harg2 arg3 harg3 arg4 harg4 (st (tilesN A B) 497)) (arg3.view.writes (Elt F) f3 (pcs (tilesN A B) 4)) f4
      (st (tilesN A B) 509) (arg3.view.writes (Elt F) f3 (pcs (tilesN A B) 4)) f4 := by
  rw [k0_part41_eq_skeleton]
  unfold k0_part41_skel
  dsimp only
  refine Run.load2 hB ?_
  refine Run.push1 (tilesN A B) 2 27 rfl ?_
  refine Run.load4 hA ?_
  refine Run.load2 hB ?_
  refine Run.push0 (tilesN A B) 2 28 (acc2 (tilesN A B) 2 27) ?_
  refine Run.load2 hB ?_
  refine Run.push1 (tilesN A B) 2 28 rfl ?_
  refine Run.load4 hA ?_
  refine Run.load2 hB ?_
  refine Run.push0 (tilesN A B) 2 29 (acc2 (tilesN A B) 2 28) ?_
  refine Run.load2 hB ?_
  refine Run.push1 (tilesN A B) 2 29 rfl ?_
  refine Run.load4 hA ?_
  refine Run.load2 hB ?_
  refine Run.push0 (tilesN A B) 2 30 (acc2 (tilesN A B) 2 29) ?_
  exact Run.ret rfl

/-- Part 42 of the body. -/
theorem run42 (hA : arg4.view.read (Elt F) f4 = A) (hB : arg2.view.read (Elt F) f2 = B) :
    Run (defs₀ (F := F)) (ctx c arg1 arg2 arg3 arg4 f1 f2) (k0_part42 i arg1 harg1 arg2 harg2 arg3 harg3 arg4 harg4 (st (tilesN A B) 509)) (arg3.view.writes (Elt F) f3 (pcs (tilesN A B) 4)) f4
      (st (tilesN A B) 522) (arg3.view.writes (Elt F) f3 (pcs (tilesN A B) 4)) f4 := by
  rw [k0_part42_eq_skeleton]
  unfold k0_part42_skel
  dsimp only
  refine Run.load2 hB ?_
  refine Run.push1 (tilesN A B) 2 30 rfl ?_
  refine Run.load4 hA ?_
  refine Run.load2 hB ?_
  refine Run.push0 (tilesN A B) 2 31 (acc2 (tilesN A B) 2 30) ?_
  refine Run.load2 hB ?_
  refine Run.push1 (tilesN A B) 2 31 rfl ?_
  refine Run.load4 hA ?_
  refine Run.load2 hB ?_
  refine Run.push0 (tilesN A B) 2 32 (acc2 (tilesN A B) 2 31) ?_
  refine Run.load2 hB ?_
  refine Run.push1 (tilesN A B) 2 32 rfl ?_
  refine Run.load4 hA ?_
  refine Run.load2 hB ?_
  refine Run.push0 (tilesN A B) 2 33 (acc2 (tilesN A B) 2 32) ?_
  refine Run.load2 hB ?_
  refine Run.push1 (tilesN A B) 2 33 rfl ?_
  exact Run.ret rfl

end Cert.MmNIdeal.HandFrame

end
-- ==== Proof.MmNIdealWalk3.lean ====
/-
  Parts 43 to 62 of the body, each run from one state of the matrix unit to a later one.
-/
module

public import proofs.«01_k».proof.Proof.MmNIdealWalk0

@[expose] public section

set_option maxRecDepth 16384

noncomputable section

namespace Cert.MmNIdeal.HandFrame

open Idealize.ShloMosaic Idealize.ShloMosaic.TcCoe Idealize.SL.Sem Cert.MmNIdeal.Gen Cert.Mm Cert.Straight

variable {F : FTy → Type} [FloatOps F]

variable (c : Dev nD) (i : grid0.Coords) (arg1 : Memref sig .tc .vmem S512x2048 .f32) (harg1 : arg1.IsWhole) (arg2 : Memref sig .tc .vmem S3x2048x2048 .bf16) (harg2 : arg2.IsWhole) (arg3 : Memref sig .tc .vmem S512x2048 .f32) (harg3 : arg3.IsWhole) (arg4 : Memref sig .tc .vmem S3x512x2048 .bf16) (harg4 : arg4.IsWhole)
  (f1 : Buf (Elt F) (arg1.view.loc (c : Thread nD τ))) (f2 : Buf (Elt F) (arg2.view.loc (c : Thread nD τ)))
  (f3 : Buf (Elt F) (arg3.view.loc (c : Thread nD τ))) (f4 : Buf (Elt F) (arg4.view.loc (c : Thread nD τ)))
  (A : Vec F SA .bf16) (B : Vec F SB .bf16)

/-- Part 43 of the body. -/
theorem run43 (hA : arg4.view.read (Elt F) f4 = A) (hB : arg2.view.read (Elt F) f2 = B) :
    Run (defs₀ (F := F)) (ctx c arg1 arg2 arg3 arg4 f1 f2) (k0_part43 i arg1 harg1 arg2 harg2 arg3 harg3 arg4 harg4 (st (tilesN A B) 522)) (arg3.view.writes (Elt F) f3 (pcs (tilesN A B) 4)) f4
      (st (tilesN A B) 534) (arg3.view.writes (Elt F) f3 (pcs (tilesN A B) 4)) f4 := by
  rw [k0_part43_eq_skeleton]
  unfold k0_part43_skel
  dsimp only
  refine Run.load4 hA ?_
  refine Run.load2 hB ?_
  refine Run.push0 (tilesN A B) 2 34 (acc2 (tilesN A B) 2 33) ?_
  refine Run.load2 hB ?_
  refine Run.push1 (tilesN A B) 2 34 rfl ?_
  refine Run.load4 hA ?_
  refine Run.load2 hB ?_
  refine Run.push0 (tilesN A B) 2 35 (acc2 (tilesN A B) 2 34) ?_
  refine Run.load2 hB ?_
  refine Run.push1 (tilesN A B) 2 35 rfl ?_
  refine Run.load4 hA ?_
  refine Run.load2 hB ?_
  refine Run.push0 (tilesN A B) 2 36 (acc2 (tilesN A B) 2 35) ?_
  refine Run.load2 hB ?_
  refine Run.push1 (tilesN A B) 2 36 rfl ?_
  exact Run.ret rfl

/-- Part 44 of the body. -/
theorem run44 (hA : arg4.view.read (Elt F) f4 = A) (hB : arg2.view.read (Elt F) f2 = B) :
    Run (defs₀ (F := F)) (ctx c arg1 arg2 arg3 arg4 f1 f2) (k0_part44 i arg1 harg1 arg2 harg2 arg3 harg3 arg4 harg4 (st (tilesN A B) 534)) (arg3.view.writes (Elt F) f3 (pcs (tilesN A B) 4)) f4
      ⟨((tilesN A B).a 1 7), (st (tilesN A B) 547)⟩ (arg3.view.writes (Elt F) f3 (pcs (tilesN A B) 4)) f4 := by
  rw [k0_part44_eq_skeleton]
  unfold k0_part44_skel
  dsimp only
  refine Run.load4 hA ?_
  refine Run.load2 hB ?_
  refine Run.push0 (tilesN A B) 2 37 (acc2 (tilesN A B) 2 36) ?_
  refine Run.load2 hB ?_
  refine Run.push1 (tilesN A B) 2 37 rfl ?_
  refine Run.load4 hA ?_
  refine Run.load2 hB ?_
  refine Run.push0 (tilesN A B) 2 38 (acc2 (tilesN A B) 2 37) ?_
  refine Run.load2 hB ?_
  refine Run.push1 (tilesN A B) 2 38 rfl ?_
  refine Run.load4 hA ?_
  refine Run.load2 hB ?_
  refine Run.push0 (tilesN A B) 2 39 (acc2 (tilesN A B) 2 38) ?_
  refine Run.load2 hB ?_
  refine Run.push1 (tilesN A B) 2 39 rfl ?_
  refine Run.load4 hA ?_
  exact Run.ret (pair_eq rfl (acc0 (tilesN A B) 2 39 rfl))

/-- Part 45 of the body. -/
theorem run45 (hA : arg4.view.read (Elt F) f4 = A) (hB : arg2.view.read (Elt F) f2 = B) :
    Run (defs₀ (F := F)) (ctx c arg1 arg2 arg3 arg4 f1 f2) (k0_part45 i arg1 harg1 arg2 harg2 arg3 harg3 arg4 harg4 ((tilesN A B).a 1 7) (st (tilesN A B) 547)) (arg3.view.writes (Elt F) f3 (pcs (tilesN A B) 4)) f4
      (st (tilesN A B) 560) (arg3.view.writes (Elt F) f3 (pcs (tilesN A B) 4)) f4 := by
  rw [k0_part45_eq_skeleton]
  unfold k0_part45_skel
  dsimp only
  refine Run.load2 hB ?_
  refine Run.push0 (tilesN A B) 2 40 (acc1 (tilesN A B) 2 39 rfl) ?_
  refine Run.load2 hB ?_
  refine Run.push1 (tilesN A B) 2 40 rfl ?_
  refine Run.load4 hA ?_
  refine Run.load2 hB ?_
  refine Run.push0 (tilesN A B) 2 41 (acc2 (tilesN A B) 2 40) ?_
  refine Run.load2 hB ?_
  refine Run.push1 (tilesN A B) 2 41 rfl ?_
  refine Run.load4 hA ?_
  refine Run.load2 hB ?_
  refine Run.push0 (tilesN A B) 2 42 (acc2 (tilesN A B) 2 41) ?_
  refine Run.load2 hB ?_
  refine Run.push1 (tilesN A B) 2 42 rfl ?_
  refine Run.load4 hA ?_
  exact Run.ret (acc2 (tilesN A B) 2 42)

/-- Part 46 of the body. -/
theorem run46 (hA : arg4.view.read (Elt F) f4 = A) (hB : arg2.view.read (Elt F) f2 = B) :
    Run (defs₀ (F := F)) (ctx c arg1 arg2 arg3 arg4 f1 f2) (k0_part46 i arg1 harg1 arg2 harg2 arg3 harg3 arg4 harg4 (st (tilesN A B) 560)) (arg3.view.writes (Elt F) f3 (pcs (tilesN A B) 4)) f4
      ⟨(st (tilesN A B) 572), ((tilesN A B).b 0 4 6)⟩ (arg3.view.writes (Elt F) f3 (pcs (tilesN A B) 4)) f4 := by
  rw [k0_part46_eq_skeleton]
  unfold k0_part46_skel
  dsimp only
  refine Run.load2 hB ?_
  refine Run.push0 (tilesN A B) 2 43 rfl ?_
  refine Run.load2 hB ?_
  refine Run.push1 (tilesN A B) 2 43 rfl ?_
  refine Run.load4 hA ?_
  refine Run.load2 hB ?_
  refine Run.push0 (tilesN A B) 2 44 (acc2 (tilesN A B) 2 43) ?_
  refine Run.load2 hB ?_
  refine Run.push1 (tilesN A B) 2 44 rfl ?_
  refine Run.load4 hA ?_
  refine Run.load2 hB ?_
  refine Run.push0 (tilesN A B) 2 45 (acc2 (tilesN A B) 2 44) ?_
  refine Run.load2 hB ?_
  refine Run.push1 (tilesN A B) 2 45 rfl ?_
  refine Run.load4 hA ?_
  refine Run.load2 hB ?_
  exact Run.ret (pair_eq (acc2 (tilesN A B) 2 45) rfl)

/-- Part 47 of the body. -/
theorem run47 (hA : arg4.view.read (Elt F) f4 = A) (hB : arg2.view.read (Elt F) f2 = B) :
    Run (defs₀ (F := F)) (ctx c arg1 arg2 arg3 arg4 f1 f2) (k0_part47 i arg1 harg1 arg2 harg2 arg3 harg3 arg4 harg4 (st (tilesN A B) 572) ((tilesN A B).b 0 4 6)) (arg3.view.writes (Elt F) f3 (pcs (tilesN A B) 4)) f4
      (st (tilesN A B) 584) (arg3.view.writes (Elt F) f3 (pcs (tilesN A B) 6)) f4 := by
  rw [k0_part47_eq_skeleton]
  unfold k0_part47_skel
  dsimp only
  refine Run.push0 (tilesN A B) 2 46 rfl ?_
  refine Run.load2 hB ?_
  refine Run.push1 (tilesN A B) 2 46 rfl ?_
  refine Run.load4 hA ?_
  refine Run.load2 hB ?_
  refine Run.push0 (tilesN A B) 2 47 (acc2 (tilesN A B) 2 46) ?_
  refine Run.load2 hB ?_
  refine Run.push1 (tilesN A B) 2 47 rfl ?_
  refine Run.load4 hA ?_
  refine Run.load3 ?_
  refine Run.store3 (L' := pcs (tilesN A B) 5) (pcs_succ (tilesN A B) 4 (outP0 (tilesN A B) 2 (acc2 (tilesN A B) 2 47))) ?_
  refine Run.load3 ?_
  refine Run.store3 (L' := pcs (tilesN A B) 6) (pcs_succ (tilesN A B) 5 (outP1 (tilesN A B) 2 (st_pop (tilesN A B) 2 0 (by decide) (acc2 (tilesN A B) 2 47)))) ?_
  refine Run.load2 hB ?_
  refine Run.push0 (tilesN A B) 3 0 (st_pop (tilesN A B) 2 1 (by decide) (st_pop (tilesN A B) 2 0 (by decide) (acc2 (tilesN A B) 2 47))) ?_
  refine Run.load2 hB ?_
  refine Run.push1 (tilesN A B) 3 0 rfl ?_
  exact Run.ret rfl

/-- Part 48 of the body. -/
theorem run48 (hA : arg4.view.read (Elt F) f4 = A) (hB : arg2.view.read (Elt F) f2 = B) :
    Run (defs₀ (F := F)) (ctx c arg1 arg2 arg3 arg4 f1 f2) (k0_part48 i arg1 harg1 arg2 harg2 arg3 harg3 arg4 harg4 (st (tilesN A B) 584)) (arg3.view.writes (Elt F) f3 (pcs (tilesN A B) 6)) f4
      ⟨((tilesN A B).a 0 3), (st (tilesN A B) 597)⟩ (arg3.view.writes (Elt F) f3 (pcs (tilesN A B) 6)) f4 := by
  rw [k0_part48_eq_skeleton]
  unfold k0_part48_skel
  dsimp only
  refine Run.load4 hA ?_
  refine Run.load2 hB ?_
  refine Run.push0 (tilesN A B) 3 1 (acc2 (tilesN A B) 3 0) ?_
  refine Run.load2 hB ?_
  refine Run.push1 (tilesN A B) 3 1 rfl ?_
  refine Run.load4 hA ?_
  refine Run.load2 hB ?_
  refine Run.push0 (tilesN A B) 3 2 (acc2 (tilesN A B) 3 1) ?_
  refine Run.load2 hB ?_
  refine Run.push1 (tilesN A B) 3 2 rfl ?_
  refine Run.load4 hA ?_
  refine Run.load2 hB ?_
  refine Run.push0 (tilesN A B) 3 3 (acc2 (tilesN A B) 3 2) ?_
  refine Run.load2 hB ?_
  refine Run.push1 (tilesN A B) 3 3 rfl ?_
  refine Run.load4 hA ?_
  exact Run.ret (pair_eq rfl (acc0 (tilesN A B) 3 3 rfl))

/-- Part 49 of the body. -/
theorem run49 (hA : arg4.view.read (Elt F) f4 = A) (hB : arg2.view.read (Elt F) f2 = B) :
    Run (defs₀ (F := F)) (ctx c arg1 arg2 arg3 arg4 f1 f2) (k0_part49 i arg1 harg1 arg2 harg2 arg3 harg3 arg4 harg4 ((tilesN A B).a 0 3) (st (tilesN A B) 597)) (arg3.view.writes (Elt F) f3 (pcs (tilesN A B) 6)) f4
      (st (tilesN A B) 610) (arg3.view.writes (Elt F) f3 (pcs (tilesN A B) 6)) f4 := by
  rw [k0_part49_eq_skeleton]
  unfold k0_part49_skel
  dsimp only
  refine Run.load2 hB ?_
  refine Run.push0 (tilesN A B) 3 4 (acc1 (tilesN A B) 3 3 rfl) ?_
  refine Run.load2 hB ?_
  refine Run.push1 (tilesN A B) 3 4 rfl ?_
  refine Run.load4 hA ?_
  refine Run.load2 hB ?_
  refine Run.push0 (tilesN A B) 3 5 (acc2 (tilesN A B) 3 4) ?_
  refine Run.load2 hB ?_
  refine Run.push1 (tilesN A B) 3 5 rfl ?_
  refine Run.load4 hA ?_
  refine Run.load2 hB ?_
  refine Run.push0 (tilesN A B) 3 6 (acc2 (tilesN A B) 3 5) ?_
  refine Run.load2 hB ?_
  refine Run.push1 (tilesN A B) 3 6 rfl ?_
  refine Run.load4 hA ?_
  exact Run.ret (acc2 (tilesN A B) 3 6)

/-- Part 50 of the body. -/
theorem run50 (hA : arg4.view.read (Elt F) f4 = A) (hB : arg2.view.read (Elt F) f2 = B) :
    Run (defs₀ (F := F)) (ctx c arg1 arg2 arg3 arg4 f1 f2) (k0_part50 i arg1 harg1 arg2 harg2 arg3 harg3 arg4 harg4 (st (tilesN A B) 610)) (arg3.view.writes (Elt F) f3 (pcs (tilesN A B) 6)) f4
      ⟨(st (tilesN A B) 622), ((tilesN A B).b 1 6 2)⟩ (arg3.view.writes (Elt F) f3 (pcs (tilesN A B) 6)) f4 := by
  rw [k0_part50_eq_skeleton]
  unfold k0_part50_skel
  dsimp only
  refine Run.load2 hB ?_
  refine Run.push0 (tilesN A B) 3 7 rfl ?_
  refine Run.load2 hB ?_
  refine Run.push1 (tilesN A B) 3 7 rfl ?_
  refine Run.load4 hA ?_
  refine Run.load2 hB ?_
  refine Run.push0 (tilesN A B) 3 8 (acc2 (tilesN A B) 3 7) ?_
  refine Run.load2 hB ?_
  refine Run.push1 (tilesN A B) 3 8 rfl ?_
  refine Run.load4 hA ?_
  refine Run.load2 hB ?_
  refine Run.push0 (tilesN A B) 3 9 (acc2 (tilesN A B) 3 8) ?_
  refine Run.load2 hB ?_
  refine Run.push1 (tilesN A B) 3 9 rfl ?_
  refine Run.load4 hA ?_
  refine Run.load2 hB ?_
  exact Run.ret (pair_eq (acc2 (tilesN A B) 3 9) rfl)

/-- Part 51 of the body. -/
theorem run51 (hA : arg4.view.read (Elt F) f4 = A) (hB : arg2.view.read (Elt F) f2 = B) :
    Run (defs₀ (F := F)) (ctx c arg1 arg2 arg3 arg4 f1 f2) (k0_part51 i arg1 harg1 arg2 harg2 arg3 harg3 arg4 harg4 (st (tilesN A B) 622) ((tilesN A B).b 1 6 2)) (arg3.view.writes (Elt F) f3 (pcs (tilesN A B) 6)) f4
      (st (tilesN A B) 635) (arg3.view.writes (Elt F) f3 (pcs (tilesN A B) 6)) f4 := by
  rw [k0_part51_eq_skeleton]
  unfold k0_part51_skel
  dsimp only
  refine Run.push0 (tilesN A B) 3 10 rfl ?_
  refine Run.load2 hB ?_
  refine Run.push1 (tilesN A B) 3 10 rfl ?_
  refine Run.load4 hA ?_
  refine Run.load2 hB ?_
  refine Run.push0 (tilesN A B) 3 11 (acc2 (tilesN A B) 3 10) ?_
  refine Run.load2 hB ?_
  refine Run.push1 (tilesN A B) 3 11 rfl ?_
  refine Run.load4 hA ?_
  refine Run.load2 hB ?_
  refine Run.push0 (tilesN A B) 3 12 (acc2 (tilesN A B) 3 11) ?_
  refine Run.load2 hB ?_
  refine Run.push1 (tilesN A B) 3 12 rfl ?_
  refine Run.load4 hA ?_
  refine Run.load2 hB ?_
  refine Run.push0 (tilesN A B) 3 13 (acc2 (tilesN A B) 3 12) ?_
  exact Run.ret rfl

/-- Part 52 of the body. -/
theorem run52 (hA : arg4.view.read (Elt F) f4 = A) (hB : arg2.view.read (Elt F) f2 = B) :
    Run (defs₀ (F := F)) (ctx c arg1 arg2 arg3 arg4 f1 f2) (k0_part52 i arg1 harg1 arg2 harg2 arg3 harg3 arg4 harg4 (st (tilesN A B) 635)) (arg3.view.writes (Elt F) f3 (pcs (tilesN A B) 6)) f4
      ⟨(st (tilesN A B) 647), ((tilesN A B).b 0 7 0)⟩ (arg3.view.writes (Elt F) f3 (pcs (tilesN A B) 6)) f4 := by
  rw [k0_part52_eq_skeleton]
  unfold k0_part52_skel
  dsimp only
  refine Run.load2 hB ?_
  refine Run.push1 (tilesN A B) 3 13 rfl ?_
  refine Run.load4 hA ?_
  refine Run.load2 hB ?_
  refine Run.push0 (tilesN A B) 3 14 (acc2 (tilesN A B) 3 13) ?_
  refine Run.load2 hB ?_
  refine Run.push1 (tilesN A B) 3 14 rfl ?_
  refine Run.load4 hA ?_
  refine Run.load2 hB ?_
  refine Run.push0 (tilesN A B) 3 15 (acc2 (tilesN A B) 3 14) ?_
  refine Run.load2 hB ?_
  refine Run.push1 (tilesN A B) 3 15 rfl ?_
  refine Run.load4 hA ?_
  refine Run.load2 hB ?_
  refine Run.push0 (tilesN A B) 3 16 (acc2 (tilesN A B) 3 15) ?_
  refine Run.load2 hB ?_
  exact Run.ret (pair_eq rfl rfl)

/-- Part 53 of the body. -/
theorem run53 (hA : arg4.view.read (Elt F) f4 = A) (hB : arg2.view.read (Elt F) f2 = B) :
    Run (defs₀ (F := F)) (ctx c arg1 arg2 arg3 arg4 f1 f2) (k0_part53 i arg1 harg1 arg2 harg2 arg3 harg3 arg4 harg4 (st (tilesN A B) 647) ((tilesN A B).b 0 7 0)) (arg3.view.writes (Elt F) f3 (pcs (tilesN A B) 6)) f4
      (st (tilesN A B) 660) (arg3.view.writes (Elt F) f3 (pcs (tilesN A B) 6)) f4 := by
  rw [k0_part53_eq_skeleton]
  unfold k0_part53_skel
  dsimp only
  refine Run.push1 (tilesN A B) 3 16 rfl ?_
  refine Run.load4 hA ?_
  refine Run.load2 hB ?_
  refine Run.push0 (tilesN A B) 3 17 (acc2 (tilesN A B) 3 16) ?_
  refine Run.load2 hB ?_
  refine Run.push1 (tilesN A B) 3 17 rfl ?_
  refine Run.load4 hA ?_
  refine Run.load2 hB ?_
  refine Run.push0 (tilesN A B) 3 18 (acc2 (tilesN A B) 3 17) ?_
  refine Run.load2 hB ?_
  refine Run.push1 (tilesN A B) 3 18 rfl ?_
  refine Run.load4 hA ?_
  refine Run.load2 hB ?_
  refine Run.push0 (tilesN A B) 3 19 (acc2 (tilesN A B) 3 18) ?_
  refine Run.load2 hB ?_
  refine Run.push1 (tilesN A B) 3 19 rfl ?_
  exact Run.ret rfl

/-- Part 54 of the body. -/
theorem run54 (hA : arg4.view.read (Elt F) f4 = A) (hB : arg2.view.read (Elt F) f2 = B) :
    Run (defs₀ (F := F)) (ctx c arg1 arg2 arg3 arg4 f1 f2) (k0_part54 i arg1 harg1 arg2 harg2 arg3 harg3 arg4 harg4 (st (tilesN A B) 660)) (arg3.view.writes (Elt F) f3 (pcs (tilesN A B) 6)) f4
      ⟨(st (tilesN A B) 672), ((tilesN A B).a 2 6)⟩ (arg3.view.writes (Elt F) f3 (pcs (tilesN A B) 6)) f4 := by
  rw [k0_part54_eq_skeleton]
  unfold k0_part54_skel
  dsimp only
  refine Run.load4 hA ?_
  refine Run.load2 hB ?_
  refine Run.push0 (tilesN A B) 3 20 (acc2 (tilesN A B) 3 19) ?_
  refine Run.load2 hB ?_
  refine Run.push1 (tilesN A B) 3 20 rfl ?_
  refine Run.load4 hA ?_
  refine Run.load2 hB ?_
  refine Run.push0 (tilesN A B) 3 21 (acc2 (tilesN A B) 3 20) ?_
  refine Run.load2 hB ?_
  refine Run.push1 (tilesN A B) 3 21 rfl ?_
  refine Run.load4 hA ?_
  refine Run.load2 hB ?_
  refine Run.push0 (tilesN A B) 3 22 (acc2 (tilesN A B) 3 21) ?_
  refine Run.load2 hB ?_
  refine Run.push1 (tilesN A B) 3 22 rfl ?_
  refine Run.load4 hA ?_
  exact Run.ret (pair_eq rfl rfl)

/-- Part 55 of the body. -/
theorem run55 (hA : arg4.view.read (Elt F) f4 = A) (hB : arg2.view.read (Elt F) f2 = B) :
    Run (defs₀ (F := F)) (ctx c arg1 arg2 arg3 arg4 f1 f2) (k0_part55 i arg1 harg1 arg2 harg2 arg3 harg3 arg4 harg4 (st (tilesN A B) 672) ((tilesN A B).a 2 6)) (arg3.view.writes (Elt F) f3 (pcs (tilesN A B) 6)) f4
      (st (tilesN A B) 686) (arg3.view.writes (Elt F) f3 (pcs (tilesN A B) 6)) f4 := by
  rw [k0_part55_eq_skeleton]
  unfold k0_part55_skel
  dsimp only
  refine Run.load2 hB ?_
  refine Run.push0 (tilesN A B) 3 23 (acc2 (tilesN A B) 3 22) ?_
  refine Run.load2 hB ?_
  refine Run.push1 (tilesN A B) 3 23 rfl ?_
  refine Run.load4 hA ?_
  refine Run.load2 hB ?_
  refine Run.push0 (tilesN A B) 3 24 (acc2 (tilesN A B) 3 23) ?_
  refine Run.load2 hB ?_
  refine Run.push1 (tilesN A B) 3 24 rfl ?_
  refine Run.load4 hA ?_
  refine Run.load2 hB ?_
  refine Run.push0 (tilesN A B) 3 25 (acc2 (tilesN A B) 3 24) ?_
  refine Run.load2 hB ?_
  refine Run.push1 (tilesN A B) 3 25 rfl ?_
  refine Run.load4 hA ?_
  exact Run.ret (acc2 (tilesN A B) 3 25)

/-- Part 56 of the body. -/
theorem run56 (hA : arg4.view.read (Elt F) f4 = A) (hB : arg2.view.read (Elt F) f2 = B) :
    Run (defs₀ (F := F)) (ctx c arg1 arg2 arg3 arg4 f1 f2) (k0_part56 i arg1 harg1 arg2 harg2 arg3 harg3 arg4 harg4 (st (tilesN A B) 686)) (arg3.view.writes (Elt F) f3 (pcs (tilesN A B) 6)) f4
      ⟨(st (tilesN A B) 698), (View.ld B (rB 1 5 6))⟩ (arg3.view.writes (Elt F) f3 (pcs (tilesN A B) 6)) f4 := by
  rw [k0_part56_eq_skeleton]
  unfold k0_part56_skel
  dsimp only
  refine Run.load2 hB ?_
  refine Run.push0 (tilesN A B) 3 26 rfl ?_
  refine Run.load2 hB ?_
  refine Run.push1 (tilesN A B) 3 26 rfl ?_
  refine Run.load4 hA ?_
  refine Run.load2 hB ?_
  refine Run.push0 (tilesN A B) 3 27 (acc2 (tilesN A B) 3 26) ?_
  refine Run.load2 hB ?_
  refine Run.push1 (tilesN A B) 3 27 rfl ?_
  refine Run.load4 hA ?_
  refine Run.load2 hB ?_
  refine Run.push0 (tilesN A B) 3 28 (acc2 (tilesN A B) 3 27) ?_
  refine Run.load2 hB ?_
  refine Run.push1 (tilesN A B) 3 28 rfl ?_
  refine Run.load4 hA ?_
  refine Run.load2 hB ?_
  exact Run.ret (pair_eq (acc2 (tilesN A B) 3 28) rfl)

/-- Part 57 of the body. -/
theorem run57 (hA : arg4.view.read (Elt F) f4 = A) (hB : arg2.view.read (Elt F) f2 = B) :
    Run (defs₀ (F := F)) (ctx c arg1 arg2 arg3 arg4 f1 f2) (k0_part57 i arg1 harg1 arg2 harg2 arg3 harg3 arg4 harg4 (st (tilesN A B) 698) (View.ld B (rB 1 5 6))) (arg3.view.writes (Elt F) f3 (pcs (tilesN A B) 6)) f4
      (st (tilesN A B) 711) (arg3.view.writes (Elt F) f3 (pcs (tilesN A B) 6)) f4 := by
  rw [k0_part57_eq_skeleton]
  unfold k0_part57_skel
  dsimp only
  refine Run.push0 (tilesN A B) 3 29 rfl ?_
  refine Run.load2 hB ?_
  refine Run.push1 (tilesN A B) 3 29 rfl ?_
  refine Run.load4 hA ?_
  refine Run.load2 hB ?_
  refine Run.push0 (tilesN A B) 3 30 (acc2 (tilesN A B) 3 29) ?_
  refine Run.load2 hB ?_
  refine Run.push1 (tilesN A B) 3 30 rfl ?_
  refine Run.load4 hA ?_
  refine Run.load2 hB ?_
  refine Run.push0 (tilesN A B) 3 31 (acc2 (tilesN A B) 3 30) ?_
  refine Run.load2 hB ?_
  refine Run.push1 (tilesN A B) 3 31 rfl ?_
  refine Run.load4 hA ?_
  refine Run.load2 hB ?_
  refine Run.push0 (tilesN A B) 3 32 (acc2 (tilesN A B) 3 31) ?_
  exact Run.ret rfl

/-- Part 58 of the body. -/
theorem run58 (hA : arg4.view.read (Elt F) f4 = A) (hB : arg2.view.read (Elt F) f2 = B) :
    Run (defs₀ (F := F)) (ctx c arg1 arg2 arg3 arg4 f1 f2) (k0_part58 i arg1 harg1 arg2 harg2 arg3 harg3 arg4 harg4 (st (tilesN A B) 711)) (arg3.view.writes (Elt F) f3 (pcs (tilesN A B) 6)) f4
      ⟨(st (tilesN A B) 723), (View.ld B (rB 0 3 7))⟩ (arg3.view.writes (Elt F) f3 (pcs (tilesN A B) 6)) f4 := by
  rw [k0_part58_eq_skeleton]
  unfold k0_part58_skel
  dsimp only
  refine Run.load2 hB ?_
  refine Run.push1 (tilesN A B) 3 32 rfl ?_
  refine Run.load4 hA ?_
  refine Run.load2 hB ?_
  refine Run.push0 (tilesN A B) 3 33 (acc2 (tilesN A B) 3 32) ?_
  refine Run.load2 hB ?_
  refine Run.push1 (tilesN A B) 3 33 rfl ?_
  refine Run.load4 hA ?_
  refine Run.load2 hB ?_
  refine Run.push0 (tilesN A B) 3 34 (acc2 (tilesN A B) 3 33) ?_
  refine Run.load2 hB ?_
  refine Run.push1 (tilesN A B) 3 34 rfl ?_
  refine Run.load4 hA ?_
  refine Run.load2 hB ?_
  refine Run.push0 (tilesN A B) 3 35 (acc2 (tilesN A B) 3 34) ?_
  refine Run.load2 hB ?_
  exact Run.ret (pair_eq rfl rfl)

/-- Part 59 of the body. -/
theorem run59 (hA : arg4.view.read (Elt F) f4 = A) (hB : arg2.view.read (Elt F) f2 = B) :
    Run (defs₀ (F := F)) (ctx c arg1 arg2 arg3 arg4 f1 f2) (k0_part59 i arg1 harg1 arg2 harg2 arg3 harg3 arg4 harg4 (st (tilesN A B) 723) (View.ld B (rB 0 3 7))) (arg3.view.writes (Elt F) f3 (pcs (tilesN A B) 6)) f4
      (st (tilesN A B) 736) (arg3.view.writes (Elt F) f3 (pcs (tilesN A B) 6)) f4 := by
  rw [k0_part59_eq_skeleton]
  unfold k0_part59_skel
  dsimp only
  refine Run.push1 (tilesN A B) 3 35 rfl ?_
  refine Run.load4 hA ?_
  refine Run.load2 hB ?_
  refine Run.push0 (tilesN A B) 3 36 (acc2 (tilesN A B) 3 35) ?_
  refine Run.load2 hB ?_
  refine Run.push1 (tilesN A B) 3 36 rfl ?_
  refine Run.load4 hA ?_
  refine Run.load2 hB ?_
  refine Run.push0 (tilesN A B) 3 37 (acc2 (tilesN A B) 3 36) ?_
  refine Run.load2 hB ?_
  refine Run.push1 (tilesN A B) 3 37 rfl ?_
  refine Run.load4 hA ?_
  refine Run.load2 hB ?_
  refine Run.push0 (tilesN A B) 3 38 (acc2 (tilesN A B) 3 37) ?_
  refine Run.load2 hB ?_
  refine Run.push1 (tilesN A B) 3 38 rfl ?_
  exact Run.ret rfl

/-- Part 60 of the body. -/
theorem run60 (hA : arg4.view.read (Elt F) f4 = A) (hB : arg2.view.read (Elt F) f2 = B) :
    Run (defs₀ (F := F)) (ctx c arg1 arg2 arg3 arg4 f1 f2) (k0_part60 i arg1 harg1 arg2 harg2 arg3 harg3 arg4 harg4 (st (tilesN A B) 736)) (arg3.view.writes (Elt F) f3 (pcs (tilesN A B) 6)) f4
      ⟨(st (tilesN A B) 748), (View.ld A (rA 0 1))⟩ (arg3.view.writes (Elt F) f3 (pcs (tilesN A B) 6)) f4 := by
  rw [k0_part60_eq_skeleton]
  unfold k0_part60_skel
  dsimp only
  refine Run.load4 hA ?_
  refine Run.load2 hB ?_
  refine Run.push0 (tilesN A B) 3 39 (acc2 (tilesN A B) 3 38) ?_
  refine Run.load2 hB ?_
  refine Run.push1 (tilesN A B) 3 39 rfl ?_
  refine Run.load4 hA ?_
  refine Run.load2 hB ?_
  refine Run.push0 (tilesN A B) 3 40 (acc2 (tilesN A B) 3 39) ?_
  refine Run.load2 hB ?_
  refine Run.push1 (tilesN A B) 3 40 rfl ?_
  refine Run.load4 hA ?_
  refine Run.load2 hB ?_
  refine Run.push0 (tilesN A B) 3 41 (acc2 (tilesN A B) 3 40) ?_
  refine Run.load2 hB ?_
  refine Run.push1 (tilesN A B) 3 41 rfl ?_
  refine Run.load4 hA ?_
  exact Run.ret (pair_eq rfl rfl)

/-- Part 61 of the body. -/
theorem run61 (hA : arg4.view.read (Elt F) f4 = A) (hB : arg2.view.read (Elt F) f2 = B) :
    Run (defs₀ (F := F)) (ctx c arg1 arg2 arg3 arg4 f1 f2) (k0_part61 i arg1 harg1 arg2 harg2 arg3 harg3 arg4 harg4 (st (tilesN A B) 748) (View.ld A (rA 0 1))) (arg3.view.writes (Elt F) f3 (pcs (tilesN A B) 6)) f4
      (st (tilesN A B) 762) (arg3.view.writes (Elt F) f3 (pcs (tilesN A B) 6)) f4 := by
  rw [k0_part61_eq_skeleton]
  unfold k0_part61_skel
  dsimp only
  refine Run.load2 hB ?_
  refine Run.push0 (tilesN A B) 3 42 (acc2 (tilesN A B) 3 41) ?_
  refine Run.load2 hB ?_
  refine Run.push1 (tilesN A B) 3 42 rfl ?_
  refine Run.load4 hA ?_
  refine Run.load2 hB ?_
  refine Run.push0 (tilesN A B) 3 43 (acc2 (tilesN A B) 3 42) ?_
  refine Run.load2 hB ?_
  refine Run.push1 (tilesN A B) 3 43 rfl ?_
  refine Run.load4 hA ?_
  refine Run.load2 hB ?_
  refine Run.push0 (tilesN A B) 3 44 (acc2 (tilesN A B) 3 43) ?_
  refine Run.load2 hB ?_
  refine Run.push1 (tilesN A B) 3 44 rfl ?_
  refine Run.load4 hA ?_
  exact Run.ret (acc2 (tilesN A B) 3 44)

/-- Part 62 of the body. -/
theorem run62 (hA : arg4.view.read (Elt F) f4 = A) (hB : arg2.view.read (Elt F) f2 = B) :
    Run (defs₀ (F := F)) (ctx c arg1 arg2 arg3 arg4 f1 f2) (k0_part62 i arg1 harg1 arg2 harg2 arg3 harg3 arg4 harg4 (st (tilesN A B) 762)) (arg3.view.writes (Elt F) f3 (pcs (tilesN A B) 6)) f4
      ⟨(outP (tilesN A B) 6), (st (tilesN A B) 775)⟩ (arg3.view.writes (Elt F) f3 (pcs (tilesN A B) 6)) f4 := by
  rw [k0_part62_eq_skeleton]
  unfold k0_part62_skel
  dsimp only
  refine Run.load2 hB ?_
  refine Run.push0 (tilesN A B) 3 45 rfl ?_
  refine Run.load2 hB ?_
  refine Run.push1 (tilesN A B) 3 45 rfl ?_
  refine Run.load4 hA ?_
  refine Run.load2 hB ?_
  refine Run.push0 (tilesN A B) 3 46 (acc2 (tilesN A B) 3 45) ?_
  refine Run.load2 hB ?_
  refine Run.push1 (tilesN A B) 3 46 rfl ?_
  refine Run.load4 hA ?_
  refine Run.load2 hB ?_
  refine Run.push0 (tilesN A B) 3 47 (acc2 (tilesN A B) 3 46) ?_
  refine Run.load2 hB ?_
  refine Run.push1 (tilesN A B) 3 47 rfl ?_
  refine Run.load4 hA ?_
  exact Run.ret (pair_eq (outP0 (tilesN A B) 3 (acc2 (tilesN A B) 3 47)) (st_pop (tilesN A B) 3 0 (by decide) (acc2 (tilesN A B) 3 47)))

end Cert.MmNIdeal.HandFrame

end
-- ==== Proof.MmNIdealFrame.lean ====
/-
  The product's body as a whole, what it leaves in the result's block, and from it the call's run: every execution ends, the arguments
  unchanged, the result's blocks as computed, every counter at zero.
-/
module

public import proofs.«01_k».proof.Proof.MmNIdealWalk1
public import proofs.«01_k».proof.Proof.MmNIdealWalk2
public import proofs.«01_k».proof.Proof.MmNIdealWalk3
public import proofs.«01_k».proof.Proof.Gen.MmNIdeal.Frame
public import Idealize.ShloMosaic.Lib.Claim

@[expose] public section

set_option maxRecDepth 16384

noncomputable section

namespace Cert.MmNIdeal.HandFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MmNIdeal.Gen Cert.Mm Cert.Straight

variable {F : FTy → Type} [FloatOps F]

local notation "𝕄" => MT nD τ sig Unit (Elt F) ℕ (UR sig nD τ) ℕ

section

variable (c : Dev nD) (i : grid0.Coords) (arg1 : Memref sig .tc .vmem S512x2048 .f32) (harg1 : arg1.IsWhole) (arg2 : Memref sig .tc .vmem S3x2048x2048 .bf16) (harg2 : arg2.IsWhole) (arg3 : Memref sig .tc .vmem S512x2048 .f32) (harg3 : arg3.IsWhole) (arg4 : Memref sig .tc .vmem S3x512x2048 .bf16) (harg4 : arg4.IsWhole)
  (f1 : Buf (Elt F) (arg1.view.loc (c : Thread nD τ))) (f2 : Buf (Elt F) (arg2.view.loc (c : Thread nD τ)))
  (f3 : Buf (Elt F) (arg3.view.loc (c : Thread nD τ))) (f4 : Buf (Elt F) (arg4.view.loc (c : Thread nD τ)))
  (A : Vec F SA .bf16) (B : Vec F SB .bf16)

set_option maxHeartbeats 2000000 in
/-- Parts 1 to 60 of the body. -/
theorem run63 (x : Vec F S512x2048 .f32) (hx : arg1.view.read (Elt F) f1 = x)
    (hA : arg4.view.read (Elt F) (arg4.view.writes (Elt F) f4 (slabs x)) = A) (hB : arg2.view.read (Elt F) f2 = B) :
    Run (defs₀ (F := F)) (ctx c arg1 arg2 arg3 arg4 f1 f2) (k0_part63 i arg1 harg1 arg2 harg2 arg3 harg3 arg4 harg4) (arg3.view.writes (Elt F) f3 (pcs (tilesN A B) 0)) (arg4.view.writes (Elt F) f4 [])
      ⟨st (tilesN A B) 748, View.ld A (rA 0 1)⟩ (arg3.view.writes (Elt F) f3 (pcs (tilesN A B) 6)) (arg4.view.writes (Elt F) f4 (slabs x)) := by
  rw [k0_part63_eq_skeleton]
  unfold k0_part63_skel
  refine Run.bind (run1 c i arg1 harg1 arg2 harg2 arg3 harg3 arg4 harg4 f1 f2 f3 f4 A B x hx hA hB) ?_
  refine Run.bind (run2 c i arg1 harg1 arg2 harg2 arg3 harg3 arg4 harg4 f1 f2 f3 _ A B hA hB) ?_
  refine Run.bind (run3 c i arg1 harg1 arg2 harg2 arg3 harg3 arg4 harg4 f1 f2 f3 _ A B hA hB) ?_
  refine Run.bind (run4 c i arg1 harg1 arg2 harg2 arg3 harg3 arg4 harg4 f1 f2 f3 _ A B hA hB) ?_
  refine Run.bind (run5 c i arg1 harg1 arg2 harg2 arg3 harg3 arg4 harg4 f1 f2 f3 _ A B hA hB) ?_
  refine Run.bind (run6 c i arg1 harg1 arg2 harg2 arg3 harg3 arg4 harg4 f1 f2 f3 _ A B hA hB) ?_
  refine Run.bind (run7 c i arg1 harg1 arg2 harg2 arg3 harg3 arg4 harg4 f1 f2 f3 _ A B hA hB) ?_
  refine Run.bind (run8 c i arg1 harg1 arg2 harg2 arg3 harg3 arg4 harg4 f1 f2 f3 _ A B hA hB) ?_
  refine Run.bind (run9 c i arg1 harg1 arg2 harg2 arg3 harg3 arg4 harg4 f1 f2 f3 _ A B hA hB) ?_
  refine Run.bind (run10 c i arg1 harg1 arg2 harg2 arg3 harg3 arg4 harg4 f1 f2 f3 _ A B hA hB) ?_
  refine Run.bind (run11 c i arg1 harg1 arg2 harg2 arg3 harg3 arg4 harg4 f1 f2 f3 _ A B hA hB) ?_
  refine Run.bind (run12 c i arg1 harg1 arg2 harg2 arg3 harg3 arg4 harg4 f1 f2 f3 _ A B hA hB) ?_
  refine Run.bind (run13 c i arg1 harg1 arg2 harg2 arg3 harg3 arg4 harg4 f1 f2 f3 _ A B hA hB) ?_
  refine Run.bind (run14 c i arg1 harg1 arg2 harg2 arg3 harg3 arg4 harg4 f1 f2 f3 _ A B hA hB) ?_
  refine Run.bind (run15 c i arg1 harg1 arg2 harg2 arg3 harg3 arg4 harg4 f1 f2 f3 _ A B hA hB) ?_
  refine Run.bind (run16 c i arg1 harg1 arg2 harg2 arg3 harg3 arg4 harg4 f1 f2 f3 _ A B hA hB) ?_
  refine Run.bind (run17 c i arg1 harg1 arg2 harg2 arg3 harg3 arg4 harg4 f1 f2 f3 _ A B hA hB) ?_
  refine Run.bind (run18 c i arg1 harg1 arg2 harg2 arg3 harg3 arg4 harg4 f1 f2 f3 _ A B hA hB) ?_
  refine Run.bind (run19 c i arg1 harg1 arg2 harg2 arg3 harg3 arg4 harg4 f1 f2 f3 _ A B hA hB) ?_
  refine Run.bind (run20 c i arg1 harg1 arg2 harg2 arg3 harg3 arg4 harg4 f1 f2 f3 _ A B hA hB) ?_
  refine Run.bind (run21 c i arg1 harg1 arg2 harg2 arg3 harg3 arg4 harg4 f1 f2 f3 _ A B hA hB) ?_
  refine Run.bind (run22 c i arg1 harg1 arg2 harg2 arg3 harg3 arg4 harg4 f1 f2 f3 _ A B hA hB) ?_
  refine Run.bind (run23 c i arg1 harg1 arg2 harg2 arg3 harg3 arg4 harg4 f1 f2 f3 _ A B hA hB) ?_
  refine Run.bind (run24 c i arg1 harg1 arg2 harg2 arg3 harg3 arg4 harg4 f1 f2 f3 _ A B hA hB) ?_
  refine Run.bind (run25 c i arg1 harg1 arg2 harg2 arg3 harg3 arg4 harg4 f1 f2 f3 _ A B hA hB) ?_
  refine Run.bind (run26 c i arg1 harg1 arg2 harg2 arg3 harg3 arg4 harg4 f1 f2 f3 _ A B hA hB) ?_
  refine Run.bind (run27 c i arg1 harg1 arg2 harg2 arg3 harg3 arg4 harg4 f1 f2 f3 _ A B hA hB) ?_
  refine Run.bind (run28 c i arg1 harg1 arg2 harg2 arg3 harg3 arg4 harg4 f1 f2 f3 _ A B hA hB) ?_
  refine Run.bind (run29 c i arg1 harg1 arg2 harg2 arg3 harg3 arg4 harg4 f1 f2 f3 _ A B hA hB) ?_
  refine Run.bind (run30 c i arg1 harg1 arg2 harg2 arg3 harg3 arg4 harg4 f1 f2 f3 _ A B hA hB) ?_
  refine Run.bind (run31 c i arg1 harg1 arg2 harg2 arg3 harg3 arg4 harg4 f1 f2 f3 _ A B hA hB) ?_
  refine Run.bind (run32 c i arg1 harg1 arg2 harg2 arg3 harg3 arg4 harg4 f1 f2 f3 _ A B hA hB) ?_
  refine Run.bind (run33 c i arg1 harg1 arg2 harg2 arg3 harg3 arg4 harg4 f1 f2 f3 _ A B hA hB) ?_
  refine Run.bind (run34 c i arg1 harg1 arg2 harg2 arg3 harg3 arg4 harg4 f1 f2 f3 _ A B hA hB) ?_
  refine Run.bind (run35 c i arg1 harg1 arg2 harg2 arg3 harg3 arg4 harg4 f1 f2 f3 _ A B hA hB) ?_
  refine Run.bind (run36 c i arg1 harg1 arg2 harg2 arg3 harg3 arg4 harg4 f1 f2 f3 _ A B hA hB) ?_
  refine Run.bind (run37 c i arg1 harg1 arg2 harg2 arg3 harg3 arg4 harg4 f1 f2 f3 _ A B hA hB) ?_
  refine Run.bind (run38 c i arg1 harg1 arg2 harg2 arg3 harg3 arg4 harg4 f1 f2 f3 _ A B hA hB) ?_
  refine Run.bind (run39 c i arg1 harg1 arg2 harg2 arg3 harg3 arg4 harg4 f1 f2 f3 _ A B hA hB) ?_
  refine Run.bind (run40 c i arg1 harg1 arg2 harg2 arg3 harg3 arg4 harg4 f1 f2 f3 _ A B hA hB) ?_
  refine Run.bind (run41 c i arg1 harg1 arg2 harg2 arg3 harg3 arg4 harg4 f1 f2 f3 _ A B hA hB) ?_
  refine Run.bind (run42 c i arg1 harg1 arg2 harg2 arg3 harg3 arg4 harg4 f1 f2 f3 _ A B hA hB) ?_
  refine Run.bind (run43 c i arg1 harg1 arg2 harg2 arg3 harg3 arg4 harg4 f1 f2 f3 _ A B hA hB) ?_
  refine Run.bind (run44 c i arg1 harg1 arg2 harg2 arg3 harg3 arg4 harg4 f1 f2 f3 _ A B hA hB) ?_
  refine Run.bind (run45 c i arg1 harg1 arg2 harg2 arg3 harg3 arg4 harg4 f1 f2 f3 _ A B hA hB) ?_
  refine Run.bind (run46 c i arg1 harg1 arg2 harg2 arg3 harg3 arg4 harg4 f1 f2 f3 _ A B hA hB) ?_
  refine Run.bind (run47 c i arg1 harg1 arg2 harg2 arg3 harg3 arg4 harg4 f1 f2 f3 _ A B hA hB) ?_
  refine Run.bind (run48 c i arg1 harg1 arg2 harg2 arg3 harg3 arg4 harg4 f1 f2 f3 _ A B hA hB) ?_
  refine Run.bind (run49 c i arg1 harg1 arg2 harg2 arg3 harg3 arg4 harg4 f1 f2 f3 _ A B hA hB) ?_
  refine Run.bind (run50 c i arg1 harg1 arg2 harg2 arg3 harg3 arg4 harg4 f1 f2 f3 _ A B hA hB) ?_
  refine Run.bind (run51 c i arg1 harg1 arg2 harg2 arg3 harg3 arg4 harg4 f1 f2 f3 _ A B hA hB) ?_
  refine Run.bind (run52 c i arg1 harg1 arg2 harg2 arg3 harg3 arg4 harg4 f1 f2 f3 _ A B hA hB) ?_
  refine Run.bind (run53 c i arg1 harg1 arg2 harg2 arg3 harg3 arg4 harg4 f1 f2 f3 _ A B hA hB) ?_
  refine Run.bind (run54 c i arg1 harg1 arg2 harg2 arg3 harg3 arg4 harg4 f1 f2 f3 _ A B hA hB) ?_
  refine Run.bind (run55 c i arg1 harg1 arg2 harg2 arg3 harg3 arg4 harg4 f1 f2 f3 _ A B hA hB) ?_
  refine Run.bind (run56 c i arg1 harg1 arg2 harg2 arg3 harg3 arg4 harg4 f1 f2 f3 _ A B hA hB) ?_
  refine Run.bind (run57 c i arg1 harg1 arg2 harg2 arg3 harg3 arg4 harg4 f1 f2 f3 _ A B hA hB) ?_
  refine Run.bind (run58 c i arg1 harg1 arg2 harg2 arg3 harg3 arg4 harg4 f1 f2 f3 _ A B hA hB) ?_
  refine Run.bind (run59 c i arg1 harg1 arg2 harg2 arg3 harg3 arg4 harg4 f1 f2 f3 _ A B hA hB) ?_
  refine Run.bind (run60 c i arg1 harg1 arg2 harg2 arg3 harg3 arg4 harg4 f1 f2 f3 _ A B hA hB) ?_
  exact Run.ret rfl

set_option maxHeartbeats 2000000 in
/-- The body. -/
theorem run (x : Vec F S512x2048 .f32) (hx : arg1.view.read (Elt F) f1 = x)
    (hA : arg4.view.read (Elt F) (arg4.view.writes (Elt F) f4 (slabs x)) = A) (hB : arg2.view.read (Elt F) f2 = B) :
    Run (defs₀ (F := F)) (ctx c arg1 arg2 arg3 arg4 f1 f2) (cc0_mm_m i arg1 harg1 arg2 harg2 arg3 harg3 arg4 harg4) (arg3.view.writes (Elt F) f3 (pcs (tilesN A B) 0)) (arg4.view.writes (Elt F) f4 [])
      ⟨⟩ (arg3.view.writes (Elt F) f3 (pcs (tilesN A B) 8)) (arg4.view.writes (Elt F) f4 (slabs x)) := by
  rw [cc0_mm_m_eq_skeleton]
  unfold cc0_mm_m_skel
  refine Run.bind (run63 c i arg1 harg1 arg2 harg2 arg3 harg3 arg4 harg4 f1 f2 f3 f4 A B x hx hA hB) ?_
  refine Run.bind (run61 c i arg1 harg1 arg2 harg2 arg3 harg3 arg4 harg4 f1 f2 f3 _ A B hA hB) ?_
  refine Run.bind (run62 c i arg1 harg1 arg2 harg2 arg3 harg3 arg4 harg4 f1 f2 f3 _ A B hA hB) ?_
  refine Run.load3 ?_
  refine Run.store3 (pcs_succ (tilesN A B) 6 rfl) ?_
  refine Run.load3 ?_
  refine Run.store3 (pcs_succ (tilesN A B) 7 (outP1 (tilesN A B) 3 rfl)) ?_
  refine Run.exit (st (tilesN A B) (194 * 4)) (drained (tilesN A B) 4) (st_pop (tilesN A B) 3 1 (by decide) rfl) ?_
  exact Run.ret rfl

end

/-- The three stores of the first factor's pieces cover their buffer. -/
theorem cover_slabs (x : Vec F S512x2048 .f32) (y : SA.Idx) : ∃ pc ∈ slabs x, y ∈ pc.1.set :=
  View.cover_of_tiled (slabs x) SP1.size (by rfl) y

/-- The result's block after the body, of the first factor's block and the second factor's pieces. -/
def out (x : Vec F S512x2048 .f32) (B : Vec F SB .bf16) : Vec F S512x2048 .f32 :=
  View.canon (pcs (tilesN (View.canon (slabs x)) B) 8)

/-- The body's triple. -/
theorem sound_kernel (c : Dev nD) (E : Set ℕ) (i : grid0.Coords) (arg1 : Memref sig .tc .vmem S512x2048 .f32) (harg1 : arg1.IsWhole) (arg2 : Memref sig .tc .vmem S3x2048x2048 .bf16) (harg2 : arg2.IsWhole) (arg3 : Memref sig .tc .vmem S512x2048 .f32) (harg3 : arg3.IsWhole) (arg4 : Memref sig .tc .vmem S3x512x2048 .bf16) (harg4 : arg4.IsWhole)
    (x0 : Vec F S512x2048 .f32) (x1 : Vec F S3x2048x2048 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out x0 x1) ∗ (∃ d, owns (c : Thread nD τ) arg4 fullShare d)) -∗ K ⟨⟩))
      ⊢ wp frame (wpE (defs₀ (F := F)) Variants.none c none) E (cc0_mm_m i arg1 harg1 arg2 harg2 arg3 harg3 arg4 harg4) K := by
  unfold owns
  iintro ⟨⟨%f0, %hf0, H0⟩, ⟨%f1, %hf1, H1⟩, ⟨%d2, %f2, -, H2⟩, ⟨%d3, %f3, -, H3⟩, Hk⟩
  subst hf0 hf1
  have hA := View.read_writes_eq_canon arg4.view f3 (slabs (arg1.view.read (Elt F) f0)) (cover_slabs _)
  iapply (run c i arg1 harg1 arg2 harg2 arg3 harg3 arg4 harg4 f0 f1 f2 f3 _ _ _ rfl hA rfl E K)
  isplitl [H0 H1 H2 H3]
  · unfold Ctx.own
    isplitl [H0]; · iexact H0
    isplitl [H1]; · iexact H1
    isplitl [H2]
    · rw [pcs_zero]; iexact H2
    iexact H3
  unfold Ctx.own
  iintro ⟨H0, H1, H2, H3⟩
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_pcs _)
  iexists _; iexists _; isplitr
  swap; · iexact H3
  ipureintro; rfl

variable (m : (ℓ : Loc nD τ sig) → Buf (Elt F) ℓ) (ρ : Dev nD → PrngReg)

/-- The proof data of the one pipeline: the arrays as the region finds them; after the body each input's block in place and the
    result's block at `out` of them; the scratch and the generator register at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The scratch buffer and the generator register, the scratch as a memref owned at anything. -/
theorem PhiA0_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, PhiA0_eq]
  iintro ⟨⟨HS, Hg⟩, Ho, ⟨%d0, H0⟩, ⟨%d1, H1⟩, ⟨%d2, H2⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [HS]; · iexact HS
  iintro ⟨H0, H1, H2, HS⟩
  isplitl [HS Hg]
  · isplitl [HS]; · iexact HS
    iexact Hg
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the implicit arguments are found by unifying the conclusion with this one, which takes unfolding plain definitions in a
-- metavariable's type
set_option backward.isDefEq.respectTransparency.types false in
set_option maxHeartbeats 800000 in
/-- The launch: every array as the proof data gives it, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.MmNIdeal.HandFrame

end
-- ==== Proof.MmNValue.lean ====
/-
  The plain product (`mm6`): each grid point takes 512 rows of the first factor, splits them into three pieces and
  sums the six leading products of pieces. For finite factors the result array ends equal to that of the reference, which takes all 2048
  rows at once against the sum of the second factor's pieces.
-/
module

public import proofs.«01_k».proof.Proof.MmNIdealFrame
public import proofs.«01_k».proof.Proof.MmReal
public import proofs.«01_k».proof.Proof.Gen.MmNRefIdeal.Value
public import proofs.«01_k».proof.Proof.Gen.Pre_finite
public import proofs.«01_k».proof.Defs

@[expose] public section

set_option maxRecDepth 16384

noncomputable section

/-! ## The reference -/

namespace Cert.MmNRefIdeal.RefValue

open Cert.MmNRefIdeal Cert.MmNRefIdeal.Gen Cert.Mm Idealize.ShloMosaic

/-- An element of piece `j` of the second factor. -/
theorem page0 (B : Vec Ideal S3x2048x2048 .bf16) (p q : Fin 2048) : View.ld B r0_0 (ix3 0 p q) = B (ix3 0 p q) :=
  congrArg B (funext fun b => Fin.ext (by
    match b with
    | ⟨0, _⟩ => rfl
    | ⟨1, _⟩ => show 0 + 1 * p.val = p.val; omega
    | ⟨2, _⟩ => show 0 + 1 * q.val = q.val; omega))
theorem page1 (B : Vec Ideal S3x2048x2048 .bf16) (p q : Fin 2048) : View.ld B r0_1 (ix3 0 p q) = B (ix3 1 p q) :=
  congrArg B (funext fun b => Fin.ext (by
    match b with
    | ⟨0, _⟩ => rfl
    | ⟨1, _⟩ => show 0 + 1 * p.val = p.val; omega
    | ⟨2, _⟩ => show 0 + 1 * q.val = q.val; omega))
theorem page2 (B : Vec Ideal S3x2048x2048 .bf16) (p q : Fin 2048) : View.ld B r0_2 (ix3 0 p q) = B (ix3 2 p q) :=
  congrArg B (funext fun b => Fin.ext (by
    match b with
    | ⟨0, _⟩ => rfl
    | ⟨1, _⟩ => show 0 + 1 * p.val = p.val; omega
    | ⟨2, _⟩ => show 0 + 1 * q.val = q.val; omega))

/-- An element of the product, from its loads, -/
theorem pay1_eq (v0 v1 v2 : Vec Ideal S1x2048x2048 .bf16) (x : Vec Ideal S2048x2048 .f32) (a b : Fin 2048) :
    k0_pay1 v0 v1 v2 x (ix2 a b) = ∑ k : Fin 2048, (x (ix2 a k) : EReal) * (((v0 (ix3 0 k b) : EReal) + v1 (ix3 0 k b)) + v2 (ix3 0 k b)) := by
  pointwise [k0_pay1]

/-- and from its arguments. -/
theorem G2_eq (x : Vec Ideal S2048x2048 .f32) (B : Vec Ideal S3x2048x2048 .bf16) (a b : Fin 2048) :
    Cert.MmNRefIdeal.Value.G2 x B (ix2 a b)
      = ∑ k : Fin 2048, (x (ix2 a k) : EReal) * (((B (ix3 0 k b) : EReal) + B (ix3 1 k b)) + B (ix3 2 k b)) :=
  (pay1_eq _ _ _ x a b).trans (Finset.sum_congr rfl fun k _ => by rw [page0, page1, page2])

end Cert.MmNRefIdeal.RefValue

/-! ## A grid point -/

namespace Cert.MmNIdeal.RefValue

open Cert.MmNIdeal Cert.MmNIdeal.Gen Cert.MmNIdeal.HandFrame Cert.Mm Idealize.ShloMosaic Idealize.ShloMosaic.TcCoe Idealize.SL.Sem
open Idealize.ShloMosaic.Pipeline (Dat)

section

variable (x : Vec Ideal S512x2048 .f32) (hx : ∀ y, Finite (x y)) (a : Fin 512) (k : Fin 2048)

theorem ld_x : View.ld x (Rect.unit (s := S512x2048) ![0, 0] S512x2048.size inb_S512x2048_S512x2048_0_0) = x := by
  refine funext fun y => congrArg x (funext fun b => Fin.ext ?_)
  match b with
  | ⟨0, _⟩ => show 0 + 1 * (y 0).val = (y 0).val; omega
  | ⟨1, _⟩ => show 0 + 1 * (y 1).val = (y 1).val; omega

theorem slabs_eq : slabs x = [⟨rP 2, k0_pay6 x⟩, ⟨rP 1, k0_pay5 x⟩, ⟨rP 0, k0_pay4 x⟩] :=
  congrArg (fun z : Vec Ideal S512x2048 .f32 =>
    ([⟨rP 2, k0_pay6 z⟩, ⟨rP 1, k0_pay5 z⟩, ⟨rP 0, k0_pay4 z⟩] : List (View.Piece (Elt Ideal) SA .bf16))) (ld_x x)

theorem pay4_eq (z : Fin 1) : (k0_pay4 x (ix3 z a k) : EReal) = x (ix2 a k) :=
  addPage (k0_pay1 x) shapeCasts_S512x2048_S1x512x2048 z a k

include hx

theorem pay5_eq (z : Fin 1) : (k0_pay5 x (ix3 z a k) : EReal) = 0 :=
  (addPage (k0_pay3 x) shapeCasts_S512x2048_S1x512x2048 z a k).trans (hx (ix2 a k)).sub_self

theorem pay6_eq (z : Fin 1) : (k0_pay6 x (ix3 z a k) : EReal) = 0 := by
  refine (addPage (fun y => ((x y : EReal) - (x y : EReal)) - ((x y : EReal) - (x y : EReal))) shapeCasts_S512x2048_S1x512x2048 z a k).trans ?_
  show ((x (ix2 a k) : EReal) - x (ix2 a k)) - (x (ix2 a k) - x (ix2 a k)) = 0
  rw [(hx _).sub_self, sub_zero]

theorem canon_slabs (y : SA.Idx) : (View.canon (slabs x) y : EReal) = pieces x y := by
  refine View.canon_apply_of_pieces (Val := Elt Ideal) (e := .bf16) (pieces x) (slabs x) (fun p hp => ?_) y (cover_slabs x y)
  have key : ∀ z : SP1.Idx, ∃ (i : Fin 1) (b : Fin 512) (l : Fin 2048), z = ix3 i b l := fun z => ⟨z 0, z 1, z 2, by
    funext b
    match b with
    | ⟨0, _⟩ => rfl
    | ⟨1, _⟩ => rfl
    | ⟨2, _⟩ => rfl⟩
  simp only [slabs_eq, List.mem_cons, List.not_mem_nil, or_false] at hp
  rcases hp with rfl | rfl | rfl <;> intro z <;> obtain ⟨i, b, l, rfl⟩ := key z
  · exact (pay6_eq x hx b l i).trans ((congrArg (pieces x) (emb_rP 2 2 rfl i b l)).trans (pieces_other x 2 b l (by decide))).symm
  · exact (pay5_eq x hx b l i).trans ((congrArg (pieces x) (emb_rP 1 1 rfl i b l)).trans (pieces_other x 1 b l (by decide))).symm
  · exact (pay4_eq x b l i).trans ((congrArg (pieces x) (emb_rP 0 0 rfl i b l)).trans (pieces_first x 0 b l rfl)).symm

/-- The block a grid point stores. -/
theorem out_eq (B : Vec Ideal S3x2048x2048 .bf16) (hB : ∀ y, Finite (B y)) (b : Fin 2048) : (out x B (ix2 a b) : EReal)
    = ∑ k : Fin 2048, (x (ix2 a k) : EReal) * (((B (ix3 0 k b) : EReal) + B (ix3 1 k b)) + B (ix3 2 k b)) :=
  blockN x hx (View.canon (slabs x)) (canon_slabs x hx) B hB a b

end

/-! ## The arrays -/

variable (m : (ℓ : Loc nD τ sig) → Buf (Elt Ideal) ℓ) (ρ : Dev nD → PrngReg)

/-- The first factor. -/
abbrev X (c : Dev nD) : Vec Ideal S2048x2048 .f32 := m ((c : Thread nD τ).loc main_arg0)
/-- The second factor's pieces. -/
abbrev B3 (c : Dev nD) : Vec Ideal S3x2048x2048 .bf16 := m ((c : Thread nD τ).loc main_arg1)

/-- Where each window stands at grid point `t`. -/
theorem idx : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

/-- The array's row that is row `a` of block `t`. -/
def row (t : Fin cfg0.N) (a : Fin 512) : Fin 2048 := ⟨t.val * 512 + a.val, by
  have h : t.val < 4 := lt_of_lt_of_eq t.isLt N_0
  omega⟩

theorem iblk0 (c : Dev nD) (t : Fin cfg0.N) (a : Fin 512) (k : Fin 2048) : iblk m c 0 t (ix2 a k) = X m c (ix2 (row t a) k) := by
  blk_ext [iblk, V, idx t, row]
theorem iblk1 (c : Dev nD) (t : Fin cfg0.N) (j : Fin 3) (p q : Fin 2048) : iblk m c 1 t (ix3 j p q) = B3 m c (ix3 j p q) := by
  blk_ext [iblk, V, idx t]

theorem covers2 : (cfg0.win 2).Covers := by decide +kernel

/-- The factors the precondition admits are finite. -/
theorem finiteX (hpre : Cert.Pre_MmNIdeal_finite m) (c : Dev nD) (y : S2048x2048.Idx) : Finite (X m c y) :=
  finite_of_cmp _ (congrFun (hpre c).1 y)
theorem finiteB (hpre : Cert.Pre_MmNIdeal_finite m) (c : Dev nD) (y : S3x2048x2048.Idx) : Finite (B3 m c y) :=
  finite_of_cmp _ (congrFun (hpre c).2 y)

/-- The result array. -/
theorem final2 (hpre : Cert.Pre_MmNIdeal_finite m) (c : Dev nD) :
    (dats m 0 c).arrAt 2 cfg0.N = Cert.MmNRefIdeal.Value.G2 (X m c) (B3 m c) := by
  refine (dats m 0 c).arrAt_eq_of_covers 2 _ covers2 fun t hf y => ?_
  blk_simp
  rw [after0_2]
  idx_vars y
  have e : ((View.whole main_v0).slice (win0_2.rect t)).emb (ix2 y0 y1) = ix2 (row t y0) y1 := by
    blk_ext [idx t, row]
  rw [e]
  have hx : ∀ y, Finite (iblk m c 0 t y) := fun y => finiteX m hpre c _
  have hB : ∀ y, Finite (iblk m c 1 t y) := fun y => finiteB m hpre c _
  refine (out_eq (iblk m c 0 t) hx y0 (iblk m c 1 t) hB y1).trans ?_
  refine Eq.trans (Finset.sum_congr rfl fun k _ => ?_) (Cert.MmNRefIdeal.RefValue.G2_eq (X m c) (B3 m c) (row t y0) y1).symm
  rw [iblk0, iblk1, iblk1, iblk1]

/-- The run of the kernel, its result named by the reference's function of the arguments. -/
theorem run (hpre : Cert.Pre_MmNIdeal_finite m) : θ_run defs (onTc (τ := τ) (main (F := Ideal))) ⟨m, fun _ => 0, ρ⟩ fun r => ∀ c : Dev nD,
      r.2.mem ((c : Thread nD τ).loc main_v0) = Cert.MmNRefIdeal.Value.G2 (X m c) (B3 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m hpre c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

end Cert.MmNIdeal.RefValue

end
-- ==== Proof.MmTFrame.lean ====
/-
  The machine's own program and the one over the ideal values are the same text, so what is proved of the second at any values holds of
  the first.
-/
module

public import proofs.«01_k».proof.Proof.MmTIdealFrame
public import proofs.«01_k».proof.Proof.Gen.MmT
public import Idealize.ShloMosaic.Lib.Pipeline.Regions

@[expose] public section

noncomputable section

namespace Cert.MmTIdeal.HandFrame

open Cert.MmTIdeal Cert.MmTIdeal.Gen Idealize.ShloMosaic Idealize.ShloMosaic.TcCoe Idealize.SL.Sem

/-- The frame of the program over the ideal values, at any values `F`: the arguments end unchanged, every counter at zero. -/
def Frame (F : FTy → Type) [FloatOps F] : Prop := ∀ (m : (ℓ : Loc nD τ sig) → Buf (Elt F) ℓ) (ρ : Dev nD → PrngReg),
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem holds (F : FTy → Type) [FloatOps F] : Frame F := fun m ρ => frame m ρ

end Cert.MmTIdeal.HandFrame

namespace Cert.MmT.HandFrame

open Cert.MmT Cert.MmT.Gen Idealize.ShloMosaic Idealize.ShloMosaic.TcCoe Idealize.SL.Sem

/-- The same of the machine's own program. -/
def Frame (F : FTy → Type) [FloatOps F] : Prop := ∀ (m : (ℓ : Loc nD τ sig) → Buf (Elt F) ℓ) (ρ : Dev nD → PrngReg),
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

/-- The two are one statement. -/
theorem same (F : FTy → Type) [FloatOps F] : Cert.MmTIdeal.HandFrame.Frame F = Frame F := by chain_rfl

theorem frame {F : FTy → Type} [FloatOps F] : Frame F := same F ▸ Cert.MmTIdeal.HandFrame.holds F

end Cert.MmT.HandFrame

end
-- ==== Proof.MmNFrame.lean ====
/-
  The machine's own program and the one over the ideal values are the same text, so what is proved of the second at any values holds of
  the first.
-/
module

public import proofs.«01_k».proof.Proof.MmNIdealFrame
public import proofs.«01_k».proof.Proof.Gen.MmN
public import Idealize.ShloMosaic.Lib.Pipeline.Regions

@[expose] public section

noncomputable section

namespace Cert.MmNIdeal.HandFrame

open Cert.MmNIdeal Cert.MmNIdeal.Gen Idealize.ShloMosaic Idealize.ShloMosaic.TcCoe Idealize.SL.Sem

/-- The frame of the program over the ideal values, at any values `F`: the arguments end unchanged, every counter at zero. -/
def Frame (F : FTy → Type) [FloatOps F] : Prop := ∀ (m : (ℓ : Loc nD τ sig) → Buf (Elt F) ℓ) (ρ : Dev nD → PrngReg),
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem holds (F : FTy → Type) [FloatOps F] : Frame F := fun m ρ => frame m ρ

end Cert.MmNIdeal.HandFrame

namespace Cert.MmN.HandFrame

open Cert.MmN Cert.MmN.Gen Idealize.ShloMosaic Idealize.ShloMosaic.TcCoe Idealize.SL.Sem

/-- The same of the machine's own program. -/
def Frame (F : FTy → Type) [FloatOps F] : Prop := ∀ (m : (ℓ : Loc nD τ sig) → Buf (Elt F) ℓ) (ρ : Dev nD → PrngReg),
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

/-- The two are one statement. -/
theorem same (F : FTy → Type) [FloatOps F] : Cert.MmNIdeal.HandFrame.Frame F = Frame F := by chain_rfl

theorem frame {F : FTy → Type} [FloatOps F] : Frame F := same F ▸ Cert.MmNIdeal.HandFrame.holds F

end Cert.MmN.HandFrame

end
-- ==== Proof.lean ====
/-
  The proof of the certificate's claim. The frames are the generated ones, those of the two products are
  proved here; the idealisations rewrite nothing; each value claim takes
  the kernel's run and the reference's run, whose results are named by the same functions of the arguments.
-/
module

public import proofs.«01_k».proof.Defs
public import proofs.«01_k».proof.Proof.FwdValue
public import proofs.«01_k».proof.Proof.GradValue
public import proofs.«01_k».proof.Proof.RotXValue
public import proofs.«01_k».proof.Proof.RotWValue
public import proofs.«01_k».proof.Proof.MomValue
public import proofs.«01_k».proof.Proof.D1Value
public import proofs.«01_k».proof.Proof.StepValue
public import proofs.«01_k».proof.Proof.MmTValue
public import proofs.«01_k».proof.Proof.MmNValue
public import proofs.«01_k».proof.Proof.MmTFrame
public import proofs.«01_k».proof.Proof.MmNFrame
public import proofs.«01_k».proof.Proof.Gen.Pre_finite
public import proofs.«01_k».proof.Proof.Gen.FwdIdeal.Value
public import proofs.«01_k».proof.Proof.Gen.FwdRefIdeal.Value
public import proofs.«01_k».proof.Proof.Gen.GradIdeal.Value
public import proofs.«01_k».proof.Proof.Gen.GradRefIdeal.Value
public import proofs.«01_k».proof.Proof.Gen.RotXIdeal.Value
public import proofs.«01_k».proof.Proof.Gen.RotXRefIdeal.Value
public import proofs.«01_k».proof.Proof.Gen.RotWIdeal.Value
public import proofs.«01_k».proof.Proof.Gen.RotWRefIdeal.Value
public import proofs.«01_k».proof.Proof.Gen.MomIdeal.Value
public import proofs.«01_k».proof.Proof.Gen.MomRefIdeal.Value
public import proofs.«01_k».proof.Proof.Gen.D1Ideal.Value
public import proofs.«01_k».proof.Proof.Gen.D1RefIdeal.Value
public import proofs.«01_k».proof.Proof.Gen.StepIdeal.Value
public import proofs.«01_k».proof.Proof.Gen.StepRefIdeal.Value
public import proofs.«01_k».proof.Proof.Gen.MmTRefIdeal.Value
public import proofs.«01_k».proof.Proof.Gen.MmNRefIdeal.Value
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdRefIdeal
public import proofs.«01_k».proof.Proof.Gen.FwdRefIdeal.Skeleton
public import proofs.«01_k».proof.Proof.Gen.FwdRefIdeal.Launch
public import proofs.«01_k».proof.Proof.Gen.FwdRefIdeal.Points
public import proofs.«01_k».proof.Proof.Gen.FwdRefIdeal.Frame
public import proofs.«01_k».proof.Proof.Gen.Grad
public import proofs.«01_k».proof.Proof.Gen.Grad.Skeleton
public import proofs.«01_k».proof.Proof.Gen.Grad.Launch
public import proofs.«01_k».proof.Proof.Gen.Grad.Points
public import proofs.«01_k».proof.Proof.Gen.Grad.Frame
public import proofs.«01_k».proof.Proof.Gen.GradIdeal
public import proofs.«01_k».proof.Proof.Gen.GradIdeal.Skeleton
public import proofs.«01_k».proof.Proof.Gen.GradIdeal.Launch
public import proofs.«01_k».proof.Proof.Gen.GradIdeal.Points
public import proofs.«01_k».proof.Proof.Gen.GradIdeal.Frame
public import proofs.«01_k».proof.Proof.Gen.GradRefIdeal
public import proofs.«01_k».proof.Proof.Gen.GradRefIdeal.Skeleton
public import proofs.«01_k».proof.Proof.Gen.GradRefIdeal.Launch
public import proofs.«01_k».proof.Proof.Gen.GradRefIdeal.Points
public import proofs.«01_k».proof.Proof.Gen.GradRefIdeal.Frame
public import proofs.«01_k».proof.Proof.Gen.RotX
public import proofs.«01_k».proof.Proof.Gen.RotX.Skeleton
public import proofs.«01_k».proof.Proof.Gen.RotX.Launch
public import proofs.«01_k».proof.Proof.Gen.RotX.Points
public import proofs.«01_k».proof.Proof.Gen.RotX.Frame
public import proofs.«01_k».proof.Proof.Gen.RotXIdeal
public import proofs.«01_k».proof.Proof.Gen.RotXIdeal.Skeleton
public import proofs.«01_k».proof.Proof.Gen.RotXIdeal.Launch
public import proofs.«01_k».proof.Proof.Gen.RotXIdeal.Points
public import proofs.«01_k».proof.Proof.Gen.RotXIdeal.Frame
public import proofs.«01_k».proof.Proof.Gen.RotXRefIdeal
public import proofs.«01_k».proof.Proof.Gen.RotXRefIdeal.Skeleton
public import proofs.«01_k».proof.Proof.Gen.RotXRefIdeal.Launch
public import proofs.«01_k».proof.Proof.Gen.RotXRefIdeal.Points
public import proofs.«01_k».proof.Proof.Gen.RotXRefIdeal.Frame
public import proofs.«01_k».proof.Proof.Gen.RotW
public import proofs.«01_k».proof.Proof.Gen.RotW.Skeleton
public import proofs.«01_k».proof.Proof.Gen.RotW.Launch
public import proofs.«01_k».proof.Proof.Gen.RotW.Points
public import proofs.«01_k».proof.Proof.Gen.RotW.Frame
public import proofs.«01_k».proof.Proof.Gen.RotWIdeal
public import proofs.«01_k».proof.Proof.Gen.RotWIdeal.Skeleton
public import proofs.«01_k».proof.Proof.Gen.RotWIdeal.Launch
public import proofs.«01_k».proof.Proof.Gen.RotWIdeal.Points
public import proofs.«01_k».proof.Proof.Gen.RotWIdeal.Frame
public import proofs.«01_k».proof.Proof.Gen.RotWRefIdeal
public import proofs.«01_k».proof.Proof.Gen.RotWRefIdeal.Skeleton
public import proofs.«01_k».proof.Proof.Gen.RotWRefIdeal.Launch
public import proofs.«01_k».proof.Proof.Gen.RotWRefIdeal.Points
public import proofs.«01_k».proof.Proof.Gen.RotWRefIdeal.Frame
public import proofs.«01_k».proof.Proof.Gen.Mom
public import proofs.«01_k».proof.Proof.Gen.Mom.Skeleton
public import proofs.«01_k».proof.Proof.Gen.Mom.Launch
public import proofs.«01_k».proof.Proof.Gen.Mom.Points
public import proofs.«01_k».proof.Proof.Gen.Mom.Frame
public import proofs.«01_k».proof.Proof.Gen.MomIdeal
public import proofs.«01_k».proof.Proof.Gen.MomIdeal.Skeleton
public import proofs.«01_k».proof.Proof.Gen.MomIdeal.Launch
public import proofs.«01_k».proof.Proof.Gen.MomIdeal.Points
public import proofs.«01_k».proof.Proof.Gen.MomIdeal.Frame
public import proofs.«01_k».proof.Proof.Gen.MomRefIdeal
public import proofs.«01_k».proof.Proof.Gen.MomRefIdeal.Skeleton
public import proofs.«01_k».proof.Proof.Gen.MomRefIdeal.Launch
public import proofs.«01_k».proof.Proof.Gen.MomRefIdeal.Points
public import proofs.«01_k».proof.Proof.Gen.MomRefIdeal.Frame
public import proofs.«01_k».proof.Proof.Gen.D1
public import proofs.«01_k».proof.Proof.Gen.D1.Skeleton
public import proofs.«01_k».proof.Proof.Gen.D1.Launch
public import proofs.«01_k».proof.Proof.Gen.D1.Points
public import proofs.«01_k».proof.Proof.Gen.D1.Frame
public import proofs.«01_k».proof.Proof.Gen.D1Ideal
public import proofs.«01_k».proof.Proof.Gen.D1Ideal.Skeleton
public import proofs.«01_k».proof.Proof.Gen.D1Ideal.Launch
public import proofs.«01_k».proof.Proof.Gen.D1Ideal.Points
public import proofs.«01_k».proof.Proof.Gen.D1Ideal.Frame
public import proofs.«01_k».proof.Proof.Gen.D1RefIdeal
public import proofs.«01_k».proof.Proof.Gen.D1RefIdeal.Skeleton
public import proofs.«01_k».proof.Proof.Gen.D1RefIdeal.Launch
public import proofs.«01_k».proof.Proof.Gen.D1RefIdeal.Points
public import proofs.«01_k».proof.Proof.Gen.D1RefIdeal.Frame
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepRefIdeal
public import proofs.«01_k».proof.Proof.Gen.StepRefIdeal.Skeleton
public import proofs.«01_k».proof.Proof.Gen.StepRefIdeal.Launch
public import proofs.«01_k».proof.Proof.Gen.StepRefIdeal.Points
public import proofs.«01_k».proof.Proof.Gen.StepRefIdeal.Frame
public import proofs.«01_k».proof.Proof.Gen.MmT
public import proofs.«01_k».proof.Proof.Gen.MmT.Skeleton
public import proofs.«01_k».proof.Proof.Gen.MmT.Launch
public import proofs.«01_k».proof.Proof.Gen.MmT.Points
public import proofs.«01_k».proof.Proof.Gen.MmTIdeal
public import proofs.«01_k».proof.Proof.Gen.MmTIdeal.Skeleton
public import proofs.«01_k».proof.Proof.Gen.MmTIdeal.Launch
public import proofs.«01_k».proof.Proof.Gen.MmTIdeal.Points
public import proofs.«01_k».proof.Proof.Gen.MmTRefIdeal
public import proofs.«01_k».proof.Proof.Gen.MmTRefIdeal.Skeleton
public import proofs.«01_k».proof.Proof.Gen.MmTRefIdeal.Launch
public import proofs.«01_k».proof.Proof.Gen.MmTRefIdeal.Points
public import proofs.«01_k».proof.Proof.Gen.MmTRefIdeal.Frame
public import proofs.«01_k».proof.Proof.Gen.MmN
public import proofs.«01_k».proof.Proof.Gen.MmN.Skeleton
public import proofs.«01_k».proof.Proof.Gen.MmN.Launch
public import proofs.«01_k».proof.Proof.Gen.MmN.Points
public import proofs.«01_k».proof.Proof.Gen.MmNIdeal
public import proofs.«01_k».proof.Proof.Gen.MmNIdeal.Skeleton
public import proofs.«01_k».proof.Proof.Gen.MmNIdeal.Launch
public import proofs.«01_k».proof.Proof.Gen.MmNIdeal.Points
public import proofs.«01_k».proof.Proof.Gen.MmNRefIdeal
public import proofs.«01_k».proof.Proof.Gen.MmNRefIdeal.Skeleton
public import proofs.«01_k».proof.Proof.Gen.MmNRefIdeal.Launch
public import proofs.«01_k».proof.Proof.Gen.MmNRefIdeal.Points
public import proofs.«01_k».proof.Proof.Gen.MmNRefIdeal.Frame
public import Idealize.ShloMosaic.Adequacy
public import Idealize.ShloMosaic.Init

@[expose] public section

noncomputable section

namespace Cert.Proof

open Idealize.ShloMosaic Idealize.SL.Sem

/-- The forward pass: kernel and reference, started from the same arguments, end with equal results. -/
theorem algebraic_Fwd : Cert.algebraic_FwdIdeal_FwdRefIdeal (hFwdIdeal := Cert.FwdIdeal.Gen.facts) (hFwdRefIdeal := Cert.FwdRefIdeal.Gen.facts) := by
  intro m ρ m' ρ' _ hag
  refine ⟨fun c => Cert.FwdRefIdeal.Value.G5 (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)),
    fun c => Cert.FwdRefIdeal.Value.G6 (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)),
    fun c => Cert.FwdRefIdeal.Value.G7 (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)),
    fun c => Cert.FwdRefIdeal.Value.G8 (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)),
    Cert.FwdIdeal.RefValue.run m ρ, ?_⟩
  refine (θ_run _ _ _).mono (fun r h c => ?_) (Cert.FwdRefIdeal.Value.run m' ρ')
  obtain ⟨h0, h1, h2, h3, h4⟩ := hag c
  exact ⟨(h c).1.trans (by rw [h0, h1, h2, h3, h4]),
    (h c).2.1.trans (by rw [h0, h1, h2, h3, h4]),
    (h c).2.2.1.trans (by rw [h0, h1, h2, h3, h4]),
    (h c).2.2.2.1.trans (by rw [h0, h1, h2, h3, h4]), (h c).2.2.2.2⟩

/-- The gradient: kernel and reference, started from the same arguments, end with equal results. -/
theorem algebraic_Grad : Cert.algebraic_GradIdeal_GradRefIdeal (hGradIdeal := Cert.GradIdeal.Gen.facts) (hGradRefIdeal := Cert.GradRefIdeal.Gen.facts) := by
  intro m ρ m' ρ' _ hag
  refine ⟨fun c => Cert.GradRefIdeal.Value.G5 (m ((c.tc : Thread Cert.GradIdeal.nD Cert.GradIdeal.τ).loc Cert.GradIdeal.main_arg0)) (m ((c.tc : Thread Cert.GradIdeal.nD Cert.GradIdeal.τ).loc Cert.GradIdeal.main_arg1)) (m ((c.tc : Thread Cert.GradIdeal.nD Cert.GradIdeal.τ).loc Cert.GradIdeal.main_arg2)) (m ((c.tc : Thread Cert.GradIdeal.nD Cert.GradIdeal.τ).loc Cert.GradIdeal.main_arg3)) (m ((c.tc : Thread Cert.GradIdeal.nD Cert.GradIdeal.τ).loc Cert.GradIdeal.main_arg4)),
    Cert.GradIdeal.RefValue.run m ρ, ?_⟩
  refine (θ_run _ _ _).mono (fun r h c => ?_) (Cert.GradRefIdeal.Value.run m' ρ')
  obtain ⟨h0, h1, h2, h3, h4⟩ := hag c
  exact ⟨(h c).1.trans (by rw [h0, h1, h2, h3, h4]), (h c).2⟩

/-- The rotation of `x`: kernel and reference, started from the same arguments, end with equal results. -/
theorem algebraic_RotX : Cert.algebraic_RotXIdeal_RotXRefIdeal (hRotXIdeal := Cert.RotXIdeal.Gen.facts) (hRotXRefIdeal := Cert.RotXRefIdeal.Gen.facts) := by
  intro m ρ m' ρ' _ hag
  refine ⟨fun c => Cert.RotXRefIdeal.Value.G2 (m ((c.tc : Thread Cert.RotXIdeal.nD Cert.RotXIdeal.τ).loc Cert.RotXIdeal.main_arg0)) (m ((c.tc : Thread Cert.RotXIdeal.nD Cert.RotXIdeal.τ).loc Cert.RotXIdeal.main_arg1)),
    fun c => Cert.RotXRefIdeal.Value.G3 (m ((c.tc : Thread Cert.RotXIdeal.nD Cert.RotXIdeal.τ).loc Cert.RotXIdeal.main_arg0)) (m ((c.tc : Thread Cert.RotXIdeal.nD Cert.RotXIdeal.τ).loc Cert.RotXIdeal.main_arg1)),
    fun c => Cert.RotXRefIdeal.Value.G4 (m ((c.tc : Thread Cert.RotXIdeal.nD Cert.RotXIdeal.τ).loc Cert.RotXIdeal.main_arg0)) (m ((c.tc : Thread Cert.RotXIdeal.nD Cert.RotXIdeal.τ).loc Cert.RotXIdeal.main_arg1)),
    Cert.RotXIdeal.RefValue.run m ρ, ?_⟩
  refine (θ_run _ _ _).mono (fun r h c => ?_) (Cert.RotXRefIdeal.Value.run m' ρ')
  obtain ⟨h0, h1⟩ := hag c
  exact ⟨(h c).1.trans (by rw [h0, h1]),
    (h c).2.1.trans (by rw [h0, h1]),
    (h c).2.2.1.trans (by rw [h0, h1]), (h c).2.2.2⟩

/-- The rotation of `w`: kernel and reference, started from the same arguments, end with equal results. -/
theorem algebraic_RotW : Cert.algebraic_RotWIdeal_RotWRefIdeal (hRotWIdeal := Cert.RotWIdeal.Gen.facts) (hRotWRefIdeal := Cert.RotWRefIdeal.Gen.facts) := by
  intro m ρ m' ρ' _ hag
  refine ⟨fun c => Cert.RotWRefIdeal.Value.G2 (m ((c.tc : Thread Cert.RotWIdeal.nD Cert.RotWIdeal.τ).loc Cert.RotWIdeal.main_arg0)) (m ((c.tc : Thread Cert.RotWIdeal.nD Cert.RotWIdeal.τ).loc Cert.RotWIdeal.main_arg1)),
    fun c => Cert.RotWRefIdeal.Value.G3 (m ((c.tc : Thread Cert.RotWIdeal.nD Cert.RotWIdeal.τ).loc Cert.RotWIdeal.main_arg0)) (m ((c.tc : Thread Cert.RotWIdeal.nD Cert.RotWIdeal.τ).loc Cert.RotWIdeal.main_arg1)),
    fun c => Cert.RotWRefIdeal.Value.G4 (m ((c.tc : Thread Cert.RotWIdeal.nD Cert.RotWIdeal.τ).loc Cert.RotWIdeal.main_arg0)) (m ((c.tc : Thread Cert.RotWIdeal.nD Cert.RotWIdeal.τ).loc Cert.RotWIdeal.main_arg1)),
    Cert.RotWIdeal.RefValue.run m ρ, ?_⟩
  refine (θ_run _ _ _).mono (fun r h c => ?_) (Cert.RotWRefIdeal.Value.run m' ρ')
  obtain ⟨h0, h1⟩ := hag c
  exact ⟨(h c).1.trans (by rw [h0, h1]),
    (h c).2.1.trans (by rw [h0, h1]),
    (h c).2.2.1.trans (by rw [h0, h1]), (h c).2.2.2⟩

/-- The momentum: kernel and reference, started from the same arguments, end with equal results. -/
theorem algebraic_Mom : Cert.algebraic_MomIdeal_MomRefIdeal (hMomIdeal := Cert.MomIdeal.Gen.facts) (hMomRefIdeal := Cert.MomRefIdeal.Gen.facts) := by
  intro m ρ m' ρ' _ hag
  refine ⟨fun c => Cert.MomRefIdeal.Value.G3 (m ((c.tc : Thread Cert.MomIdeal.nD Cert.MomIdeal.τ).loc Cert.MomIdeal.main_arg0)) (m ((c.tc : Thread Cert.MomIdeal.nD Cert.MomIdeal.τ).loc Cert.MomIdeal.main_arg1)) (m ((c.tc : Thread Cert.MomIdeal.nD Cert.MomIdeal.τ).loc Cert.MomIdeal.main_arg2)),
    Cert.MomIdeal.RefValue.run m ρ, ?_⟩
  refine (θ_run _ _ _).mono (fun r h c => ?_) (Cert.MomRefIdeal.Value.run m' ρ')
  obtain ⟨h0, h1, h2⟩ := hag c
  exact ⟨(h c).1.trans (by rw [h0, h1, h2]), (h c).2⟩

/-- The first step matrix and the momentum's quantisation: kernel and reference, started from the same arguments, end with equal results. -/
theorem algebraic_D1 : Cert.algebraic_D1Ideal_D1RefIdeal (hD1Ideal := Cert.D1Ideal.Gen.facts) (hD1RefIdeal := Cert.D1RefIdeal.Gen.facts) := by
  intro m ρ m' ρ' _ hag
  refine ⟨fun c => Cert.D1RefIdeal.Value.G3 (m ((c.tc : Thread Cert.D1Ideal.nD Cert.D1Ideal.τ).loc Cert.D1Ideal.main_arg0)) (m ((c.tc : Thread Cert.D1Ideal.nD Cert.D1Ideal.τ).loc Cert.D1Ideal.main_arg1)) (m ((c.tc : Thread Cert.D1Ideal.nD Cert.D1Ideal.τ).loc Cert.D1Ideal.main_arg2)),
    fun c => Cert.D1RefIdeal.Value.G4 (m ((c.tc : Thread Cert.D1Ideal.nD Cert.D1Ideal.τ).loc Cert.D1Ideal.main_arg0)) (m ((c.tc : Thread Cert.D1Ideal.nD Cert.D1Ideal.τ).loc Cert.D1Ideal.main_arg1)) (m ((c.tc : Thread Cert.D1Ideal.nD Cert.D1Ideal.τ).loc Cert.D1Ideal.main_arg2)),
    fun c => Cert.D1RefIdeal.Value.G5 (m ((c.tc : Thread Cert.D1Ideal.nD Cert.D1Ideal.τ).loc Cert.D1Ideal.main_arg0)) (m ((c.tc : Thread Cert.D1Ideal.nD Cert.D1Ideal.τ).loc Cert.D1Ideal.main_arg1)) (m ((c.tc : Thread Cert.D1Ideal.nD Cert.D1Ideal.τ).loc Cert.D1Ideal.main_arg2)),
    Cert.D1Ideal.RefValue.run m ρ, ?_⟩
  refine (θ_run _ _ _).mono (fun r h c => ?_) (Cert.D1RefIdeal.Value.run m' ρ')
  obtain ⟨h0, h1, h2⟩ := hag c
  exact ⟨(h c).1.trans (by rw [h0, h1, h2]),
    (h c).2.1.trans (by rw [h0, h1, h2]),
    (h c).2.2.1.trans (by rw [h0, h1, h2]), (h c).2.2.2⟩

/-- The step: kernel and reference, started from the same arguments, end with equal results. -/
theorem algebraic_Step : Cert.algebraic_StepIdeal_StepRefIdeal (hStepIdeal := Cert.StepIdeal.Gen.facts) (hStepRefIdeal := Cert.StepRefIdeal.Gen.facts) := by
  intro m ρ m' ρ' _ hag
  refine ⟨fun c => Cert.StepRefIdeal.Value.G4 (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)),
    fun c => Cert.StepRefIdeal.Value.G5 (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)),
    fun c => Cert.StepRefIdeal.Value.G6 (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)),
    Cert.StepIdeal.RefValue.run m ρ, ?_⟩
  refine (θ_run _ _ _).mono (fun r h c => ?_) (Cert.StepRefIdeal.Value.run m' ρ')
  obtain ⟨h0, h1, h2, h3⟩ := hag c
  exact ⟨(h c).1.trans (by rw [h0, h1, h2, h3]),
    (h c).2.1.trans (by rw [h0, h1, h2, h3]),
    (h c).2.2.1.trans (by rw [h0, h1, h2, h3]), (h c).2.2.2⟩

/-- The product with a transposed second factor: kernel and reference, started from the same finite arguments, end with equal results. -/
theorem algebraic_MmT : Cert.algebraic_MmTIdeal_MmTRefIdeal_pre_finite (hMmTIdeal := Cert.MmTIdeal.Gen.facts) (hMmTRefIdeal := Cert.MmTRefIdeal.Gen.facts)
    (hPre_finite := Cert.Pre_finite.Gen.facts) := by
  intro m ρ m' ρ' hpre hag
  refine ⟨fun c => Cert.MmTRefIdeal.Value.G2 (m ((c.tc : Thread Cert.MmTIdeal.nD Cert.MmTIdeal.τ).loc Cert.MmTIdeal.main_arg0)) (m ((c.tc : Thread Cert.MmTIdeal.nD Cert.MmTIdeal.τ).loc Cert.MmTIdeal.main_arg1)),
    Cert.MmTIdeal.RefValue.run m ρ hpre, ?_⟩
  refine (θ_run _ _ _).mono (fun r h c => ?_) (Cert.MmTRefIdeal.Value.run m' ρ')
  obtain ⟨h0, h1⟩ := hag c
  exact ⟨(h c).1.trans (by rw [h0, h1]), (h c).2⟩

/-- The product: kernel and reference, started from the same finite arguments, end with equal results. -/
theorem algebraic_MmN : Cert.algebraic_MmNIdeal_MmNRefIdeal_pre_finite (hMmNIdeal := Cert.MmNIdeal.Gen.facts) (hMmNRefIdeal := Cert.MmNRefIdeal.Gen.facts)
    (hPre_finite := Cert.Pre_finite.Gen.facts) := by
  intro m ρ m' ρ' hpre hag
  refine ⟨fun c => Cert.MmNRefIdeal.Value.G2 (m ((c.tc : Thread Cert.MmNIdeal.nD Cert.MmNIdeal.τ).loc Cert.MmNIdeal.main_arg0)) (m ((c.tc : Thread Cert.MmNIdeal.nD Cert.MmNIdeal.τ).loc Cert.MmNIdeal.main_arg1)),
    Cert.MmNIdeal.RefValue.run m ρ hpre, ?_⟩
  refine (θ_run _ _ _).mono (fun r h c => ?_) (Cert.MmNRefIdeal.Value.run m' ρ')
  obtain ⟨h0, h1⟩ := hag c
  exact ⟨(h c).1.trans (by rw [h0, h1]), (h c).2⟩

theorem claim : Cert.Claim := ⟨Cert.Fwd.Gen.facts, Cert.FwdIdeal.Gen.facts, Cert.FwdRefIdeal.Gen.facts, Cert.Grad.Gen.facts, Cert.GradIdeal.Gen.facts, Cert.GradRefIdeal.Gen.facts, Cert.RotX.Gen.facts, Cert.RotXIdeal.Gen.facts, Cert.RotXRefIdeal.Gen.facts, Cert.RotW.Gen.facts, Cert.RotWIdeal.Gen.facts, Cert.RotWRefIdeal.Gen.facts, Cert.Mom.Gen.facts, Cert.MomIdeal.Gen.facts, Cert.MomRefIdeal.Gen.facts, Cert.D1.Gen.facts, Cert.D1Ideal.Gen.facts, Cert.D1RefIdeal.Gen.facts, Cert.Step.Gen.facts, Cert.StepIdeal.Gen.facts, Cert.StepRefIdeal.Gen.facts, Cert.MmT.Gen.facts, Cert.MmTIdeal.Gen.facts, Cert.MmTRefIdeal.Gen.facts, Cert.MmN.Gen.facts, Cert.MmNIdeal.Gen.facts, Cert.MmNRefIdeal.Gen.facts, Cert.Pre_finite.Gen.facts,
  fun m ρ _ => Cert.Fwd.Gen.frame m ρ,
  fun m ρ _ => Cert.FwdIdeal.Gen.frame m ρ,
  fun m ρ _ => Cert.FwdRefIdeal.Gen.frame m ρ,
  fun m ρ _ => Cert.Grad.Gen.frame m ρ,
  fun m ρ _ => Cert.GradIdeal.Gen.frame m ρ,
  fun m ρ _ => Cert.GradRefIdeal.Gen.frame m ρ,
  fun m ρ _ => Cert.RotX.Gen.frame m ρ,
  fun m ρ _ => Cert.RotXIdeal.Gen.frame m ρ,
  fun m ρ _ => Cert.RotXRefIdeal.Gen.frame m ρ,
  fun m ρ _ => Cert.RotW.Gen.frame m ρ,
  fun m ρ _ => Cert.RotWIdeal.Gen.frame m ρ,
  fun m ρ _ => Cert.RotWRefIdeal.Gen.frame m ρ,
  fun m ρ _ => Cert.Mom.Gen.frame m ρ,
  fun m ρ _ => Cert.MomIdeal.Gen.frame m ρ,
  fun m ρ _ => Cert.MomRefIdeal.Gen.frame m ρ,
  fun m ρ _ => Cert.D1.Gen.frame m ρ,
  fun m ρ _ => Cert.D1Ideal.Gen.frame m ρ,
  fun m ρ _ => Cert.D1RefIdeal.Gen.frame m ρ,
  fun m ρ _ => Cert.Step.Gen.frame m ρ,
  fun m ρ _ => Cert.StepIdeal.Gen.frame m ρ,
  fun m ρ _ => Cert.StepRefIdeal.Gen.frame m ρ,
  fun m ρ _ => Cert.MmT.HandFrame.frame m ρ,
  fun m ρ _ => Cert.MmTIdeal.HandFrame.frame m ρ,
  fun m ρ _ => Cert.MmTIdeal.HandFrame.frame m ρ,
  fun m ρ _ => Cert.MmTRefIdeal.Gen.frame m ρ,
  fun m ρ _ => Cert.MmTRefIdeal.Gen.frame m ρ,
  fun m ρ _ => Cert.MmN.HandFrame.frame m ρ,
  fun m ρ _ => Cert.MmNIdeal.HandFrame.frame m ρ,
  fun m ρ _ => Cert.MmNIdeal.HandFrame.frame m ρ,
  fun m ρ _ => Cert.MmNRefIdeal.Gen.frame m ρ,
  fun m ρ _ => Cert.MmNRefIdeal.Gen.frame m ρ,
  trivial, algebraic_Fwd, trivial, algebraic_Grad, trivial, algebraic_RotX, trivial, algebraic_RotW, trivial, algebraic_Mom, trivial, algebraic_D1, trivial, algebraic_Step, trivial, algebraic_MmT, trivial, algebraic_MmN⟩

end Cert.Proof

end
